-- ==== Defs.lean ====
def Pre_S5 (m : (ℓ : Loc Cert.S5.nD Cert.S5.τ Cert.S5.sig) → Buf (Elt Bits) ℓ) : Prop :=
  True

def Pre_S5Ideal (m : (ℓ : Loc Cert.S5Ideal.nD Cert.S5Ideal.τ Cert.S5Ideal.sig) → Buf (Elt Ideal) ℓ) : Prop :=
  True

def Pre_S5RefIdeal (m : (ℓ : Loc Cert.S5RefIdeal.nD Cert.S5RefIdeal.τ Cert.S5RefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_Disc (m : (ℓ : Loc Cert.Disc.nD Cert.Disc.τ Cert.Disc.sig) → Buf (Elt Bits) ℓ) : Prop :=
  True

def Pre_DiscIdeal (m : (ℓ : Loc Cert.DiscIdeal.nD Cert.DiscIdeal.τ Cert.DiscIdeal.sig) → Buf (Elt Ideal) ℓ) : Prop :=
  True

def Pre_DiscRefIdeal (m : (ℓ : Loc Cert.DiscRefIdeal.nD Cert.DiscRefIdeal.τ Cert.DiscRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InS (m : (ℓ : Loc Cert.InS.nD Cert.InS.τ Cert.InS.sig) → Buf (Elt Bits) ℓ) : Prop :=
  True

def Pre_InSIdeal (m : (ℓ : Loc Cert.InSIdeal.nD Cert.InSIdeal.τ Cert.InSIdeal.sig) → Buf (Elt Ideal) ℓ) : Prop :=
  True

def Pre_InSRefIdeal (m : (ℓ : Loc Cert.InSRefIdeal.nD Cert.InSRefIdeal.τ Cert.InSRefIdeal.sig) → Buf (Elt Ideal) ℓ) : Prop :=
  True

def Pre_OddS (m : (ℓ : Loc Cert.OddS.nD Cert.OddS.τ Cert.OddS.sig) → Buf (Elt Bits) ℓ) : Prop :=
  True

def Pre_OddSIdeal (m : (ℓ : Loc Cert.OddSIdeal.nD Cert.OddSIdeal.τ Cert.OddSIdeal.sig) → Buf (Elt Ideal) ℓ) : Prop :=
  True

def Pre_OddSRefIdeal (m : (ℓ : Loc Cert.OddSRefIdeal.nD Cert.OddSRefIdeal.τ Cert.OddSRefIdeal.sig) → Buf (Elt Ideal) ℓ) : Prop :=
  True

def quiescent_S5 [hS5 : Cert.S5.Facts] : Prop :=
  ∀ (m : (ℓ : Loc Cert.S5.nD Cert.S5.τ Cert.S5.sig) → Buf (Elt Bits) ℓ) (g : Dev Cert.S5.nD → PrngReg), Pre_S5 m →
    θ_run (Cert.S5.defs (F := Bits)) (onTc (τ := Cert.S5.τ) (Cert.S5.main (F := Bits))) ⟨m, fun _ => 0, g⟩ (fun r => (∀ c : Dev Cert.S5.nD,
      r.2.mem ((c.tc : Thread Cert.S5.nD Cert.S5.τ).loc Cert.S5.main_arg0) = m ((c.tc : Thread Cert.S5.nD Cert.S5.τ).loc Cert.S5.main_arg0)
      ∧ r.2.mem ((c.tc : Thread Cert.S5.nD Cert.S5.τ).loc Cert.S5.main_arg1) = m ((c.tc : Thread Cert.S5.nD Cert.S5.τ).loc Cert.S5.main_arg1)
      ∧ r.2.mem ((c.tc : Thread Cert.S5.nD Cert.S5.τ).loc Cert.S5.main_arg2) = m ((c.tc : Thread Cert.S5.nD Cert.S5.τ).loc Cert.S5.main_arg2)
      ∧ r.2.mem ((c.tc : Thread Cert.S5.nD Cert.S5.τ).loc Cert.S5.main_arg3) = m ((c.tc : Thread Cert.S5.nD Cert.S5.τ).loc Cert.S5.main_arg3)
      ∧ r.2.mem ((c.tc : Thread Cert.S5.nD Cert.S5.τ).loc Cert.S5.main_arg4) = m ((c.tc : Thread Cert.S5.nD Cert.S5.τ).loc Cert.S5.main_arg4)
      ∧ r.2.mem ((c.tc : Thread Cert.S5.nD Cert.S5.τ).loc Cert.S5.main_arg5) = m ((c.tc : Thread Cert.S5.nD Cert.S5.τ).loc Cert.S5.main_arg5)
      ∧ r.2.mem ((c.tc : Thread Cert.S5.nD Cert.S5.τ).loc Cert.S5.main_arg6) = m ((c.tc : Thread Cert.S5.nD Cert.S5.τ).loc Cert.S5.main_arg6)
      ∧ r.2.mem ((c.tc : Thread Cert.S5.nD Cert.S5.τ).loc Cert.S5.main_arg7) = m ((c.tc : Thread Cert.S5.nD Cert.S5.τ).loc Cert.S5.main_arg7)
      ∧ r.2.mem ((c.tc : Thread Cert.S5.nD Cert.S5.τ).loc Cert.S5.main_arg8) = m ((c.tc : Thread Cert.S5.nD Cert.S5.τ).loc Cert.S5.main_arg8)
      ∧ r.2.mem ((c.tc : Thread Cert.S5.nD Cert.S5.τ).loc Cert.S5.main_arg9) = m ((c.tc : Thread Cert.S5.nD Cert.S5.τ).loc Cert.S5.main_arg9)
      ∧ r.2.mem ((c.tc : Thread Cert.S5.nD Cert.S5.τ).loc Cert.S5.main_arg10) = m ((c.tc : Thread Cert.S5.nD Cert.S5.τ).loc Cert.S5.main_arg10))
      ∧ r.2.sem = fun _ => 0)

def quiescent_S5Ideal [hS5Ideal : Cert.S5Ideal.Facts] : Prop :=
  ∀ (m : (ℓ : Loc Cert.S5Ideal.nD Cert.S5Ideal.τ Cert.S5Ideal.sig) → Buf (Elt Ideal) ℓ) (g : Dev Cert.S5Ideal.nD → PrngReg), Pre_S5Ideal m →
    θ_run (Cert.S5Ideal.defs (F := Ideal)) (onTc (τ := Cert.S5Ideal.τ) (Cert.S5Ideal.main (F := Ideal))) ⟨m, fun _ => 0, g⟩ (fun r => (∀ c : Dev Cert.S5Ideal.nD,
      r.2.mem ((c.tc : Thread Cert.S5Ideal.nD Cert.S5Ideal.τ).loc Cert.S5Ideal.main_arg0) = m ((c.tc : Thread Cert.S5Ideal.nD Cert.S5Ideal.τ).loc Cert.S5Ideal.main_arg0)
      ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
      ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
      ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
      ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
      ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
      ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
      ∧ r.2.mem ((c.tc : Thread Cert.S5Ideal.nD Cert.S5Ideal.τ).loc Cert.S5Ideal.main_arg7) = m ((c.tc : Thread Cert.S5Ideal.nD Cert.S5Ideal.τ).loc Cert.S5Ideal.main_arg7)
      ∧ r.2.mem ((c.tc : Thread Cert.S5Ideal.nD Cert.S5Ideal.τ).loc Cert.S5Ideal.main_arg8) = m ((c.tc : Thread Cert.S5Ideal.nD Cert.S5Ideal.τ).loc Cert.S5Ideal.main_arg8)
      ∧ r.2.mem ((c.tc : Thread Cert.S5Ideal.nD Cert.S5Ideal.τ).loc Cert.S5Ideal.main_arg9) = m ((c.tc : Thread Cert.S5Ideal.nD Cert.S5Ideal.τ).loc Cert.S5Ideal.main_arg9)
      ∧ r.2.mem ((c.tc : Thread Cert.S5Ideal.nD Cert.S5Ideal.τ).loc Cert.S5Ideal.main_arg10) = m ((c.tc : Thread Cert.S5Ideal.nD Cert.S5Ideal.τ).loc Cert.S5Ideal.main_arg10))
      ∧ r.2.sem = fun _ => 0)

def quiescent_S5RefIdeal [hS5RefIdeal : Cert.S5RefIdeal.Facts] : Prop :=
  ∀ (m : (ℓ : Loc Cert.S5RefIdeal.nD Cert.S5RefIdeal.τ Cert.S5RefIdeal.sig) → Buf (Elt Ideal) ℓ) (g : Dev Cert.S5RefIdeal.nD → PrngReg), Pre_S5RefIdeal m →
    θ_run (Cert.S5RefIdeal.defs (F := Ideal)) (onTc (τ := Cert.S5RefIdeal.τ) (Cert.S5RefIdeal.main (F := Ideal))) ⟨m, fun _ => 0, g⟩ (fun r => (∀ c : Dev Cert.S5RefIdeal.nD,
      r.2.mem ((c.tc : Thread Cert.S5RefIdeal.nD Cert.S5RefIdeal.τ).loc Cert.S5RefIdeal.main_arg0) = m ((c.tc : Thread Cert.S5RefIdeal.nD Cert.S5RefIdeal.τ).loc Cert.S5RefIdeal.main_arg0)
      ∧ r.2.mem ((c.tc : Thread Cert.S5RefIdeal.nD Cert.S5RefIdeal.τ).loc Cert.S5RefIdeal.main_arg1) = m ((c.tc : Thread Cert.S5RefIdeal.nD Cert.S5RefIdeal.τ).loc Cert.S5RefIdeal.main_arg1)
      ∧ r.2.mem ((c.tc : Thread Cert.S5RefIdeal.nD Cert.S5RefIdeal.τ).loc Cert.S5RefIdeal.main_arg2) = m ((c.tc : Thread Cert.S5RefIdeal.nD Cert.S5RefIdeal.τ).loc Cert.S5RefIdeal.main_arg2)
      ∧ r.2.mem ((c.tc : Thread Cert.S5RefIdeal.nD Cert.S5RefIdeal.τ).loc Cert.S5RefIdeal.main_arg3) = m ((c.tc : Thread Cert.S5RefIdeal.nD Cert.S5RefIdeal.τ).loc Cert.S5RefIdeal.main_arg3)
      ∧ r.2.mem ((c.tc : Thread Cert.S5RefIdeal.nD Cert.S5RefIdeal.τ).loc Cert.S5RefIdeal.main_arg4) = m ((c.tc : Thread Cert.S5RefIdeal.nD Cert.S5RefIdeal.τ).loc Cert.S5RefIdeal.main_arg4)
      ∧ r.2.mem ((c.tc : Thread Cert.S5RefIdeal.nD Cert.S5RefIdeal.τ).loc Cert.S5RefIdeal.main_arg5) = m ((c.tc : Thread Cert.S5RefIdeal.nD Cert.S5RefIdeal.τ).loc Cert.S5RefIdeal.main_arg5)
      ∧ r.2.mem ((c.tc : Thread Cert.S5RefIdeal.nD Cert.S5RefIdeal.τ).loc Cert.S5RefIdeal.main_arg6) = m ((c.tc : Thread Cert.S5RefIdeal.nD Cert.S5RefIdeal.τ).loc Cert.S5RefIdeal.main_arg6)
      ∧ r.2.mem ((c.tc : Thread Cert.S5RefIdeal.nD Cert.S5RefIdeal.τ).loc Cert.S5RefIdeal.main_arg7) = m ((c.tc : Thread Cert.S5RefIdeal.nD Cert.S5RefIdeal.τ).loc Cert.S5RefIdeal.main_arg7)
      ∧ r.2.mem ((c.tc : Thread Cert.S5RefIdeal.nD Cert.S5RefIdeal.τ).loc Cert.S5RefIdeal.main_arg8) = m ((c.tc : Thread Cert.S5RefIdeal.nD Cert.S5RefIdeal.τ).loc Cert.S5RefIdeal.main_arg8)
      ∧ r.2.mem ((c.tc : Thread Cert.S5RefIdeal.nD Cert.S5RefIdeal.τ).loc Cert.S5RefIdeal.main_arg9) = m ((c.tc : Thread Cert.S5RefIdeal.nD Cert.S5RefIdeal.τ).loc Cert.S5RefIdeal.main_arg9)
      ∧ r.2.mem ((c.tc : Thread Cert.S5RefIdeal.nD Cert.S5RefIdeal.τ).loc Cert.S5RefIdeal.main_arg10) = m ((c.tc : Thread Cert.S5RefIdeal.nD Cert.S5RefIdeal.τ).loc Cert.S5RefIdeal.main_arg10))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5)
      ∧ r.2.mem ((c.tc : Thread Cert.Odd.nD Cert.Odd.τ).loc Cert.Odd.main_arg6) = m ((c.tc : Thread Cert.Odd.nD Cert.Odd.τ).loc Cert.Odd.main_arg6)
      ∧ r.2.mem ((c.tc : Thread Cert.Odd.nD Cert.Odd.τ).loc Cert.Odd.main_arg7) = m ((c.tc : Thread Cert.Odd.nD Cert.Odd.τ).loc Cert.Odd.main_arg7)
      ∧ r.2.mem ((c.tc : Thread Cert.Odd.nD Cert.Odd.τ).loc Cert.Odd.main_arg8) = m ((c.tc : Thread Cert.Odd.nD Cert.Odd.τ).loc Cert.Odd.main_arg8))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
      ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
      ∧ r.2.mem ((c.tc : Thread Cert.OddIdeal.nD Cert.OddIdeal.τ).loc Cert.OddIdeal.main_arg8) = m ((c.tc : Thread Cert.OddIdeal.nD Cert.OddIdeal.τ).loc Cert.OddIdeal.main_arg8))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5)
      ∧ r.2.mem ((c.tc : Thread Cert.OddRefIdeal.nD Cert.OddRefIdeal.τ).loc Cert.OddRefIdeal.main_arg6) = m ((c.tc : Thread Cert.OddRefIdeal.nD Cert.OddRefIdeal.τ).loc Cert.OddRefIdeal.main_arg6)
      ∧ r.2.mem ((c.tc : Thread Cert.OddRefIdeal.nD Cert.OddRefIdeal.τ).loc Cert.OddRefIdeal.main_arg7) = m ((c.tc : Thread Cert.OddRefIdeal.nD Cert.OddRefIdeal.τ).loc Cert.OddRefIdeal.main_arg7)
      ∧ r.2.mem ((c.tc : Thread Cert.OddRefIdeal.nD Cert.OddRefIdeal.τ).loc Cert.OddRefIdeal.main_arg8) = m ((c.tc : Thread Cert.OddRefIdeal.nD Cert.OddRefIdeal.τ).loc Cert.OddRefIdeal.main_arg8))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4)
      ∧ r.2.mem ((c.tc : Thread Cert.Even.nD Cert.Even.τ).loc Cert.Even.main_arg5) = m ((c.tc : Thread Cert.Even.nD Cert.Even.τ).loc Cert.Even.main_arg5)
      ∧ r.2.mem ((c.tc : Thread Cert.Even.nD Cert.Even.τ).loc Cert.Even.main_arg6) = m ((c.tc : Thread Cert.Even.nD Cert.Even.τ).loc Cert.Even.main_arg6)
      ∧ r.2.mem ((c.tc : Thread Cert.Even.nD Cert.Even.τ).loc Cert.Even.main_arg7) = m ((c.tc : Thread Cert.Even.nD Cert.Even.τ).loc Cert.Even.main_arg7)
      ∧ r.2.mem ((c.tc : Thread Cert.Even.nD Cert.Even.τ).loc Cert.Even.main_arg8) = m ((c.tc : Thread Cert.Even.nD Cert.Even.τ).loc Cert.Even.main_arg8)
      ∧ r.2.mem ((c.tc : Thread Cert.Even.nD Cert.Even.τ).loc Cert.Even.main_arg9) = m ((c.tc : Thread Cert.Even.nD Cert.Even.τ).loc Cert.Even.main_arg9)
      ∧ r.2.mem ((c.tc : Thread Cert.Even.nD Cert.Even.τ).loc Cert.Even.main_arg10) = m ((c.tc : Thread Cert.Even.nD Cert.Even.τ).loc Cert.Even.main_arg10)
      ∧ r.2.mem ((c.tc : Thread Cert.Even.nD Cert.Even.τ).loc Cert.Even.main_arg11) = m ((c.tc : Thread Cert.Even.nD Cert.Even.τ).loc Cert.Even.main_arg11))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
      ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
      ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
      ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8)
      ∧ r.2.mem ((c.tc : Thread Cert.EvenIdeal.nD Cert.EvenIdeal.τ).loc Cert.EvenIdeal.main_arg9) = m ((c.tc : Thread Cert.EvenIdeal.nD Cert.EvenIdeal.τ).loc Cert.EvenIdeal.main_arg9)
      ∧ r.2.mem ((c.tc : Thread Cert.EvenIdeal.nD Cert.EvenIdeal.τ).loc Cert.EvenIdeal.main_arg10) = m ((c.tc : Thread Cert.EvenIdeal.nD Cert.EvenIdeal.τ).loc Cert.EvenIdeal.main_arg10)
      ∧ r.2.mem ((c.tc : Thread Cert.EvenIdeal.nD Cert.EvenIdeal.τ).loc Cert.EvenIdeal.main_arg11) = m ((c.tc : Thread Cert.EvenIdeal.nD Cert.EvenIdeal.τ).loc Cert.EvenIdeal.main_arg11))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4)
      ∧ r.2.mem ((c.tc : Thread Cert.EvenRefIdeal.nD Cert.EvenRefIdeal.τ).loc Cert.EvenRefIdeal.main_arg5) = m ((c.tc : Thread Cert.EvenRefIdeal.nD Cert.EvenRefIdeal.τ).loc Cert.EvenRefIdeal.main_arg5)
      ∧ r.2.mem ((c.tc : Thread Cert.EvenRefIdeal.nD Cert.EvenRefIdeal.τ).loc Cert.EvenRefIdeal.main_arg6) = m ((c.tc : Thread Cert.EvenRefIdeal.nD Cert.EvenRefIdeal.τ).loc Cert.EvenRefIdeal.main_arg6)
      ∧ r.2.mem ((c.tc : Thread Cert.EvenRefIdeal.nD Cert.EvenRefIdeal.τ).loc Cert.EvenRefIdeal.main_arg7) = m ((c.tc : Thread Cert.EvenRefIdeal.nD Cert.EvenRefIdeal.τ).loc Cert.EvenRefIdeal.main_arg7)
      ∧ r.2.mem ((c.tc : Thread Cert.EvenRefIdeal.nD Cert.EvenRefIdeal.τ).loc Cert.EvenRefIdeal.main_arg8) = m ((c.tc : Thread Cert.EvenRefIdeal.nD Cert.EvenRefIdeal.τ).loc Cert.EvenRefIdeal.main_arg8)
      ∧ r.2.mem ((c.tc : Thread Cert.EvenRefIdeal.nD Cert.EvenRefIdeal.τ).loc Cert.EvenRefIdeal.main_arg9) = m ((c.tc : Thread Cert.EvenRefIdeal.nD Cert.EvenRefIdeal.τ).loc Cert.EvenRefIdeal.main_arg9)
      ∧ r.2.mem ((c.tc : Thread Cert.EvenRefIdeal.nD Cert.EvenRefIdeal.τ).loc Cert.EvenRefIdeal.main_arg10) = m ((c.tc : Thread Cert.EvenRefIdeal.nD Cert.EvenRefIdeal.τ).loc Cert.EvenRefIdeal.main_arg10)
      ∧ r.2.mem ((c.tc : Thread Cert.EvenRefIdeal.nD Cert.EvenRefIdeal.τ).loc Cert.EvenRefIdeal.main_arg11) = m ((c.tc : Thread Cert.EvenRefIdeal.nD Cert.EvenRefIdeal.τ).loc Cert.EvenRefIdeal.main_arg11))
      ∧ r.2.sem = fun _ => 0)

def quiescent_Disc [hDisc : Cert.Disc.Facts] : Prop :=
  ∀ (m : (ℓ : Loc Cert.Disc.nD Cert.Disc.τ Cert.Disc.sig) → Buf (Elt Bits) ℓ) (g : Dev Cert.Disc.nD → PrngReg), Pre_Disc m →
    θ_run (Cert.Disc.defs (F := Bits)) (onTc (τ := Cert.Disc.τ) (Cert.Disc.main (F := Bits))) ⟨m, fun _ => 0, g⟩ (fun r => (∀ c : Dev Cert.Disc.nD,
      r.2.mem ((c.tc : Thread Cert.Disc.nD Cert.Disc.τ).loc Cert.Disc.main_arg0) = m ((c.tc : Thread Cert.Disc.nD Cert.Disc.τ).loc Cert.Disc.main_arg0)
      ∧ r.2.mem ((c.tc : Thread Cert.Disc.nD Cert.Disc.τ).loc Cert.Disc.main_arg1) = m ((c.tc : Thread Cert.Disc.nD Cert.Disc.τ).loc Cert.Disc.main_arg1)
      ∧ r.2.mem ((c.tc : Thread Cert.Disc.nD Cert.Disc.τ).loc Cert.Disc.main_arg2) = m ((c.tc : Thread Cert.Disc.nD Cert.Disc.τ).loc Cert.Disc.main_arg2)
      ∧ r.2.mem ((c.tc : Thread Cert.Disc.nD Cert.Disc.τ).loc Cert.Disc.main_arg3) = m ((c.tc : Thread Cert.Disc.nD Cert.Disc.τ).loc Cert.Disc.main_arg3)
      ∧ r.2.mem ((c.tc : Thread Cert.Disc.nD Cert.Disc.τ).loc Cert.Disc.main_arg4) = m ((c.tc : Thread Cert.Disc.nD Cert.Disc.τ).loc Cert.Disc.main_arg4))
      ∧ r.2.sem = fun _ => 0)

def quiescent_DiscIdeal [hDiscIdeal : Cert.DiscIdeal.Facts] : Prop :=
  ∀ (m : (ℓ : Loc Cert.DiscIdeal.nD Cert.DiscIdeal.τ Cert.DiscIdeal.sig) → Buf (Elt Ideal) ℓ) (g : Dev Cert.DiscIdeal.nD → PrngReg), Pre_DiscIdeal m →
    θ_run (Cert.DiscIdeal.defs (F := Ideal)) (onTc (τ := Cert.DiscIdeal.τ) (Cert.DiscIdeal.main (F := Ideal))) ⟨m, fun _ => 0, g⟩ (fun r => (∀ c : Dev Cert.DiscIdeal.nD,
      r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
      ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
      ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
      ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
      ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4))
      ∧ r.2.sem = fun _ => 0)

def quiescent_DiscRefIdeal [hDiscRefIdeal : Cert.DiscRefIdeal.Facts] : Prop :=
  ∀ (m : (ℓ : Loc Cert.DiscRefIdeal.nD Cert.DiscRefIdeal.τ Cert.DiscRefIdeal.sig) → Buf (Elt Ideal) ℓ) (g : Dev Cert.DiscRefIdeal.nD → PrngReg), Pre_DiscRefIdeal m →
    θ_run (Cert.DiscRefIdeal.defs (F := Ideal)) (onTc (τ := Cert.DiscRefIdeal.τ) (Cert.DiscRefIdeal.main (F := Ideal))) ⟨m, fun _ => 0, g⟩ (fun r => (∀ c : Dev Cert.DiscRefIdeal.nD,
      r.2.mem ((c.tc : Thread Cert.DiscRefIdeal.nD Cert.DiscRefIdeal.τ).loc Cert.DiscRefIdeal.main_arg0) = m ((c.tc : Thread Cert.DiscRefIdeal.nD Cert.DiscRefIdeal.τ).loc Cert.DiscRefIdeal.main_arg0)
      ∧ r.2.mem ((c.tc : Thread Cert.DiscRefIdeal.nD Cert.DiscRefIdeal.τ).loc Cert.DiscRefIdeal.main_arg1) = m ((c.tc : Thread Cert.DiscRefIdeal.nD Cert.DiscRefIdeal.τ).loc Cert.DiscRefIdeal.main_arg1)
      ∧ r.2.mem ((c.tc : Thread Cert.DiscRefIdeal.nD Cert.DiscRefIdeal.τ).loc Cert.DiscRefIdeal.main_arg2) = m ((c.tc : Thread Cert.DiscRefIdeal.nD Cert.DiscRefIdeal.τ).loc Cert.DiscRefIdeal.main_arg2)
      ∧ r.2.mem ((c.tc : Thread Cert.DiscRefIdeal.nD Cert.DiscRefIdeal.τ).loc Cert.DiscRefIdeal.main_arg3) = m ((c.tc : Thread Cert.DiscRefIdeal.nD Cert.DiscRefIdeal.τ).loc Cert.DiscRefIdeal.main_arg3)
      ∧ r.2.mem ((c.tc : Thread Cert.DiscRefIdeal.nD Cert.DiscRefIdeal.τ).loc Cert.DiscRefIdeal.main_arg4) = m ((c.tc : Thread Cert.DiscRefIdeal.nD Cert.DiscRefIdeal.τ).loc Cert.DiscRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_InS [hInS : Cert.InS.Facts] : Prop :=
  ∀ (m : (ℓ : Loc Cert.InS.nD Cert.InS.τ Cert.InS.sig) → Buf (Elt Bits) ℓ) (g : Dev Cert.InS.nD → PrngReg), Pre_InS m →
    θ_run (Cert.InS.defs (F := Bits)) (onTc (τ := Cert.InS.τ) (Cert.InS.main (F := Bits))) ⟨m, fun _ => 0, g⟩ (fun r => (∀ c : Dev Cert.InS.nD,
      r.2.mem ((c.tc : Thread Cert.InS.nD Cert.InS.τ).loc Cert.InS.main_arg0) = m ((c.tc : Thread Cert.InS.nD Cert.InS.τ).loc Cert.InS.main_arg0)
      ∧ r.2.mem ((c.tc : Thread Cert.InS.nD Cert.InS.τ).loc Cert.InS.main_arg1) = m ((c.tc : Thread Cert.InS.nD Cert.InS.τ).loc Cert.InS.main_arg1)
      ∧ r.2.mem ((c.tc : Thread Cert.InS.nD Cert.InS.τ).loc Cert.InS.main_arg2) = m ((c.tc : Thread Cert.InS.nD Cert.InS.τ).loc Cert.InS.main_arg2)
      ∧ r.2.mem ((c.tc : Thread Cert.InS.nD Cert.InS.τ).loc Cert.InS.main_arg3) = m ((c.tc : Thread Cert.InS.nD Cert.InS.τ).loc Cert.InS.main_arg3)
      ∧ r.2.mem ((c.tc : Thread Cert.InS.nD Cert.InS.τ).loc Cert.InS.main_arg4) = m ((c.tc : Thread Cert.InS.nD Cert.InS.τ).loc Cert.InS.main_arg4))
      ∧ r.2.sem = fun _ => 0)

def quiescent_InSIdeal [hInSIdeal : Cert.InSIdeal.Facts] : Prop :=
  ∀ (m : (ℓ : Loc Cert.InSIdeal.nD Cert.InSIdeal.τ Cert.InSIdeal.sig) → Buf (Elt Ideal) ℓ) (g : Dev Cert.InSIdeal.nD → PrngReg), Pre_InSIdeal m →
    θ_run (Cert.InSIdeal.defs (F := Ideal)) (onTc (τ := Cert.InSIdeal.τ) (Cert.InSIdeal.main (F := Ideal))) ⟨m, fun _ => 0, g⟩ (fun r => (∀ c : Dev Cert.InSIdeal.nD,
      r.2.mem ((c.tc : Thread Cert.InSIdeal.nD Cert.InSIdeal.τ).loc Cert.InSIdeal.main_arg0) = m ((c.tc : Thread Cert.InSIdeal.nD Cert.InSIdeal.τ).loc Cert.InSIdeal.main_arg0)
      ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
      ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
      ∧ r.2.mem ((c.tc : Thread Cert.InSIdeal.nD Cert.InSIdeal.τ).loc Cert.InSIdeal.main_arg3) = m ((c.tc : Thread Cert.InSIdeal.nD Cert.InSIdeal.τ).loc Cert.InSIdeal.main_arg3)
      ∧ r.2.mem ((c.tc : Thread Cert.InSIdeal.nD Cert.InSIdeal.τ).loc Cert.InSIdeal.main_arg4) = m ((c.tc : Thread Cert.InSIdeal.nD Cert.InSIdeal.τ).loc Cert.InSIdeal.main_arg4))
      ∧ r.2.sem = fun _ => 0)

def quiescent_InSRefIdeal [hInSRefIdeal : Cert.InSRefIdeal.Facts] : Prop :=
  ∀ (m : (ℓ : Loc Cert.InSRefIdeal.nD Cert.InSRefIdeal.τ Cert.InSRefIdeal.sig) → Buf (Elt Ideal) ℓ) (g : Dev Cert.InSRefIdeal.nD → PrngReg), Pre_InSRefIdeal m →
    θ_run (Cert.InSRefIdeal.defs (F := Ideal)) (onTc (τ := Cert.InSRefIdeal.τ) (Cert.InSRefIdeal.main (F := Ideal))) ⟨m, fun _ => 0, g⟩ (fun r => (∀ c : Dev Cert.InSRefIdeal.nD,
      r.2.mem ((c.tc : Thread Cert.InSRefIdeal.nD Cert.InSRefIdeal.τ).loc Cert.InSRefIdeal.main_arg0) = m ((c.tc : Thread Cert.InSRefIdeal.nD Cert.InSRefIdeal.τ).loc Cert.InSRefIdeal.main_arg0)
      ∧ r.2.mem ((c.tc : Thread Cert.InSRefIdeal.nD Cert.InSRefIdeal.τ).loc Cert.InSRefIdeal.main_arg1) = m ((c.tc : Thread Cert.InSRefIdeal.nD Cert.InSRefIdeal.τ).loc Cert.InSRefIdeal.main_arg1)
      ∧ r.2.mem ((c.tc : Thread Cert.InSRefIdeal.nD Cert.InSRefIdeal.τ).loc Cert.InSRefIdeal.main_arg2) = m ((c.tc : Thread Cert.InSRefIdeal.nD Cert.InSRefIdeal.τ).loc Cert.InSRefIdeal.main_arg2)
      ∧ r.2.mem ((c.tc : Thread Cert.InSRefIdeal.nD Cert.InSRefIdeal.τ).loc Cert.InSRefIdeal.main_arg3) = m ((c.tc : Thread Cert.InSRefIdeal.nD Cert.InSRefIdeal.τ).loc Cert.InSRefIdeal.main_arg3)
      ∧ r.2.mem ((c.tc : Thread Cert.InSRefIdeal.nD Cert.InSRefIdeal.τ).loc Cert.InSRefIdeal.main_arg4) = m ((c.tc : Thread Cert.InSRefIdeal.nD Cert.InSRefIdeal.τ).loc Cert.InSRefIdeal.main_arg4))
      ∧ r.2.sem = fun _ => 0)

def quiescent_OddS [hOddS : Cert.OddS.Facts] : Prop :=
  ∀ (m : (ℓ : Loc Cert.OddS.nD Cert.OddS.τ Cert.OddS.sig) → Buf (Elt Bits) ℓ) (g : Dev Cert.OddS.nD → PrngReg), Pre_OddS m →
    θ_run (Cert.OddS.defs (F := Bits)) (onTc (τ := Cert.OddS.τ) (Cert.OddS.main (F := Bits))) ⟨m, fun _ => 0, g⟩ (fun r => (∀ c : Dev Cert.OddS.nD,
      r.2.mem ((c.tc : Thread Cert.OddS.nD Cert.OddS.τ).loc Cert.OddS.main_arg0) = m ((c.tc : Thread Cert.OddS.nD Cert.OddS.τ).loc Cert.OddS.main_arg0)
      ∧ r.2.mem ((c.tc : Thread Cert.OddS.nD Cert.OddS.τ).loc Cert.OddS.main_arg1) = m ((c.tc : Thread Cert.OddS.nD Cert.OddS.τ).loc Cert.OddS.main_arg1)
      ∧ r.2.mem ((c.tc : Thread Cert.OddS.nD Cert.OddS.τ).loc Cert.OddS.main_arg2) = m ((c.tc : Thread Cert.OddS.nD Cert.OddS.τ).loc Cert.OddS.main_arg2)
      ∧ r.2.mem ((c.tc : Thread Cert.OddS.nD Cert.OddS.τ).loc Cert.OddS.main_arg3) = m ((c.tc : Thread Cert.OddS.nD Cert.OddS.τ).loc Cert.OddS.main_arg3)
      ∧ r.2.mem ((c.tc : Thread Cert.OddS.nD Cert.OddS.τ).loc Cert.OddS.main_arg4) = m ((c.tc : Thread Cert.OddS.nD Cert.OddS.τ).loc Cert.OddS.main_arg4)
      ∧ r.2.mem ((c.tc : Thread Cert.OddS.nD Cert.OddS.τ).loc Cert.OddS.main_arg5) = m ((c.tc : Thread Cert.OddS.nD Cert.OddS.τ).loc Cert.OddS.main_arg5)
      ∧ r.2.mem ((c.tc : Thread Cert.OddS.nD Cert.OddS.τ).loc Cert.OddS.main_arg6) = m ((c.tc : Thread Cert.OddS.nD Cert.OddS.τ).loc Cert.OddS.main_arg6)
      ∧ r.2.mem ((c.tc : Thread Cert.OddS.nD Cert.OddS.τ).loc Cert.OddS.main_arg7) = m ((c.tc : Thread Cert.OddS.nD Cert.OddS.τ).loc Cert.OddS.main_arg7)
      ∧ r.2.mem ((c.tc : Thread Cert.OddS.nD Cert.OddS.τ).loc Cert.OddS.main_arg8) = m ((c.tc : Thread Cert.OddS.nD Cert.OddS.τ).loc Cert.OddS.main_arg8))
      ∧ r.2.sem = fun _ => 0)

def quiescent_OddSIdeal [hOddSIdeal : Cert.OddSIdeal.Facts] : Prop :=
  ∀ (m : (ℓ : Loc Cert.OddSIdeal.nD Cert.OddSIdeal.τ Cert.OddSIdeal.sig) → Buf (Elt Ideal) ℓ) (g : Dev Cert.OddSIdeal.nD → PrngReg), Pre_OddSIdeal m →
    θ_run (Cert.OddSIdeal.defs (F := Ideal)) (onTc (τ := Cert.OddSIdeal.τ) (Cert.OddSIdeal.main (F := Ideal))) ⟨m, fun _ => 0, g⟩ (fun r => (∀ c : Dev Cert.OddSIdeal.nD,
      r.2.mem ((c.tc : Thread Cert.OddSIdeal.nD Cert.OddSIdeal.τ).loc Cert.OddSIdeal.main_arg0) = m ((c.tc : Thread Cert.OddSIdeal.nD Cert.OddSIdeal.τ).loc Cert.OddSIdeal.main_arg0)
      ∧ r.2.mem ((c.tc : Thread Cert.OddSIdeal.nD Cert.OddSIdeal.τ).loc Cert.OddSIdeal.main_arg1) = m ((c.tc : Thread Cert.OddSIdeal.nD Cert.OddSIdeal.τ).loc Cert.OddSIdeal.main_arg1)
      ∧ r.2.mem ((c.tc : Thread Cert.OddSIdeal.nD Cert.OddSIdeal.τ).loc Cert.OddSIdeal.main_arg2) = m ((c.tc : Thread Cert.OddSIdeal.nD Cert.OddSIdeal.τ).loc Cert.OddSIdeal.main_arg2)
      ∧ r.2.mem ((c.tc : Thread Cert.OddSIdeal.nD Cert.OddSIdeal.τ).loc Cert.OddSIdeal.main_arg3) = m ((c.tc : Thread Cert.OddSIdeal.nD Cert.OddSIdeal.τ).loc Cert.OddSIdeal.main_arg3)
      ∧ r.2.mem ((c.tc : Thread Cert.OddSIdeal.nD Cert.OddSIdeal.τ).loc Cert.OddSIdeal.main_arg4) = m ((c.tc : Thread Cert.OddSIdeal.nD Cert.OddSIdeal.τ).loc Cert.OddSIdeal.main_arg4)
      ∧ r.2.mem ((c.tc : Thread Cert.OddSIdeal.nD Cert.OddSIdeal.τ).loc Cert.OddSIdeal.main_arg5) = m ((c.tc : Thread Cert.OddSIdeal.nD Cert.OddSIdeal.τ).loc Cert.OddSIdeal.main_arg5)
      ∧ r.2.mem ((c.tc : Thread Cert.OddSIdeal.nD Cert.OddSIdeal.τ).loc Cert.OddSIdeal.main_arg6) = m ((c.tc : Thread Cert.OddSIdeal.nD Cert.OddSIdeal.τ).loc Cert.OddSIdeal.main_arg6)
      ∧ r.2.mem ((c.tc : Thread Cert.OddSIdeal.nD Cert.OddSIdeal.τ).loc Cert.OddSIdeal.main_arg7) = m ((c.tc : Thread Cert.OddSIdeal.nD Cert.OddSIdeal.τ).loc Cert.OddSIdeal.main_arg7)
      ∧ r.2.mem ((c.tc : Thread Cert.OddSIdeal.nD Cert.OddSIdeal.τ).loc Cert.OddSIdeal.main_arg8) = m ((c.tc : Thread Cert.OddSIdeal.nD Cert.OddSIdeal.τ).loc Cert.OddSIdeal.main_arg8))
      ∧ r.2.sem = fun _ => 0)

def quiescent_OddSRefIdeal [hOddSRefIdeal : Cert.OddSRefIdeal.Facts] : Prop :=
  ∀ (m : (ℓ : Loc Cert.OddSRefIdeal.nD Cert.OddSRefIdeal.τ Cert.OddSRefIdeal.sig) → Buf (Elt Ideal) ℓ) (g : Dev Cert.OddSRefIdeal.nD → PrngReg), Pre_OddSRefIdeal m →
    θ_run (Cert.OddSRefIdeal.defs (F := Ideal)) (onTc (τ := Cert.OddSRefIdeal.τ) (Cert.OddSRefIdeal.main (F := Ideal))) ⟨m, fun _ => 0, g⟩ (fun r => (∀ c : Dev Cert.OddSRefIdeal.nD,
      r.2.mem ((c.tc : Thread Cert.OddSRefIdeal.nD Cert.OddSRefIdeal.τ).loc Cert.OddSRefIdeal.main_arg0) = m ((c.tc : Thread Cert.OddSRefIdeal.nD Cert.OddSRefIdeal.τ).loc Cert.OddSRefIdeal.main_arg0)
      ∧ r.2.mem ((c.tc : Thread Cert.OddSRefIdeal.nD Cert.OddSRefIdeal.τ).loc Cert.OddSRefIdeal.main_arg1) = m ((c.tc : Thread Cert.OddSRefIdeal.nD Cert.OddSRefIdeal.τ).loc Cert.OddSRefIdeal.main_arg1)
      ∧ r.2.mem ((c.tc : Thread Cert.OddSRefIdeal.nD Cert.OddSRefIdeal.τ).loc Cert.OddSRefIdeal.main_arg2) = m ((c.tc : Thread Cert.OddSRefIdeal.nD Cert.OddSRefIdeal.τ).loc Cert.OddSRefIdeal.main_arg2)
      ∧ r.2.mem ((c.tc : Thread Cert.OddSRefIdeal.nD Cert.OddSRefIdeal.τ).loc Cert.OddSRefIdeal.main_arg3) = m ((c.tc : Thread Cert.OddSRefIdeal.nD Cert.OddSRefIdeal.τ).loc Cert.OddSRefIdeal.main_arg3)
      ∧ r.2.mem ((c.tc : Thread Cert.OddSRefIdeal.nD Cert.OddSRefIdeal.τ).loc Cert.OddSRefIdeal.main_arg4) = m ((c.tc : Thread Cert.OddSRefIdeal.nD Cert.OddSRefIdeal.τ).loc Cert.OddSRefIdeal.main_arg4)
      ∧ r.2.mem ((c.tc : Thread Cert.OddSRefIdeal.nD Cert.OddSRefIdeal.τ).loc Cert.OddSRefIdeal.main_arg5) = m ((c.tc : Thread Cert.OddSRefIdeal.nD Cert.OddSRefIdeal.τ).loc Cert.OddSRefIdeal.main_arg5)
      ∧ r.2.mem ((c.tc : Thread Cert.OddSRefIdeal.nD Cert.OddSRefIdeal.τ).loc Cert.OddSRefIdeal.main_arg6) = m ((c.tc : Thread Cert.OddSRefIdeal.nD Cert.OddSRefIdeal.τ).loc Cert.OddSRefIdeal.main_arg6)
      ∧ r.2.mem ((c.tc : Thread Cert.OddSRefIdeal.nD Cert.OddSRefIdeal.τ).loc Cert.OddSRefIdeal.main_arg7) = m ((c.tc : Thread Cert.OddSRefIdeal.nD Cert.OddSRefIdeal.τ).loc Cert.OddSRefIdeal.main_arg7)
      ∧ r.2.mem ((c.tc : Thread Cert.OddSRefIdeal.nD Cert.OddSRefIdeal.τ).loc Cert.OddSRefIdeal.main_arg8) = m ((c.tc : Thread Cert.OddSRefIdeal.nD Cert.OddSRefIdeal.τ).loc Cert.OddSRefIdeal.main_arg8))
      ∧ r.2.sem = fun _ => 0)

def preserves_S5_S5Ideal : Prop :=
  True

def algebraic_S5Ideal_S5RefIdeal [hS5Ideal : Cert.S5Ideal.Facts] [hS5RefIdeal : Cert.S5RefIdeal.Facts] : Prop :=
  ∀ (m : (ℓ : Loc Cert.S5Ideal.nD Cert.S5Ideal.τ Cert.S5Ideal.sig) → Buf (Elt Ideal) ℓ) (g : Dev Cert.S5Ideal.nD → PrngReg)
    (m' : (ℓ : Loc Cert.S5RefIdeal.nD Cert.S5RefIdeal.τ Cert.S5RefIdeal.sig) → Buf (Elt Ideal) ℓ) (g' : Dev Cert.S5RefIdeal.nD → PrngReg), Pre_S5Ideal m →
    (∀ c : Dev Cert.S5Ideal.nD,
      m' ((c.tc : Thread Cert.S5RefIdeal.nD Cert.S5RefIdeal.τ).loc Cert.S5RefIdeal.main_arg0) = m ((c.tc : Thread Cert.S5Ideal.nD Cert.S5Ideal.τ).loc Cert.S5Ideal.main_arg0)
      ∧ m' ((c.tc : Thread Cert.S5RefIdeal.nD Cert.S5RefIdeal.τ).loc Cert.S5RefIdeal.main_arg1) = m ((c.tc : Thread Cert.S5Ideal.nD Cert.S5Ideal.τ).loc Cert.S5Ideal.main_arg1)
      ∧ m' ((c.tc : Thread Cert.S5RefIdeal.nD Cert.S5RefIdeal.τ).loc Cert.S5RefIdeal.main_arg2) = m ((c.tc : Thread Cert.S5Ideal.nD Cert.S5Ideal.τ).loc Cert.S5Ideal.main_arg2)
      ∧ m' ((c.tc : Thread Cert.S5RefIdeal.nD Cert.S5RefIdeal.τ).loc Cert.S5RefIdeal.main_arg3) = m ((c.tc : Thread Cert.S5Ideal.nD Cert.S5Ideal.τ).loc Cert.S5Ideal.main_arg3)
      ∧ m' ((c.tc : Thread Cert.S5RefIdeal.nD Cert.S5RefIdeal.τ).loc Cert.S5RefIdeal.main_arg4) = m ((c.tc : Thread Cert.S5Ideal.nD Cert.S5Ideal.τ).loc Cert.S5Ideal.main_arg4)
      ∧ m' ((c.tc : Thread Cert.S5RefIdeal.nD Cert.S5RefIdeal.τ).loc Cert.S5RefIdeal.main_arg5) = m ((c.tc : Thread Cert.S5Ideal.nD Cert.S5Ideal.τ).loc Cert.S5Ideal.main_arg5)
      ∧ m' ((c.tc : Thread Cert.S5RefIdeal.nD Cert.S5RefIdeal.τ).loc Cert.S5RefIdeal.main_arg6) = m ((c.tc : Thread Cert.S5Ideal.nD Cert.S5Ideal.τ).loc Cert.S5Ideal.main_arg6)
      ∧ m' ((c.tc : Thread Cert.S5RefIdeal.nD Cert.S5RefIdeal.τ).loc Cert.S5RefIdeal.main_arg7) = m ((c.tc : Thread Cert.S5Ideal.nD Cert.S5Ideal.τ).loc Cert.S5Ideal.main_arg7)
      ∧ m' ((c.tc : Thread Cert.S5RefIdeal.nD Cert.S5RefIdeal.τ).loc Cert.S5RefIdeal.main_arg8) = m ((c.tc : Thread Cert.S5Ideal.nD Cert.S5Ideal.τ).loc Cert.S5Ideal.main_arg8)
      ∧ m' ((c.tc : Thread Cert.S5RefIdeal.nD Cert.S5RefIdeal.τ).loc Cert.S5RefIdeal.main_arg9) = m ((c.tc : Thread Cert.S5Ideal.nD Cert.S5Ideal.τ).loc Cert.S5Ideal.main_arg9)
      ∧ m' ((c.tc : Thread Cert.S5RefIdeal.nD Cert.S5RefIdeal.τ).loc Cert.S5RefIdeal.main_arg10) = m ((c.tc : Thread Cert.S5Ideal.nD Cert.S5Ideal.τ).loc Cert.S5Ideal.main_arg10)) →
    ∃ (v0 : (c : Dev Cert.S5Ideal.nD) → Buf (Elt Ideal) ((c.tc : Thread Cert.S5Ideal.nD Cert.S5Ideal.τ).loc Cert.S5Ideal.main_v44_0)) (v1 : (c : Dev Cert.S5Ideal.nD) → Buf (Elt Ideal) ((c.tc : Thread Cert.S5Ideal.nD Cert.S5Ideal.τ).loc Cert.S5Ideal.main_v44_1)) (v2 : (c : Dev Cert.S5Ideal.nD) → Buf (Elt Ideal) ((c.tc : Thread Cert.S5Ideal.nD Cert.S5Ideal.τ).loc Cert.S5Ideal.main_v44_2)),
      θ_run (Cert.S5Ideal.defs (F := Ideal)) (onTc (τ := Cert.S5Ideal.τ) (Cert.S5Ideal.main (F := Ideal))) ⟨m, fun _ => 0, g⟩ (fun r => ∀ c : Dev Cert.S5Ideal.nD,
          r.2.mem ((c.tc : Thread Cert.S5Ideal.nD Cert.S5Ideal.τ).loc Cert.S5Ideal.main_v44_0) = v0 c
          ∧ r.2.mem ((c.tc : Thread Cert.S5Ideal.nD Cert.S5Ideal.τ).loc Cert.S5Ideal.main_v44_1) = v1 c
          ∧ r.2.mem ((c.tc : Thread Cert.S5Ideal.nD Cert.S5Ideal.τ).loc Cert.S5Ideal.main_v44_2) = v2 c
          ∧ r.2.mem ((c.tc : Thread Cert.S5Ideal.nD Cert.S5Ideal.τ).loc Cert.S5Ideal.main_arg0) = m ((c.tc : Thread Cert.S5Ideal.nD Cert.S5Ideal.τ).loc Cert.S5Ideal.main_arg0)
          ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
          ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
          ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
          ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
          ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
          ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
          ∧ r.2.mem ((c.tc : Thread Cert.S5Ideal.nD Cert.S5Ideal.τ).loc Cert.S5Ideal.main_arg7) = m ((c.tc : Thread Cert.S5Ideal.nD Cert.S5Ideal.τ).loc Cert.S5Ideal.main_arg7)
          ∧ r.2.mem ((c.tc : Thread Cert.S5Ideal.nD Cert.S5Ideal.τ).loc Cert.S5Ideal.main_arg8) = m ((c.tc : Thread Cert.S5Ideal.nD Cert.S5Ideal.τ).loc Cert.S5Ideal.main_arg8)
          ∧ r.2.mem ((c.tc : Thread Cert.S5Ideal.nD Cert.S5Ideal.τ).loc Cert.S5Ideal.main_arg9) = m ((c.tc : Thread Cert.S5Ideal.nD Cert.S5Ideal.τ).loc Cert.S5Ideal.main_arg9)
          ∧ r.2.mem ((c.tc : Thread Cert.S5Ideal.nD Cert.S5Ideal.τ).loc Cert.S5Ideal.main_arg10) = m ((c.tc : Thread Cert.S5Ideal.nD Cert.S5Ideal.τ).loc Cert.S5Ideal.main_arg10))
      ∧ θ_run (Cert.S5RefIdeal.defs (F := Ideal)) (onTc (τ := Cert.S5RefIdeal.τ) (Cert.S5RefIdeal.main (F := Ideal))) ⟨m', fun _ => 0, g'⟩ (fun r => ∀ c : Dev Cert.S5RefIdeal.nD,
          r.2.mem ((c.tc : Thread Cert.S5RefIdeal.nD Cert.S5RefIdeal.τ).loc Cert.S5RefIdeal.main_v387) = v0 c
          ∧ r.2.mem ((c.tc : Thread Cert.S5RefIdeal.nD Cert.S5RefIdeal.τ).loc Cert.S5RefIdeal.main_v388) = v1 c
          ∧ r.2.mem ((c.tc : Thread Cert.S5RefIdeal.nD Cert.S5RefIdeal.τ).loc Cert.S5RefIdeal.main_v389) = v2 c
          ∧ r.2.mem ((c.tc : Thread Cert.S5RefIdeal.nD Cert.S5RefIdeal.τ).loc Cert.S5RefIdeal.main_arg0) = m' ((c.tc : Thread Cert.S5RefIdeal.nD Cert.S5RefIdeal.τ).loc Cert.S5RefIdeal.main_arg0)
          ∧ r.2.mem ((c.tc : Thread Cert.S5RefIdeal.nD Cert.S5RefIdeal.τ).loc Cert.S5RefIdeal.main_arg1) = m' ((c.tc : Thread Cert.S5RefIdeal.nD Cert.S5RefIdeal.τ).loc Cert.S5RefIdeal.main_arg1)
          ∧ r.2.mem ((c.tc : Thread Cert.S5RefIdeal.nD Cert.S5RefIdeal.τ).loc Cert.S5RefIdeal.main_arg2) = m' ((c.tc : Thread Cert.S5RefIdeal.nD Cert.S5RefIdeal.τ).loc Cert.S5RefIdeal.main_arg2)
          ∧ r.2.mem ((c.tc : Thread Cert.S5RefIdeal.nD Cert.S5RefIdeal.τ).loc Cert.S5RefIdeal.main_arg3) = m' ((c.tc : Thread Cert.S5RefIdeal.nD Cert.S5RefIdeal.τ).loc Cert.S5RefIdeal.main_arg3)
          ∧ r.2.mem ((c.tc : Thread Cert.S5RefIdeal.nD Cert.S5RefIdeal.τ).loc Cert.S5RefIdeal.main_arg4) = m' ((c.tc : Thread Cert.S5RefIdeal.nD Cert.S5RefIdeal.τ).loc Cert.S5RefIdeal.main_arg4)
          ∧ r.2.mem ((c.tc : Thread Cert.S5RefIdeal.nD Cert.S5RefIdeal.τ).loc Cert.S5RefIdeal.main_arg5) = m' ((c.tc : Thread Cert.S5RefIdeal.nD Cert.S5RefIdeal.τ).loc Cert.S5RefIdeal.main_arg5)
          ∧ r.2.mem ((c.tc : Thread Cert.S5RefIdeal.nD Cert.S5RefIdeal.τ).loc Cert.S5RefIdeal.main_arg6) = m' ((c.tc : Thread Cert.S5RefIdeal.nD Cert.S5RefIdeal.τ).loc Cert.S5RefIdeal.main_arg6)
          ∧ r.2.mem ((c.tc : Thread Cert.S5RefIdeal.nD Cert.S5RefIdeal.τ).loc Cert.S5RefIdeal.main_arg7) = m' ((c.tc : Thread Cert.S5RefIdeal.nD Cert.S5RefIdeal.τ).loc Cert.S5RefIdeal.main_arg7)
          ∧ r.2.mem ((c.tc : Thread Cert.S5RefIdeal.nD Cert.S5RefIdeal.τ).loc Cert.S5RefIdeal.main_arg8) = m' ((c.tc : Thread Cert.S5RefIdeal.nD Cert.S5RefIdeal.τ).loc Cert.S5RefIdeal.main_arg8)
          ∧ r.2.mem ((c.tc : Thread Cert.S5RefIdeal.nD Cert.S5RefIdeal.τ).loc Cert.S5RefIdeal.main_arg9) = m' ((c.tc : Thread Cert.S5RefIdeal.nD Cert.S5RefIdeal.τ).loc Cert.S5RefIdeal.main_arg9)
          ∧ r.2.mem ((c.tc : Thread Cert.S5RefIdeal.nD Cert.S5RefIdeal.τ).loc Cert.S5RefIdeal.main_arg10) = m' ((c.tc : Thread Cert.S5RefIdeal.nD Cert.S5RefIdeal.τ).loc Cert.S5RefIdeal.main_arg10))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)
      ∧ m' ((c.tc : Thread Cert.OddRefIdeal.nD Cert.OddRefIdeal.τ).loc Cert.OddRefIdeal.main_arg5) = m ((c.tc : Thread Cert.OddIdeal.nD Cert.OddIdeal.τ).loc Cert.OddIdeal.main_arg5)
      ∧ m' ((c.tc : Thread Cert.OddRefIdeal.nD Cert.OddRefIdeal.τ).loc Cert.OddRefIdeal.main_arg6) = m ((c.tc : Thread Cert.OddIdeal.nD Cert.OddIdeal.τ).loc Cert.OddIdeal.main_arg6)
      ∧ m' ((c.tc : Thread Cert.OddRefIdeal.nD Cert.OddRefIdeal.τ).loc Cert.OddRefIdeal.main_arg7) = m ((c.tc : Thread Cert.OddIdeal.nD Cert.OddIdeal.τ).loc Cert.OddIdeal.main_arg7)
      ∧ m' ((c.tc : Thread Cert.OddRefIdeal.nD Cert.OddRefIdeal.τ).loc Cert.OddRefIdeal.main_arg8) = m ((c.tc : Thread Cert.OddIdeal.nD Cert.OddIdeal.τ).loc Cert.OddIdeal.main_arg8)) →
    ∃ (v0 : (c : Dev Cert.OddIdeal.nD) → Buf (Elt Ideal) ((c.tc : Thread Cert.OddIdeal.nD Cert.OddIdeal.τ).loc Cert.OddIdeal.main_v7)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v7) = v0 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
          ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
          ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
          ∧ r.2.mem ((c.tc : Thread Cert.OddIdeal.nD Cert.OddIdeal.τ).loc Cert.OddIdeal.main_arg8) = m ((c.tc : Thread Cert.OddIdeal.nD Cert.OddIdeal.τ).loc Cert.OddIdeal.main_arg8))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v42) = v0 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5)
          ∧ r.2.mem ((c.tc : Thread Cert.OddRefIdeal.nD Cert.OddRefIdeal.τ).loc Cert.OddRefIdeal.main_arg6) = m' ((c.tc : Thread Cert.OddRefIdeal.nD Cert.OddRefIdeal.τ).loc Cert.OddRefIdeal.main_arg6)
          ∧ r.2.mem ((c.tc : Thread Cert.OddRefIdeal.nD Cert.OddRefIdeal.τ).loc Cert.OddRefIdeal.main_arg7) = m' ((c.tc : Thread Cert.OddRefIdeal.nD Cert.OddRefIdeal.τ).loc Cert.OddRefIdeal.main_arg7)
          ∧ r.2.mem ((c.tc : Thread Cert.OddRefIdeal.nD Cert.OddRefIdeal.τ).loc Cert.OddRefIdeal.main_arg8) = m' ((c.tc : Thread Cert.OddRefIdeal.nD Cert.OddRefIdeal.τ).loc Cert.OddRefIdeal.main_arg8))

def preserves_Even_EvenIdeal : Prop :=
  True

def algebraic_EvenIdeal_EvenRefIdeal [hEvenIdeal : Cert.EvenIdeal.Facts] [hEvenRefIdeal : Cert.EvenRefIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)
      ∧ m' ((c.tc : Thread Cert.EvenRefIdeal.nD Cert.EvenRefIdeal.τ).loc Cert.EvenRefIdeal.main_arg2) = m ((c.tc : Thread Cert.EvenIdeal.nD Cert.EvenIdeal.τ).loc Cert.EvenIdeal.main_arg2)
      ∧ m' ((c.tc : Thread Cert.EvenRefIdeal.nD Cert.EvenRefIdeal.τ).loc Cert.EvenRefIdeal.main_arg3) = m ((c.tc : Thread Cert.EvenIdeal.nD Cert.EvenIdeal.τ).loc Cert.EvenIdeal.main_arg3)
      ∧ m' ((c.tc : Thread Cert.EvenRefIdeal.nD Cert.EvenRefIdeal.τ).loc Cert.EvenRefIdeal.main_arg4) = m ((c.tc : Thread Cert.EvenIdeal.nD Cert.EvenIdeal.τ).loc Cert.EvenIdeal.main_arg4)
      ∧ m' ((c.tc : Thread Cert.EvenRefIdeal.nD Cert.EvenRefIdeal.τ).loc Cert.EvenRefIdeal.main_arg5) = m ((c.tc : Thread Cert.EvenIdeal.nD Cert.EvenIdeal.τ).loc Cert.EvenIdeal.main_arg5)
      ∧ m' ((c.tc : Thread Cert.EvenRefIdeal.nD Cert.EvenRefIdeal.τ).loc Cert.EvenRefIdeal.main_arg6) = m ((c.tc : Thread Cert.EvenIdeal.nD Cert.EvenIdeal.τ).loc Cert.EvenIdeal.main_arg6)
      ∧ m' ((c.tc : Thread Cert.EvenRefIdeal.nD Cert.EvenRefIdeal.τ).loc Cert.EvenRefIdeal.main_arg7) = m ((c.tc : Thread Cert.EvenIdeal.nD Cert.EvenIdeal.τ).loc Cert.EvenIdeal.main_arg7)
      ∧ m' ((c.tc : Thread Cert.EvenRefIdeal.nD Cert.EvenRefIdeal.τ).loc Cert.EvenRefIdeal.main_arg8) = m ((c.tc : Thread Cert.EvenIdeal.nD Cert.EvenIdeal.τ).loc Cert.EvenIdeal.main_arg8)
      ∧ m' ((c.tc : Thread Cert.EvenRefIdeal.nD Cert.EvenRefIdeal.τ).loc Cert.EvenRefIdeal.main_arg9) = m ((c.tc : Thread Cert.EvenIdeal.nD Cert.EvenIdeal.τ).loc Cert.EvenIdeal.main_arg9)
      ∧ m' ((c.tc : Thread Cert.EvenRefIdeal.nD Cert.EvenRefIdeal.τ).loc Cert.EvenRefIdeal.main_arg10) = m ((c.tc : Thread Cert.EvenIdeal.nD Cert.EvenIdeal.τ).loc Cert.EvenIdeal.main_arg10)
      ∧ m' ((c.tc : Thread Cert.EvenRefIdeal.nD Cert.EvenRefIdeal.τ).loc Cert.EvenRefIdeal.main_arg11) = m ((c.tc : Thread Cert.EvenIdeal.nD Cert.EvenIdeal.τ).loc Cert.EvenIdeal.main_arg11)) →
    ∃ (v0 : (c : Dev Cert.EvenIdeal.nD) → Buf (Elt Ideal) ((c.tc : Thread Cert.EvenIdeal.nD Cert.EvenIdeal.τ).loc Cert.EvenIdeal.main_v7)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v7) = v0 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
          ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
          ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
          ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
          ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8)
          ∧ r.2.mem ((c.tc : Thread Cert.EvenIdeal.nD Cert.EvenIdeal.τ).loc Cert.EvenIdeal.main_arg9) = m ((c.tc : Thread Cert.EvenIdeal.nD Cert.EvenIdeal.τ).loc Cert.EvenIdeal.main_arg9)
          ∧ r.2.mem ((c.tc : Thread Cert.EvenIdeal.nD Cert.EvenIdeal.τ).loc Cert.EvenIdeal.main_arg10) = m ((c.tc : Thread Cert.EvenIdeal.nD Cert.EvenIdeal.τ).loc Cert.EvenIdeal.main_arg10)
          ∧ r.2.mem ((c.tc : Thread Cert.EvenIdeal.nD Cert.EvenIdeal.τ).loc Cert.EvenIdeal.main_arg11) = m ((c.tc : Thread Cert.EvenIdeal.nD Cert.EvenIdeal.τ).loc Cert.EvenIdeal.main_arg11))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v32) = v0 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2)
          ∧ r.2.mem ((c.tc : Thread Cert.EvenRefIdeal.nD Cert.EvenRefIdeal.τ).loc Cert.EvenRefIdeal.main_arg3) = m' ((c.tc : Thread Cert.EvenRefIdeal.nD Cert.EvenRefIdeal.τ).loc Cert.EvenRefIdeal.main_arg3)
          ∧ r.2.mem ((c.tc : Thread Cert.EvenRefIdeal.nD Cert.EvenRefIdeal.τ).loc Cert.EvenRefIdeal.main_arg4) = m' ((c.tc : Thread Cert.EvenRefIdeal.nD Cert.EvenRefIdeal.τ).loc Cert.EvenRefIdeal.main_arg4)
          ∧ r.2.mem ((c.tc : Thread Cert.EvenRefIdeal.nD Cert.EvenRefIdeal.τ).loc Cert.EvenRefIdeal.main_arg5) = m' ((c.tc : Thread Cert.EvenRefIdeal.nD Cert.EvenRefIdeal.τ).loc Cert.EvenRefIdeal.main_arg5)
          ∧ r.2.mem ((c.tc : Thread Cert.EvenRefIdeal.nD Cert.EvenRefIdeal.τ).loc Cert.EvenRefIdeal.main_arg6) = m' ((c.tc : Thread Cert.EvenRefIdeal.nD Cert.EvenRefIdeal.τ).loc Cert.EvenRefIdeal.main_arg6)
          ∧ r.2.mem ((c.tc : Thread Cert.EvenRefIdeal.nD Cert.EvenRefIdeal.τ).loc Cert.EvenRefIdeal.main_arg7) = m' ((c.tc : Thread Cert.EvenRefIdeal.nD Cert.EvenRefIdeal.τ).loc Cert.EvenRefIdeal.main_arg7)
          ∧ r.2.mem ((c.tc : Thread Cert.EvenRefIdeal.nD Cert.EvenRefIdeal.τ).loc Cert.EvenRefIdeal.main_arg8) = m' ((c.tc : Thread Cert.EvenRefIdeal.nD Cert.EvenRefIdeal.τ).loc Cert.EvenRefIdeal.main_arg8)
          ∧ r.2.mem ((c.tc : Thread Cert.EvenRefIdeal.nD Cert.EvenRefIdeal.τ).loc Cert.EvenRefIdeal.main_arg9) = m' ((c.tc : Thread Cert.EvenRefIdeal.nD Cert.EvenRefIdeal.τ).loc Cert.EvenRefIdeal.main_arg9)
          ∧ r.2.mem ((c.tc : Thread Cert.EvenRefIdeal.nD Cert.EvenRefIdeal.τ).loc Cert.EvenRefIdeal.main_arg10) = m' ((c.tc : Thread Cert.EvenRefIdeal.nD Cert.EvenRefIdeal.τ).loc Cert.EvenRefIdeal.main_arg10)
          ∧ r.2.mem ((c.tc : Thread Cert.EvenRefIdeal.nD Cert.EvenRefIdeal.τ).loc Cert.EvenRefIdeal.main_arg11) = m' ((c.tc : Thread Cert.EvenRefIdeal.nD Cert.EvenRefIdeal.τ).loc Cert.EvenRefIdeal.main_arg11))

def preserves_Disc_DiscIdeal : Prop :=
  True

def algebraic_DiscIdeal_DiscRefIdeal [hDiscIdeal : Cert.DiscIdeal.Facts] [hDiscRefIdeal : Cert.DiscRefIdeal.Facts] : Prop :=
  ∀ (m : (ℓ : Loc Cert.DiscIdeal.nD Cert.DiscIdeal.τ Cert.DiscIdeal.sig) → Buf (Elt Ideal) ℓ) (g : Dev Cert.DiscIdeal.nD → PrngReg)
    (m' : (ℓ : Loc Cert.DiscRefIdeal.nD Cert.DiscRefIdeal.τ Cert.DiscRefIdeal.sig) → Buf (Elt Ideal) ℓ) (g' : Dev Cert.DiscRefIdeal.nD → PrngReg), Pre_DiscIdeal m →
    (∀ c : Dev Cert.DiscIdeal.nD,
      m' ((c.tc : Thread Cert.DiscRefIdeal.nD Cert.DiscRefIdeal.τ).loc Cert.DiscRefIdeal.main_arg0) = m ((c.tc : Thread Cert.DiscIdeal.nD Cert.DiscIdeal.τ).loc Cert.DiscIdeal.main_arg0)
      ∧ m' ((c.tc : Thread Cert.DiscRefIdeal.nD Cert.DiscRefIdeal.τ).loc Cert.DiscRefIdeal.main_arg1) = m ((c.tc : Thread Cert.DiscIdeal.nD Cert.DiscIdeal.τ).loc Cert.DiscIdeal.main_arg1)
      ∧ m' ((c.tc : Thread Cert.DiscRefIdeal.nD Cert.DiscRefIdeal.τ).loc Cert.DiscRefIdeal.main_arg2) = m ((c.tc : Thread Cert.DiscIdeal.nD Cert.DiscIdeal.τ).loc Cert.DiscIdeal.main_arg2)
      ∧ m' ((c.tc : Thread Cert.DiscRefIdeal.nD Cert.DiscRefIdeal.τ).loc Cert.DiscRefIdeal.main_arg3) = m ((c.tc : Thread Cert.DiscIdeal.nD Cert.DiscIdeal.τ).loc Cert.DiscIdeal.main_arg3)
      ∧ m' ((c.tc : Thread Cert.DiscRefIdeal.nD Cert.DiscRefIdeal.τ).loc Cert.DiscRefIdeal.main_arg4) = m ((c.tc : Thread Cert.DiscIdeal.nD Cert.DiscIdeal.τ).loc Cert.DiscIdeal.main_arg4)) →
    ∃ (v0 : (c : Dev Cert.DiscIdeal.nD) → Buf (Elt Ideal) ((c.tc : Thread Cert.DiscIdeal.nD Cert.DiscIdeal.τ).loc Cert.DiscIdeal.main_v7_0)) (v1 : (c : Dev Cert.DiscIdeal.nD) → Buf (Elt Ideal) ((c.tc : Thread Cert.DiscIdeal.nD Cert.DiscIdeal.τ).loc Cert.DiscIdeal.main_v7_1)) (v2 : (c : Dev Cert.DiscIdeal.nD) → Buf (Elt Ideal) ((c.tc : Thread Cert.DiscIdeal.nD Cert.DiscIdeal.τ).loc Cert.DiscIdeal.main_v7_2)) (v3 : (c : Dev Cert.DiscIdeal.nD) → Buf (Elt Ideal) ((c.tc : Thread Cert.DiscIdeal.nD Cert.DiscIdeal.τ).loc Cert.DiscIdeal.main_v7_3)),
      θ_run (Cert.DiscIdeal.defs (F := Ideal)) (onTc (τ := Cert.DiscIdeal.τ) (Cert.DiscIdeal.main (F := Ideal))) ⟨m, fun _ => 0, g⟩ (fun r => ∀ c : Dev Cert.DiscIdeal.nD,
          r.2.mem ((c.tc : Thread Cert.DiscIdeal.nD Cert.DiscIdeal.τ).loc Cert.DiscIdeal.main_v7_0) = v0 c
          ∧ r.2.mem ((c.tc : Thread Cert.DiscIdeal.nD Cert.DiscIdeal.τ).loc Cert.DiscIdeal.main_v7_1) = v1 c
          ∧ r.2.mem ((c.tc : Thread Cert.DiscIdeal.nD Cert.DiscIdeal.τ).loc Cert.DiscIdeal.main_v7_2) = v2 c
          ∧ r.2.mem ((c.tc : Thread Cert.DiscIdeal.nD Cert.DiscIdeal.τ).loc Cert.DiscIdeal.main_v7_3) = v3 c
          ∧ r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
          ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
          ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
          ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
          ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4))
      ∧ θ_run (Cert.DiscRefIdeal.defs (F := Ideal)) (onTc (τ := Cert.DiscRefIdeal.τ) (Cert.DiscRefIdeal.main (F := Ideal))) ⟨m', fun _ => 0, g'⟩ (fun r => ∀ c : Dev Cert.DiscRefIdeal.nD,
          r.2.mem ((c.tc : Thread Cert.DiscRefIdeal.nD Cert.DiscRefIdeal.τ).loc Cert.DiscRefIdeal.main_v38) = v0 c
          ∧ r.2.mem ((c.tc : Thread Cert.DiscRefIdeal.nD Cert.DiscRefIdeal.τ).loc Cert.DiscRefIdeal.main_v39) = v1 c
          ∧ r.2.mem ((c.tc : Thread Cert.DiscRefIdeal.nD Cert.DiscRefIdeal.τ).loc Cert.DiscRefIdeal.main_v40) = v2 c
          ∧ r.2.mem ((c.tc : Thread Cert.DiscRefIdeal.nD Cert.DiscRefIdeal.τ).loc Cert.DiscRefIdeal.main_v41) = v3 c
          ∧ r.2.mem ((c.tc : Thread Cert.DiscRefIdeal.nD Cert.DiscRefIdeal.τ).loc Cert.DiscRefIdeal.main_arg0) = m' ((c.tc : Thread Cert.DiscRefIdeal.nD Cert.DiscRefIdeal.τ).loc Cert.DiscRefIdeal.main_arg0)
          ∧ r.2.mem ((c.tc : Thread Cert.DiscRefIdeal.nD Cert.DiscRefIdeal.τ).loc Cert.DiscRefIdeal.main_arg1) = m' ((c.tc : Thread Cert.DiscRefIdeal.nD Cert.DiscRefIdeal.τ).loc Cert.DiscRefIdeal.main_arg1)
          ∧ r.2.mem ((c.tc : Thread Cert.DiscRefIdeal.nD Cert.DiscRefIdeal.τ).loc Cert.DiscRefIdeal.main_arg2) = m' ((c.tc : Thread Cert.DiscRefIdeal.nD Cert.DiscRefIdeal.τ).loc Cert.DiscRefIdeal.main_arg2)
          ∧ r.2.mem ((c.tc : Thread Cert.DiscRefIdeal.nD Cert.DiscRefIdeal.τ).loc Cert.DiscRefIdeal.main_arg3) = m' ((c.tc : Thread Cert.DiscRefIdeal.nD Cert.DiscRefIdeal.τ).loc Cert.DiscRefIdeal.main_arg3)
          ∧ r.2.mem ((c.tc : Thread Cert.DiscRefIdeal.nD Cert.DiscRefIdeal.τ).loc Cert.DiscRefIdeal.main_arg4) = m' ((c.tc : Thread Cert.DiscRefIdeal.nD Cert.DiscRefIdeal.τ).loc Cert.DiscRefIdeal.main_arg4))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v36_0)) (v1 : (c : Dev Cert.InIdeal.nD) → Buf (Elt Ideal) ((c.tc : Thread Cert.InIdeal.nD Cert.InIdeal.τ).loc Cert.InIdeal.main_v36_1)) (v2 : (c : Dev Cert.InIdeal.nD) → Buf (Elt Ideal) ((c.tc : Thread Cert.InIdeal.nD Cert.InIdeal.τ).loc Cert.InIdeal.main_v36_2)) (v3 : (c : Dev Cert.InIdeal.nD) → Buf (Elt Ideal) ((c.tc : Thread Cert.InIdeal.nD Cert.InIdeal.τ).loc Cert.InIdeal.main_v36_3)) (v4 : (c : Dev Cert.InIdeal.nD) → Buf (Elt Ideal) ((c.tc : Thread Cert.InIdeal.nD Cert.InIdeal.τ).loc Cert.InIdeal.main_v36_4)) (v5 : (c : Dev Cert.InIdeal.nD) → Buf (Elt Ideal) ((c.tc : Thread Cert.InIdeal.nD Cert.InIdeal.τ).loc Cert.InIdeal.main_v36_5)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v36_0) = v0 c
          ∧ r.2.mem ((c.tc : Thread Cert.InIdeal.nD Cert.InIdeal.τ).loc Cert.InIdeal.main_v36_1) = v1 c
          ∧ r.2.mem ((c.tc : Thread Cert.InIdeal.nD Cert.InIdeal.τ).loc Cert.InIdeal.main_v36_2) = v2 c
          ∧ r.2.mem ((c.tc : Thread Cert.InIdeal.nD Cert.InIdeal.τ).loc Cert.InIdeal.main_v36_3) = v3 c
          ∧ r.2.mem ((c.tc : Thread Cert.InIdeal.nD Cert.InIdeal.τ).loc Cert.InIdeal.main_v36_4) = v4 c
          ∧ r.2.mem ((c.tc : Thread Cert.InIdeal.nD Cert.InIdeal.τ).loc Cert.InIdeal.main_v36_5) = v5 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v133) = v0 c
          ∧ r.2.mem ((c.tc : Thread Cert.InRefIdeal.nD Cert.InRefIdeal.τ).loc Cert.InRefIdeal.main_v134) = v1 c
          ∧ r.2.mem ((c.tc : Thread Cert.InRefIdeal.nD Cert.InRefIdeal.τ).loc Cert.InRefIdeal.main_v137) = v2 c
          ∧ r.2.mem ((c.tc : Thread Cert.InRefIdeal.nD Cert.InRefIdeal.τ).loc Cert.InRefIdeal.main_v130) = v3 c
          ∧ r.2.mem ((c.tc : Thread Cert.InRefIdeal.nD Cert.InRefIdeal.τ).loc Cert.InRefIdeal.main_v138) = v4 c
          ∧ r.2.mem ((c.tc : Thread Cert.InRefIdeal.nD Cert.InRefIdeal.τ).loc Cert.InRefIdeal.main_v161) = v5 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_InS_InSIdeal : Prop :=
  True

def algebraic_InSIdeal_InSRefIdeal [hInSIdeal : Cert.InSIdeal.Facts] [hInSRefIdeal : Cert.InSRefIdeal.Facts] : Prop :=
  ∀ (m : (ℓ : Loc Cert.InSIdeal.nD Cert.InSIdeal.τ Cert.InSIdeal.sig) → Buf (Elt Ideal) ℓ) (g : Dev Cert.InSIdeal.nD → PrngReg)
    (m' : (ℓ : Loc Cert.InSRefIdeal.nD Cert.InSRefIdeal.τ Cert.InSRefIdeal.sig) → Buf (Elt Ideal) ℓ) (g' : Dev Cert.InSRefIdeal.nD → PrngReg), Pre_InSIdeal m →
    (∀ c : Dev Cert.InSIdeal.nD,
      m' ((c.tc : Thread Cert.InSRefIdeal.nD Cert.InSRefIdeal.τ).loc Cert.InSRefIdeal.main_arg0) = m ((c.tc : Thread Cert.InSIdeal.nD Cert.InSIdeal.τ).loc Cert.InSIdeal.main_arg0)
      ∧ m' ((c.tc : Thread Cert.InSRefIdeal.nD Cert.InSRefIdeal.τ).loc Cert.InSRefIdeal.main_arg1) = m ((c.tc : Thread Cert.InSIdeal.nD Cert.InSIdeal.τ).loc Cert.InSIdeal.main_arg1)
      ∧ m' ((c.tc : Thread Cert.InSRefIdeal.nD Cert.InSRefIdeal.τ).loc Cert.InSRefIdeal.main_arg2) = m ((c.tc : Thread Cert.InSIdeal.nD Cert.InSIdeal.τ).loc Cert.InSIdeal.main_arg2)
      ∧ m' ((c.tc : Thread Cert.InSRefIdeal.nD Cert.InSRefIdeal.τ).loc Cert.InSRefIdeal.main_arg3) = m ((c.tc : Thread Cert.InSIdeal.nD Cert.InSIdeal.τ).loc Cert.InSIdeal.main_arg3)
      ∧ m' ((c.tc : Thread Cert.InSRefIdeal.nD Cert.InSRefIdeal.τ).loc Cert.InSRefIdeal.main_arg4) = m ((c.tc : Thread Cert.InSIdeal.nD Cert.InSIdeal.τ).loc Cert.InSIdeal.main_arg4)) →
    ∃ (v0 : (c : Dev Cert.InSIdeal.nD) → Buf (Elt Ideal) ((c.tc : Thread Cert.InSIdeal.nD Cert.InSIdeal.τ).loc Cert.InSIdeal.main_v41_0)) (v1 : (c : Dev Cert.InSIdeal.nD) → Buf (Elt Ideal) ((c.tc : Thread Cert.InSIdeal.nD Cert.InSIdeal.τ).loc Cert.InSIdeal.main_v41_1)) (v2 : (c : Dev Cert.InSIdeal.nD) → Buf (Elt Ideal) ((c.tc : Thread Cert.InSIdeal.nD Cert.InSIdeal.τ).loc Cert.InSIdeal.main_v41_2)) (v3 : (c : Dev Cert.InSIdeal.nD) → Buf (Elt Ideal) ((c.tc : Thread Cert.InSIdeal.nD Cert.InSIdeal.τ).loc Cert.InSIdeal.main_v41_3)) (v4 : (c : Dev Cert.InSIdeal.nD) → Buf (Elt Ideal) ((c.tc : Thread Cert.InSIdeal.nD Cert.InSIdeal.τ).loc Cert.InSIdeal.main_v41_4)) (v5 : (c : Dev Cert.InSIdeal.nD) → Buf (Elt Ideal) ((c.tc : Thread Cert.InSIdeal.nD Cert.InSIdeal.τ).loc Cert.InSIdeal.main_v41_5)),
      θ_run (Cert.InSIdeal.defs (F := Ideal)) (onTc (τ := Cert.InSIdeal.τ) (Cert.InSIdeal.main (F := Ideal))) ⟨m, fun _ => 0, g⟩ (fun r => ∀ c : Dev Cert.InSIdeal.nD,
          r.2.mem ((c.tc : Thread Cert.InSIdeal.nD Cert.InSIdeal.τ).loc Cert.InSIdeal.main_v41_0) = v0 c
          ∧ r.2.mem ((c.tc : Thread Cert.InSIdeal.nD Cert.InSIdeal.τ).loc Cert.InSIdeal.main_v41_1) = v1 c
          ∧ r.2.mem ((c.tc : Thread Cert.InSIdeal.nD Cert.InSIdeal.τ).loc Cert.InSIdeal.main_v41_2) = v2 c
          ∧ r.2.mem ((c.tc : Thread Cert.InSIdeal.nD Cert.InSIdeal.τ).loc Cert.InSIdeal.main_v41_3) = v3 c
          ∧ r.2.mem ((c.tc : Thread Cert.InSIdeal.nD Cert.InSIdeal.τ).loc Cert.InSIdeal.main_v41_4) = v4 c
          ∧ r.2.mem ((c.tc : Thread Cert.InSIdeal.nD Cert.InSIdeal.τ).loc Cert.InSIdeal.main_v41_5) = v5 c
          ∧ r.2.mem ((c.tc : Thread Cert.InSIdeal.nD Cert.InSIdeal.τ).loc Cert.InSIdeal.main_arg0) = m ((c.tc : Thread Cert.InSIdeal.nD Cert.InSIdeal.τ).loc Cert.InSIdeal.main_arg0)
          ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
          ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
          ∧ r.2.mem ((c.tc : Thread Cert.InSIdeal.nD Cert.InSIdeal.τ).loc Cert.InSIdeal.main_arg3) = m ((c.tc : Thread Cert.InSIdeal.nD Cert.InSIdeal.τ).loc Cert.InSIdeal.main_arg3)
          ∧ r.2.mem ((c.tc : Thread Cert.InSIdeal.nD Cert.InSIdeal.τ).loc Cert.InSIdeal.main_arg4) = m ((c.tc : Thread Cert.InSIdeal.nD Cert.InSIdeal.τ).loc Cert.InSIdeal.main_arg4))
      ∧ θ_run (Cert.InSRefIdeal.defs (F := Ideal)) (onTc (τ := Cert.InSRefIdeal.τ) (Cert.InSRefIdeal.main (F := Ideal))) ⟨m', fun _ => 0, g'⟩ (fun r => ∀ c : Dev Cert.InSRefIdeal.nD,
          r.2.mem ((c.tc : Thread Cert.InSRefIdeal.nD Cert.InSRefIdeal.τ).loc Cert.InSRefIdeal.main_v135) = v0 c
          ∧ r.2.mem ((c.tc : Thread Cert.InSRefIdeal.nD Cert.InSRefIdeal.τ).loc Cert.InSRefIdeal.main_v136) = v1 c
          ∧ r.2.mem ((c.tc : Thread Cert.InSRefIdeal.nD Cert.InSRefIdeal.τ).loc Cert.InSRefIdeal.main_v139) = v2 c
          ∧ r.2.mem ((c.tc : Thread Cert.InSRefIdeal.nD Cert.InSRefIdeal.τ).loc Cert.InSRefIdeal.main_v132) = v3 c
          ∧ r.2.mem ((c.tc : Thread Cert.InSRefIdeal.nD Cert.InSRefIdeal.τ).loc Cert.InSRefIdeal.main_v140) = v4 c
          ∧ r.2.mem ((c.tc : Thread Cert.InSRefIdeal.nD Cert.InSRefIdeal.τ).loc Cert.InSRefIdeal.main_v163) = v5 c
          ∧ r.2.mem ((c.tc : Thread Cert.InSRefIdeal.nD Cert.InSRefIdeal.τ).loc Cert.InSRefIdeal.main_arg0) = m' ((c.tc : Thread Cert.InSRefIdeal.nD Cert.InSRefIdeal.τ).loc Cert.InSRefIdeal.main_arg0)
          ∧ r.2.mem ((c.tc : Thread Cert.InSRefIdeal.nD Cert.InSRefIdeal.τ).loc Cert.InSRefIdeal.main_arg1) = m' ((c.tc : Thread Cert.InSRefIdeal.nD Cert.InSRefIdeal.τ).loc Cert.InSRefIdeal.main_arg1)
          ∧ r.2.mem ((c.tc : Thread Cert.InSRefIdeal.nD Cert.InSRefIdeal.τ).loc Cert.InSRefIdeal.main_arg2) = m' ((c.tc : Thread Cert.InSRefIdeal.nD Cert.InSRefIdeal.τ).loc Cert.InSRefIdeal.main_arg2)
          ∧ r.2.mem ((c.tc : Thread Cert.InSRefIdeal.nD Cert.InSRefIdeal.τ).loc Cert.InSRefIdeal.main_arg3) = m' ((c.tc : Thread Cert.InSRefIdeal.nD Cert.InSRefIdeal.τ).loc Cert.InSRefIdeal.main_arg3)
          ∧ r.2.mem ((c.tc : Thread Cert.InSRefIdeal.nD Cert.InSRefIdeal.τ).loc Cert.InSRefIdeal.main_arg4) = m' ((c.tc : Thread Cert.InSRefIdeal.nD Cert.InSRefIdeal.τ).loc Cert.InSRefIdeal.main_arg4))

def preserves_OddS_OddSIdeal : Prop :=
  True

def algebraic_OddSIdeal_OddSRefIdeal [hOddSIdeal : Cert.OddSIdeal.Facts] [hOddSRefIdeal : Cert.OddSRefIdeal.Facts] : Prop :=
  ∀ (m : (ℓ : Loc Cert.OddSIdeal.nD Cert.OddSIdeal.τ Cert.OddSIdeal.sig) → Buf (Elt Ideal) ℓ) (g : Dev Cert.OddSIdeal.nD → PrngReg)
    (m' : (ℓ : Loc Cert.OddSRefIdeal.nD Cert.OddSRefIdeal.τ Cert.OddSRefIdeal.sig) → Buf (Elt Ideal) ℓ) (g' : Dev Cert.OddSRefIdeal.nD → PrngReg), Pre_OddSIdeal m →
    (∀ c : Dev Cert.OddSIdeal.nD,
      m' ((c.tc : Thread Cert.OddSRefIdeal.nD Cert.OddSRefIdeal.τ).loc Cert.OddSRefIdeal.main_arg0) = m ((c.tc : Thread Cert.OddSIdeal.nD Cert.OddSIdeal.τ).loc Cert.OddSIdeal.main_arg0)
      ∧ m' ((c.tc : Thread Cert.OddSRefIdeal.nD Cert.OddSRefIdeal.τ).loc Cert.OddSRefIdeal.main_arg1) = m ((c.tc : Thread Cert.OddSIdeal.nD Cert.OddSIdeal.τ).loc Cert.OddSIdeal.main_arg1)
      ∧ m' ((c.tc : Thread Cert.OddSRefIdeal.nD Cert.OddSRefIdeal.τ).loc Cert.OddSRefIdeal.main_arg2) = m ((c.tc : Thread Cert.OddSIdeal.nD Cert.OddSIdeal.τ).loc Cert.OddSIdeal.main_arg2)
      ∧ m' ((c.tc : Thread Cert.OddSRefIdeal.nD Cert.OddSRefIdeal.τ).loc Cert.OddSRefIdeal.main_arg3) = m ((c.tc : Thread Cert.OddSIdeal.nD Cert.OddSIdeal.τ).loc Cert.OddSIdeal.main_arg3)
      ∧ m' ((c.tc : Thread Cert.OddSRefIdeal.nD Cert.OddSRefIdeal.τ).loc Cert.OddSRefIdeal.main_arg4) = m ((c.tc : Thread Cert.OddSIdeal.nD Cert.OddSIdeal.τ).loc Cert.OddSIdeal.main_arg4)
      ∧ m' ((c.tc : Thread Cert.OddSRefIdeal.nD Cert.OddSRefIdeal.τ).loc Cert.OddSRefIdeal.main_arg5) = m ((c.tc : Thread Cert.OddSIdeal.nD Cert.OddSIdeal.τ).loc Cert.OddSIdeal.main_arg5)
      ∧ m' ((c.tc : Thread Cert.OddSRefIdeal.nD Cert.OddSRefIdeal.τ).loc Cert.OddSRefIdeal.main_arg6) = m ((c.tc : Thread Cert.OddSIdeal.nD Cert.OddSIdeal.τ).loc Cert.OddSIdeal.main_arg6)
      ∧ m' ((c.tc : Thread Cert.OddSRefIdeal.nD Cert.OddSRefIdeal.τ).loc Cert.OddSRefIdeal.main_arg7) = m ((c.tc : Thread Cert.OddSIdeal.nD Cert.OddSIdeal.τ).loc Cert.OddSIdeal.main_arg7)
      ∧ m' ((c.tc : Thread Cert.OddSRefIdeal.nD Cert.OddSRefIdeal.τ).loc Cert.OddSRefIdeal.main_arg8) = m ((c.tc : Thread Cert.OddSIdeal.nD Cert.OddSIdeal.τ).loc Cert.OddSIdeal.main_arg8)) →
    ∃ (v0 : (c : Dev Cert.OddSIdeal.nD) → Buf (Elt Ideal) ((c.tc : Thread Cert.OddSIdeal.nD Cert.OddSIdeal.τ).loc Cert.OddSIdeal.main_v7)),
      θ_run (Cert.OddSIdeal.defs (F := Ideal)) (onTc (τ := Cert.OddSIdeal.τ) (Cert.OddSIdeal.main (F := Ideal))) ⟨m, fun _ => 0, g⟩ (fun r => ∀ c : Dev Cert.OddSIdeal.nD,
          r.2.mem ((c.tc : Thread Cert.OddSIdeal.nD Cert.OddSIdeal.τ).loc Cert.OddSIdeal.main_v7) = v0 c
          ∧ r.2.mem ((c.tc : Thread Cert.OddSIdeal.nD Cert.OddSIdeal.τ).loc Cert.OddSIdeal.main_arg0) = m ((c.tc : Thread Cert.OddSIdeal.nD Cert.OddSIdeal.τ).loc Cert.OddSIdeal.main_arg0)
          ∧ r.2.mem ((c.tc : Thread Cert.OddSIdeal.nD Cert.OddSIdeal.τ).loc Cert.OddSIdeal.main_arg1) = m ((c.tc : Thread Cert.OddSIdeal.nD Cert.OddSIdeal.τ).loc Cert.OddSIdeal.main_arg1)
          ∧ r.2.mem ((c.tc : Thread Cert.OddSIdeal.nD Cert.OddSIdeal.τ).loc Cert.OddSIdeal.main_arg2) = m ((c.tc : Thread Cert.OddSIdeal.nD Cert.OddSIdeal.τ).loc Cert.OddSIdeal.main_arg2)
          ∧ r.2.mem ((c.tc : Thread Cert.OddSIdeal.nD Cert.OddSIdeal.τ).loc Cert.OddSIdeal.main_arg3) = m ((c.tc : Thread Cert.OddSIdeal.nD Cert.OddSIdeal.τ).loc Cert.OddSIdeal.main_arg3)
          ∧ r.2.mem ((c.tc : Thread Cert.OddSIdeal.nD Cert.OddSIdeal.τ).loc Cert.OddSIdeal.main_arg4) = m ((c.tc : Thread Cert.OddSIdeal.nD Cert.OddSIdeal.τ).loc Cert.OddSIdeal.main_arg4)
          ∧ r.2.mem ((c.tc : Thread Cert.OddSIdeal.nD Cert.OddSIdeal.τ).loc Cert.OddSIdeal.main_arg5) = m ((c.tc : Thread Cert.OddSIdeal.nD Cert.OddSIdeal.τ).loc Cert.OddSIdeal.main_arg5)
          ∧ r.2.mem ((c.tc : Thread Cert.OddSIdeal.nD Cert.OddSIdeal.τ).loc Cert.OddSIdeal.main_arg6) = m ((c.tc : Thread Cert.OddSIdeal.nD Cert.OddSIdeal.τ).loc Cert.OddSIdeal.main_arg6)
          ∧ r.2.mem ((c.tc : Thread Cert.OddSIdeal.nD Cert.OddSIdeal.τ).loc Cert.OddSIdeal.main_arg7) = m ((c.tc : Thread Cert.OddSIdeal.nD Cert.OddSIdeal.τ).loc Cert.OddSIdeal.main_arg7)
          ∧ r.2.mem ((c.tc : Thread Cert.OddSIdeal.nD Cert.OddSIdeal.τ).loc Cert.OddSIdeal.main_arg8) = m ((c.tc : Thread Cert.OddSIdeal.nD Cert.OddSIdeal.τ).loc Cert.OddSIdeal.main_arg8))
      ∧ θ_run (Cert.OddSRefIdeal.defs (F := Ideal)) (onTc (τ := Cert.OddSRefIdeal.τ) (Cert.OddSRefIdeal.main (F := Ideal))) ⟨m', fun _ => 0, g'⟩ (fun r => ∀ c : Dev Cert.OddSRefIdeal.nD,
          r.2.mem ((c.tc : Thread Cert.OddSRefIdeal.nD Cert.OddSRefIdeal.τ).loc Cert.OddSRefIdeal.main_v42) = v0 c
          ∧ r.2.mem ((c.tc : Thread Cert.OddSRefIdeal.nD Cert.OddSRefIdeal.τ).loc Cert.OddSRefIdeal.main_arg0) = m' ((c.tc : Thread Cert.OddSRefIdeal.nD Cert.OddSRefIdeal.τ).loc Cert.OddSRefIdeal.main_arg0)
          ∧ r.2.mem ((c.tc : Thread Cert.OddSRefIdeal.nD Cert.OddSRefIdeal.τ).loc Cert.OddSRefIdeal.main_arg1) = m' ((c.tc : Thread Cert.OddSRefIdeal.nD Cert.OddSRefIdeal.τ).loc Cert.OddSRefIdeal.main_arg1)
          ∧ r.2.mem ((c.tc : Thread Cert.OddSRefIdeal.nD Cert.OddSRefIdeal.τ).loc Cert.OddSRefIdeal.main_arg2) = m' ((c.tc : Thread Cert.OddSRefIdeal.nD Cert.OddSRefIdeal.τ).loc Cert.OddSRefIdeal.main_arg2)
          ∧ r.2.mem ((c.tc : Thread Cert.OddSRefIdeal.nD Cert.OddSRefIdeal.τ).loc Cert.OddSRefIdeal.main_arg3) = m' ((c.tc : Thread Cert.OddSRefIdeal.nD Cert.OddSRefIdeal.τ).loc Cert.OddSRefIdeal.main_arg3)
          ∧ r.2.mem ((c.tc : Thread Cert.OddSRefIdeal.nD Cert.OddSRefIdeal.τ).loc Cert.OddSRefIdeal.main_arg4) = m' ((c.tc : Thread Cert.OddSRefIdeal.nD Cert.OddSRefIdeal.τ).loc Cert.OddSRefIdeal.main_arg4)
          ∧ r.2.mem ((c.tc : Thread Cert.OddSRefIdeal.nD Cert.OddSRefIdeal.τ).loc Cert.OddSRefIdeal.main_arg5) = m' ((c.tc : Thread Cert.OddSRefIdeal.nD Cert.OddSRefIdeal.τ).loc Cert.OddSRefIdeal.main_arg5)
          ∧ r.2.mem ((c.tc : Thread Cert.OddSRefIdeal.nD Cert.OddSRefIdeal.τ).loc Cert.OddSRefIdeal.main_arg6) = m' ((c.tc : Thread Cert.OddSRefIdeal.nD Cert.OddSRefIdeal.τ).loc Cert.OddSRefIdeal.main_arg6)
          ∧ r.2.mem ((c.tc : Thread Cert.OddSRefIdeal.nD Cert.OddSRefIdeal.τ).loc Cert.OddSRefIdeal.main_arg7) = m' ((c.tc : Thread Cert.OddSRefIdeal.nD Cert.OddSRefIdeal.τ).loc Cert.OddSRefIdeal.main_arg7)
          ∧ r.2.mem ((c.tc : Thread Cert.OddSRefIdeal.nD Cert.OddSRefIdeal.τ).loc Cert.OddSRefIdeal.main_arg8) = m' ((c.tc : Thread Cert.OddSRefIdeal.nD Cert.OddSRefIdeal.τ).loc Cert.OddSRefIdeal.main_arg8))

def Claim : Prop :=
  ∃ (hS5 : Cert.S5.Facts) (hS5Ideal : Cert.S5Ideal.Facts) (hS5RefIdeal : Cert.S5RefIdeal.Facts) (hOdd : Cert.Odd.Facts) (hOddIdeal : Cert.OddIdeal.Facts) (hOddRefIdeal : Cert.OddRefIdeal.Facts) (hEven : Cert.Even.Facts) (hEvenIdeal : Cert.EvenIdeal.Facts) (hEvenRefIdeal : Cert.EvenRefIdeal.Facts) (hDisc : Cert.Disc.Facts) (hDiscIdeal : Cert.DiscIdeal.Facts) (hDiscRefIdeal : Cert.DiscRefIdeal.Facts) (hIn : Cert.In.Facts) (hInIdeal : Cert.InIdeal.Facts) (hInRefIdeal : Cert.InRefIdeal.Facts) (hInS : Cert.InS.Facts) (hInSIdeal : Cert.InSIdeal.Facts) (hInSRefIdeal : Cert.InSRefIdeal.Facts) (hOddS : Cert.OddS.Facts) (hOddSIdeal : Cert.OddSIdeal.Facts) (hOddSRefIdeal : Cert.OddSRefIdeal.Facts),
    quiescent_S5 (hS5 := hS5)
    ∧ quiescent_S5Ideal (hS5Ideal := hS5Ideal)
    ∧ quiescent_S5RefIdeal (hS5RefIdeal := hS5RefIdeal)
    ∧ quiescent_Odd (hOdd := hOdd)
    ∧ quiescent_OddIdeal (hOddIdeal := hOddIdeal)
    ∧ quiescent_OddRefIdeal (hOddRefIdeal := hOddRefIdeal)
    ∧ quiescent_Even (hEven := hEven)
    ∧ quiescent_EvenIdeal (hEvenIdeal := hEvenIdeal)
    ∧ quiescent_EvenRefIdeal (hEvenRefIdeal := hEvenRefIdeal)
    ∧ quiescent_Disc (hDisc := hDisc)
    ∧ quiescent_DiscIdeal (hDiscIdeal := hDiscIdeal)
    ∧ quiescent_DiscRefIdeal (hDiscRefIdeal := hDiscRefIdeal)
    ∧ quiescent_In (hIn := hIn)
    ∧ quiescent_InIdeal (hInIdeal := hInIdeal)
    ∧ quiescent_InRefIdeal (hInRefIdeal := hInRefIdeal)
    ∧ quiescent_InS (hInS := hInS)
    ∧ quiescent_InSIdeal (hInSIdeal := hInSIdeal)
    ∧ quiescent_InSRefIdeal (hInSRefIdeal := hInSRefIdeal)
    ∧ quiescent_OddS (hOddS := hOddS)
    ∧ quiescent_OddSIdeal (hOddSIdeal := hOddSIdeal)
    ∧ quiescent_OddSRefIdeal (hOddSRefIdeal := hOddSRefIdeal)
    ∧ preserves_S5_S5Ideal
    ∧ algebraic_S5Ideal_S5RefIdeal (hS5Ideal := hS5Ideal) (hS5RefIdeal := hS5RefIdeal)
    ∧ preserves_Odd_OddIdeal
    ∧ algebraic_OddIdeal_OddRefIdeal (hOddIdeal := hOddIdeal) (hOddRefIdeal := hOddRefIdeal)
    ∧ preserves_Even_EvenIdeal
    ∧ algebraic_EvenIdeal_EvenRefIdeal (hEvenIdeal := hEvenIdeal) (hEvenRefIdeal := hEvenRefIdeal)
    ∧ preserves_Disc_DiscIdeal
    ∧ algebraic_DiscIdeal_DiscRefIdeal (hDiscIdeal := hDiscIdeal) (hDiscRefIdeal := hDiscRefIdeal)
    ∧ preserves_In_InIdeal
    ∧ algebraic_InIdeal_InRefIdeal (hInIdeal := hInIdeal) (hInRefIdeal := hInRefIdeal)
    ∧ preserves_InS_InSIdeal
    ∧ algebraic_InSIdeal_InSRefIdeal (hInSIdeal := hInSIdeal) (hInSRefIdeal := hInSRefIdeal)
    ∧ preserves_OddS_OddSIdeal
    ∧ algebraic_OddSIdeal_OddSRefIdeal (hOddSIdeal := hOddSIdeal) (hOddSRefIdeal := hOddSRefIdeal)
-- ==== S5.lean ====
abbrev S128x8x1024 : Shape := ⟨3, ![128, 8, 1024]⟩
abbrev S1024 : Shape := ⟨1, ![1024]⟩
abbrev S64x64 : Shape := ⟨2, ![64, 64]⟩
abbrev S64x64x16 : Shape := ⟨3, ![64, 64, 16]⟩
abbrev S64x16x64 : Shape := ⟨3, ![64, 16, 64]⟩
abbrev S128x64x64 : Shape := ⟨3, ![128, 64, 64]⟩
abbrev S1x4096 : Shape := ⟨2, ![1, 4096]⟩
abbrev S2x4096 : Shape := ⟨2, ![2, 4096]⟩
abbrev S16x16 : Shape := ⟨2, ![16, 16]⟩
abbrev S_ : Shape := ⟨0, ![]⟩
abbrev S1x64x64x16 : Shape := ⟨4, ![1, 64, 64, 16]⟩
abbrev S2x64x64x16 : Shape := ⟨4, ![2, 64, 64, 16]⟩
abbrev S2x4x16x64x16 : Shape := ⟨5, ![2, 4, 16, 64, 16]⟩
abbrev S4x16x16x2x64 : Shape := ⟨5, ![4, 16, 16, 2, 64]⟩
abbrev S4x16x16x2x1x64 : Shape := ⟨6, ![4, 16, 16, 2, 1, 64]⟩
abbrev S1x16x1x1x16x1 : Shape := ⟨6, ![1, 16, 1, 1, 16, 1]⟩
abbrev S4x16x16x2x16x64 : Shape := ⟨6, ![4, 16, 16, 2, 16, 64]⟩
abbrev S4x256x2048 : Shape := ⟨3, ![4, 256, 2048]⟩
abbrev S4x16x16x64 : Shape := ⟨4, ![4, 16, 16, 64]⟩
abbrev S4x16x64x16 : Shape := ⟨4, ![4, 16, 64, 16]⟩
abbrev S4x16x64x1x16 : Shape := ⟨5, ![4, 16, 64, 1, 16]⟩
abbrev S1x16x1x16x1 : Shape := ⟨5, ![1, 16, 1, 16, 1]⟩
abbrev S4x16x64x16x16 : Shape := ⟨5, ![4, 16, 64, 16, 16]⟩
abbrev S4x1024x256 : Shape := ⟨3, ![4, 1024, 256]⟩
abbrev S8x128x1024 : Shape := ⟨3, ![8, 128, 1024]⟩
abbrev S1x1024 : Shape := ⟨2, ![1, 1024]⟩
abbrev S128x4096 : Shape := ⟨2, ![128, 4096]⟩
abbrev S8x32x1024 : Shape := ⟨3, ![8, 32, 1024]⟩
abbrev S32x4096 : Shape := ⟨2, ![32, 4096]⟩
abbrev S256x8192 : Shape := ⟨2, ![256, 8192]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S1x256x2048 : Shape := ⟨3, ![1, 256, 2048]⟩
abbrev S256x2048 : Shape := ⟨2, ![256, 2048]⟩
abbrev S1x1024x256 : Shape := ⟨3, ![1, 1024, 256]⟩
abbrev S1024x256 : Shape := ⟨2, ![1024, 256]⟩
abbrev S1x256 : Shape := ⟨2, ![1, 256]⟩
abbrev S8x32x256 : Shape := ⟨3, ![8, 32, 256]⟩

abbrev nBuf : Space → Nat
  | .hbm => 59
  | .vmem => 19
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S64x64, .f32⟩
  | .hbm, ⟨3, _⟩ => ⟨S64x64, .f32⟩
  | .hbm, ⟨4, _⟩ => ⟨S64x64x16, .f32⟩
  | .hbm, ⟨5, _⟩ => ⟨S64x64x16, .f32⟩
  | .hbm, ⟨6, _⟩ => ⟨S64x16x64, .f32⟩
  | .hbm, ⟨7, _⟩ => ⟨S64x16x64, .f32⟩
  | .hbm, ⟨8, _⟩ => ⟨S1024, .f32⟩
  | .hbm, ⟨9, _⟩ => ⟨S128x64x64, .f32⟩
  | .hbm, ⟨10, _⟩ => ⟨S128x64x64, .f32⟩
  | .hbm, ⟨11, _⟩ => ⟨S1x4096, .f32⟩
  | .hbm, ⟨12, _⟩ => ⟨S1x4096, .f32⟩
  | .hbm, ⟨13, _⟩ => ⟨S2x4096, .f32⟩
  | .hbm, ⟨14, _⟩ => ⟨S16x16, .i32⟩
  | .hbm, ⟨15, _⟩ => ⟨S16x16, .i32⟩
  | .hbm, ⟨16, _⟩ => ⟨S_, .i32⟩
  | .hbm, ⟨17, _⟩ => ⟨S16x16, .i32⟩
  | .hbm, ⟨18, _⟩ => ⟨S16x16, .i32⟩
  | .hbm, ⟨19, _⟩ => ⟨S16x16, .i1⟩
  | .hbm, ⟨20, _⟩ => ⟨S16x16, .f32⟩
  | .hbm, ⟨21, _⟩ => ⟨S1x64x64x16, .f32⟩
  | .hbm, ⟨22, _⟩ => ⟨S1x64x64x16, .f32⟩
  | .hbm, ⟨23, _⟩ => ⟨S2x64x64x16, .f32⟩
  | .hbm, ⟨24, _⟩ => ⟨S2x4x16x64x16, .f32⟩
  | .hbm, ⟨25, _⟩ => ⟨S4x16x16x2x64, .f32⟩
  | .hbm, ⟨26, _⟩ => ⟨S4x16x16x2x1x64, .f32⟩
  | .hbm, ⟨27, _⟩ => ⟨S1x16x1x1x16x1, .f32⟩
  | .hbm, ⟨28, _⟩ => ⟨S4x16x16x2x16x64, .f32⟩
  | .hbm, ⟨29, _⟩ => ⟨S4x16x16x2x16x64, .f32⟩
  | .hbm, ⟨30, _⟩ => ⟨S4x16x16x2x16x64, .f32⟩
  | .hbm, ⟨31, _⟩ => ⟨S4x256x2048, .f32⟩
  | .hbm, ⟨32, _⟩ => ⟨S4x256x2048, .bf16⟩
  | .hbm, ⟨33, _⟩ => ⟨S4x16x16x64, .f32⟩
  | .hbm, ⟨34, _⟩ => ⟨S4x16x64x16, .f32⟩
  | .hbm, ⟨35, _⟩ => ⟨S4x16x64x1x16, .f32⟩
  | .hbm, ⟨36, _⟩ => ⟨S1x16x1x16x1, .f32⟩
  | .hbm, ⟨37, _⟩ => ⟨S4x16x64x16x16, .f32⟩
  | .hbm, ⟨38, _⟩ => ⟨S4x16x64x16x16, .f32⟩
  | .hbm, ⟨39, _⟩ => ⟨S4x16x64x16x16, .f32⟩
  | .hbm, ⟨40, _⟩ => ⟨S4x1024x256, .f32⟩
  | .hbm, ⟨41, _⟩ => ⟨S4x1024x256, .bf16⟩
  | .hbm, ⟨42, _⟩ => ⟨S4x16x16x64, .f32⟩
  | .hbm, ⟨43, _⟩ => ⟨S4x16x64x16, .f32⟩
  | .hbm, ⟨44, _⟩ => ⟨S4x16x64x1x16, .f32⟩
  | .hbm, ⟨45, _⟩ => ⟨S1x16x1x16x1, .f32⟩
  | .hbm, ⟨46, _⟩ => ⟨S4x16x64x16x16, .f32⟩
  | .hbm, ⟨47, _⟩ => ⟨S4x16x64x16x16, .f32⟩
  | .hbm, ⟨48, _⟩ => ⟨S4x16x64x16x16, .f32⟩
  | .hbm, ⟨49, _⟩ => ⟨S4x1024x256, .f32⟩
  | .hbm, ⟨50, _⟩ => ⟨S4x1024x256, .bf16⟩
  | .hbm, ⟨51, _⟩ => ⟨S8x128x1024, .f32⟩
  | .hbm, ⟨52, _⟩ => ⟨S1x1024, .f32⟩
  | .hbm, ⟨53, _⟩ => ⟨S1x1024, .f32⟩
  | .hbm, ⟨54, _⟩ => ⟨S128x4096, .f32⟩
  | .hbm, ⟨55, _⟩ => ⟨S128x4096, .f32⟩
  | .hbm, ⟨56, _⟩ => ⟨S8x128x1024, .bf16⟩
  | .hbm, ⟨57, _⟩ => ⟨S128x4096, .f32⟩
  | .hbm, ⟨58, _⟩ => ⟨S128x4096, .f32⟩
  | .local _ .vmem, ⟨0, _⟩ => ⟨S8x32x1024, .f32⟩
  | .local _ .vmem, ⟨1, _⟩ => ⟨S8x32x1024, .f32⟩
  | .local _ .vmem, ⟨2, _⟩ => ⟨S1x1024, .f32⟩
  | .local _ .vmem, ⟨3, _⟩ => ⟨S2x4096, .f32⟩
  | .local _ .vmem, ⟨4, _⟩ => ⟨S4x256x2048, .bf16⟩
  | .local _ .vmem, ⟨5, _⟩ => ⟨S4x1024x256, .bf16⟩
  | .local _ .vmem, ⟨6, _⟩ => ⟨S4x1024x256, .bf16⟩
  | .local _ .vmem, ⟨7, _⟩ => ⟨S1x1024, .f32⟩
  | .local _ .vmem, ⟨8, _⟩ => ⟨S32x4096, .f32⟩
  | .local _ .vmem, ⟨9, _⟩ => ⟨S32x4096, .f32⟩
  | .local _ .vmem, ⟨10, _⟩ => ⟨S32x4096, .f32⟩
  | .local _ .vmem, ⟨11, _⟩ => ⟨S32x4096, .f32⟩
  | .local _ .vmem, ⟨12, _⟩ => ⟨S8x32x1024, .bf16⟩
  | .local _ .vmem, ⟨13, _⟩ => ⟨S8x32x1024, .bf16⟩
  | .local _ .vmem, ⟨14, _⟩ => ⟨S32x4096, .f32⟩
  | .local _ .vmem, ⟨15, _⟩ => ⟨S32x4096, .f32⟩
  | .local _ .vmem, ⟨16, _⟩ => ⟨S32x4096, .f32⟩
  | .local _ .vmem, ⟨17, _⟩ => ⟨S32x4096, .f32⟩
  | .local _ .vmem, ⟨18, _⟩ => ⟨S256x8192, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44_0 : Ref sig .tc := ⟨.hbm, 56, rfl⟩
abbrev main_v44_1 : Ref sig .tc := ⟨.hbm, 57, rfl⟩
abbrev main_v44_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== S5RefIdeal.lean ====
abbrev S128x8x1024 : Shape := ⟨3, ![128, 8, 1024]⟩
abbrev S1024 : Shape := ⟨1, ![1024]⟩
abbrev S64x64 : Shape := ⟨2, ![64, 64]⟩
abbrev S64x64x16 : Shape := ⟨3, ![64, 64, 16]⟩
abbrev S64x16x64 : Shape := ⟨3, ![64, 16, 64]⟩
abbrev S128x64x64 : Shape := ⟨3, ![128, 64, 64]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x64x16 : Shape := ⟨4, ![128, 8, 64, 16]⟩
abbrev S64x64x128x8 : Shape := ⟨4, ![64, 64, 128, 8]⟩
abbrev S128x8x64x64 : Shape := ⟨4, ![128, 8, 64, 64]⟩
abbrev S1x64x64 : Shape := ⟨3, ![1, 64, 64]⟩
abbrev S128x1x64x64 : Shape := ⟨4, ![128, 1, 64, 64]⟩
abbrev S64x16x128 : Shape := ⟨3, ![64, 16, 128]⟩
abbrev S128x64x16 : Shape := ⟨3, ![128, 64, 16]⟩
abbrev S128x1024 : Shape := ⟨2, ![128, 1024]⟩
abbrev S128x1x1024 : Shape := ⟨3, ![128, 1, 1024]⟩
abbrev S1x1024 : Shape := ⟨2, ![1, 1024]⟩
abbrev S1x128x1024 : Shape := ⟨3, ![1, 128, 1024]⟩
abbrev S8x128x1024 : Shape := ⟨3, ![8, 128, 1024]⟩
abbrev S128x4096 : Shape := ⟨2, ![128, 4096]⟩

abbrev nBuf : Space → Nat
  | .hbm => 436
  | .vmem => 0
  | .smem => 0
  | _ => 0

abbrev hbmTy0_0 (i : Nat) : BufTy := match i % 128 with
  | 0 => ⟨S128x8x1024, .f32⟩
  | 1 => ⟨S1024, .f32⟩
  | 2 => ⟨S64x64, .f32⟩
  | 3 => ⟨S64x64, .f32⟩
  | 4 => ⟨S64x64x16, .f32⟩
  | 5 => ⟨S64x64x16, .f32⟩
  | 6 => ⟨S64x16x64, .f32⟩
  | 7 => ⟨S64x16x64, .f32⟩
  | 8 => ⟨S1024, .f32⟩
  | 9 => ⟨S128x64x64, .f32⟩
  | 10 => ⟨S128x64x64, .f32⟩
  | 11 => ⟨S128x8x1024, .f32⟩
  | 12 => ⟨S_, .f32⟩
  | 13 => ⟨S128x8, .f32⟩
  | 14 => ⟨S128x8x1, .f32⟩
  | 15 => ⟨S_, .f32⟩
  | 16 => ⟨S128x8x1, .f32⟩
  | 17 => ⟨S128x8x1, .f32⟩
  | 18 => ⟨S_, .f32⟩
  | 19 => ⟨S128x8x1, .f32⟩
  | 20 => ⟨S128x8x1, .f32⟩
  | 21 => ⟨S128x8x1, .f32⟩
  | 22 => ⟨S128x8x1024, .f32⟩
  | 23 => ⟨S128x8x1024, .f32⟩
  | 24 => ⟨S1x1x1024, .f32⟩
  | 25 => ⟨S128x8x1024, .f32⟩
  | 26 => ⟨S128x8x1024, .f32⟩
  | 27 => ⟨S128x8x64x16, .f32⟩
  | 28 => ⟨S64x64x128x8, .f32⟩
  | 29 => ⟨S128x8x64x64, .f32⟩
  | 30 => ⟨S64x64x128x8, .f32⟩
  | 31 => ⟨S128x8x64x64, .f32⟩
  | 32 => ⟨S1x64x64, .f32⟩
  | 33 => ⟨S128x64x64, .f32⟩
  | 34 => ⟨S128x64x64, .f32⟩
  | 35 => ⟨S1x64x64, .f32⟩
  | 36 => ⟨S128x64x64, .f32⟩
  | 37 => ⟨S128x64x64, .f32⟩
  | 38 => ⟨S128x64x64, .f32⟩
  | 39 => ⟨S128x1x64x64, .f32⟩
  | 40 => ⟨S128x64x64, .f32⟩
  | 41 => ⟨S128x64x64, .f32⟩
  | 42 => ⟨S1x64x64, .f32⟩
  | 43 => ⟨S128x64x64, .f32⟩
  | 44 => ⟨S128x64x64, .f32⟩
  | 45 => ⟨S1x64x64, .f32⟩
  | 46 => ⟨S128x64x64, .f32⟩
  | 47 => ⟨S128x64x64, .f32⟩
  | 48 => ⟨S128x64x64, .f32⟩
  | 49 => ⟨S128x1x64x64, .f32⟩
  | 50 => ⟨S128x64x64, .f32⟩
  | 51 => ⟨S128x64x64, .f32⟩
  | 52 => ⟨S64x16x128, .f32⟩
  | 53 => ⟨S128x64x16, .f32⟩
  | 54 => ⟨S64x16x128, .f32⟩
  | 55 => ⟨S128x64x16, .f32⟩
  | 56 => ⟨S128x64x16, .f32⟩
  | 57 => ⟨S128x1024, .f32⟩
  | 58 => ⟨S128x1x1024, .f32⟩
  | 59 => ⟨S128x1024, .f32⟩
  | 60 => ⟨S1x1024, .f32⟩
  | 61 => ⟨S128x1024, .f32⟩
  | 62 => ⟨S128x1024, .f32⟩
  | 63 => ⟨S128x1024, .f32⟩
  | 64 => ⟨S128x1024, .f32⟩
  | 65 => ⟨S128x1024, .f32⟩
  | 66 => ⟨S_, .f32⟩
  | 67 => ⟨S128x1024, .f32⟩
  | 68 => ⟨S128x1024, .f32⟩
  | 69 => ⟨S128x1024, .f32⟩
  | 70 => ⟨S_, .f32⟩
  | 71 => ⟨S128x1024, .f32⟩
  | 72 => ⟨S128x1024, .f32⟩
  | 73 => ⟨S128x1024, .f32⟩
  | 74 => ⟨S_, .f32⟩
  | 75 => ⟨S128x1024, .f32⟩
  | 76 => ⟨S128x1024, .f32⟩
  | 77 => ⟨S_, .f32⟩
  | 78 => ⟨S128x1024, .f32⟩
  | 79 => ⟨S128x1024, .f32⟩
  | 80 => ⟨S128x1024, .f32⟩
  | 81 => ⟨S1x64x64, .f32⟩
  | 82 => ⟨S128x64x64, .f32⟩
  | 83 => ⟨S128x64x64, .f32⟩
  | 84 => ⟨S1x64x64, .f32⟩
  | 85 => ⟨S128x64x64, .f32⟩
  | 86 => ⟨S128x64x64, .f32⟩
  | 87 => ⟨S128x64x64, .f32⟩
  | 88 => ⟨S128x1x64x64, .f32⟩
  | 89 => ⟨S128x64x64, .f32⟩
  | 90 => ⟨S128x64x64, .f32⟩
  | 91 => ⟨S1x64x64, .f32⟩
  | 92 => ⟨S128x64x64, .f32⟩
  | 93 => ⟨S128x64x64, .f32⟩
  | 94 => ⟨S1x64x64, .f32⟩
  | 95 => ⟨S128x64x64, .f32⟩
  | 96 => ⟨S128x64x64, .f32⟩
  | 97 => ⟨S128x64x64, .f32⟩
  | 98 => ⟨S128x1x64x64, .f32⟩
  | 99 => ⟨S128x64x64, .f32⟩
  | 100 => ⟨S128x64x64, .f32⟩
  | 101 => ⟨S64x16x128, .f32⟩
  | 102 => ⟨S128x64x16, .f32⟩
  | 103 => ⟨S64x16x128, .f32⟩
  | 104 => ⟨S128x64x16, .f32⟩
  | 105 => ⟨S128x64x16, .f32⟩
  | 106 => ⟨S128x1024, .f32⟩
  | 107 => ⟨S128x1x1024, .f32⟩
  | 108 => ⟨S128x1024, .f32⟩
  | 109 => ⟨S1x1024, .f32⟩
  | 110 => ⟨S128x1024, .f32⟩
  | 111 => ⟨S128x1024, .f32⟩
  | 112 => ⟨S128x1024, .f32⟩
  | 113 => ⟨S128x1024, .f32⟩
  | 114 => ⟨S128x1024, .f32⟩
  | 115 => ⟨S_, .f32⟩
  | 116 => ⟨S128x1024, .f32⟩
  | 117 => ⟨S128x1024, .f32⟩
  | 118 => ⟨S128x1024, .f32⟩
  | 119 => ⟨S_, .f32⟩
  | 120 => ⟨S128x1024, .f32⟩
  | 121 => ⟨S128x1024, .f32⟩
  | 122 => ⟨S128x1024, .f32⟩
  | 123 => ⟨S_, .f32⟩
  | 124 => ⟨S128x1024, .f32⟩
  | 125 => ⟨S128x1024, .f32⟩
  | 126 => ⟨S_, .f32⟩
  | 127 => ⟨S128x1024, .f32⟩
  | _ => ⟨S128x8x1024, .f32⟩

abbrev hbmTy0_1 (i : Nat) : BufTy := match i % 128 with
  | 0 => ⟨S128x1024, .f32⟩
  | 1 => ⟨S128x1024, .f32⟩
  | 2 => ⟨S1x64x64, .f32⟩
  | 3 => ⟨S128x64x64, .f32⟩
  | 4 => ⟨S128x64x64, .f32⟩
  | 5 => ⟨S1x64x64, .f32⟩
  | 6 => ⟨S128x64x64, .f32⟩
  | 7 => ⟨S128x64x64, .f32⟩
  | 8 => ⟨S128x64x64, .f32⟩
  | 9 => ⟨S128x1x64x64, .f32⟩
  | 10 => ⟨S128x64x64, .f32⟩
  | 11 => ⟨S128x64x64, .f32⟩
  | 12 => ⟨S1x64x64, .f32⟩
  | 13 => ⟨S128x64x64, .f32⟩
  | 14 => ⟨S128x64x64, .f32⟩
  | 15 => ⟨S1x64x64, .f32⟩
  | 16 => ⟨S128x64x64, .f32⟩
  | 17 => ⟨S128x64x64, .f32⟩
  | 18 => ⟨S128x64x64, .f32⟩
  | 19 => ⟨S128x1x64x64, .f32⟩
  | 20 => ⟨S128x64x64, .f32⟩
  | 21 => ⟨S128x64x64, .f32⟩
  | 22 => ⟨S64x16x128, .f32⟩
  | 23 => ⟨S128x64x16, .f32⟩
  | 24 => ⟨S64x16x128, .f32⟩
  | 25 => ⟨S128x64x16, .f32⟩
  | 26 => ⟨S128x64x16, .f32⟩
  | 27 => ⟨S128x1024, .f32⟩
  | 28 => ⟨S128x1x1024, .f32⟩
  | 29 => ⟨S128x1024, .f32⟩
  | 30 => ⟨S1x1024, .f32⟩
  | 31 => ⟨S128x1024, .f32⟩
  | 32 => ⟨S128x1024, .f32⟩
  | 33 => ⟨S128x1024, .f32⟩
  | 34 => ⟨S128x1024, .f32⟩
  | 35 => ⟨S128x1024, .f32⟩
  | 36 => ⟨S_, .f32⟩
  | 37 => ⟨S128x1024, .f32⟩
  | 38 => ⟨S128x1024, .f32⟩
  | 39 => ⟨S128x1024, .f32⟩
  | 40 => ⟨S_, .f32⟩
  | 41 => ⟨S128x1024, .f32⟩
  | 42 => ⟨S128x1024, .f32⟩
  | 43 => ⟨S128x1024, .f32⟩
  | 44 => ⟨S_, .f32⟩
  | 45 => ⟨S128x1024, .f32⟩
  | 46 => ⟨S128x1024, .f32⟩
  | 47 => ⟨S_, .f32⟩
  | 48 => ⟨S128x1024, .f32⟩
  | 49 => ⟨S128x1024, .f32⟩
  | 50 => ⟨S128x1024, .f32⟩
  | 51 => ⟨S1x64x64, .f32⟩
  | 52 => ⟨S128x64x64, .f32⟩
  | 53 => ⟨S128x64x64, .f32⟩
  | 54 => ⟨S1x64x64, .f32⟩
  | 55 => ⟨S128x64x64, .f32⟩
  | 56 => ⟨S128x64x64, .f32⟩
  | 57 => ⟨S128x64x64, .f32⟩
  | 58 => ⟨S128x1x64x64, .f32⟩
  | 59 => ⟨S128x64x64, .f32⟩
  | 60 => ⟨S128x64x64, .f32⟩
  | 61 => ⟨S1x64x64, .f32⟩
  | 62 => ⟨S128x64x64, .f32⟩
  | 63 => ⟨S128x64x64, .f32⟩
  | 64 => ⟨S1x64x64, .f32⟩
  | 65 => ⟨S128x64x64, .f32⟩
  | 66 => ⟨S128x64x64, .f32⟩
  | 67 => ⟨S128x64x64, .f32⟩
  | 68 => ⟨S128x1x64x64, .f32⟩
  | 69 => ⟨S128x64x64, .f32⟩
  | 70 => ⟨S128x64x64, .f32⟩
  | 71 => ⟨S64x16x128, .f32⟩
  | 72 => ⟨S128x64x16, .f32⟩
  | 73 => ⟨S64x16x128, .f32⟩
  | 74 => ⟨S128x64x16, .f32⟩
  | 75 => ⟨S128x64x16, .f32⟩
  | 76 => ⟨S128x1024, .f32⟩
  | 77 => ⟨S128x1x1024, .f32⟩
  | 78 => ⟨S128x1024, .f32⟩
  | 79 => ⟨S1x1024, .f32⟩
  | 80 => ⟨S128x1024, .f32⟩
  | 81 => ⟨S128x1024, .f32⟩
  | 82 => ⟨S128x1024, .f32⟩
  | 83 => ⟨S128x1024, .f32⟩
  | 84 => ⟨S128x1024, .f32⟩
  | 85 => ⟨S_, .f32⟩
  | 86 => ⟨S128x1024, .f32⟩
  | 87 => ⟨S128x1024, .f32⟩
  | 88 => ⟨S128x1024, .f32⟩
  | 89 => ⟨S_, .f32⟩
  | 90 => ⟨S128x1024, .f32⟩
  | 91 => ⟨S128x1024, .f32⟩
  | 92 => ⟨S128x1024, .f32⟩
  | 93 => ⟨S_, .f32⟩
  | 94 => ⟨S128x1024, .f32⟩
  | 95 => ⟨S128x1024, .f32⟩
  | 96 => ⟨S_, .f32⟩
  | 97 => ⟨S128x1024, .f32⟩
  | 98 => ⟨S128x1024, .f32⟩
  | 99 => ⟨S128x1024, .f32⟩
  | 100 => ⟨S1x64x64, .f32⟩
  | 101 => ⟨S128x64x64, .f32⟩
  | 102 => ⟨S128x64x64, .f32⟩
  | 103 => ⟨S1x64x64, .f32⟩
  | 104 => ⟨S128x64x64, .f32⟩
  | 105 => ⟨S128x64x64, .f32⟩
  | 106 => ⟨S128x64x64, .f32⟩
  | 107 => ⟨S128x1x64x64, .f32⟩
  | 108 => ⟨S128x64x64, .f32⟩
  | 109 => ⟨S128x64x64, .f32⟩
  | 110 => ⟨S1x64x64, .f32⟩
  | 111 => ⟨S128x64x64, .f32⟩
  | 112 => ⟨S128x64x64, .f32⟩
  | 113 => ⟨S1x64x64, .f32⟩
  | 114 => ⟨S128x64x64, .f32⟩
  | 115 => ⟨S128x64x64, .f32⟩
  | 116 => ⟨S128x64x64, .f32⟩
  | 117 => ⟨S128x1x64x64, .f32⟩
  | 118 => ⟨S128x64x64, .f32⟩
  | 119 => ⟨S128x64x64, .f32⟩
  | 120 => ⟨S64x16x128, .f32⟩
  | 121 => ⟨S128x64x16, .f32⟩
  | 122 => ⟨S64x16x128, .f32⟩
  | 123 => ⟨S128x64x16, .f32⟩
  | 124 => ⟨S128x64x16, .f32⟩
  | 125 => ⟨S128x1024, .f32⟩
  | 126 => ⟨S128x1x1024, .f32⟩
  | 127 => ⟨S128x1024, .f32⟩
  | _ => ⟨S128x8x1024, .f32⟩

abbrev hbmTy0_2 (i : Nat) : BufTy := match i % 128 with
  | 0 => ⟨S1x1024, .f32⟩
  | 1 => ⟨S128x1024, .f32⟩
  | 2 => ⟨S128x1024, .f32⟩
  | 3 => ⟨S128x1024, .f32⟩
  | 4 => ⟨S128x1024, .f32⟩
  | 5 => ⟨S128x1024, .f32⟩
  | 6 => ⟨S_, .f32⟩
  | 7 => ⟨S128x1024, .f32⟩
  | 8 => ⟨S128x1024, .f32⟩
  | 9 => ⟨S128x1024, .f32⟩
  | 10 => ⟨S_, .f32⟩
  | 11 => ⟨S128x1024, .f32⟩
  | 12 => ⟨S128x1024, .f32⟩
  | 13 => ⟨S128x1024, .f32⟩
  | 14 => ⟨S_, .f32⟩
  | 15 => ⟨S128x1024, .f32⟩
  | 16 => ⟨S128x1024, .f32⟩
  | 17 => ⟨S_, .f32⟩
  | 18 => ⟨S128x1024, .f32⟩
  | 19 => ⟨S128x1024, .f32⟩
  | 20 => ⟨S128x1024, .f32⟩
  | 21 => ⟨S1x64x64, .f32⟩
  | 22 => ⟨S128x64x64, .f32⟩
  | 23 => ⟨S128x64x64, .f32⟩
  | 24 => ⟨S1x64x64, .f32⟩
  | 25 => ⟨S128x64x64, .f32⟩
  | 26 => ⟨S128x64x64, .f32⟩
  | 27 => ⟨S128x64x64, .f32⟩
  | 28 => ⟨S128x1x64x64, .f32⟩
  | 29 => ⟨S128x64x64, .f32⟩
  | 30 => ⟨S128x64x64, .f32⟩
  | 31 => ⟨S1x64x64, .f32⟩
  | 32 => ⟨S128x64x64, .f32⟩
  | 33 => ⟨S128x64x64, .f32⟩
  | 34 => ⟨S1x64x64, .f32⟩
  | 35 => ⟨S128x64x64, .f32⟩
  | 36 => ⟨S128x64x64, .f32⟩
  | 37 => ⟨S128x64x64, .f32⟩
  | 38 => ⟨S128x1x64x64, .f32⟩
  | 39 => ⟨S128x64x64, .f32⟩
  | 40 => ⟨S128x64x64, .f32⟩
  | 41 => ⟨S64x16x128, .f32⟩
  | 42 => ⟨S128x64x16, .f32⟩
  | 43 => ⟨S64x16x128, .f32⟩
  | 44 => ⟨S128x64x16, .f32⟩
  | 45 => ⟨S128x64x16, .f32⟩
  | 46 => ⟨S128x1024, .f32⟩
  | 47 => ⟨S128x1x1024, .f32⟩
  | 48 => ⟨S128x1024, .f32⟩
  | 49 => ⟨S1x1024, .f32⟩
  | 50 => ⟨S128x1024, .f32⟩
  | 51 => ⟨S128x1024, .f32⟩
  | 52 => ⟨S128x1024, .f32⟩
  | 53 => ⟨S128x1024, .f32⟩
  | 54 => ⟨S128x1024, .f32⟩
  | 55 => ⟨S_, .f32⟩
  | 56 => ⟨S128x1024, .f32⟩
  | 57 => ⟨S128x1024, .f32⟩
  | 58 => ⟨S128x1024, .f32⟩
  | 59 => ⟨S_, .f32⟩
  | 60 => ⟨S128x1024, .f32⟩
  | 61 => ⟨S128x1024, .f32⟩
  | 62 => ⟨S128x1024, .f32⟩
  | 63 => ⟨S_, .f32⟩
  | 64 => ⟨S128x1024, .f32⟩
  | 65 => ⟨S128x1024, .f32⟩
  | 66 => ⟨S_, .f32⟩
  | 67 => ⟨S128x1024, .f32⟩
  | 68 => ⟨S128x1024, .f32⟩
  | 69 => ⟨S128x1024, .f32⟩
  | 70 => ⟨S1x64x64, .f32⟩
  | 71 => ⟨S128x64x64, .f32⟩
  | 72 => ⟨S128x64x64, .f32⟩
  | 73 => ⟨S1x64x64, .f32⟩
  | 74 => ⟨S128x64x64, .f32⟩
  | 75 => ⟨S128x64x64, .f32⟩
  | 76 => ⟨S128x64x64, .f32⟩
  | 77 => ⟨S128x1x64x64, .f32⟩
  | 78 => ⟨S128x64x64, .f32⟩
  | 79 => ⟨S128x64x64, .f32⟩
  | 80 => ⟨S1x64x64, .f32⟩
  | 81 => ⟨S128x64x64, .f32⟩
  | 82 => ⟨S128x64x64, .f32⟩
  | 83 => ⟨S1x64x64, .f32⟩
  | 84 => ⟨S128x64x64, .f32⟩
  | 85 => ⟨S128x64x64, .f32⟩
  | 86 => ⟨S128x64x64, .f32⟩
  | 87 => ⟨S128x1x64x64, .f32⟩
  | 88 => ⟨S128x64x64, .f32⟩
  | 89 => ⟨S128x64x64, .f32⟩
  | 90 => ⟨S64x16x128, .f32⟩
  | 91 => ⟨S128x64x16, .f32⟩
  | 92 => ⟨S64x16x128, .f32⟩
  | 93 => ⟨S128x64x16, .f32⟩
  | 94 => ⟨S128x64x16, .f32⟩
  | 95 => ⟨S128x1024, .f32⟩
  | 96 => ⟨S128x1x1024, .f32⟩
  | 97 => ⟨S128x1024, .f32⟩
  | 98 => ⟨S1x1024, .f32⟩
  | 99 => ⟨S128x1024, .f32⟩
  | 100 => ⟨S128x1024, .f32⟩
  | 101 => ⟨S128x1024, .f32⟩
  | 102 => ⟨S128x1024, .f32⟩
  | 103 => ⟨S128x1024, .f32⟩
  | 104 => ⟨S_, .f32⟩
  | 105 => ⟨S128x1024, .f32⟩
  | 106 => ⟨S128x1024, .f32⟩
  | 107 => ⟨S128x1024, .f32⟩
  | 108 => ⟨S_, .f32⟩
  | 109 => ⟨S128x1024, .f32⟩
  | 110 => ⟨S128x1024, .f32⟩
  | 111 => ⟨S128x1024, .f32⟩
  | 112 => ⟨S_, .f32⟩
  | 113 => ⟨S128x1024, .f32⟩
  | 114 => ⟨S128x1024, .f32⟩
  | 115 => ⟨S_, .f32⟩
  | 116 => ⟨S128x1024, .f32⟩
  | 117 => ⟨S128x1024, .f32⟩
  | 118 => ⟨S128x1024, .f32⟩
  | 119 => ⟨S1x64x64, .f32⟩
  | 120 => ⟨S128x64x64, .f32⟩
  | 121 => ⟨S128x64x64, .f32⟩
  | 122 => ⟨S1x64x64, .f32⟩
  | 123 => ⟨S128x64x64, .f32⟩
  | 124 => ⟨S128x64x64, .f32⟩
  | 125 => ⟨S128x64x64, .f32⟩
  | 126 => ⟨S128x1x64x64, .f32⟩
  | 127 => ⟨S128x64x64, .f32⟩
  | _ => ⟨S128x8x1024, .f32⟩

abbrev hbmTy0_3 (i : Nat) : BufTy := match i % 128 with
  | 0 => ⟨S128x64x64, .f32⟩
  | 1 => ⟨S1x64x64, .f32⟩
  | 2 => ⟨S128x64x64, .f32⟩
  | 3 => ⟨S128x64x64, .f32⟩
  | 4 => ⟨S1x64x64, .f32⟩
  | 5 => ⟨S128x64x64, .f32⟩
  | 6 => ⟨S128x64x64, .f32⟩
  | 7 => ⟨S128x64x64, .f32⟩
  | 8 => ⟨S128x1x64x64, .f32⟩
  | 9 => ⟨S128x64x64, .f32⟩
  | 10 => ⟨S128x64x64, .f32⟩
  | 11 => ⟨S64x16x128, .f32⟩
  | 12 => ⟨S128x64x16, .f32⟩
  | 13 => ⟨S64x16x128, .f32⟩
  | 14 => ⟨S128x64x16, .f32⟩
  | 15 => ⟨S128x64x16, .f32⟩
  | 16 => ⟨S128x1024, .f32⟩
  | 17 => ⟨S128x1x1024, .f32⟩
  | 18 => ⟨S128x1024, .f32⟩
  | 19 => ⟨S1x1024, .f32⟩
  | 20 => ⟨S128x1024, .f32⟩
  | 21 => ⟨S128x1024, .f32⟩
  | 22 => ⟨S128x1024, .f32⟩
  | 23 => ⟨S128x1024, .f32⟩
  | 24 => ⟨S128x1024, .f32⟩
  | 25 => ⟨S_, .f32⟩
  | 26 => ⟨S128x1024, .f32⟩
  | 27 => ⟨S128x1024, .f32⟩
  | 28 => ⟨S128x1024, .f32⟩
  | 29 => ⟨S_, .f32⟩
  | 30 => ⟨S128x1024, .f32⟩
  | 31 => ⟨S128x1024, .f32⟩
  | 32 => ⟨S128x1024, .f32⟩
  | 33 => ⟨S_, .f32⟩
  | 34 => ⟨S128x1024, .f32⟩
  | 35 => ⟨S128x1024, .f32⟩
  | 36 => ⟨S_, .f32⟩
  | 37 => ⟨S128x1024, .f32⟩
  | 38 => ⟨S128x1024, .f32⟩
  | 39 => ⟨S128x1024, .f32⟩
  | 40 => ⟨S1x128x1024, .f32⟩
  | 41 => ⟨S1x128x1024, .f32⟩
  | 42 => ⟨S1x128x1024, .f32⟩
  | 43 => ⟨S1x128x1024, .f32⟩
  | 44 => ⟨S1x128x1024, .f32⟩
  | 45 => ⟨S1x128x1024, .f32⟩
  | 46 => ⟨S1x128x1024, .f32⟩
  | 47 => ⟨S1x128x1024, .f32⟩
  | 48 => ⟨S8x128x1024, .f32⟩
  | 49 => ⟨S8x128x1024, .bf16⟩
  | 50 => ⟨S128x4096, .f32⟩
  | 51 => ⟨S128x4096, .f32⟩
  | _ => ⟨S128x8x1024, .f32⟩

abbrev hbmTy (i : Nat) : BufTy := match i / 128 with
  | 0 => hbmTy0_0 i
  | 1 => hbmTy0_1 i
  | 2 => hbmTy0_2 i
  | 3 => hbmTy0_3 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_2 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_3 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_4 : Ref sig .tc := ⟨.hbm, 74, rfl⟩
abbrev main_v58 : Ref sig .tc := ⟨.hbm, 75, rfl⟩
abbrev main_v59 : Ref sig .tc := ⟨.hbm, 76, rfl⟩
abbrev main_cst_5 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_6 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_cst_7 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_cst_8 : Ref sig .tc := ⟨.hbm, 123, rfl⟩
abbrev main_v103 : Ref sig .tc := ⟨.hbm, 124, rfl⟩
abbrev main_v104 : Ref sig .tc := ⟨.hbm, 125, rfl⟩
abbrev main_cst_9 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_cst_10 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_cst_11 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_cst_12 : Ref sig .tc := ⟨.hbm, 172, rfl⟩
abbrev main_v148 : Ref sig .tc := ⟨.hbm, 173, rfl⟩
abbrev main_v149 : Ref sig .tc := ⟨.hbm, 174, rfl⟩
abbrev main_cst_13 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_cst_14 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_cst_15 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_cst_16 : Ref sig .tc := ⟨.hbm, 221, rfl⟩
abbrev main_v193 : Ref sig .tc := ⟨.hbm, 222, rfl⟩
abbrev main_v194 : Ref sig .tc := ⟨.hbm, 223, rfl⟩
abbrev main_cst_17 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_cst_18 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_cst_19 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_cst_20 : Ref sig .tc := ⟨.hbm, 270, rfl⟩
abbrev main_v238 : Ref sig .tc := ⟨.hbm, 271, rfl⟩
abbrev main_v239 : Ref sig .tc := ⟨.hbm, 272, rfl⟩
abbrev main_cst_21 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_v264 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_cst_22 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩
abbrev main_cst_23 : Ref sig .tc := ⟨.hbm, 315, rfl⟩
abbrev main_v280 : Ref sig .tc := ⟨.hbm, 316, rfl⟩
abbrev main_v281 : Ref sig .tc := ⟨.hbm, 317, rfl⟩
abbrev main_v282 : Ref sig .tc := ⟨.hbm, 318, rfl⟩
abbrev main_cst_24 : Ref sig .tc := ⟨.hbm, 319, rfl⟩
abbrev main_v283 : Ref sig .tc := ⟨.hbm, 320, rfl⟩
abbrev main_v284 : Ref sig .tc := ⟨.hbm, 321, rfl⟩
abbrev main_cst_25 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩
abbrev main_v293 : Ref sig .tc := ⟨.hbm, 331, rfl⟩
abbrev main_v294 : Ref sig .tc := ⟨.hbm, 332, rfl⟩
abbrev main_v295 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_v319 : Ref sig .tc := ⟨.hbm, 357, rfl⟩
abbrev main_v320 : Ref sig .tc := ⟨.hbm, 358, rfl⟩
abbrev main_v321 : Ref sig .tc := ⟨.hbm, 359, rfl⟩
abbrev main_cst_26 : Ref sig .tc := ⟨.hbm, 360, rfl⟩
abbrev main_v322 : Ref sig .tc := ⟨.hbm, 361, rfl⟩
abbrev main_v323 : Ref sig .tc := ⟨.hbm, 362, rfl⟩
abbrev main_v324 : Ref sig .tc := ⟨.hbm, 363, rfl⟩
abbrev main_cst_27 : Ref sig .tc := ⟨.hbm, 364, rfl⟩
abbrev main_v325 : Ref sig .tc := ⟨.hbm, 365, rfl⟩
abbrev main_v326 : Ref sig .tc := ⟨.hbm, 366, rfl⟩
abbrev main_v327 : Ref sig .tc := ⟨.hbm, 367, rfl⟩
abbrev main_cst_28 : Ref sig .tc := ⟨.hbm, 368, rfl⟩
abbrev main_v328 : Ref sig .tc := ⟨.hbm, 369, rfl⟩
abbrev main_v329 : Ref sig .tc := ⟨.hbm, 370, rfl⟩
abbrev main_cst_29 : Ref sig .tc := ⟨.hbm, 371, rfl⟩
abbrev main_v330 : Ref sig .tc := ⟨.hbm, 372, rfl⟩
abbrev main_v331 : Ref sig .tc := ⟨.hbm, 373, rfl⟩
abbrev main_v332 : Ref sig .tc := ⟨.hbm, 374, rfl⟩
abbrev main_v333 : Ref sig .tc := ⟨.hbm, 375, rfl⟩
abbrev main_v334 : Ref sig .tc := ⟨.hbm, 376, rfl⟩
abbrev main_v335 : Ref sig .tc := ⟨.hbm, 377, rfl⟩
abbrev main_v336 : Ref sig .tc := ⟨.hbm, 378, rfl⟩
abbrev main_v337 : Ref sig .tc := ⟨.hbm, 379, rfl⟩
abbrev main_v338 : Ref sig .tc := ⟨.hbm, 380, rfl⟩
abbrev main_v339 : Ref sig .tc := ⟨.hbm, 381, rfl⟩
abbrev main_v340 : Ref sig .tc := ⟨.hbm, 382, rfl⟩
abbrev main_v341 : Ref sig .tc := ⟨.hbm, 383, rfl⟩
abbrev main_v342 : Ref sig .tc := ⟨.hbm, 384, rfl⟩
abbrev main_v343 : Ref sig .tc := ⟨.hbm, 385, rfl⟩
abbrev main_v344 : Ref sig .tc := ⟨.hbm, 386, rfl⟩
abbrev main_v345 : Ref sig .tc := ⟨.hbm, 387, rfl⟩
abbrev main_v346 : Ref sig .tc := ⟨.hbm, 388, rfl⟩
abbrev main_v347 : Ref sig .tc := ⟨.hbm, 389, rfl⟩
abbrev main_v348 : Ref sig .tc := ⟨.hbm, 390, rfl⟩
abbrev main_v349 : Ref sig .tc := ⟨.hbm, 391, rfl⟩
abbrev main_v350 : Ref sig .tc := ⟨.hbm, 392, rfl⟩
abbrev main_v351 : Ref sig .tc := ⟨.hbm, 393, rfl⟩
abbrev main_v352 : Ref sig .tc := ⟨.hbm, 394, rfl⟩
abbrev main_v353 : Ref sig .tc := ⟨.hbm, 395, rfl⟩
abbrev main_v354 : Ref sig .tc := ⟨.hbm, 396, rfl⟩
abbrev main_v355 : Ref sig .tc := ⟨.hbm, 397, rfl⟩
abbrev main_v356 : Ref sig .tc := ⟨.hbm, 398, rfl⟩
abbrev main_v357 : Ref sig .tc := ⟨.hbm, 399, rfl⟩
abbrev main_v358 : Ref sig .tc := ⟨.hbm, 400, rfl⟩
abbrev main_v359 : Ref sig .tc := ⟨.hbm, 401, rfl⟩
abbrev main_v360 : Ref sig .tc := ⟨.hbm, 402, rfl⟩
abbrev main_v361 : Ref sig .tc := ⟨.hbm, 403, rfl⟩
abbrev main_v362 : Ref sig .tc := ⟨.hbm, 404, rfl⟩
abbrev main_v363 : Ref sig .tc := ⟨.hbm, 405, rfl⟩
abbrev main_v364 : Ref sig .tc := ⟨.hbm, 406, rfl⟩
abbrev main_v365 : Ref sig .tc := ⟨.hbm, 407, rfl⟩
abbrev main_v366 : Ref sig .tc := ⟨.hbm, 408, rfl⟩
abbrev main_cst_30 : Ref sig .tc := ⟨.hbm, 409, rfl⟩
abbrev main_v367 : Ref sig .tc := ⟨.hbm, 410, rfl⟩
abbrev main_v368 : Ref sig .tc := ⟨.hbm, 411, rfl⟩
abbrev main_v369 : Ref sig .tc := ⟨.hbm, 412, rfl⟩
abbrev main_cst_31 : Ref sig .tc := ⟨.hbm, 413, rfl⟩
abbrev main_v370 : Ref sig .tc := ⟨.hbm, 414, rfl⟩
abbrev main_v371 : Ref sig .tc := ⟨.hbm, 415, rfl⟩
abbrev main_v372 : Ref sig .tc := ⟨.hbm, 416, rfl⟩
abbrev main_cst_32 : Ref sig .tc := ⟨.hbm, 417, rfl⟩
abbrev main_v373 : Ref sig .tc := ⟨.hbm, 418, rfl⟩
abbrev main_v374 : Ref sig .tc := ⟨.hbm, 419, rfl⟩
abbrev main_cst_33 : Ref sig .tc := ⟨.hbm, 420, rfl⟩
abbrev main_v375 : Ref sig .tc := ⟨.hbm, 421, rfl⟩
abbrev main_v376 : Ref sig .tc := ⟨.hbm, 422, rfl⟩
abbrev main_v377 : Ref sig .tc := ⟨.hbm, 423, rfl⟩
abbrev main_v378 : Ref sig .tc := ⟨.hbm, 424, rfl⟩
abbrev main_v379 : Ref sig .tc := ⟨.hbm, 425, rfl⟩
abbrev main_v380 : Ref sig .tc := ⟨.hbm, 426, rfl⟩
abbrev main_v381 : Ref sig .tc := ⟨.hbm, 427, rfl⟩
abbrev main_v382 : Ref sig .tc := ⟨.hbm, 428, rfl⟩
abbrev main_v383 : Ref sig .tc := ⟨.hbm, 429, rfl⟩
abbrev main_v384 : Ref sig .tc := ⟨.hbm, 430, rfl⟩
abbrev main_v385 : Ref sig .tc := ⟨.hbm, 431, rfl⟩
abbrev main_v386 : Ref sig .tc := ⟨.hbm, 432, rfl⟩
abbrev main_v387 : Ref sig .tc := ⟨.hbm, 433, rfl⟩
abbrev main_v388 : Ref sig .tc := ⟨.hbm, 434, rfl⟩
abbrev main_v389 : Ref sig .tc := ⟨.hbm, 435, rfl⟩

abbrev nD : Nat := 1
abbrev τ : Topo := Topo.v7x

variable {F : FTy → Type} [FloatOps F]
-- ==== Odd.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 17
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v38 : BitVec 32 := Scalar.addi c0_i32 c2_i32
  let c1_i32 : BitVec 32 := 1#32
  ⟨c0_i32, v38, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c1408_i32 : BitVec 32 := 1408#32
  let v55 : BitVec 32 := Scalar.muli arg13 c1408_i32
  v55
def k0_off1 (k0_t1 : Fin k0_t1_loop.trips) : Fin 2 → Nat :=
  let c0_32 : Index := 0#32
  let c0_i32 : BitVec 32 := 0#32
  let c1_i32 : BitVec 32 := 1#32
  let arg13 : BitVec 32 := Scf.iv c0_i32 c1_i32 k0_t1
  let c1408_i32 : BitVec 32 := 1408#32
  let v55 : BitVec 32 := Scalar.muli arg13 c1408_i32
  let v56 : BitVec 32 := v55
  let v58 : Index := Scalar.indexCast v56
  ![0, v58.toNat]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1408_i32 : BitVec 32 := 1408#32
  let v55 : BitVec 32 := Scalar.muli arg13 c1408_i32
  let v56 : BitVec 32 := v55
  let v77 : Index := Scalar.indexCast v56
  let c0_41 : Index := 0#32
  ![v77.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OddIdeal.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 17
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v38 : BitVec 32 := Scalar.addi c0_i32 c2_i32
  let c1_i32 : BitVec 32 := 1#32
  ⟨c0_i32, v38, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c1408_i32 : BitVec 32 := 1408#32
  let v55 : BitVec 32 := Scalar.muli arg13 c1408_i32
  v55
def k0_off1 (k0_t1 : Fin k0_t1_loop.trips) : Fin 2 → Nat :=
  let c0_32 : Index := 0#32
  let c0_i32 : BitVec 32 := 0#32
  let c1_i32 : BitVec 32 := 1#32
  let arg13 : BitVec 32 := Scf.iv c0_i32 c1_i32 k0_t1
  let c1408_i32 : BitVec 32 := 1408#32
  let v55 : BitVec 32 := Scalar.muli arg13 c1408_i32
  let v56 : BitVec 32 := v55
  let v58 : Index := Scalar.indexCast v56
  ![0, v58.toNat]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1408_i32 : BitVec 32 := 1408#32
  let v55 : BitVec 32 := Scalar.muli arg13 c1408_i32
  let v56 : BitVec 32 := v55
  let v77 : Index := Scalar.indexCast v56
  let c0_41 : Index := 0#32
  ![v77.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OddRefIdeal.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S1x1024, .f32⟩
  | .hbm, ⟨66, _⟩ => ⟨S16384x1024, .f32⟩
  | .hbm, ⟨67, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Even.lean ====
abbrev S16384x1024 : Shape := ⟨2, ![16384, 1024]⟩
abbrev S16384x512 : Shape := ⟨2, ![16384, 512]⟩
abbrev S4x128x128 : Shape := ⟨3, ![4, 128, 128]⟩
abbrev S4x128 : Shape := ⟨2, ![4, 128]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S4x128x1 : Shape := ⟨3, ![4, 128, 1]⟩
abbrev S1x1024 : Shape := ⟨2, ![1, 1024]⟩
abbrev S512x1024 : Shape := ⟨2, ![512, 1024]⟩
abbrev S512x512 : Shape := ⟨2, ![512, 512]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 20
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S4x128x128, .f32⟩
  | .hbm, ⟨5, _⟩ => ⟨S4x128, .f32⟩
  | .hbm, ⟨6, _⟩ => ⟨S1024x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S4x128x1, .f32⟩
  | .hbm, ⟨13, _⟩ => ⟨S1024x1024, .bf16⟩
  | .hbm, ⟨14, _⟩ => ⟨S1x1024, .f32⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S4x128x128, .f32⟩
  | .local _ .vmem, ⟨9, _⟩ => ⟨S4x128x1, .f32⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x512, .bf16⟩
  | .local _ .vmem, ⟨19, _⟩ => ⟨S512x1024, .bf16⟩
  | .local _ .vmem, ⟨20, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_163 : BitVec 32 := 0#32
  let c2_i32 : BitVec 32 := 2#32
  let v290 : BitVec 32 := Scalar.addi c0_i32_163 c2_i32
  let c1_i32_164 : BitVec 32 := 1#32
  ⟨c0_i32_163, v290, c1_i32_164⟩
def k0_mult1 (k0_t1 : Fin k0_t1_loop.trips) : BitVec 32 :=
  let c0_i32_163 : BitVec 32 := 0#32
  let c1_i32_164 : BitVec 32 := 1#32
  let arg17 : BitVec 32 := Scf.iv c0_i32_163 c1_i32_164 k0_t1
  let c1408_i32 : BitVec 32 := 1408#32
  let v293 : BitVec 32 := Scalar.muli arg17 c1408_i32
  v293
def k0_off1 (k0_t1 : Fin k0_t1_loop.trips) : Fin 2 → Nat :=
  let c0_172 : Index := 0#32
  let c0_i32_163 : BitVec 32 := 0#32
  let c1_i32_164 : BitVec 32 := 1#32
  let arg17 : BitVec 32 := Scf.iv c0_i32_163 c1_i32_164 k0_t1
  let c1408_i32 : BitVec 32 := 1408#32
  let v293 : BitVec 32 := Scalar.muli arg17 c1408_i32
  let v294 : BitVec 32 := v293
  let v296 : Index := Scalar.indexCast v294
  ![0, v296.toNat]
def k0_off2 (k0_t1 : Fin k0_t1_loop.trips) : Fin 2 → Nat :=
  let c0_i32_163 : BitVec 32 := 0#32
  let c1_i32_164 : BitVec 32 := 1#32
  let arg17 : BitVec 32 := Scf.iv c0_i32_163 c1_i32_164 k0_t1
  let c1408_i32 : BitVec 32 := 1408#32
  let v293 : BitVec 32 := Scalar.muli arg17 c1408_i32
  let v294 : BitVec 32 := v293
  let v315 : Index := Scalar.indexCast v294
  let c0_181 : Index := 0#32
  ![v315.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== EvenRefIdeal.lean ====
abbrev S16384x1024 : Shape := ⟨2, ![16384, 1024]⟩
abbrev S16384x512 : Shape := ⟨2, ![16384, 512]⟩
abbrev S4x128x128 : Shape := ⟨3, ![4, 128, 128]⟩
abbrev S4x128 : Shape := ⟨2, ![4, 128]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S128x128 : Shape := ⟨2, ![128, 128]⟩
abbrev S_ : Shape := ⟨0, ![]⟩
abbrev S128x128x4x128 : Shape := ⟨4, ![128, 128, 4, 128]⟩
abbrev S4x128x128x128 : Shape := ⟨4, ![4, 128, 128, 128]⟩
abbrev S128x4 : Shape := ⟨2, ![128, 4]⟩
abbrev S1x128x4x1 : Shape := ⟨4, ![1, 128, 4, 1]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S4x128x128, .f32⟩
  | .hbm, ⟨5, _⟩ => ⟨S4x128, .f32⟩
  | .hbm, ⟨6, _⟩ => ⟨S1024x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S128x128, .i32⟩
  | .hbm, ⟨17, _⟩ => ⟨S128x128, .i1⟩
  | .hbm, ⟨18, _⟩ => ⟨S4x128x128, .i1⟩
  | .hbm, ⟨19, _⟩ => ⟨S_, .f32⟩
  | .hbm, ⟨20, _⟩ => ⟨S4x128x128, .f32⟩
  | .hbm, ⟨21, _⟩ => ⟨S4x128x128, .f32⟩
  | .hbm, ⟨22, _⟩ => ⟨S128x128x4x128, .f32⟩
  | .hbm, ⟨23, _⟩ => ⟨S4x128x128x128, .f32⟩
  | .hbm, ⟨24, _⟩ => ⟨S128x128x4x128, .f32⟩
  | .hbm, ⟨25, _⟩ => ⟨S128x4, .f32⟩
  | .hbm, ⟨26, _⟩ => ⟨S1x128x4x1, .f32⟩
  | .hbm, ⟨27, _⟩ => ⟨S128x128x4x128, .f32⟩
  | .hbm, ⟨28, _⟩ => ⟨S128x128x4x128, .f32⟩
  | .hbm, ⟨29, _⟩ => ⟨S128x128x4x128, .f32⟩
  | .hbm, ⟨30, _⟩ => ⟨S128x128x4x128, .f32⟩
  | .hbm, ⟨31, _⟩ => ⟨S16384x512, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S_, .f32⟩
  | .hbm, ⟨55, _⟩ => ⟨S16384x2816, .f32⟩
  | .hbm, ⟨56, _⟩ => ⟨S16384x2816, .f32⟩
  | .hbm, ⟨57, _⟩ => ⟨S_, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S16384x1024, .f32⟩
  | .hbm, ⟨64, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_cst : Ref sig .tc := ⟨.hbm, 19, rfl⟩
abbrev main_call0_v6 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩

abbrev nD : Nat := 1
abbrev τ : Topo := Topo.v7x

variable {F : FTy → Type} [FloatOps F]
-- ==== Disc.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S4096x1 : Shape := ⟨2, ![4096, 1]⟩
abbrev S4096x16 : Shape := ⟨2, ![4096, 16]⟩

abbrev nBuf : Space → Nat
  | .hbm => 16
  | .vmem => 9
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x1, .f32⟩
  | .hbm, ⟨6, _⟩ => ⟨S64x64, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S4096x16, .f32⟩
  | .hbm, ⟨11, _⟩ => ⟨S4096x16, .f32⟩
  | .hbm, ⟨12, _⟩ => ⟨S4096x1, .f32⟩
  | .hbm, ⟨13, _⟩ => ⟨S4096x1, .f32⟩
  | .hbm, ⟨14, _⟩ => ⟨S4096x16, .f32⟩
  | .hbm, ⟨15, _⟩ => ⟨S4096x16, .f32⟩
  | .local _ .vmem, ⟨0, _⟩ => ⟨S4096x1, .f32⟩
  | .local _ .vmem, ⟨1, _⟩ => ⟨S4096x1, .f32⟩
  | .local _ .vmem, ⟨2, _⟩ => ⟨S4096x1, .f32⟩
  | .local _ .vmem, ⟨3, _⟩ => ⟨S4096x16, .f32⟩
  | .local _ .vmem, ⟨4, _⟩ => ⟨S4096x16, .f32⟩
  | .local _ .vmem, ⟨5, _⟩ => ⟨S4096x1, .f32⟩
  | .local _ .vmem, ⟨6, _⟩ => ⟨S4096x1, .f32⟩
  | .local _ .vmem, ⟨7, _⟩ => ⟨S4096x16, .f32⟩
  | .local _ .vmem, ⟨8, _⟩ => ⟨S4096x16, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== DiscRefIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S4096x1 : Shape := ⟨2, ![4096, 1]⟩
abbrev S4096x16 : Shape := ⟨2, ![4096, 16]⟩

abbrev nBuf : Space → Nat
  | .hbm => 48
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64x1, .f32⟩
  | .hbm, ⟨31, _⟩ => ⟨S64x64x16, .f32⟩
  | .hbm, ⟨32, _⟩ => ⟨S64x64x16, .f32⟩
  | .hbm, ⟨33, _⟩ => ⟨S64x64x1, .f32⟩
  | .hbm, ⟨34, _⟩ => ⟨S64x64x16, .f32⟩
  | .hbm, ⟨35, _⟩ => ⟨S64x64x16, .f32⟩
  | .hbm, ⟨36, _⟩ => ⟨S64x64x16, .f32⟩
  | .hbm, ⟨37, _⟩ => ⟨S64x64x1, .f32⟩
  | .hbm, ⟨38, _⟩ => ⟨S64x64x16, .f32⟩
  | .hbm, ⟨39, _⟩ => ⟨S64x64x16, .f32⟩
  | .hbm, ⟨40, _⟩ => ⟨S64x64x1, .f32⟩
  | .hbm, ⟨41, _⟩ => ⟨S64x64x16, .f32⟩
  | .hbm, ⟨42, _⟩ => ⟨S64x64x16, .f32⟩
  | .hbm, ⟨43, _⟩ => ⟨S64x64x16, .f32⟩
  | .hbm, ⟨44, _⟩ => ⟨S4096x1, .f32⟩
  | .hbm, ⟨45, _⟩ => ⟨S4096x1, .f32⟩
  | .hbm, ⟨46, _⟩ => ⟨S4096x16, .f32⟩
  | .hbm, ⟨47, _⟩ => ⟨S4096x16, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩

abbrev nD : Nat := 1
abbrev τ : Topo := Topo.v7x

variable {F : FTy → Type} [FloatOps F]
-- ==== In.lean ====
abbrev S2x8192x1024 : Shape := ⟨3, ![2, 8192, 1024]⟩
abbrev S1024 : Shape := ⟨1, ![1024]⟩
abbrev S1024x2328 : Shape := ⟨2, ![1024, 2328]⟩
abbrev S512 : Shape := ⟨1, ![512]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S16384x1024 : Shape := ⟨2, ![16384, 1024]⟩
abbrev S1x1024 : Shape := ⟨2, ![1, 1024]⟩
abbrev S1024x24 : Shape := ⟨2, ![1024, 24]⟩
abbrev S1024x128 : Shape := ⟨2, ![1024, 128]⟩
abbrev S1024x1280 : Shape := ⟨2, ![1024, 1280]⟩
abbrev S1024x1024 : Shape := ⟨2, ![1024, 1024]⟩
abbrev S1024x2432 : Shape := ⟨2, ![1024, 2432]⟩
abbrev S1x512 : Shape := ⟨2, ![1, 512]⟩
abbrev S16384x512 : Shape := ⟨2, ![16384, 512]⟩
abbrev S16384x768 : Shape := ⟨2, ![16384, 768]⟩
abbrev S16384x128 : Shape := ⟨2, ![16384, 128]⟩
abbrev S512x1024 : Shape := ⟨2, ![512, 1024]⟩
abbrev S512x128 : Shape := ⟨2, ![512, 128]⟩
abbrev S512x512 : Shape := ⟨2, ![512, 512]⟩
abbrev S512x768 : Shape := ⟨2, ![512, 768]⟩
abbrev S512x1 : Shape := ⟨2, ![512, 1]⟩
abbrev S1024x512 : Shape := ⟨2, ![1024, 512]⟩
abbrev S1024x768 : Shape := ⟨2, ![1024, 768]⟩

abbrev nBuf : Space → Nat
  | .hbm => 53
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2328, .f32⟩
  | .hbm, ⟨3, _⟩ => ⟨S512, .f32⟩
  | .hbm, ⟨4, _⟩ => ⟨S512, .f32⟩
  | .hbm, ⟨5, _⟩ => ⟨S8192, .i32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8192, .f32⟩
  | .hbm, ⟨15, _⟩ => ⟨S8192x1, .f32⟩
  | .hbm, ⟨16, _⟩ => ⟨S1x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S_, .f32⟩
  | .hbm, ⟨23, _⟩ => ⟨S8192x48, .f32⟩
  | .hbm, ⟨24, _⟩ => ⟨S8192x64, .f32⟩
  | .hbm, ⟨25, _⟩ => ⟨S8192x8, .f32⟩
  | .hbm, ⟨26, _⟩ => ⟨S_, .f32⟩
  | .hbm, ⟨27, _⟩ => ⟨S8192x48, .f32⟩
  | .hbm, ⟨28, _⟩ => ⟨S8192x64, .f32⟩
  | .hbm, ⟨29, _⟩ => ⟨S1x8192x1x64, .f32⟩
  | .hbm, ⟨30, _⟩ => ⟨S1x8192x2x64, .f32⟩
  | .hbm, ⟨31, _⟩ => ⟨S8192x128, .f32⟩
  | .hbm, ⟨32, _⟩ => ⟨S1x8192x1x64, .f32⟩
  | .hbm, ⟨33, _⟩ => ⟨S1x8192x2x64, .f32⟩
  | .hbm, ⟨34, _⟩ => ⟨S8192x128, .f32⟩
  | .hbm, ⟨35, _⟩ => ⟨S16384x1024, .f32⟩
  | .hbm, ⟨36, _⟩ => ⟨S1x1024, .f32⟩
  | .hbm, ⟨37, _⟩ => ⟨S1024x24, .f32⟩
  | .hbm, ⟨38, _⟩ => ⟨S_, .i32⟩
  | .hbm, ⟨39, _⟩ => ⟨S_, .f32⟩
  | .hbm, ⟨40, _⟩ => ⟨S1024x128, .f32⟩
  | .hbm, ⟨41, _⟩ => ⟨S1024x1280, .f32⟩
  | .hbm, ⟨42, _⟩ => ⟨S1024x1024, .f32⟩
  | .hbm, ⟨43, _⟩ => ⟨S1024x2432, .f32⟩
  | .hbm, ⟨44, _⟩ => ⟨S1024x2432, .bf16⟩
  | .hbm, ⟨45, _⟩ => ⟨S1x512, .f32⟩
  | .hbm, ⟨46, _⟩ => ⟨S1x512, .f32⟩
  | .hbm, ⟨47, _⟩ => ⟨S16384x512, .f32⟩
  | .hbm, ⟨48, _⟩ => ⟨S16384x768, .f32⟩
  | .hbm, ⟨49, _⟩ => ⟨S16384x512, .bf16⟩
  | .hbm, ⟨50, _⟩ => ⟨S16384x128, .f32⟩
  | .hbm, ⟨51, _⟩ => ⟨S16384x512, .f32⟩
  | .hbm, ⟨52, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x768, .f32⟩
  | .local _ .vmem, ⟨13, _⟩ => ⟨S512x768, .f32⟩
  | .local _ .vmem, ⟨14, _⟩ => ⟨S512x512, .bf16⟩
  | .local _ .vmem, ⟨15, _⟩ => ⟨S512x512, .bf16⟩
  | .local _ .vmem, ⟨16, _⟩ => ⟨S512x128, .f32⟩
  | .local _ .vmem, ⟨17, _⟩ => ⟨S512x128, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36_0 : Ref sig .tc := ⟨.hbm, 47, rfl⟩
abbrev main_v36_1 : Ref sig .tc := ⟨.hbm, 48, rfl⟩
abbrev main_v36_2 : Ref sig .tc := ⟨.hbm, 49, rfl⟩
abbrev main_v36_3 : Ref sig .tc := ⟨.hbm, 50, rfl⟩
abbrev main_v36_4 : Ref sig .tc := ⟨.hbm, 51, rfl⟩
abbrev main_v36_5 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InRefIdeal.lean ====
abbrev S2x8192x1024 : Shape := ⟨3, ![2, 8192, 1024]⟩
abbrev S1024 : Shape := ⟨1, ![1024]⟩
abbrev S1024x2328 : Shape := ⟨2, ![1024, 2328]⟩
abbrev S512 : Shape := ⟨1, ![512]⟩
abbrev S8192 : Shape := ⟨1, ![8192]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2328 : Shape := ⟨3, ![2, 8192, 2328]⟩
abbrev S2x8192x512 : Shape := ⟨3, ![2, 8192, 512]⟩
abbrev S2x8192x8x64 : Shape := ⟨4, ![2, 8192, 8, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S2x8192x8x8 : Shape := ⟨4, ![2, 8192, 8, 8]⟩
abbrev S1x8192x1x8 : Shape := ⟨4, ![1, 8192, 1, 8]⟩
abbrev S2x8192x8x48 : Shape := ⟨4, ![2, 8192, 8, 48]⟩
abbrev S2x8192x768 : Shape := ⟨3, ![2, 8192, 768]⟩
abbrev S2x8192x3x2x2x64 : Shape := ⟨6, ![2, 8192, 3, 2, 2, 64]⟩
abbrev S2x8192x24 : Shape := ⟨3, ![2, 8192, 24]⟩
abbrev S2x8192x3x1x2x64 : Shape := ⟨6, ![2, 8192, 3, 1, 2, 64]⟩
abbrev S2x8192x3x2x64 : Shape := ⟨5, ![2, 8192, 3, 2, 64]⟩
abbrev S8192x1x1x8 : Shape := ⟨4, ![8192, 1, 1, 8]⟩
abbrev S2x8192x3x2x8 : Shape := ⟨5, ![2, 8192, 3, 2, 8]⟩
abbrev S1x8192x1x1x8 : Shape := ⟨5, ![1, 8192, 1, 1, 8]⟩
abbrev S2x8192x3x2x48 : Shape := ⟨5, ![2, 8192, 3, 2, 48]⟩
abbrev S16384x24 : Shape := ⟨2, ![16384, 24]⟩
abbrev S16384x128 : Shape := ⟨2, ![16384, 128]⟩
abbrev S16384x512 : Shape := ⟨2, ![16384, 512]⟩
abbrev S16384x768 : Shape := ⟨2, ![16384, 768]⟩
abbrev S2x8192x2x2x2x64 : Shape := ⟨6, ![2, 8192, 2, 2, 2, 64]⟩
abbrev S1x1x512 : Shape := ⟨3, ![1, 1, 512]⟩

abbrev nBuf : Space → Nat
  | .hbm => 192
  | .vmem => 0
  | .smem => 0
  | _ => 0

abbrev hbmTy0_0 (i : Nat) : BufTy := match i % 128 with
  | 0 => ⟨S2x8192x1024, .f32⟩
  | 1 => ⟨S1024, .f32⟩
  | 2 => ⟨S1024x2328, .f32⟩
  | 3 => ⟨S512, .f32⟩
  | 4 => ⟨S512, .f32⟩
  | 5 => ⟨S8192, .i32⟩
  | 6 => ⟨S2x8192x1024, .f32⟩
  | 7 => ⟨S_, .f32⟩
  | 8 => ⟨S2x8192, .f32⟩
  | 9 => ⟨S2x8192x1, .f32⟩
  | 10 => ⟨S_, .f32⟩
  | 11 => ⟨S2x8192x1, .f32⟩
  | 12 => ⟨S2x8192x1, .f32⟩
  | 13 => ⟨S_, .f32⟩
  | 14 => ⟨S2x8192x1, .f32⟩
  | 15 => ⟨S2x8192x1, .f32⟩
  | 16 => ⟨S2x8192x1, .f32⟩
  | 17 => ⟨S2x8192x1024, .f32⟩
  | 18 => ⟨S2x8192x1024, .f32⟩
  | 19 => ⟨S1x1x1024, .f32⟩
  | 20 => ⟨S2x8192x1024, .f32⟩
  | 21 => ⟨S2x8192x1024, .f32⟩
  | 22 => ⟨S2x8192x2328, .f32⟩
  | 23 => ⟨S2x8192x512, .f32⟩
  | 24 => ⟨S2x8192x8x64, .f32⟩
  | 25 => ⟨S8, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S8192, .f32⟩
  | 34 => ⟨S8192x1, .f32⟩
  | 35 => ⟨S1x8, .f32⟩
  | 36 => ⟨S8192x8, .f32⟩
  | 37 => ⟨S8192x8, .f32⟩
  | 38 => ⟨S8192x8, .f32⟩
  | 39 => ⟨S8192x8, .f32⟩
  | 40 => ⟨S8192x1x8, .f32⟩
  | 41 => ⟨S8192x8, .f32⟩
  | 42 => ⟨S8192x1x8, .f32⟩
  | 43 => ⟨S2x8192x8x8, .f32⟩
  | 44 => ⟨S2x8192x8x8, .f32⟩
  | 45 => ⟨S1x8192x1x8, .f32⟩
  | 46 => ⟨S2x8192x8x8, .f32⟩
  | 47 => ⟨S2x8192x8x8, .f32⟩
  | 48 => ⟨S1x8192x1x8, .f32⟩
  | 49 => ⟨S2x8192x8x8, .f32⟩
  | 50 => ⟨S2x8192x8x8, .f32⟩
  | 51 => ⟨S2x8192x8x8, .f32⟩
  | 52 => ⟨S1x8192x1x8, .f32⟩
  | 53 => ⟨S2x8192x8x8, .f32⟩
  | 54 => ⟨S2x8192x8x8, .f32⟩
  | 55 => ⟨S1x8192x1x8, .f32⟩
  | 56 => ⟨S2x8192x8x8, .f32⟩
  | 57 => ⟨S2x8192x8x8, .f32⟩
  | 58 => ⟨S2x8192x8x8, .f32⟩
  | 59 => ⟨S2x8192x8x48, .f32⟩
  | 60 => ⟨S2x8192x8x64, .f32⟩
  | 61 => ⟨S2x8192x768, .f32⟩
  | 62 => ⟨S2x8192x3x2x2x64, .f32⟩
  | 63 => ⟨S2x8192x24, .f32⟩
  | 64 => ⟨S2x8192x24, .f32⟩
  | 65 => ⟨S2x8192x24, .f32⟩
  | 66 => ⟨S_, .f32⟩
  | 67 => ⟨S2x8192x24, .f32⟩
  | 68 => ⟨S2x8192x24, .f32⟩
  | 69 => ⟨S_, .f32⟩
  | 70 => ⟨S2x8192x24, .f32⟩
  | 71 => ⟨S2x8192x24, .f32⟩
  | 72 => ⟨S2x8192x512, .f32⟩
  | 73 => ⟨S2x8192x512, .f32⟩
  | 74 => ⟨S2x8192x512, .f32⟩
  | 75 => ⟨S_, .f32⟩
  | 76 => ⟨S2x8192x512, .f32⟩
  | 77 => ⟨S2x8192x512, .f32⟩
  | 78 => ⟨S2x8192x512, .f32⟩
  | 79 => ⟨S_, .f32⟩
  | 80 => ⟨S2x8192x512, .f32⟩
  | 81 => ⟨S2x8192x512, .f32⟩
  | 82 => ⟨S2x8192x512, .f32⟩
  | 83 => ⟨S_, .f32⟩
  | 84 => ⟨S2x8192x512, .f32⟩
  | 85 => ⟨S2x8192x512, .f32⟩
  | 86 => ⟨S_, .f32⟩
  | 87 => ⟨S2x8192x512, .f32⟩
  | 88 => ⟨S2x8192x512, .f32⟩
  | 89 => ⟨S2x8192x512, .f32⟩
  | 90 => ⟨S2x8192x512, .f32⟩
  | 91 => ⟨S2x8192x512, .f32⟩
  | 92 => ⟨S2x8192x512, .f32⟩
  | 93 => ⟨S_, .f32⟩
  | 94 => ⟨S2x8192x512, .f32⟩
  | 95 => ⟨S2x8192x512, .f32⟩
  | 96 => ⟨S2x8192x512, .f32⟩
  | 97 => ⟨S_, .f32⟩
  | 98 => ⟨S2x8192x512, .f32⟩
  | 99 => ⟨S2x8192x512, .f32⟩
  | 100 => ⟨S2x8192x512, .f32⟩
  | 101 => ⟨S_, .f32⟩
  | 102 => ⟨S2x8192x512, .f32⟩
  | 103 => ⟨S2x8192x512, .f32⟩
  | 104 => ⟨S_, .f32⟩
  | 105 => ⟨S2x8192x512, .f32⟩
  | 106 => ⟨S2x8192x512, .f32⟩
  | 107 => ⟨S2x8192x512, .f32⟩
  | 108 => ⟨S2x8192x3x1x2x64, .f32⟩
  | 109 => ⟨S2x8192x3x2x64, .f32⟩
  | 110 => ⟨S8, .f32⟩
  | 111 => ⟨S8, .f32⟩
  | 112 => ⟨S_, .f32⟩
  | 113 => ⟨S8, .f32⟩
  | 114 => ⟨S8, .f32⟩
  | 115 => ⟨S_, .f32⟩
  | 116 => ⟨S8, .f32⟩
  | 117 => ⟨S8, .f32⟩
  | 118 => ⟨S8192, .f32⟩
  | 119 => ⟨S8192x1, .f32⟩
  | 120 => ⟨S1x8, .f32⟩
  | 121 => ⟨S8192x8, .f32⟩
  | 122 => ⟨S8192x8, .f32⟩
  | 123 => ⟨S8192x8, .f32⟩
  | 124 => ⟨S8192x8, .f32⟩
  | 125 => ⟨S8192x1x1x8, .f32⟩
  | 126 => ⟨S8192x8, .f32⟩
  | 127 => ⟨S8192x1x1x8, .f32⟩
  | _ => ⟨S2x8192x1024, .f32⟩

abbrev hbmTy0_1 (i : Nat) : BufTy := match i % 128 with
  | 0 => ⟨S2x8192x3x2x8, .f32⟩
  | 1 => ⟨S2x8192x3x2x8, .f32⟩
  | 2 => ⟨S1x8192x1x1x8, .f32⟩
  | 3 => ⟨S2x8192x3x2x8, .f32⟩
  | 4 => ⟨S2x8192x3x2x8, .f32⟩
  | 5 => ⟨S1x8192x1x1x8, .f32⟩
  | 6 => ⟨S2x8192x3x2x8, .f32⟩
  | 7 => ⟨S2x8192x3x2x8, .f32⟩
  | 8 => ⟨S2x8192x3x2x8, .f32⟩
  | 9 => ⟨S1x8192x1x1x8, .f32⟩
  | 10 => ⟨S2x8192x3x2x8, .f32⟩
  | 11 => ⟨S2x8192x3x2x8, .f32⟩
  | 12 => ⟨S1x8192x1x1x8, .f32⟩
  | 13 => ⟨S2x8192x3x2x8, .f32⟩
  | 14 => ⟨S2x8192x3x2x8, .f32⟩
  | 15 => ⟨S2x8192x3x2x8, .f32⟩
  | 16 => ⟨S2x8192x3x2x48, .f32⟩
  | 17 => ⟨S2x8192x3x2x64, .f32⟩
  | 18 => ⟨S2x8192x3x1x2x64, .f32⟩
  | 19 => ⟨S2x8192x3x2x64, .f32⟩
  | 20 => ⟨S2x8192x3x1x2x64, .f32⟩
  | 21 => ⟨S2x8192x3x1x2x64, .f32⟩
  | 22 => ⟨S2x8192x3x2x2x64, .f32⟩
  | 23 => ⟨S16384x24, .f32⟩
  | 24 => ⟨S_, .f32⟩
  | 25 => ⟨S_, .f32⟩
  | 26 => ⟨S16384x128, .f32⟩
  | 27 => ⟨S16384x512, .f32⟩
  | 28 => ⟨S_, .f32⟩
  | 29 => ⟨S16384x512, .f32⟩
  | 30 => ⟨S16384x512, .f32⟩
  | 31 => ⟨S16384x768, .f32⟩
  | 32 => ⟨S2x8192x2x2x2x64, .f32⟩
  | 33 => ⟨S16384x512, .f32⟩
  | 34 => ⟨S16384x512, .bf16⟩
  | 35 => ⟨S16384x512, .f32⟩
  | 36 => ⟨S_, .f32⟩
  | 37 => ⟨S2x8192, .f32⟩
  | 38 => ⟨S2x8192x1, .f32⟩
  | 39 => ⟨S_, .f32⟩
  | 40 => ⟨S2x8192x1, .f32⟩
  | 41 => ⟨S2x8192x1, .f32⟩
  | 42 => ⟨S2x8192x512, .f32⟩
  | 43 => ⟨S2x8192x512, .f32⟩
  | 44 => ⟨S2x8192x512, .f32⟩
  | 45 => ⟨S_, .f32⟩
  | 46 => ⟨S2x8192, .f32⟩
  | 47 => ⟨S2x8192x1, .f32⟩
  | 48 => ⟨S_, .f32⟩
  | 49 => ⟨S2x8192x1, .f32⟩
  | 50 => ⟨S2x8192x1, .f32⟩
  | 51 => ⟨S_, .f32⟩
  | 52 => ⟨S2x8192x1, .f32⟩
  | 53 => ⟨S2x8192x1, .f32⟩
  | 54 => ⟨S2x8192x1, .f32⟩
  | 55 => ⟨S2x8192x512, .f32⟩
  | 56 => ⟨S2x8192x512, .f32⟩
  | 57 => ⟨S1x1x512, .f32⟩
  | 58 => ⟨S2x8192x512, .f32⟩
  | 59 => ⟨S2x8192x512, .f32⟩
  | 60 => ⟨S1x1x512, .f32⟩
  | 61 => ⟨S2x8192x512, .f32⟩
  | 62 => ⟨S2x8192x512, .f32⟩
  | 63 => ⟨S16384x512, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_4 : Ref sig .tc := ⟨.hbm, 66, rfl⟩
abbrev main_v56 : Ref sig .tc := ⟨.hbm, 67, rfl⟩
abbrev main_v57 : Ref sig .tc := ⟨.hbm, 68, rfl⟩
abbrev main_cst_5 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_6 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_7 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_8 : Ref sig .tc := ⟨.hbm, 83, rfl⟩
abbrev main_v69 : Ref sig .tc := ⟨.hbm, 84, rfl⟩
abbrev main_v70 : Ref sig .tc := ⟨.hbm, 85, rfl⟩
abbrev main_cst_9 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_10 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_11 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_cst_13 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_14 : Ref sig .tc := ⟨.hbm, 112, rfl⟩
abbrev main_v92 : Ref sig .tc := ⟨.hbm, 113, rfl⟩
abbrev main_v93 : Ref sig .tc := ⟨.hbm, 114, rfl⟩
abbrev main_cst_15 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_cst_16 : Ref sig .tc := ⟨.hbm, 152, rfl⟩
abbrev main_call0_v0 : Ref sig .tc := ⟨.hbm, 153, rfl⟩
abbrev main_v130 : Ref sig .tc := ⟨.hbm, 154, rfl⟩
abbrev main_v131 : Ref sig .tc := ⟨.hbm, 155, rfl⟩
abbrev main_cst_17 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_cst_18 : Ref sig .tc := ⟨.hbm, 164, rfl⟩
abbrev main_v139 : Ref sig .tc := ⟨.hbm, 165, rfl⟩
abbrev main_v140 : Ref sig .tc := ⟨.hbm, 166, rfl⟩
abbrev main_cst_19 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_cst_20 : Ref sig .tc := ⟨.hbm, 173, rfl⟩
abbrev main_v146 : Ref sig .tc := ⟨.hbm, 174, rfl⟩
abbrev main_v147 : Ref sig .tc := ⟨.hbm, 175, rfl⟩
abbrev main_cst_21 : Ref sig .tc := ⟨.hbm, 176, rfl⟩
abbrev main_v148 : Ref sig .tc := ⟨.hbm, 177, rfl⟩
abbrev main_v149 : Ref sig .tc := ⟨.hbm, 178, rfl⟩
abbrev main_cst_22 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩

abbrev nD : Nat := 1
abbrev τ : Topo := Topo.v7x

variable {F : FTy → Type} [FloatOps F]
-- ==== InS.lean ====
abbrev S128x8x1024 : Shape := ⟨3, ![128, 8, 1024]⟩
abbrev S1024 : Shape := ⟨1, ![1024]⟩
abbrev S1024x2328 : Shape := ⟨2, ![1024, 2328]⟩
abbrev S512 : Shape := ⟨1, ![512]⟩
abbrev S8 : Shape := ⟨1, ![8]⟩
abbrev S_ : Shape := ⟨0, ![]⟩
abbrev S1x8 : Shape := ⟨2, ![1, 8]⟩
abbrev S128x8 : Shape := ⟨2, ![128, 8]⟩
abbrev S1024x1 : Shape := ⟨2, ![1024, 1]⟩
abbrev S1024x8 : Shape := ⟨2, ![1024, 8]⟩
abbrev S1024x48 : Shape := ⟨2, ![1024, 48]⟩
abbrev S1024x64 : Shape := ⟨2, ![1024, 64]⟩
abbrev S1x1024x1x64 : Shape := ⟨4, ![1, 1024, 1, 64]⟩
abbrev S1x1024x2x64 : Shape := ⟨4, ![1, 1024, 2, 64]⟩
abbrev S1024x128 : Shape := ⟨2, ![1024, 128]⟩
abbrev S1024x1024 : Shape := ⟨2, ![1024, 1024]⟩
abbrev S1x1024 : Shape := ⟨2, ![1, 1024]⟩
abbrev S1024x24 : Shape := ⟨2, ![1024, 24]⟩
abbrev S1024x1280 : Shape := ⟨2, ![1024, 1280]⟩
abbrev S1024x2432 : Shape := ⟨2, ![1024, 2432]⟩
abbrev S1x512 : Shape := ⟨2, ![1, 512]⟩
abbrev S1024x512 : Shape := ⟨2, ![1024, 512]⟩
abbrev S1024x768 : Shape := ⟨2, ![1024, 768]⟩
abbrev S512x1024 : Shape := ⟨2, ![512, 1024]⟩
abbrev S512x128 : Shape := ⟨2, ![512, 128]⟩
abbrev S512x512 : Shape := ⟨2, ![512, 512]⟩
abbrev S512x768 : Shape := ⟨2, ![512, 768]⟩
abbrev S512x1 : Shape := ⟨2, ![512, 1]⟩

abbrev nBuf : Space → Nat
  | .hbm => 59
  | .vmem => 22
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x2328, .f32⟩
  | .hbm, ⟨3, _⟩ => ⟨S512, .f32⟩
  | .hbm, ⟨4, _⟩ => ⟨S512, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S1x8, .i32⟩
  | .hbm, ⟨10, _⟩ => ⟨S128x8, .i32⟩
  | .hbm, ⟨11, _⟩ => ⟨S1024, .i32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S1024, .f32⟩
  | .hbm, ⟨21, _⟩ => ⟨S1024x1, .f32⟩
  | .hbm, ⟨22, _⟩ => ⟨S1x8, .f32⟩
  | .hbm, ⟨23, _⟩ => ⟨S1024x8, .f32⟩
  | .hbm, ⟨24, _⟩ => ⟨S1024x8, .f32⟩
  | .hbm, ⟨25, _⟩ => ⟨S1024x8, .f32⟩
  | .hbm, ⟨26, _⟩ => ⟨S1024x8, .f32⟩
  | .hbm, ⟨27, _⟩ => ⟨S1024x8, .f32⟩
  | .hbm, ⟨28, _⟩ => ⟨S_, .f32⟩
  | .hbm, ⟨29, _⟩ => ⟨S1024x48, .f32⟩
  | .hbm, ⟨30, _⟩ => ⟨S1024x64, .f32⟩
  | .hbm, ⟨31, _⟩ => ⟨S1024x8, .f32⟩
  | .hbm, ⟨32, _⟩ => ⟨S_, .f32⟩
  | .hbm, ⟨33, _⟩ => ⟨S1024x48, .f32⟩
  | .hbm, ⟨34, _⟩ => ⟨S1024x64, .f32⟩
  | .hbm, ⟨35, _⟩ => ⟨S1x1024x1x64, .f32⟩
  | .hbm, ⟨36, _⟩ => ⟨S1x1024x2x64, .f32⟩
  | .hbm, ⟨37, _⟩ => ⟨S1024x128, .f32⟩
  | .hbm, ⟨38, _⟩ => ⟨S1x1024x1x64, .f32⟩
  | .hbm, ⟨39, _⟩ => ⟨S1x1024x2x64, .f32⟩
  | .hbm, ⟨40, _⟩ => ⟨S1024x128, .f32⟩
  | .hbm, ⟨41, _⟩ => ⟨S1024x1024, .f32⟩
  | .hbm, ⟨42, _⟩ => ⟨S1x1024, .f32⟩
  | .hbm, ⟨43, _⟩ => ⟨S1024x24, .f32⟩
  | .hbm, ⟨44, _⟩ => ⟨S_, .i32⟩
  | .hbm, ⟨45, _⟩ => ⟨S_, .f32⟩
  | .hbm, ⟨46, _⟩ => ⟨S1024x128, .f32⟩
  | .hbm, ⟨47, _⟩ => ⟨S1024x1280, .f32⟩
  | .hbm, ⟨48, _⟩ => ⟨S1024x1024, .f32⟩
  | .hbm, ⟨49, _⟩ => ⟨S1024x2432, .f32⟩
  | .hbm, ⟨50, _⟩ => ⟨S1024x2432, .bf16⟩
  | .hbm, ⟨51, _⟩ => ⟨S1x512, .f32⟩
  | .hbm, ⟨52, _⟩ => ⟨S1x512, .f32⟩
  | .hbm, ⟨53, _⟩ => ⟨S1024x512, .f32⟩
  | .hbm, ⟨54, _⟩ => ⟨S1024x768, .f32⟩
  | .hbm, ⟨55, _⟩ => ⟨S1024x512, .bf16⟩
  | .hbm, ⟨56, _⟩ => ⟨S1024x128, .f32⟩
  | .hbm, ⟨57, _⟩ => ⟨S1024x512, .f32⟩
  | .hbm, ⟨58, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x768, .f32⟩
  | .local _ .vmem, ⟨13, _⟩ => ⟨S512x768, .f32⟩
  | .local _ .vmem, ⟨14, _⟩ => ⟨S512x512, .bf16⟩
  | .local _ .vmem, ⟨15, _⟩ => ⟨S512x512, .bf16⟩
  | .local _ .vmem, ⟨16, _⟩ => ⟨S512x128, .f32⟩
  | .local _ .vmem, ⟨17, _⟩ => ⟨S512x128, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_3 : Ref sig .tc := ⟨.hbm, 44, rfl⟩
abbrev main_call0_v0 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41_0 : Ref sig .tc := ⟨.hbm, 53, rfl⟩
abbrev main_v41_1 : Ref sig .tc := ⟨.hbm, 54, rfl⟩
abbrev main_v41_2 : Ref sig .tc := ⟨.hbm, 55, rfl⟩
abbrev main_v41_3 : Ref sig .tc := ⟨.hbm, 56, rfl⟩
abbrev main_v41_4 : Ref sig .tc := ⟨.hbm, 57, rfl⟩
abbrev main_v41_5 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InSRefIdeal.lean ====
abbrev S128x8x1024 : Shape := ⟨3, ![128, 8, 1024]⟩
abbrev S1024 : Shape := ⟨1, ![1024]⟩
abbrev S1024x2328 : Shape := ⟨2, ![1024, 2328]⟩
abbrev S512 : Shape := ⟨1, ![512]⟩
abbrev S8 : Shape := ⟨1, ![8]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x2328 : Shape := ⟨3, ![128, 8, 2328]⟩
abbrev S128x8x512 : Shape := ⟨3, ![128, 8, 512]⟩
abbrev S128x8x8x64 : Shape := ⟨4, ![128, 8, 8, 64]⟩
abbrev S8x1 : Shape := ⟨2, ![8, 1]⟩
abbrev S1x8 : Shape := ⟨2, ![1, 8]⟩
abbrev S8x8 : Shape := ⟨2, ![8, 8]⟩
abbrev S8x1x8 : Shape := ⟨3, ![8, 1, 8]⟩
abbrev S128x8x8x8 : Shape := ⟨4, ![128, 8, 8, 8]⟩
abbrev S1x8x1x8 : Shape := ⟨4, ![1, 8, 1, 8]⟩
abbrev S128x8x8x48 : Shape := ⟨4, ![128, 8, 8, 48]⟩
abbrev S128x8x768 : Shape := ⟨3, ![128, 8, 768]⟩
abbrev S128x8x3x2x2x64 : Shape := ⟨6, ![128, 8, 3, 2, 2, 64]⟩
abbrev S128x8x24 : Shape := ⟨3, ![128, 8, 24]⟩
abbrev S128x8x3x1x2x64 : Shape := ⟨6, ![128, 8, 3, 1, 2, 64]⟩
abbrev S128x8x3x2x64 : Shape := ⟨5, ![128, 8, 3, 2, 64]⟩
abbrev S8x1x1x8 : Shape := ⟨4, ![8, 1, 1, 8]⟩
abbrev S128x8x3x2x8 : Shape := ⟨5, ![128, 8, 3, 2, 8]⟩
abbrev S1x8x1x1x8 : Shape := ⟨5, ![1, 8, 1, 1, 8]⟩
abbrev S128x8x3x2x48 : Shape := ⟨5, ![128, 8, 3, 2, 48]⟩
abbrev S1024x24 : Shape := ⟨2, ![1024, 24]⟩
abbrev S1024x128 : Shape := ⟨2, ![1024, 128]⟩
abbrev S1024x512 : Shape := ⟨2, ![1024, 512]⟩
abbrev S1024x768 : Shape := ⟨2, ![1024, 768]⟩
abbrev S128x8x2x2x2x64 : Shape := ⟨6, ![128, 8, 2, 2, 2, 64]⟩
abbrev S1x1x512 : Shape := ⟨3, ![1, 1, 512]⟩

abbrev nBuf : Space → Nat
  | .hbm => 195
  | .vmem => 0
  | .smem => 0
  | _ => 0

abbrev hbmTy0_0 (i : Nat) : BufTy := match i % 128 with
  | 0 => ⟨S128x8x1024, .f32⟩
  | 1 => ⟨S1024, .f32⟩
  | 2 => ⟨S1024x2328, .f32⟩
  | 3 => ⟨S512, .f32⟩
  | 4 => ⟨S512, .f32⟩
  | 5 => ⟨S8, .i32⟩
  | 6 => ⟨S_, .i32⟩
  | 7 => ⟨S8, .i32⟩
  | 8 => ⟨S8, .i32⟩
  | 9 => ⟨S128x8x1024, .f32⟩
  | 10 => ⟨S_, .f32⟩
  | 11 => ⟨S128x8, .f32⟩
  | 12 => ⟨S128x8x1, .f32⟩
  | 13 => ⟨S_, .f32⟩
  | 14 => ⟨S128x8x1, .f32⟩
  | 15 => ⟨S128x8x1, .f32⟩
  | 16 => ⟨S_, .f32⟩
  | 17 => ⟨S128x8x1, .f32⟩
  | 18 => ⟨S128x8x1, .f32⟩
  | 19 => ⟨S128x8x1, .f32⟩
  | 20 => ⟨S128x8x1024, .f32⟩
  | 21 => ⟨S128x8x1024, .f32⟩
  | 22 => ⟨S1x1x1024, .f32⟩
  | 23 => ⟨S128x8x1024, .f32⟩
  | 24 => ⟨S128x8x1024, .f32⟩
  | 25 => ⟨S128x8x2328, .f32⟩
  | 26 => ⟨S128x8x512, .f32⟩
  | 27 => ⟨S128x8x8x64, .f32⟩
  | 28 => ⟨S8, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S8, .f32⟩
  | 37 => ⟨S8x1, .f32⟩
  | 38 => ⟨S1x8, .f32⟩
  | 39 => ⟨S8x8, .f32⟩
  | 40 => ⟨S8x8, .f32⟩
  | 41 => ⟨S8x8, .f32⟩
  | 42 => ⟨S8x8, .f32⟩
  | 43 => ⟨S8x1x8, .f32⟩
  | 44 => ⟨S8x8, .f32⟩
  | 45 => ⟨S8x1x8, .f32⟩
  | 46 => ⟨S128x8x8x8, .f32⟩
  | 47 => ⟨S128x8x8x8, .f32⟩
  | 48 => ⟨S1x8x1x8, .f32⟩
  | 49 => ⟨S128x8x8x8, .f32⟩
  | 50 => ⟨S128x8x8x8, .f32⟩
  | 51 => ⟨S1x8x1x8, .f32⟩
  | 52 => ⟨S128x8x8x8, .f32⟩
  | 53 => ⟨S128x8x8x8, .f32⟩
  | 54 => ⟨S128x8x8x8, .f32⟩
  | 55 => ⟨S1x8x1x8, .f32⟩
  | 56 => ⟨S128x8x8x8, .f32⟩
  | 57 => ⟨S128x8x8x8, .f32⟩
  | 58 => ⟨S1x8x1x8, .f32⟩
  | 59 => ⟨S128x8x8x8, .f32⟩
  | 60 => ⟨S128x8x8x8, .f32⟩
  | 61 => ⟨S128x8x8x8, .f32⟩
  | 62 => ⟨S128x8x8x48, .f32⟩
  | 63 => ⟨S128x8x8x64, .f32⟩
  | 64 => ⟨S128x8x768, .f32⟩
  | 65 => ⟨S128x8x3x2x2x64, .f32⟩
  | 66 => ⟨S128x8x24, .f32⟩
  | 67 => ⟨S128x8x24, .f32⟩
  | 68 => ⟨S128x8x24, .f32⟩
  | 69 => ⟨S_, .f32⟩
  | 70 => ⟨S128x8x24, .f32⟩
  | 71 => ⟨S128x8x24, .f32⟩
  | 72 => ⟨S_, .f32⟩
  | 73 => ⟨S128x8x24, .f32⟩
  | 74 => ⟨S128x8x24, .f32⟩
  | 75 => ⟨S128x8x512, .f32⟩
  | 76 => ⟨S128x8x512, .f32⟩
  | 77 => ⟨S128x8x512, .f32⟩
  | 78 => ⟨S_, .f32⟩
  | 79 => ⟨S128x8x512, .f32⟩
  | 80 => ⟨S128x8x512, .f32⟩
  | 81 => ⟨S128x8x512, .f32⟩
  | 82 => ⟨S_, .f32⟩
  | 83 => ⟨S128x8x512, .f32⟩
  | 84 => ⟨S128x8x512, .f32⟩
  | 85 => ⟨S128x8x512, .f32⟩
  | 86 => ⟨S_, .f32⟩
  | 87 => ⟨S128x8x512, .f32⟩
  | 88 => ⟨S128x8x512, .f32⟩
  | 89 => ⟨S_, .f32⟩
  | 90 => ⟨S128x8x512, .f32⟩
  | 91 => ⟨S128x8x512, .f32⟩
  | 92 => ⟨S128x8x512, .f32⟩
  | 93 => ⟨S128x8x512, .f32⟩
  | 94 => ⟨S128x8x512, .f32⟩
  | 95 => ⟨S128x8x512, .f32⟩
  | 96 => ⟨S_, .f32⟩
  | 97 => ⟨S128x8x512, .f32⟩
  | 98 => ⟨S128x8x512, .f32⟩
  | 99 => ⟨S128x8x512, .f32⟩
  | 100 => ⟨S_, .f32⟩
  | 101 => ⟨S128x8x512, .f32⟩
  | 102 => ⟨S128x8x512, .f32⟩
  | 103 => ⟨S128x8x512, .f32⟩
  | 104 => ⟨S_, .f32⟩
  | 105 => ⟨S128x8x512, .f32⟩
  | 106 => ⟨S128x8x512, .f32⟩
  | 107 => ⟨S_, .f32⟩
  | 108 => ⟨S128x8x512, .f32⟩
  | 109 => ⟨S128x8x512, .f32⟩
  | 110 => ⟨S128x8x512, .f32⟩
  | 111 => ⟨S128x8x3x1x2x64, .f32⟩
  | 112 => ⟨S128x8x3x2x64, .f32⟩
  | 113 => ⟨S8, .f32⟩
  | 114 => ⟨S8, .f32⟩
  | 115 => ⟨S_, .f32⟩
  | 116 => ⟨S8, .f32⟩
  | 117 => ⟨S8, .f32⟩
  | 118 => ⟨S_, .f32⟩
  | 119 => ⟨S8, .f32⟩
  | 120 => ⟨S8, .f32⟩
  | 121 => ⟨S8, .f32⟩
  | 122 => ⟨S8x1, .f32⟩
  | 123 => ⟨S1x8, .f32⟩
  | 124 => ⟨S8x8, .f32⟩
  | 125 => ⟨S8x8, .f32⟩
  | 126 => ⟨S8x8, .f32⟩
  | 127 => ⟨S8x8, .f32⟩
  | _ => ⟨S128x8x1024, .f32⟩

abbrev hbmTy0_1 (i : Nat) : BufTy := match i % 128 with
  | 0 => ⟨S8x1x1x8, .f32⟩
  | 1 => ⟨S8x8, .f32⟩
  | 2 => ⟨S8x1x1x8, .f32⟩
  | 3 => ⟨S128x8x3x2x8, .f32⟩
  | 4 => ⟨S128x8x3x2x8, .f32⟩
  | 5 => ⟨S1x8x1x1x8, .f32⟩
  | 6 => ⟨S128x8x3x2x8, .f32⟩
  | 7 => ⟨S128x8x3x2x8, .f32⟩
  | 8 => ⟨S1x8x1x1x8, .f32⟩
  | 9 => ⟨S128x8x3x2x8, .f32⟩
  | 10 => ⟨S128x8x3x2x8, .f32⟩
  | 11 => ⟨S128x8x3x2x8, .f32⟩
  | 12 => ⟨S1x8x1x1x8, .f32⟩
  | 13 => ⟨S128x8x3x2x8, .f32⟩
  | 14 => ⟨S128x8x3x2x8, .f32⟩
  | 15 => ⟨S1x8x1x1x8, .f32⟩
  | 16 => ⟨S128x8x3x2x8, .f32⟩
  | 17 => ⟨S128x8x3x2x8, .f32⟩
  | 18 => ⟨S128x8x3x2x8, .f32⟩
  | 19 => ⟨S128x8x3x2x48, .f32⟩
  | 20 => ⟨S128x8x3x2x64, .f32⟩
  | 21 => ⟨S128x8x3x1x2x64, .f32⟩
  | 22 => ⟨S128x8x3x2x64, .f32⟩
  | 23 => ⟨S128x8x3x1x2x64, .f32⟩
  | 24 => ⟨S128x8x3x1x2x64, .f32⟩
  | 25 => ⟨S128x8x3x2x2x64, .f32⟩
  | 26 => ⟨S1024x24, .f32⟩
  | 27 => ⟨S_, .f32⟩
  | 28 => ⟨S_, .f32⟩
  | 29 => ⟨S1024x128, .f32⟩
  | 30 => ⟨S1024x512, .f32⟩
  | 31 => ⟨S_, .f32⟩
  | 32 => ⟨S1024x512, .f32⟩
  | 33 => ⟨S1024x512, .f32⟩
  | 34 => ⟨S1024x768, .f32⟩
  | 35 => ⟨S128x8x2x2x2x64, .f32⟩
  | 36 => ⟨S1024x512, .f32⟩
  | 37 => ⟨S1024x512, .bf16⟩
  | 38 => ⟨S1024x512, .f32⟩
  | 39 => ⟨S_, .f32⟩
  | 40 => ⟨S128x8, .f32⟩
  | 41 => ⟨S128x8x1, .f32⟩
  | 42 => ⟨S_, .f32⟩
  | 43 => ⟨S128x8x1, .f32⟩
  | 44 => ⟨S128x8x1, .f32⟩
  | 45 => ⟨S128x8x512, .f32⟩
  | 46 => ⟨S128x8x512, .f32⟩
  | 47 => ⟨S128x8x512, .f32⟩
  | 48 => ⟨S_, .f32⟩
  | 49 => ⟨S128x8, .f32⟩
  | 50 => ⟨S128x8x1, .f32⟩
  | 51 => ⟨S_, .f32⟩
  | 52 => ⟨S128x8x1, .f32⟩
  | 53 => ⟨S128x8x1, .f32⟩
  | 54 => ⟨S_, .f32⟩
  | 55 => ⟨S128x8x1, .f32⟩
  | 56 => ⟨S128x8x1, .f32⟩
  | 57 => ⟨S128x8x1, .f32⟩
  | 58 => ⟨S128x8x512, .f32⟩
  | 59 => ⟨S128x8x512, .f32⟩
  | 60 => ⟨S1x1x512, .f32⟩
  | 61 => ⟨S128x8x512, .f32⟩
  | 62 => ⟨S128x8x512, .f32⟩
  | 63 => ⟨S1x1x512, .f32⟩
  | 64 => ⟨S128x8x512, .f32⟩
  | 65 => ⟨S128x8x512, .f32⟩
  | 66 => ⟨S1024x512, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_4 : Ref sig .tc := ⟨.hbm, 69, rfl⟩
abbrev main_v58 : Ref sig .tc := ⟨.hbm, 70, rfl⟩
abbrev main_v59 : Ref sig .tc := ⟨.hbm, 71, rfl⟩
abbrev main_cst_5 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_6 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_7 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_8 : Ref sig .tc := ⟨.hbm, 86, rfl⟩
abbrev main_v71 : Ref sig .tc := ⟨.hbm, 87, rfl⟩
abbrev main_v72 : Ref sig .tc := ⟨.hbm, 88, rfl⟩
abbrev main_cst_9 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_10 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_11 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_12 : Ref sig .tc := ⟨.hbm, 104, rfl⟩
abbrev main_v85 : Ref sig .tc := ⟨.hbm, 105, rfl⟩
abbrev main_v86 : Ref sig .tc := ⟨.hbm, 106, rfl⟩
abbrev main_cst_13 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_14 : Ref sig .tc := ⟨.hbm, 115, rfl⟩
abbrev main_v94 : Ref sig .tc := ⟨.hbm, 116, rfl⟩
abbrev main_v95 : Ref sig .tc := ⟨.hbm, 117, rfl⟩
abbrev main_cst_15 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_cst_16 : Ref sig .tc := ⟨.hbm, 155, rfl⟩
abbrev main_call0_v0 : Ref sig .tc := ⟨.hbm, 156, rfl⟩
abbrev main_v132 : Ref sig .tc := ⟨.hbm, 157, rfl⟩
abbrev main_v133 : Ref sig .tc := ⟨.hbm, 158, rfl⟩
abbrev main_cst_17 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_cst_18 : Ref sig .tc := ⟨.hbm, 167, rfl⟩
abbrev main_v141 : Ref sig .tc := ⟨.hbm, 168, rfl⟩
abbrev main_v142 : Ref sig .tc := ⟨.hbm, 169, rfl⟩
abbrev main_cst_19 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_cst_20 : Ref sig .tc := ⟨.hbm, 176, rfl⟩
abbrev main_v148 : Ref sig .tc := ⟨.hbm, 177, rfl⟩
abbrev main_v149 : Ref sig .tc := ⟨.hbm, 178, rfl⟩
abbrev main_cst_21 : Ref sig .tc := ⟨.hbm, 179, rfl⟩
abbrev main_v150 : Ref sig .tc := ⟨.hbm, 180, rfl⟩
abbrev main_v151 : Ref sig .tc := ⟨.hbm, 181, rfl⟩
abbrev main_cst_22 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩

abbrev nD : Nat := 1
abbrev τ : Topo := Topo.v7x

variable {F : FTy → Type} [FloatOps F]
-- ==== OddS.lean ====
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 17
  | .vmem => 15
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1x1024, .f32⟩
  | .hbm, ⟨16, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c2_i32 : BitVec 32 := 2#32
  let v38 : BitVec 32 := Scalar.addi c0_i32 c2_i32
  let c1_i32 : BitVec 32 := 1#32
  ⟨c0_i32, v38, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c1408_i32 : BitVec 32 := 1408#32
  let v55 : BitVec 32 := Scalar.muli arg13 c1408_i32
  v55
def k0_off1 (k0_t1 : Fin k0_t1_loop.trips) : Fin 2 → Nat :=
  let c0_32 : Index := 0#32
  let c0_i32 : BitVec 32 := 0#32
  let c1_i32 : BitVec 32 := 1#32
  let arg13 : BitVec 32 := Scf.iv c0_i32 c1_i32 k0_t1
  let c1408_i32 : BitVec 32 := 1408#32
  let v55 : BitVec 32 := Scalar.muli arg13 c1408_i32
  let v56 : BitVec 32 := v55
  let v58 : Index := Scalar.indexCast v56
  ![0, v58.toNat]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1408_i32 : BitVec 32 := 1408#32
  let v55 : BitVec 32 := Scalar.muli arg13 c1408_i32
  let v56 : BitVec 32 := v55
  let v77 : Index := Scalar.indexCast v56
  let c0_41 : Index := 0#32
  ![v77.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OddSRefIdeal.lean ====
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1024x1 : Shape := ⟨2, ![1024, 1]⟩
abbrev S1x1024 : Shape := ⟨2, ![1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024, .f32⟩
  | .hbm, ⟨25, _⟩ => ⟨S1024x1, .f32⟩
  | .hbm, ⟨26, _⟩ => ⟨S_, .f32⟩
  | .hbm, ⟨27, _⟩ => ⟨S1024x1, .f32⟩
  | .hbm, ⟨28, _⟩ => ⟨S1024x1, .f32⟩
  | .hbm, ⟨29, _⟩ => ⟨S_, .f32⟩
  | .hbm, ⟨30, _⟩ => ⟨S1024x1, .f32⟩
  | .hbm, ⟨31, _⟩ => ⟨S1024x1, .f32⟩
  | .hbm, ⟨32, _⟩ => ⟨S1024x1, .f32⟩
  | .hbm, ⟨33, _⟩ => ⟨S1024x1024, .f32⟩
  | .hbm, ⟨34, _⟩ => ⟨S1024x1024, .f32⟩
  | .hbm, ⟨35, _⟩ => ⟨S1x1024, .f32⟩
  | .hbm, ⟨36, _⟩ => ⟨S1024x1024, .f32⟩
  | .hbm, ⟨37, _⟩ => ⟨S1024x1024, .f32⟩
  | .hbm, ⟨38, _⟩ => ⟨S1024x2816, .f32⟩
  | .hbm, ⟨39, _⟩ => ⟨S1024x2816, .f32⟩
  | .hbm, ⟨40, _⟩ => ⟨S1024x2816, .f32⟩
  | .hbm, ⟨41, _⟩ => ⟨S_, .f32⟩
  | .hbm, ⟨42, _⟩ => ⟨S1024x2816, .f32⟩
  | .hbm, ⟨43, _⟩ => ⟨S1024x2816, .f32⟩
  | .hbm, ⟨44, _⟩ => ⟨S_, .f32⟩
  | .hbm, ⟨45, _⟩ => ⟨S1024x2816, .f32⟩
  | .hbm, ⟨46, _⟩ => ⟨S1024x2816, .f32⟩
  | .hbm, ⟨47, _⟩ => ⟨S1024x2816, .f32⟩
  | .hbm, ⟨48, _⟩ => ⟨S1024x2816, .f32⟩
  | .hbm, ⟨49, _⟩ => ⟨S1024x2816, .f32⟩
  | .hbm, ⟨50, _⟩ => ⟨S1024x1024, .f32⟩
  | .hbm, ⟨51, _⟩ => ⟨S1024x1024, .f32⟩
  | .hbm, ⟨52, _⟩ => ⟨S1024x1024, .f32⟩
  | .hbm, ⟨53, _⟩ => ⟨S_, .f32⟩
  | .hbm, ⟨54, _⟩ => ⟨S1024, .f32⟩
  | .hbm, ⟨55, _⟩ => ⟨S1024x1, .f32⟩
  | .hbm, ⟨56, _⟩ => ⟨S_, .f32⟩
  | .hbm, ⟨57, _⟩ => ⟨S1024x1, .f32⟩
  | .hbm, ⟨58, _⟩ => ⟨S1024x1, .f32⟩
  | .hbm, ⟨59, _⟩ => ⟨S_, .f32⟩
  | .hbm, ⟨60, _⟩ => ⟨S1024x1, .f32⟩
  | .hbm, ⟨61, _⟩ => ⟨S1024x1, .f32⟩
  | .hbm, ⟨62, _⟩ => ⟨S1024x1, .f32⟩
  | .hbm, ⟨63, _⟩ => ⟨S1024x1024, .f32⟩
  | .hbm, ⟨64, _⟩ => ⟨S1024x1024, .f32⟩
  | .hbm, ⟨65, _⟩ => ⟨S1x1024, .f32⟩
  | .hbm, ⟨66, _⟩ => ⟨S1024x1024, .f32⟩
  | .hbm, ⟨67, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Proof.S5Host.lean ====
/-
  The blocks the S5 kernel is given, read at an index of the arguments: the host transposes the input, lays the matrices of the
  16 groups of a block out along the diagonal of a larger matrix, and flattens the states.
-/
module

public import proofs.«01_k».proof.Proof.Gen.S5Ideal.Value
public import Idealize.ShloMosaic.Lib.Pipeline.ValueKit

@[expose] public section

set_option maxRecDepth 16384

noncomputable section

namespace Cert.Proof.S5Host

open Idealize.ShloMosaic Idealize.ShloMosaic.TcCoe Idealize.SL.Sem
open Cert.S5Ideal Cert.S5Ideal.Gen
open Idealize.ShloMosaic.Pipeline (Dat Cfg Window)

variable (m : (ℓ : Loc nD τ sig) → Buf (Elt Ideal) ℓ)

/-- The block each window reads or writes at a grid step. -/
theorem index_eq : ∀ t : Fin cfg0.N, win0_0.index t = ![0, t.val, 0] ∧ win0_1.index t = ![0, 0] ∧ win0_2.index t = ![0, 0]
    ∧ win0_3.index t = ![0, 0, 0] ∧ win0_4.index t = ![0, 0, 0] ∧ win0_5.index t = ![0, 0, 0] ∧ win0_6.index t = ![0, 0]
    ∧ win0_7.index t = ![t.val, 0] ∧ win0_8.index t = ![t.val, 0] ∧ win0_9.index t = ![0, t.val, 0] ∧ win0_10.index t = ![t.val, 0]
    ∧ win0_11.index t = ![t.val, 0] :=
  (by decide +kernel : ∀ t : Fin grid0.N, _)

/-- The entry of the 16 by 16 identity matrix that the host computes. -/
def eye (i j : Nat) : EReal :=
  FloatOps.uitofp (F := Ideal) FTy.f32 (IntOp.cmpi CmpIPredicate.eq (IntOp.addi (BitVec.ofNat 32 i) 0#32) (BitVec.ofNat 32 j))

theorem eye_self (i : Nat) : eye i i = 1 := by
  have h : IntOp.cmpi CmpIPredicate.eq (IntOp.addi (BitVec.ofNat 32 i) 0#32) (BitVec.ofNat 32 i) = 1#1 := by
    simp [IntOp.cmpi, IntOp.addi]
  unfold eye
  rw [h]
  show ((((1#1).toNat : ℝ)) : EReal) = 1
  simp

theorem eye_ne (i j : Fin 16) (hij : i ≠ j) : eye i.val j.val = 0 := by
  have h : IntOp.cmpi CmpIPredicate.eq (IntOp.addi (BitVec.ofNat 32 i.val) 0#32) (BitVec.ofNat 32 j.val) = 0#1 := by
    revert i j; decide +kernel
  unfold eye
  rw [h]
  show ((((0#1).toNat : ℝ)) : EReal) = 0
  simp

set_option maxHeartbeats 2000000 in
/-- The input. -/
theorem b0 (c : Dev nD) (t : Fin cfg0.N) (ht : t.val < 4) (a : Fin 8) (n : Fin 32) (k : Fin 1024) :
    iblk m c 0 t (ix3 a n k) = m ((c : Thread nD τ).loc main_arg0) (ix3 (⟨t.val * 32 + n.val, by omega⟩ : Fin 128) a k) := by
  obtain ⟨e0, e1, e2, e3, e4, e5, e6, e7, e8, e9, e10, e11⟩ := index_eq t
  blk_ext! [iblk, V, e0]
set_option maxHeartbeats 2000000 in
/-- The scale of the norm. -/
theorem b1 (c : Dev nD) (t : Fin cfg0.N) (k : Fin 1024) :
    iblk m c 1 t (ix2 0 k) = m ((c : Thread nD τ).loc main_arg1) (ix1 k) := by
  obtain ⟨e0, e1, e2, e3, e4, e5, e6, e7, e8, e9, e10, e11⟩ := index_eq t
  blk_ext! [iblk, V, e1]
set_option maxHeartbeats 2000000 in
/-- The coefficients of the recurrence, real part. -/
theorem b2re (c : Dev nD) (t : Fin cfg0.N) (k : Fin 4096) :
    iblk m c 2 t (ix2 0 k) = m ((c : Thread nD τ).loc main_arg2) (ix2 ⟨k.val / 64, by omega⟩ ⟨k.val % 64, by omega⟩) := by
  obtain ⟨e0, e1, e2, e3, e4, e5, e6, e7, e8, e9, e10, e11⟩ := index_eq t
  blk_simp [iblk, e2]
  entry_read
  pointwise
  blk_simp [e2]
  exact dif_pos (show ((0 : Fin 2) : Nat) < 1 from by decide)
set_option maxHeartbeats 2000000 in
/-- The coefficients of the recurrence, imaginary part. -/
theorem b2im (c : Dev nD) (t : Fin cfg0.N) (k : Fin 4096) :
    iblk m c 2 t (ix2 1 k) = m ((c : Thread nD τ).loc main_arg3) (ix2 ⟨k.val / 64, by omega⟩ ⟨k.val % 64, by omega⟩) := by
  obtain ⟨e0, e1, e2, e3, e4, e5, e6, e7, e8, e9, e10, e11⟩ := index_eq t
  blk_simp [iblk, e2]
  entry_read
  pointwise
  blk_simp [e2]
  exact dif_neg (show ¬ ((1 : Fin 2) : Nat) < 1 from by decide)
set_option maxHeartbeats 2000000 in
/-- The output matrix, real part. -/
theorem b4 (c : Dev nD) (t : Fin cfg0.N) (k : Fin 4) (p : Fin 1024) (s : Fin 256) :
    iblk m c 4 t (ix3 k p s) = @HMul.hMul EReal EReal EReal _ (m ((c : Thread nD τ).loc main_arg6) (ix3 ⟨k.val * 16 + p.val / 64, by omega⟩ ⟨s.val % 16, by omega⟩ ⟨p.val % 64, by omega⟩))
      (eye (p.val / 64) (s.val / 16)) := by
  obtain ⟨e0, e1, e2, e3, e4, e5, e6, e7, e8, e9, e10, e11⟩ := index_eq t
  unfold eye
  blk_point [iblk, V, e4]
set_option maxHeartbeats 2000000 in
/-- The output matrix, imaginary part. -/
theorem b5 (c : Dev nD) (t : Fin cfg0.N) (k : Fin 4) (p : Fin 1024) (s : Fin 256) :
    iblk m c 5 t (ix3 k p s) = @HMul.hMul EReal EReal EReal _ (m ((c : Thread nD τ).loc main_arg7) (ix3 ⟨k.val * 16 + p.val / 64, by omega⟩ ⟨s.val % 16, by omega⟩ ⟨p.val % 64, by omega⟩))
      (eye (p.val / 64) (s.val / 16)) := by
  obtain ⟨e0, e1, e2, e3, e4, e5, e6, e7, e8, e9, e10, e11⟩ := index_eq t
  unfold eye
  blk_point [iblk, V, e5]
set_option maxHeartbeats 2000000 in
/-- The input matrix, the real parts before the imaginary ones. -/
theorem b3 (c : Dev nD) (t : Fin cfg0.N) (k : Fin 4) (q : Fin 256) (s : Fin 2048) :
    iblk m c 3 t (ix3 k q s) = @HMul.hMul EReal EReal EReal _ (if h : s.val / 1024 < 1
      then m ((c : Thread nD τ).loc main_arg4) (ix3 ⟨k.val * 16 + q.val / 16, by omega⟩ ⟨s.val % 64, by omega⟩ ⟨q.val % 16, by omega⟩)
      else m ((c : Thread nD τ).loc main_arg5) (ix3 ⟨k.val * 16 + q.val / 16, by omega⟩ ⟨s.val % 64, by omega⟩ ⟨q.val % 16, by omega⟩))
      (eye (q.val / 16) (s.val / 64 % 16)) := by
  obtain ⟨e0, e1, e2, e3, e4, e5, e6, e7, e8, e9, e10, e11⟩ := index_eq t
  unfold eye
  blk_point [iblk, V, e3]
set_option maxHeartbeats 2000000 in
/-- The pass-through. -/
theorem b6 (c : Dev nD) (t : Fin cfg0.N) (k : Fin 1024) :
    iblk m c 6 t (ix2 0 k) = m ((c : Thread nD τ).loc main_arg8) (ix1 k) := by
  obtain ⟨e0, e1, e2, e3, e4, e5, e6, e7, e8, e9, e10, e11⟩ := index_eq t
  blk_ext! [iblk, V, e6]
set_option maxHeartbeats 2000000 in
/-- The initial state, real part. -/
theorem b7 (c : Dev nD) (t : Fin cfg0.N) (ht : t.val < 4) (n : Fin 32) (k : Fin 4096) :
    iblk m c 7 t (ix2 n k) = m ((c : Thread nD τ).loc main_arg9) (ix3 (⟨t.val * 32 + n.val, by omega⟩ : Fin 128) ⟨k.val / 64, by omega⟩ ⟨k.val % 64, by omega⟩) := by
  obtain ⟨e0, e1, e2, e3, e4, e5, e6, e7, e8, e9, e10, e11⟩ := index_eq t
  blk_ext! [iblk, V, e7]
set_option maxHeartbeats 2000000 in
/-- The initial state, imaginary part. -/
theorem b8 (c : Dev nD) (t : Fin cfg0.N) (ht : t.val < 4) (n : Fin 32) (k : Fin 4096) :
    iblk m c 8 t (ix2 n k) = m ((c : Thread nD τ).loc main_arg10) (ix3 (⟨t.val * 32 + n.val, by omega⟩ : Fin 128) ⟨k.val / 64, by omega⟩ ⟨k.val % 64, by omega⟩) := by
  obtain ⟨e0, e1, e2, e3, e4, e5, e6, e7, e8, e9, e10, e11⟩ := index_eq t
  blk_ext! [iblk, V, e8]

end Cert.Proof.S5Host
end
-- ==== Proof.S5Block.lean ====
/-
  The recurrence of the S5 layer, one grid point: what the body stores, as eight steps on a state and a scratch buffer.
-/
module

public import proofs.«01_k».proof.Proof.Gen.S5Ideal.Value
public import Idealize.ShloMosaic.Lib.Pipeline.ValueKit
public import Idealize.ShloMosaic.Lib.VecWindow

@[expose] public section

set_option maxRecDepth 16384

noncomputable section

namespace Cert.Proof.S5Block

open Idealize.ShloMosaic Idealize.ShloMosaic.TcCoe Idealize.SL.Sem Cert.S5Ideal Cert.S5Ideal.Gen
open Idealize.ShloMosaic.Pipeline (Dat Cfg Window)

/-- A block of states: 32 samples by the 4096 coordinates of the state. -/
abbrev H := FVec Ideal S32x4096 .f32

/-- The writes to the scratch buffer, the last one first. -/
abbrev Writes := List (View.Piece (Elt Ideal) S256x8192 .f32)

/-- The part of the scratch buffer at the offsets `o`, of the size of a block of states. -/
def rd (o : Fin 2 → Nat) (h : ∀ a, o a + (![32, 4096] : Fin 2 → Nat) a ≤ S256x8192.size a) (L : Writes) : H :=
  fun x => View.canon L ((Rect.unit (s := S256x8192) o ![32, 4096] h).idx x)
theorem rd_eq (o : Fin 2 → Nat) (h : ∀ a, o a + (![32, 4096] : Fin 2 → Nat) a ≤ S256x8192.size a) (L : Writes) :
    rd o h L = fun x => View.canon L ((Rect.unit (s := S256x8192) o ![32, 4096] h).idx x) := rfl

/-- The real and the imaginary part of one step of the recurrence, at input `u`. -/
def stepRe (a b : FVec Ideal S1x4096 .f32) (hr hi u : H) : H :=
  addf (subf (mulf (broadcastTo S32x4096 a broadcasts_S1x4096_S32x4096 : H) hr) (mulf (broadcastTo S32x4096 b broadcasts_S1x4096_S32x4096 : H) hi)) u
def stepIm (a b : FVec Ideal S1x4096 .f32) (hr hi u : H) : H :=
  addf (addf (mulf (broadcastTo S32x4096 a broadcasts_S1x4096_S32x4096 : H) hi) (mulf (broadcastTo S32x4096 b broadcasts_S1x4096_S32x4096 : H) hr)) u

/-- A block of the input matrix. -/
abbrev xb (o : Fin 3 → Nat) (h : ∀ a, o a + (![1, 256, 2048] : Fin 3 → Nat) a ≤ S4x256x2048.size a) (x3 : Vec Ideal S4x256x2048 .bf16) :
    Vec Ideal S1x256x2048 .bf16 := View.ld x3 (Rect.unit (s := S4x256x2048) o ![1, 256, 2048] h)

/-- The writes that fill the scratch buffer with the inputs of the recurrence, eight column blocks. -/
def init (x0 : Vec Ideal S8x32x1024 .f32) (x1 : Vec Ideal S1x1024 .f32) (x3 : Vec Ideal S4x256x2048 .bf16) : Writes :=
  [⟨Rect.unit ![0, 7168] ![256, 1024] inb_S256x8192_S256x1024_0_7168, k0_pay16 (k0_pay3 x0 x1) (xb ![3, 0, 0] inb_S4x256x2048_S1x256x2048_3_0_0 x3)⟩,
   ⟨Rect.unit ![0, 3072] ![256, 1024] inb_S256x8192_S256x1024_0_3072, k0_pay15 (k0_pay3 x0 x1) (xb ![3, 0, 0] inb_S4x256x2048_S1x256x2048_3_0_0 x3)⟩,
   ⟨Rect.unit ![0, 6144] ![256, 1024] inb_S256x8192_S256x1024_0_6144, k0_pay13 (k0_pay3 x0 x1) (xb ![2, 0, 0] inb_S4x256x2048_S1x256x2048_2_0_0 x3)⟩,
   ⟨Rect.unit ![0, 2048] ![256, 1024] inb_S256x8192_S256x1024_0_2048, k0_pay12 (k0_pay3 x0 x1) (xb ![2, 0, 0] inb_S4x256x2048_S1x256x2048_2_0_0 x3)⟩,
   ⟨Rect.unit ![0, 5120] ![256, 1024] inb_S256x8192_S256x1024_0_5120, k0_pay10 (k0_pay7 x0 x1 (xb ![1, 0, 0] inb_S4x256x2048_S1x256x2048_1_0_0 x3))⟩,
   ⟨Rect.unit ![0, 1024] ![256, 1024] inb_S256x8192_S256x1024_0_1024, k0_pay9 (k0_pay8 x0 x1 (xb ![1, 0, 0] inb_S4x256x2048_S1x256x2048_1_0_0 x3))⟩,
   ⟨Rect.unit ![0, 4096] ![256, 1024] inb_S256x8192_S256x1024_0_4096, k0_pay6 x0 x1 (xb ![0, 0, 0] inb_S4x256x2048_S1x256x2048_0_0_0 x3)⟩,
   ⟨Rect.unit ![0, 0] ![256, 1024] inb_S256x8192_S256x1024_0_0, k0_pay5 x0 x1 (xb ![0, 0, 0] inb_S4x256x2048_S1x256x2048_0_0_0 x3)⟩]

/-- The two parts of the state and the writes to the scratch buffer after a number of steps. -/
structure St where
  re : H
  im : H
  ws : Writes

/-- One step: the new state, stored over the two row blocks (at `o` the real one, at `q` the imaginary one) its input was read from. -/
def next (a b : FVec Ideal S1x4096 .f32) (o q : Fin 2 → Nat) (ho : ∀ a, o a + (![32, 4096] : Fin 2 → Nat) a ≤ S256x8192.size a)
    (hq : ∀ a, q a + (![32, 4096] : Fin 2 → Nat) a ≤ S256x8192.size a) (s : St) : St where
  re := stepRe a b s.re s.im (rd o ho s.ws)
  im := stepIm a b s.re s.im (rd q hq s.ws)
  ws := ⟨Rect.unit q ![32, 4096] hq, stepIm a b s.re s.im (rd q hq s.ws)⟩ :: ⟨Rect.unit o ![32, 4096] ho, stepRe a b s.re s.im (rd o ho s.ws)⟩ :: s.ws

/-- All eight steps. -/
def run (a b : FVec Ideal S1x4096 .f32) (s : St) : St :=
  next a b ![224, 0] ![224, 4096] inb_S256x8192_S32x4096_224_0 inb_S256x8192_S32x4096_224_4096
    (next a b ![192, 0] ![192, 4096] inb_S256x8192_S32x4096_192_0 inb_S256x8192_S32x4096_192_4096
    (next a b ![160, 0] ![160, 4096] inb_S256x8192_S32x4096_160_0 inb_S256x8192_S32x4096_160_4096
    (next a b ![128, 0] ![128, 4096] inb_S256x8192_S32x4096_128_0 inb_S256x8192_S32x4096_128_4096
    (next a b ![96, 0] ![96, 4096] inb_S256x8192_S32x4096_96_0 inb_S256x8192_S32x4096_96_4096
    (next a b ![64, 0] ![64, 4096] inb_S256x8192_S32x4096_64_0 inb_S256x8192_S32x4096_64_4096
    (next a b ![32, 0] ![32, 4096] inb_S256x8192_S32x4096_32_0 inb_S256x8192_S32x4096_32_4096
    (next a b ![0, 0] ![0, 4096] inb_S256x8192_S32x4096_0_0 inb_S256x8192_S32x4096_0_4096 s)))))))

/-- What the body computes at one grid point. -/
def fin (x0 : Vec Ideal S8x32x1024 .f32) (x1 : Vec Ideal S1x1024 .f32) (x2 : Vec Ideal S2x4096 .f32) (x3 : Vec Ideal S4x256x2048 .bf16)
    (x7 x8 : H) : St :=
  run (View.ld x2 (Rect.unit (s := S2x4096) ![0, 0] ![1, 4096] inb_S2x4096_S1x4096_0_0))
    (View.ld x2 (Rect.unit (s := S2x4096) ![1, 0] ![1, 4096] inb_S2x4096_S1x4096_1_0)) ⟨x7, x8, init x0 x1 x3⟩

/-- A column block of the scratch buffer. -/
def rdc (o : Fin 2 → Nat) (h : ∀ a, o a + (![256, 1024] : Fin 2 → Nat) a ≤ S256x8192.size a) (L : Writes) : FVec Ideal S256x1024 .f32 :=
  fun x => View.canon L ((Rect.unit (s := S256x8192) o ![256, 1024] h).idx x)
theorem rdc_eq (o : Fin 2 → Nat) (h : ∀ a, o a + (![256, 1024] : Fin 2 → Nat) a ≤ S256x8192.size a) (L : Writes) :
    rdc o h L = fun x => View.canon L ((Rect.unit (s := S256x8192) o ![256, 1024] h).idx x) := rfl

/-- The four blocks of output channels, from the states `s` left in the scratch buffer. -/
def zout (x0 : Vec Ideal S8x32x1024 .f32) (x1 : Vec Ideal S1x1024 .f32) (x4 x5 : Vec Ideal S4x1024x256 .bf16) (x6 : Vec Ideal S1x1024 .f32)
    (s : St) : List (View.Piece (Elt Ideal) S8x32x1024 .bf16) :=
  [⟨Rect.unit (s := S8x32x1024) ![0, 0, 768] ![8, 32, 256] inb_S8x32x1024_S8x32x256_0_0_768, k0_pay1 (k0_pay82 (k0_pay2 x0 x1) (rdc ![0, 3072] inb_S256x8192_S256x1024_0_3072 s.ws) (rdc ![0, 7168] inb_S256x8192_S256x1024_0_7168 s.ws) (View.ld x4 (Rect.unit (s := S4x1024x256) ![3, 0, 0] ![1, 1024, 256] inb_S4x1024x256_S1x1024x256_3_0_0)) (View.ld x5 (Rect.unit (s := S4x1024x256) ![3, 0, 0] ![1, 1024, 256] inb_S4x1024x256_S1x1024x256_3_0_0)) (View.ld x6 (Rect.unit (s := S1x1024) ![0, 768] ![1, 256] inb_S1x1024_S1x256_0_768)))⟩,
   ⟨Rect.unit (s := S8x32x1024) ![0, 0, 512] ![8, 32, 256] inb_S8x32x1024_S8x32x256_0_0_512, k0_pay81 (k0_pay78 (k0_pay2 x0 x1) (rdc ![0, 2048] inb_S256x8192_S256x1024_0_2048 s.ws) (rdc ![0, 6144] inb_S256x8192_S256x1024_0_6144 s.ws) (View.ld x4 (Rect.unit (s := S4x1024x256) ![2, 0, 0] ![1, 1024, 256] inb_S4x1024x256_S1x1024x256_2_0_0)) (View.ld x5 (Rect.unit (s := S4x1024x256) ![2, 0, 0] ![1, 1024, 256] inb_S4x1024x256_S1x1024x256_2_0_0)) (View.ld x6 (Rect.unit (s := S1x1024) ![0, 512] ![1, 256] inb_S1x1024_S1x256_0_512)))
      (k0_pay79 (k0_pay2 x0 x1) (rdc ![0, 2048] inb_S256x8192_S256x1024_0_2048 s.ws) (rdc ![0, 6144] inb_S256x8192_S256x1024_0_6144 s.ws) (View.ld x4 (Rect.unit (s := S4x1024x256) ![2, 0, 0] ![1, 1024, 256] inb_S4x1024x256_S1x1024x256_2_0_0)) (View.ld x5 (Rect.unit (s := S4x1024x256) ![2, 0, 0] ![1, 1024, 256] inb_S4x1024x256_S1x1024x256_2_0_0)) (View.ld x6 (Rect.unit (s := S1x1024) ![0, 512] ![1, 256] inb_S1x1024_S1x256_0_512))) k0_pay80⟩,
   ⟨Rect.unit (s := S8x32x1024) ![0, 0, 256] ![8, 32, 256] inb_S8x32x1024_S8x32x256_0_0_256, k0_pay77 (k0_pay75 (k0_pay2 x0 x1) (rdc ![0, 1024] inb_S256x8192_S256x1024_0_1024 s.ws) (rdc ![0, 5120] inb_S256x8192_S256x1024_0_5120 s.ws) (View.ld x4 (Rect.unit (s := S4x1024x256) ![1, 0, 0] ![1, 1024, 256] inb_S4x1024x256_S1x1024x256_1_0_0)) (View.ld x5 (Rect.unit (s := S4x1024x256) ![1, 0, 0] ![1, 1024, 256] inb_S4x1024x256_S1x1024x256_1_0_0)) (View.ld x6 (Rect.unit (s := S1x1024) ![0, 256] ![1, 256] inb_S1x1024_S1x256_0_256)))
      (k0_pay76 (k0_pay2 x0 x1) (rdc ![0, 1024] inb_S256x8192_S256x1024_0_1024 s.ws) (rdc ![0, 5120] inb_S256x8192_S256x1024_0_5120 s.ws) (View.ld x4 (Rect.unit (s := S4x1024x256) ![1, 0, 0] ![1, 1024, 256] inb_S4x1024x256_S1x1024x256_1_0_0)) (View.ld x5 (Rect.unit (s := S4x1024x256) ![1, 0, 0] ![1, 1024, 256] inb_S4x1024x256_S1x1024x256_1_0_0)) (View.ld x6 (Rect.unit (s := S1x1024) ![0, 256] ![1, 256] inb_S1x1024_S1x256_0_256))) (FloatOps.ofBits .f32 0x3F4C422A#32)⟩,
   ⟨Rect.unit (s := S8x32x1024) ![0, 0, 0] ![8, 32, 256] inb_S8x32x1024_S8x32x256_0_0_0, k0_pay74 (k0_pay72 (k0_pay2 x0 x1) (rdc ![0, 0] inb_S256x8192_S256x1024_0_0 s.ws) (rdc ![0, 4096] inb_S256x8192_S256x1024_0_4096 s.ws) (View.ld x4 (Rect.unit (s := S4x1024x256) ![0, 0, 0] ![1, 1024, 256] inb_S4x1024x256_S1x1024x256_0_0_0)) (View.ld x5 (Rect.unit (s := S4x1024x256) ![0, 0, 0] ![1, 1024, 256] inb_S4x1024x256_S1x1024x256_0_0_0)) (View.ld x6 (Rect.unit (s := S1x1024) ![0, 0] ![1, 256] inb_S1x1024_S1x256_0_0)))
      (k0_pay73 (k0_pay2 x0 x1) (rdc ![0, 0] inb_S256x8192_S256x1024_0_0 s.ws) (rdc ![0, 4096] inb_S256x8192_S256x1024_0_4096 s.ws) (View.ld x4 (Rect.unit (s := S4x1024x256) ![0, 0, 0] ![1, 1024, 256] inb_S4x1024x256_S1x1024x256_0_0_0)) (View.ld x5 (Rect.unit (s := S4x1024x256) ![0, 0, 0] ![1, 1024, 256] inb_S4x1024x256_S1x1024x256_0_0_0)) (View.ld x6 (Rect.unit (s := S1x1024) ![0, 0] ![1, 256] inb_S1x1024_S1x256_0_0)))⟩]

set_option maxHeartbeats 1000000 in
/-- What the body stores into its three outputs. -/
theorem out10_eq (c : Dev nD) (i : grid0.Coords) (arg1 : Memref sig .tc .vmem S8x32x1024 .f32) (harg1 : arg1.IsWhole) (arg2 : Memref sig .tc .vmem S1x1024 .f32) (harg2 : arg2.IsWhole) (arg3 : Memref sig .tc .vmem S2x4096 .f32) (harg3 : arg3.IsWhole) (arg4 : Memref sig .tc .vmem S4x256x2048 .bf16) (harg4 : arg4.IsWhole) (arg5 : Memref sig .tc .vmem S4x1024x256 .bf16) (harg5 : arg5.IsWhole) (arg6 : Memref sig .tc .vmem S4x1024x256 .bf16) (harg6 : arg6.IsWhole) (arg7 : Memref sig .tc .vmem S1x1024 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S8x32x1024 .bf16) (harg10 : arg10.IsWhole) (arg11 : Memref sig .tc .vmem S32x4096 .f32) (harg11 : arg11.IsWhole) (arg12 : Memref sig .tc .vmem S32x4096 .f32) (harg12 : arg12.IsWhole) (arg13 : Memref sig .tc .vmem S256x8192 .f32) (harg13 : arg13.IsWhole)
    (x0 : Vec Ideal S8x32x1024 .f32) (x1 : Vec Ideal S1x1024 .f32) (x2 : Vec Ideal S2x4096 .f32) (x3 : Vec Ideal S4x256x2048 .bf16) (x4 : Vec Ideal S4x1024x256 .bf16) (x5 : Vec Ideal S4x1024x256 .bf16) (x6 : Vec Ideal S1x1024 .f32) (x7 : Vec Ideal S32x4096 .f32) (x8 : Vec Ideal S32x4096 .f32) :
    out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
      = (fin x0 x1 x2 x3 x7 x8).re := by
  frame_out
  simp only [View.readCov_eq_canon', k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, shapeCast_self]
  simp only [fin, run, next, stepRe, stepIm, rd_eq, init, xb]

set_option maxHeartbeats 1000000 in
theorem out11_eq (c : Dev nD) (i : grid0.Coords) (arg1 : Memref sig .tc .vmem S8x32x1024 .f32) (harg1 : arg1.IsWhole) (arg2 : Memref sig .tc .vmem S1x1024 .f32) (harg2 : arg2.IsWhole) (arg3 : Memref sig .tc .vmem S2x4096 .f32) (harg3 : arg3.IsWhole) (arg4 : Memref sig .tc .vmem S4x256x2048 .bf16) (harg4 : arg4.IsWhole) (arg5 : Memref sig .tc .vmem S4x1024x256 .bf16) (harg5 : arg5.IsWhole) (arg6 : Memref sig .tc .vmem S4x1024x256 .bf16) (harg6 : arg6.IsWhole) (arg7 : Memref sig .tc .vmem S1x1024 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S8x32x1024 .bf16) (harg10 : arg10.IsWhole) (arg11 : Memref sig .tc .vmem S32x4096 .f32) (harg11 : arg11.IsWhole) (arg12 : Memref sig .tc .vmem S32x4096 .f32) (harg12 : arg12.IsWhole) (arg13 : Memref sig .tc .vmem S256x8192 .f32) (harg13 : arg13.IsWhole)
    (x0 : Vec Ideal S8x32x1024 .f32) (x1 : Vec Ideal S1x1024 .f32) (x2 : Vec Ideal S2x4096 .f32) (x3 : Vec Ideal S4x256x2048 .bf16) (x4 : Vec Ideal S4x1024x256 .bf16) (x5 : Vec Ideal S4x1024x256 .bf16) (x6 : Vec Ideal S1x1024 .f32) (x7 : Vec Ideal S32x4096 .f32) (x8 : Vec Ideal S32x4096 .f32) :
    out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
      = (fin x0 x1 x2 x3 x7 x8).im := by
  frame_out
  simp only [View.readCov_eq_canon', k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, shapeCast_self]
  simp only [fin, run, next, stepRe, stepIm, rd_eq, init, xb]

set_option maxHeartbeats 1000000 in
theorem out9_eq (c : Dev nD) (i : grid0.Coords) (arg1 : Memref sig .tc .vmem S8x32x1024 .f32) (harg1 : arg1.IsWhole) (arg2 : Memref sig .tc .vmem S1x1024 .f32) (harg2 : arg2.IsWhole) (arg3 : Memref sig .tc .vmem S2x4096 .f32) (harg3 : arg3.IsWhole) (arg4 : Memref sig .tc .vmem S4x256x2048 .bf16) (harg4 : arg4.IsWhole) (arg5 : Memref sig .tc .vmem S4x1024x256 .bf16) (harg5 : arg5.IsWhole) (arg6 : Memref sig .tc .vmem S4x1024x256 .bf16) (harg6 : arg6.IsWhole) (arg7 : Memref sig .tc .vmem S1x1024 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S8x32x1024 .bf16) (harg10 : arg10.IsWhole) (arg11 : Memref sig .tc .vmem S32x4096 .f32) (harg11 : arg11.IsWhole) (arg12 : Memref sig .tc .vmem S32x4096 .f32) (harg12 : arg12.IsWhole) (arg13 : Memref sig .tc .vmem S256x8192 .f32) (harg13 : arg13.IsWhole)
    (x0 : Vec Ideal S8x32x1024 .f32) (x1 : Vec Ideal S1x1024 .f32) (x2 : Vec Ideal S2x4096 .f32) (x3 : Vec Ideal S4x256x2048 .bf16) (x4 : Vec Ideal S4x1024x256 .bf16) (x5 : Vec Ideal S4x1024x256 .bf16) (x6 : Vec Ideal S1x1024 .f32) (x7 : Vec Ideal S32x4096 .f32) (x8 : Vec Ideal S32x4096 .f32) :
    out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
      = View.canon (zout x0 x1 x4 x5 x6 (fin x0 x1 x2 x3 x7 x8)) := by
  frame_out
  simp only [View.readCov_eq_canon', k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, shapeCast_self]
  simp only [zout, fin, run, next, stepRe, stepIm, rd_eq, rdc_eq, init, xb]

end Cert.Proof.S5Block
end
-- ==== Proof.S5Math.lean ====
/-
  The S5 recurrence for one coordinate of the state, its activation, and a sum against a block-diagonal matrix, over the
  extended reals. No program is mentioned here: the kernel and the reference are both shown to compute these.
-/
module

public import Idealize.ShloMosaic.Lib.Pointwise

@[expose] public section

noncomputable section

namespace Cert.Proof.S5Math

open Idealize.ShloMosaic

/-- The two parts of one coordinate of the state after `j` steps, from `h`, with the transition `a + i b` and the inputs `w`. -/
def orbit (a b : EReal) (w : Fin 8 → Fin 2 → EReal) (h : EReal × EReal) : Nat → EReal × EReal
  | 0 => h
  | j + 1 => (a * (orbit a b w h j).1 - b * (orbit a b w h j).2 + w (Fin.ofNat 8 j) 0,
      a * (orbit a b w h j).2 + b * (orbit a b w h j).1 + w (Fin.ofNat 8 j) 1)

theorem orbit_succ (a b : EReal) (w : Fin 8 → Fin 2 → EReal) (h : EReal × EReal) (j : Nat) :
    orbit a b w h (j + 1) = (a * (orbit a b w h j).1 - b * (orbit a b w h j).2 + w (Fin.ofNat 8 j) 0,
      a * (orbit a b w h j).2 + b * (orbit a b w h j).1 + w (Fin.ofNat 8 j) 1) := rfl

/-- The activation: half of `y` times one plus the hyperbolic tangent of `0.797.. * (y + 0.0447.. * y^3)`. -/
def gelu (y : EReal) : EReal :=
  y * (Ideal.ofBits .f32 0x3F000000#32
    * (1 + Ideal.tanh (Ideal.ofBits .f32 0x3F4C422A#32 * (y + Ideal.ofBits .f32 0x3D372713#32 * (y * y * y)))))

/-- The activation with the cube multiplied in the other order. -/
theorem gelu_eq (y : EReal) : y * (Ideal.ofBits .f32 0x3F000000#32
    * (1 + Ideal.tanh (Ideal.ofBits .f32 0x3F4C422A#32 * (y + Ideal.ofBits .f32 0x3D372713#32 * (y * (y * y)))))) = gelu y := by
  unfold gelu
  rw [mul_comm y (y * y)]

/-- A sum over `m` blocks of `b` terms in which only block `i` does not vanish. -/
theorem sum_diag {m b : Nat} (i : Fin m) (f : Fin (m * b) → EReal)
    (h : ∀ (j : Fin m) (c : Fin b), j ≠ i → f (finProdFinEquiv (j, c)) = 0) :
    ∑ q, f q = ∑ c : Fin b, f (finProdFinEquiv (i, c)) := by
  rw [← Equiv.sum_comp finProdFinEquiv f, Fintype.sum_prod_type]
  exact Finset.sum_eq_single i (fun j _ hj => Finset.sum_eq_zero fun c _ => h j c hj) (by simp)

end Cert.Proof.S5Math
end
-- ==== Proof.Layer.lean ====
/-
  The pieces of a decoder layer, one token at a time, over the extended reals: the sigmoid, the RMS norm, the gated
  linear unit and the SwiGLU feed-forward, each a function of a row of numbers. No program is mentioned here: the
  kernels and the references are both shown to compute these.
-/
module

public import Idealize.ShloMosaic.Lib.Pointwise

@[expose] public section

noncomputable section

namespace Cert.Proof.Layer

open Idealize.ShloMosaic

/-- The logistic function, `1 / (1 + exp (-v))`. -/
def logi (v : EReal) : EReal := Ideal.div 1 (1 + Ideal.exp (-v))

/-- The product of a row `h` with a matrix `w`, at column `j`. -/
def dot {p n : Nat} (h : Fin p → EReal) (w : Fin p → Fin n → EReal) (j : Fin n) : EReal := ∑ k, h k * w k j

/-- The RMS norm of a row `x` of 1024 numbers with the gain `g`, at column `c`: `x c / sqrt (mean of squares + 1e-6) * g c`. -/
def rms (x g : Fin 1024 → EReal) (c : Fin 1024) : EReal :=
  x c * Ideal.rsqrt (Ideal.div (∑ k, x k * x k) (Ideal.ofBits .f32 0x44800000#32) + Ideal.ofBits .f32 0x358637BD#32) * g c

/-- The SwiGLU gate at hidden unit `j`: `silu (h · w1) * (h · w3)`. -/
def gate {n : Nat} (h : Fin 1024 → EReal) (w1 w3 : Fin 1024 → Fin n → EReal) (j : Fin n) : EReal :=
  dot h w1 j * logi (dot h w1 j) * dot h w3 j

/-- The feed-forward block with its residual: `x + gate (rms x) · w2`. -/
def ffn (x g : Fin 1024 → EReal) (w1 w3 : Fin 1024 → Fin 2816 → EReal) (w2 : Fin 2816 → Fin 1024 → EReal)
    (c : Fin 1024) : EReal :=
  x c + dot (gate (rms x g) w1 w3) w2 c

/-- The gated linear unit with its residual: `x + (z · wa) * logi (z · wb)`. -/
def glu (x z : Fin 1024 → EReal) (wa wb : Fin 1024 → Fin 1024 → EReal) (c : Fin 1024) : EReal :=
  x c + dot z wa c * logi (dot z wb c)

/-- A sum over the 2816 hidden units is the sum over the first 1408 and the sum over the last 1408. -/
theorem sum_halves (f : Fin 2816 → EReal) :
    ∑ j, f j = (∑ j : Fin 1408, f ⟨j.val, by omega⟩) + ∑ j : Fin 1408, f ⟨1408 + j.val, by omega⟩ :=
  Fin.sum_univ_add (a := 1408) (b := 1408) f

/-- The feed-forward block computed in two steps of 1408 hidden units, each added to the running total. -/
theorem ffn_two_steps (x g : Fin 1024 → EReal) (w1 w3 : Fin 1024 → Fin 2816 → EReal) (w2 : Fin 2816 → Fin 1024 → EReal)
    (c : Fin 1024) :
    x c + dot (gate (rms x g) (fun k (j : Fin 1408) => w1 k ⟨j.val, by omega⟩) (fun k j => w3 k ⟨j.val, by omega⟩))
          (fun j => w2 ⟨j.val, by omega⟩) c
        + dot (gate (rms x g) (fun k (j : Fin 1408) => w1 k ⟨1408 + j.val, by omega⟩) (fun k j => w3 k ⟨1408 + j.val, by omega⟩))
          (fun j => w2 ⟨1408 + j.val, by omega⟩) c
      = ffn x g w1 w3 w2 c := by
  rw [add_assoc]
  unfold ffn
  congr 1
  exact (sum_halves fun j => gate (rms x g) w1 w3 j * w2 j c).symm

end Cert.Proof.Layer
end
-- ==== Proof.S5Kernel.lean ====
/-
  The recurrence of the S5 layer, one grid point, read at an index: the state after the eight steps is the orbit of its
  coordinate, the scratch buffer then holds all the states, and the output is the activation of the output map.
-/
module

public import proofs.«01_k».proof.Proof.S5Block
public import proofs.«01_k».proof.Proof.S5Math
public import proofs.«01_k».proof.Proof.Layer

@[expose] public section

set_option maxRecDepth 16384

noncomputable section

namespace Cert.Proof.S5Kernel

open Idealize.ShloMosaic Idealize.ShloMosaic.TcCoe Idealize.SL.Sem Cert.S5Ideal Cert.S5Ideal.Gen
open Cert.Proof.Layer Cert.Proof.S5Math Cert.Proof.S5Block

section
variable (x0 : Vec Ideal S8x32x1024 .f32) (x1 : Vec Ideal S1x1024 .f32) (x2 : Vec Ideal S2x4096 .f32) (x3 : Vec Ideal S4x256x2048 .bf16)
  (x4 x5 : Vec Ideal S4x1024x256 .bf16) (x6 : Vec Ideal S1x1024 .f32) (x7 x8 : H)

/-- The normed input at row `r` of a block: step `r / 32` of sample `r % 32`. -/
theorem u_apply (r : Fin 256) (c : Fin 1024) :
    k0_pay2 x0 x1 (ix2 r c) = rms (fun k => x0 (ix3 ⟨r.val / 32, by omega⟩ ⟨r.val % 32, by omega⟩ k)) (fun k => x1 (ix2 0 k)) c := by
  pointwise [k0_pay2]
  rfl

/-- The input of the recurrence at row `r` and column `J`. -/
def inB (r : Fin 256) (J : Fin 8192) : EReal :=
  ∑ q : Fin 256, k0_pay2 x0 x1 (ix2 r ⟨J.val % 4096 / 1024 * 256 + q.val, by omega⟩)
    * x3 (ix3 ⟨J.val % 4096 / 1024, by omega⟩ q ⟨J.val / 4096 * 1024 + J.val % 1024, by omega⟩)

/-- A block of the input matrix at an index. -/
theorem xb_apply (k : Nat) (hk : k < 4) (h) (q : Fin 256) (s : Fin 2048) :
    xb ![k, 0, 0] h x3 (ix3 0 q s) = x3 (ix3 ⟨k, hk⟩ q s) :=
  View.ld_unit_apply_of x3 _ _ _ _ _ fun a => by
    match a with | ⟨0, _⟩ => rfl | ⟨1, _⟩ => exact (Nat.zero_add _).symm | ⟨2, _⟩ => exact (Nat.zero_add _).symm

/-- `inB` at column block `k` of half `h`, with the quotients and remainders carried out. -/
theorem inB_eq (r : Fin 256) (s : Nat) (hs : s < 1024) (k : Nat) (hk : k < 4) (h : Nat) (hh : h < 2) (ch : Fin 256 → Fin 1024)
    (hc : ∀ q, (ch q).val = k * 256 + q.val) (J : Fin 8192) (hJ : J.val = h * 4096 + k * 1024 + s)
    (col : Fin 2048) (hcol : col.val = h * 1024 + s) :
    ∑ q : Fin 256, k0_pay2 x0 x1 (ix2 r (ch q)) * x3 (ix3 ⟨k, hk⟩ q col) = inB x0 x1 x3 r J := by
  have e1 : J.val % 4096 / 1024 = k := by omega
  have e2 : J.val / 4096 = h := by omega
  have e3 : J.val % 1024 = s := by omega
  unfold inB
  refine Finset.sum_congr rfl fun q _ => ?_
  have f1 : ch q = ⟨J.val % 4096 / 1024 * 256 + q.val, by omega⟩ := Fin.ext ((hc q).trans (congrArg (· * 256 + q.val) e1.symm))
  have f2 : col = ⟨J.val / 4096 * 1024 + J.val % 1024, by omega⟩ := Fin.ext (hcol.trans (congrArg₂ (fun a b => a * 1024 + b) e2.symm e3.symm))
  have f3 : (⟨k, hk⟩ : Fin 4) = ⟨J.val % 4096 / 1024, by omega⟩ := Fin.ext e1.symm
  rw [f1, f2, f3]

/-- An index lies in a rectangle if each of its coordinates does. -/
theorem mem_unit2 (o z : Fin 2 → Nat) (inb) (r : Fin 256) (J : Fin 8192) (h0 : o 0 ≤ r.val ∧ r.val < o 0 + z 0)
    (h1 : o 1 ≤ J.val ∧ J.val < o 1 + z 1) : (ix2 r J : S256x8192.Idx) ∈ (Rect.unit (s := S256x8192) o z inb).set := by
  rw [Rect.mem_set_unit]
  intro a
  match a with
  | ⟨0, _⟩ => exact h0
  | ⟨1, _⟩ => exact h1

theorem init_piece (o : Nat) (ho : o + 1024 ≤ 8192) (hd : o % 1024 = 0) (inb) (w : FVec Ideal S256x1024 .f32)
    (hw : ∀ (r : Fin 256) (s : Fin 1024), w (ix2 r s) = inB x0 x1 x3 r ⟨o + s.val, by omega⟩) (x : S256x1024.Idx) :
    w x = (fun y : S256x8192.Idx => inB x0 x1 x3 (y 0) (y 1)) ((Rect.unit (s := S256x8192) ![0, o] ![256, 1024] inb).emb x) := by
  obtain ⟨r, s, rfl⟩ : ∃ (r : Fin 256) (s : Fin 1024), x = ix2 r s := ⟨x 0, x 1, eq_ix2 x⟩
  rw [hw]
  show _ = inB x0 x1 x3 _ _
  congr 1
  · exact Fin.ext ((Rect.idx_unit_val _ _ inb (ix2 r s) 0).trans (Nat.zero_add _)).symm
  · exact Fin.ext (Rect.idx_unit_val _ _ inb (ix2 r s) 1).symm

/-- What the scratch buffer holds when the recurrence begins. -/
theorem init_apply (r : Fin 256) (J : Fin 8192) : View.canon (init x0 x1 x3) (ix2 r J) = inB x0 x1 x3 r J := by
  refine View.canon_apply_of_pieces (Val := Elt Ideal) (e := .f32) (fun y : S256x8192.Idx => inB x0 x1 x3 (y 0) (y 1)) (init x0 x1 x3) ?_ (ix2 r J) ?_
  · intro p hp
    unfold init at hp
    simp only [List.mem_cons, List.not_mem_nil, or_false] at hp
    rcases hp with rfl | rfl | rfl | rfl | rfl | rfl | rfl | rfl
    · refine init_piece x0 x1 x3 7168 (by omega) rfl inb_S256x8192_S256x1024_0_7168 _ fun r s => ?_
      pointwise [k0_pay16, k0_pay14, k0_pay3]
      simp only [xb_apply x3 3 (by decide)]
      exact inB_eq x0 x1 x3 r s.val s.isLt 3 (by decide) 1 (by decide) _ (fun q => by simp) _ (by simp) _ (by simp)
    · refine init_piece x0 x1 x3 3072 (by omega) rfl inb_S256x8192_S256x1024_0_3072 _ fun r s => ?_
      pointwise [k0_pay15, k0_pay14, k0_pay3]
      simp only [xb_apply x3 3 (by decide)]
      exact inB_eq x0 x1 x3 r s.val s.isLt 3 (by decide) 0 (by decide) _ (fun q => by simp) _ (by simp) _ (by simp)
    · refine init_piece x0 x1 x3 6144 (by omega) rfl inb_S256x8192_S256x1024_0_6144 _ fun r s => ?_
      pointwise [k0_pay13, k0_pay11, k0_pay3]
      simp only [xb_apply x3 2 (by decide)]
      exact inB_eq x0 x1 x3 r s.val s.isLt 2 (by decide) 1 (by decide) _ (fun q => by simp) _ (by simp) _ (by simp)
    · refine init_piece x0 x1 x3 2048 (by omega) rfl inb_S256x8192_S256x1024_0_2048 _ fun r s => ?_
      pointwise [k0_pay12, k0_pay11, k0_pay3]
      simp only [xb_apply x3 2 (by decide)]
      exact inB_eq x0 x1 x3 r s.val s.isLt 2 (by decide) 0 (by decide) _ (fun q => by simp) _ (by simp) _ (by simp)
    · refine init_piece x0 x1 x3 5120 (by omega) rfl inb_S256x8192_S256x1024_0_5120 _ fun r s => ?_
      pointwise [k0_pay10, k0_pay7, k0_pay3]
      simp only [xb_apply x3 1 (by decide)]
      exact inB_eq x0 x1 x3 r s.val s.isLt 1 (by decide) 1 (by decide) _ (fun q => by simp) _ (by simp) _ (by simp)
    · refine init_piece x0 x1 x3 1024 (by omega) rfl inb_S256x8192_S256x1024_0_1024 _ fun r s => ?_
      pointwise [k0_pay9, k0_pay8, k0_pay7, k0_pay3]
      simp only [xb_apply x3 1 (by decide)]
      exact inB_eq x0 x1 x3 r s.val s.isLt 1 (by decide) 0 (by decide) _ (fun q => by simp) _ (by simp) _ (by simp)
    · refine init_piece x0 x1 x3 4096 (by omega) rfl inb_S256x8192_S256x1024_0_4096 _ fun r s => ?_
      pointwise [k0_pay6, k0_pay4, k0_pay3]
      simp only [xb_apply x3 0 (by decide)]
      exact inB_eq x0 x1 x3 r s.val s.isLt 0 (by decide) 1 (by decide) _ (fun q => by simp) _ (by simp) _ (by simp)
    · refine init_piece x0 x1 x3 0 (by omega) rfl inb_S256x8192_S256x1024_0_0 _ fun r s => ?_
      pointwise [k0_pay5, k0_pay4, k0_pay3]
      simp only [xb_apply x3 0 (by decide)]
      exact inB_eq x0 x1 x3 r s.val s.isLt 0 (by decide) 0 (by decide) _ (fun q => by simp) _ (by simp) _ (by simp)
  · have hJ := J.isLt
    have key : ∀ (o : Nat) (inb : ∀ a, (![0, o] : Fin 2 → Nat) a + (![256, 1024] : Fin 2 → Nat) a ≤ S256x8192.size a) (w), (⟨Rect.unit (s := S256x8192) ![0, o] ![256, 1024] inb, w⟩ : View.Piece (Elt Ideal) S256x8192 .f32) ∈ init x0 x1 x3 →
        o ≤ J.val → J.val < o + 1024 → ∃ p ∈ init x0 x1 x3, (ix2 r J : S256x8192.Idx) ∈ p.1.set := fun o inb w hm h1 h2 =>
      ⟨_, hm, mem_unit2 _ _ inb r J ⟨Nat.zero_le _, by simp⟩ ⟨h1, h2⟩⟩
    by_cases a1 : J.val < 1024
    · exact key 0 inb_S256x8192_S256x1024_0_0 _ (List.mem_cons_of_mem _ (List.mem_cons_of_mem _ (List.mem_cons_of_mem _ (List.mem_cons_of_mem _ (List.mem_cons_of_mem _ (List.mem_cons_of_mem _ (List.mem_cons_of_mem _ List.mem_cons_self))))))) (by omega) (by omega)
    by_cases a2 : J.val < 2048
    · exact key 1024 inb_S256x8192_S256x1024_0_1024 _ (List.mem_cons_of_mem _ (List.mem_cons_of_mem _ (List.mem_cons_of_mem _ (List.mem_cons_of_mem _ (List.mem_cons_of_mem _ List.mem_cons_self))))) (by omega) (by omega)
    by_cases a3 : J.val < 3072
    · exact key 2048 inb_S256x8192_S256x1024_0_2048 _ (List.mem_cons_of_mem _ (List.mem_cons_of_mem _ (List.mem_cons_of_mem _ List.mem_cons_self))) (by omega) (by omega)
    by_cases a4 : J.val < 4096
    · exact key 3072 inb_S256x8192_S256x1024_0_3072 _ (List.mem_cons_of_mem _ List.mem_cons_self) (by omega) (by omega)
    by_cases a5 : J.val < 5120
    · exact key 4096 inb_S256x8192_S256x1024_0_4096 _ (List.mem_cons_of_mem _ (List.mem_cons_of_mem _ (List.mem_cons_of_mem _ (List.mem_cons_of_mem _ (List.mem_cons_of_mem _ (List.mem_cons_of_mem _ List.mem_cons_self)))))) (by omega) (by omega)
    by_cases a6 : J.val < 6144
    · exact key 5120 inb_S256x8192_S256x1024_0_5120 _ (List.mem_cons_of_mem _ (List.mem_cons_of_mem _ (List.mem_cons_of_mem _ (List.mem_cons_of_mem _ List.mem_cons_self)))) (by omega) (by omega)
    by_cases a7 : J.val < 7168
    · exact key 6144 inb_S256x8192_S256x1024_0_6144 _ (List.mem_cons_of_mem _ (List.mem_cons_of_mem _ List.mem_cons_self)) (by omega) (by omega)
    · exact key 7168 inb_S256x8192_S256x1024_0_7168 _ List.mem_cons_self (by omega) (by omega)

/-- One coordinate of the state of a sample after `j` steps, from the block's transition, inputs and initial states. -/
def orb (a b : FVec Ideal S1x4096 .f32) (G : Fin 256 → Fin 8192 → EReal) (x7 x8 : H) (n : Fin 32) (c : Fin 4096) (j : Nat) : EReal × EReal :=
  orbit (a (ix2 0 c)) (b (ix2 0 c)) (fun t h => G ⟨t.val * 32 + n.val, by omega⟩ ⟨h.val * 4096 + c.val, by omega⟩)
    (x7 (ix2 n c), x8 (ix2 n c)) j

/-- What holds after `j` steps: the state is the orbit's, and in the scratch buffer the rows of the steps done hold the states and
the others still the inputs. -/
structure Inv (a b : FVec Ideal S1x4096 .f32) (G : Fin 256 → Fin 8192 → EReal) (x7 x8 : H) (j : Nat) (s : St) : Prop where
  re : ∀ n c, s.re (ix2 n c) = (orb a b G x7 x8 n c j).1
  im : ∀ n c, s.im (ix2 n c) = (orb a b G x7 x8 n c j).2
  wr : ∀ (t : Fin 8) (n : Fin 32) (c : Fin 4096), View.canon s.ws (ix2 ⟨t.val * 32 + n.val, by omega⟩ ⟨0 * 4096 + c.val, by omega⟩)
    = if t.val < j then (orb a b G x7 x8 n c (t.val + 1)).1 else G ⟨t.val * 32 + n.val, by omega⟩ ⟨0 * 4096 + c.val, by omega⟩
  wi : ∀ (t : Fin 8) (n : Fin 32) (c : Fin 4096), View.canon s.ws (ix2 ⟨t.val * 32 + n.val, by omega⟩ ⟨1 * 4096 + c.val, by omega⟩)
    = if t.val < j then (orb a b G x7 x8 n c (t.val + 1)).2 else G ⟨t.val * 32 + n.val, by omega⟩ ⟨1 * 4096 + c.val, by omega⟩

theorem stepRe_apply (a b : FVec Ideal S1x4096 .f32) (hr hi u : H) (n : Fin 32) (c : Fin 4096) :
    stepRe a b hr hi u (ix2 n c) = a (ix2 0 c) * hr (ix2 n c) - b (ix2 0 c) * hi (ix2 n c) + u (ix2 n c) := by
  pointwise [stepRe]

theorem stepIm_apply (a b : FVec Ideal S1x4096 .f32) (hr hi u : H) (n : Fin 32) (c : Fin 4096) :
    stepIm a b hr hi u (ix2 n c) = a (ix2 0 c) * hi (ix2 n c) + b (ix2 0 c) * hr (ix2 n c) + u (ix2 n c) := by
  pointwise [stepIm]

/-- The index of the scratch buffer at a local index of a rectangle. -/
theorem idx_unit2 (o z : Fin 2 → Nat) (inb) (n : Fin (z 0)) (c : Fin (z 1)) (r : Fin 256) (J : Fin 8192)
    (x : (Rect.unit (s := S256x8192) o z inb).shape.Idx) (hr : r.val = o 0 + (x 0).val) (hJ : J.val = o 1 + (x 1).val) :
    (Rect.unit (s := S256x8192) o z inb).idx x = ix2 r J := by
  funext a
  match a with
  | ⟨0, _⟩ => exact Fin.ext ((Rect.idx_unit_val (s := S256x8192) o z inb x (0 : Fin 2)).trans hr.symm)
  | ⟨1, _⟩ => exact Fin.ext ((Rect.idx_unit_val (s := S256x8192) o z inb x (1 : Fin 2)).trans hJ.symm)

theorem not_mem_unit2 (o z : Fin 2 → Nat) (inb) (r : Fin 256) (J : Fin 8192)
    (h : ¬ (o 0 ≤ r.val ∧ r.val < o 0 + z 0) ∨ ¬ (o 1 ≤ J.val ∧ J.val < o 1 + z 1)) :
    (ix2 r J : S256x8192.Idx) ∉ (Rect.unit (s := S256x8192) o z inb).set := by
  intro hm
  rw [Rect.mem_set_unit] at hm
  exact h.elim (fun h => h (hm 0)) (fun h => h (hm 1))

/-- Off the last write the scratch buffer is what it was. -/
theorem canon_off (o z : Fin 2 → Nat) (inb) (w) (L : Writes) (r : Fin 256) (J : Fin 8192)
    (h : ¬ (o 0 ≤ r.val ∧ r.val < o 0 + z 0) ∨ ¬ (o 1 ≤ J.val ∧ J.val < o 1 + z 1)) :
    View.canon ((⟨Rect.unit (s := S256x8192) o z inb, w⟩ : View.Piece (Elt Ideal) S256x8192 .f32) :: L) (ix2 r J) = View.canon L (ix2 r J) :=
  View.canon_cons_of_not_mem ⟨Rect.unit (s := S256x8192) o z inb, w⟩ L (not_mem_unit2 o z inb r J h)

/-- On the last write the scratch buffer is the value written. -/
theorem canon_on (o : Fin 2 → Nat) (inb : ∀ a, o a + (![32, 4096] : Fin 2 → Nat) a ≤ S256x8192.size a) (w : H) (L : Writes)
    (n : Fin 32) (c : Fin 4096) (r : Fin 256) (J : Fin 8192) (hr : r.val = o 0 + n.val) (hJ : J.val = o 1 + c.val) :
    View.canon ((⟨Rect.unit (s := S256x8192) o ![32, 4096] inb, w⟩ : View.Piece (Elt Ideal) S256x8192 .f32) :: L) (ix2 r J) = w (ix2 n c) := by
  rw [← idx_unit2 o ![32, 4096] inb n c r J (ix2 n c) hr hJ]
  exact View.canon_cons_emb (Val := Elt Ideal) (e := .f32) (Rect.unit (s := S256x8192) o ![32, 4096] inb) w L (ix2 n c)

theorem inv_next (a b : FVec Ideal S1x4096 .f32) (G : Fin 256 → Fin 8192 → EReal) (x7 x8 : H) (j : Fin 8) (s : St) (o q : Fin 2 → Nat)
    (ho : ∀ a, o a + (![32, 4096] : Fin 2 → Nat) a ≤ S256x8192.size a) (hq : ∀ a, q a + (![32, 4096] : Fin 2 → Nat) a ≤ S256x8192.size a)
    (o0 : o 0 = j.val * 32) (o1 : o 1 = 0) (q0 : q 0 = j.val * 32) (q1 : q 1 = 4096) (h : Inv a b G x7 x8 j.val s) :
    Inv a b G x7 x8 (j.val + 1) (next a b o q ho hq s) := by
  have hj : Fin.ofNat 8 j.val = j := Fin.ext (Nat.mod_eq_of_lt j.isLt)
  have hre : ∀ n c, stepRe a b s.re s.im (rd o ho s.ws) (ix2 n c) = (orb a b G x7 x8 n c (j.val + 1)).1 := by
    intro n c
    have e : rd o ho s.ws (ix2 n c) = G ⟨j.val * 32 + n.val, by omega⟩ ⟨0 * 4096 + c.val, by omega⟩ := by
      have := h.wr j n c
      rw [if_neg (Nat.lt_irrefl _)] at this
      rw [← this, rd_eq]
      exact congrArg (View.canon s.ws) (idx_unit2 o ![32, 4096] ho n c _ _ (ix2 n c) (by rw [o0]; rfl) (by rw [o1]; show 0 * 4096 + c.val = 0 + c.val; omega))
    rw [stepRe_apply, h.re, h.im, e]
    unfold orb
    rw [orbit_succ]
    simp only [hj]
    rfl
  have him : ∀ n c, stepIm a b s.re s.im (rd q hq s.ws) (ix2 n c) = (orb a b G x7 x8 n c (j.val + 1)).2 := by
    intro n c
    have e : rd q hq s.ws (ix2 n c) = G ⟨j.val * 32 + n.val, by omega⟩ ⟨1 * 4096 + c.val, by omega⟩ := by
      have := h.wi j n c
      rw [if_neg (Nat.lt_irrefl _)] at this
      rw [← this, rd_eq]
      exact congrArg (View.canon s.ws) (idx_unit2 q ![32, 4096] hq n c _ _ (ix2 n c) (by rw [q0]; rfl) (by rw [q1]; rfl))
    rw [stepIm_apply, h.re, h.im, e]
    unfold orb
    rw [orbit_succ]
    simp only [hj]
    rfl
  refine ⟨hre, him, fun t n c => ?_, fun t n c => ?_⟩
  · show View.canon (⟨Rect.unit q ![32, 4096] hq, stepIm a b s.re s.im (rd q hq s.ws)⟩
      :: ⟨Rect.unit o ![32, 4096] ho, stepRe a b s.re s.im (rd o ho s.ws)⟩ :: s.ws) _ = _
    rw [canon_off _ _ _ _ _ _ _ (Or.inr (by rw [q1]; show ¬ (4096 ≤ 0 * 4096 + c.val ∧ _); omega))]
    by_cases ht : t = j
    · subst ht
      rw [if_pos (Nat.lt_succ_self _), ← hre]
      exact canon_on _ _ _ _ n c _ _ (by rw [o0]) (by rw [o1])
    · have ht' : t.val ≠ j.val := fun e => ht (Fin.ext e)
      rw [canon_off _ _ _ _ _ _ _ (Or.inl (by rw [o0]; simp; omega)), h.wr]
      by_cases hl : t.val < j.val
      · rw [if_pos hl, if_pos (by omega)]
      · rw [if_neg hl, if_neg (by omega)]
  · show View.canon (⟨Rect.unit q ![32, 4096] hq, stepIm a b s.re s.im (rd q hq s.ws)⟩
      :: ⟨Rect.unit o ![32, 4096] ho, stepRe a b s.re s.im (rd o ho s.ws)⟩ :: s.ws) _ = _
    by_cases ht : t = j
    · subst ht
      rw [if_pos (Nat.lt_succ_self _), ← him]
      exact canon_on _ _ _ _ n c _ _ (by rw [q0]) (by rw [q1])
    · have ht' : t.val ≠ j.val := fun e => ht (Fin.ext e)
      rw [canon_off _ _ _ _ _ _ _ (Or.inl (by rw [q0]; simp; omega)), canon_off _ _ _ _ _ _ _ (Or.inl (by rw [o0]; simp; omega)), h.wi]
      by_cases hl : t.val < j.val
      · rw [if_pos hl, if_pos (by omega)]
      · rw [if_neg hl, if_neg (by omega)]

/-- After the eight steps from the filled scratch buffer. -/
theorem run_inv (a b : FVec Ideal S1x4096 .f32) : Inv a b (inB x0 x1 x3) x7 x8 8 (run a b ⟨x7, x8, init x0 x1 x3⟩) := by
  have h0 : Inv a b (inB x0 x1 x3) x7 x8 0 ⟨x7, x8, init x0 x1 x3⟩ :=
    ⟨fun _ _ => rfl, fun _ _ => rfl, fun t n c => by rw [if_neg (Nat.not_lt_zero _)]; exact init_apply x0 x1 x3 _ _,
      fun t n c => by rw [if_neg (Nat.not_lt_zero _)]; exact init_apply x0 x1 x3 _ _⟩
  unfold run
  exact inv_next a b _ x7 x8 7 _ _ _ _ _ rfl rfl rfl rfl (inv_next a b _ x7 x8 6 _ _ _ _ _ rfl rfl rfl rfl
    (inv_next a b _ x7 x8 5 _ _ _ _ _ rfl rfl rfl rfl (inv_next a b _ x7 x8 4 _ _ _ _ _ rfl rfl rfl rfl
    (inv_next a b _ x7 x8 3 _ _ _ _ _ rfl rfl rfl rfl (inv_next a b _ x7 x8 2 _ _ _ _ _ rfl rfl rfl rfl
    (inv_next a b _ x7 x8 1 _ _ _ _ _ rfl rfl rfl rfl (inv_next a b _ x7 x8 0 _ _ _ _ _ rfl rfl rfl rfl h0)))))))

/-- The output of sample `n` at step `t`, channel `s` of the channel block `k`. -/
def zK (a b : FVec Ideal S1x4096 .f32) (G : Fin 256 → Fin 8192 → EReal) (k : Nat) (hk : k < 4) (t : Fin 8) (n : Fin 32) (s : Fin 256) : EReal :=
  gelu (∑ p : Fin 1024, (orb a b G x7 x8 n ⟨k * 1024 + p.val, by omega⟩ (t.val + 1)).1 * x4 (ix3 ⟨k, hk⟩ p s)
    - ∑ p : Fin 1024, (orb a b G x7 x8 n ⟨k * 1024 + p.val, by omega⟩ (t.val + 1)).2 * x5 (ix3 ⟨k, hk⟩ p s)
    + x6 (ix2 0 ⟨k * 256 + s.val, by omega⟩) * k0_pay2 x0 x1 (ix2 ⟨t.val * 32 + n.val, by omega⟩ ⟨k * 256 + s.val, by omega⟩))
end

section
variable {a b : FVec Ideal S1x4096 .f32} {G : Fin 256 → Fin 8192 → EReal} {x7 x8 : H} {s : St}

/-- A column block of the scratch buffer after the eight steps: the real parts. -/
theorem rdc_re (h : Inv a b G x7 x8 8 s) (k : Nat) (hk : k < 4) (hb) (t : Fin 8) (n : Fin 32) (p : Fin 1024) (hr : t.val * 32 + n.val < 256) :
    rdc ![0, k * 1024] hb s.ws (ix2 ⟨t.val * 32 + n.val, hr⟩ p) = (orb a b G x7 x8 n ⟨k * 1024 + p.val, by omega⟩ (t.val + 1)).1 := by
  have := h.wr t n ⟨k * 1024 + p.val, by omega⟩
  rw [if_pos t.isLt] at this
  rw [← this, rdc_eq]
  exact congrArg (View.canon s.ws) (idx_unit2 _ ![256, 1024] hb ⟨_, hr⟩ p _ _ (ix2 ⟨_, hr⟩ p) (Nat.zero_add _).symm (by show 0 * 4096 + (k * 1024 + p.val) = k * 1024 + p.val; omega))

/-- A column block of the scratch buffer after the eight steps: the imaginary parts. -/
theorem rdc_im (h : Inv a b G x7 x8 8 s) (k : Nat) (hk : k < 4) (hb) (t : Fin 8) (n : Fin 32) (p : Fin 1024) (hr : t.val * 32 + n.val < 256) :
    rdc ![0, 4096 + k * 1024] hb s.ws (ix2 ⟨t.val * 32 + n.val, hr⟩ p) = (orb a b G x7 x8 n ⟨k * 1024 + p.val, by omega⟩ (t.val + 1)).2 := by
  have := h.wi t n ⟨k * 1024 + p.val, by omega⟩
  rw [if_pos t.isLt] at this
  rw [← this, rdc_eq]
  exact congrArg (View.canon s.ws) (idx_unit2 _ ![256, 1024] hb ⟨_, hr⟩ p _ _ (ix2 ⟨_, hr⟩ p) (Nat.zero_add _).symm (by show 1 * 4096 + (k * 1024 + p.val) = 4096 + k * 1024 + p.val; omega))

theorem ld4_apply (x : Vec Ideal S4x1024x256 .bf16) (k : Nat) (hk : k < 4) (inb) (p : Fin 1024) (c : Fin 256) :
    View.ld x (Rect.unit (s := S4x1024x256) ![k, 0, 0] ![1, 1024, 256] inb) (ix3 0 p c) = x (ix3 ⟨k, hk⟩ p c) :=
  View.ld_unit_apply_of x _ _ _ _ _ fun a => by
    match a with | ⟨0, _⟩ => rfl | ⟨1, _⟩ => exact (Nat.zero_add _).symm | ⟨2, _⟩ => exact (Nat.zero_add _).symm

theorem ld6_apply (x : Vec Ideal S1x1024 .f32) (k : Nat) (hk : k < 4) (inb) (c : Fin 256) :
    View.ld x (Rect.unit (s := S1x1024) ![0, k * 256] ![1, 256] inb) (ix2 0 c) = x (ix2 0 ⟨k * 256 + c.val, by omega⟩) :=
  View.ld_unit_apply_of x _ _ _ _ _ fun a => by
    match a with | ⟨0, _⟩ => rfl | ⟨1, _⟩ => rfl

theorem mem_unit3 (o z : Fin 3 → Nat) (inb) (t : Fin 8) (n : Fin 32) (c : Fin 1024) (h0 : o 0 ≤ t.val ∧ t.val < o 0 + z 0)
    (h1 : o 1 ≤ n.val ∧ n.val < o 1 + z 1) (h2 : o 2 ≤ c.val ∧ c.val < o 2 + z 2) :
    (ix3 t n c : S8x32x1024.Idx) ∈ (Rect.unit (s := S8x32x1024) o z inb).set := by
  rw [Rect.mem_set_unit]
  intro a
  match a with
  | ⟨0, _⟩ => exact h0
  | ⟨1, _⟩ => exact h1
  | ⟨2, _⟩ => exact h2

theorem zpiece (Z : (k : Nat) → k < 4 → Fin 8 → Fin 32 → Fin 256 → EReal) (k : Nat) (hk : k < 4) (inb) (w : FVec Ideal S8x32x256 .bf16)
    (hw : ∀ (t : Fin 8) (n : Fin 32) (c : Fin 256), w (ix3 t n c) = Z k hk t n c) (x : S8x32x256.Idx) :
    w x = (fun y : S8x32x1024.Idx => Z ((y 2).val / 256) (by have := (y 2).isLt; change _ < 1024 at this; omega) (y 0) (y 1) ⟨(y 2).val % 256, by omega⟩)
      ((Rect.unit (s := S8x32x1024) ![0, 0, k * 256] ![8, 32, 256] inb).emb x) := by
  obtain ⟨t, n, c, rfl⟩ : ∃ (t : Fin 8) (n : Fin 32) (c : Fin 256), x = ix3 t n c := ⟨x 0, x 1, x 2, eq_ix3 x⟩
  rw [hw]
  have e0 := Rect.idx_unit_val _ _ inb (ix3 t n c) 0
  have e1 := Rect.idx_unit_val _ _ inb (ix3 t n c) 1
  have e2 := Rect.idx_unit_val _ _ inb (ix3 t n c) 2
  have e2' : (((Rect.unit (s := S8x32x1024) ![0, 0, k * 256] ![8, 32, 256] inb).emb (ix3 t n c)) 2).val = k * 256 + c.val := e2
  have hc := c.isLt
  have g1 : t = ((Rect.unit (s := S8x32x1024) ![0, 0, k * 256] ![8, 32, 256] inb).emb (ix3 t n c)) 0 := Fin.ext (e0.trans (Nat.zero_add _)).symm
  have g2 : n = ((Rect.unit (s := S8x32x1024) ![0, 0, k * 256] ![8, 32, 256] inb).emb (ix3 t n c)) 1 := Fin.ext (e1.trans (Nat.zero_add _)).symm
  show _ = Z _ _ _ _ _
  congr 1
  · omega
  · exact Fin.ext (by show c.val = _ % 256; omega)
end

section
variable (x0 : Vec Ideal S8x32x1024 .f32) (x1 : Vec Ideal S1x1024 .f32) (x2 : Vec Ideal S2x4096 .f32) (x3 : Vec Ideal S4x256x2048 .bf16)
  (x4 x5 : Vec Ideal S4x1024x256 .bf16) (x6 : Vec Ideal S1x1024 .f32) (x7 x8 : H)

/-- The output block. -/
theorem zout_apply (a b : FVec Ideal S1x4096 .f32) (s : St) (hs : Inv a b (inB x0 x1 x3) x7 x8 8 s) (t : Fin 8) (n : Fin 32) (c : Fin 1024) :
    View.canon (zout x0 x1 x4 x5 x6 s) (ix3 t n c)
      = zK x0 x1 x4 x5 x6 x7 x8 a b (inB x0 x1 x3) (c.val / 256) (by omega) t n ⟨c.val % 256, by omega⟩ := by
  refine View.canon_apply_of_pieces (Val := Elt Ideal) (e := .bf16) (fun y : S8x32x1024.Idx => zK x0 x1 x4 x5 x6 x7 x8 a b (inB x0 x1 x3)
    ((y 2).val / 256) (by have := (y 2).isLt; change _ < 1024 at this; omega) (y 0) (y 1) ⟨(y 2).val % 256, by omega⟩) (zout x0 x1 x4 x5 x6 s) ?_ (ix3 t n c) ?_
  · intro p hp
    unfold zout at hp
    simp only [List.mem_cons, List.not_mem_nil, or_false] at hp
    rcases hp with rfl | rfl | rfl | rfl
    · refine zpiece (zK x0 x1 x4 x5 x6 x7 x8 a b (inB x0 x1 x3)) 3 (by decide) inb_S8x32x1024_S8x32x256_0_0_768 _ fun t n c => ?_
      pointwise [k0_pay1, k0_pay82]
      refine (gelu_eq _).trans ?_
      simp only [rdc_re hs 3 (by decide), rdc_im hs 3 (by decide), ld4_apply _ 3 (by decide), ld6_apply _ 3 (by decide), zK, Nat.reduceMul, Nat.zero_mul, Nat.zero_add]
      rfl
    · refine zpiece (zK x0 x1 x4 x5 x6 x7 x8 a b (inB x0 x1 x3)) 2 (by decide) inb_S8x32x1024_S8x32x256_0_0_512 _ fun t n c => ?_
      pointwise [k0_pay81, k0_pay78, k0_pay79, k0_pay80]
      refine (gelu_eq _).trans ?_
      simp only [rdc_re hs 2 (by decide), rdc_im hs 2 (by decide), ld4_apply _ 2 (by decide), ld6_apply _ 2 (by decide), zK, Nat.reduceMul, Nat.zero_mul, Nat.zero_add]
      rfl
    · refine zpiece (zK x0 x1 x4 x5 x6 x7 x8 a b (inB x0 x1 x3)) 1 (by decide) inb_S8x32x1024_S8x32x256_0_0_256 _ fun t n c => ?_
      pointwise [k0_pay77, k0_pay75, k0_pay76]
      refine (gelu_eq _).trans ?_
      simp only [rdc_re hs 1 (by decide), rdc_im hs 1 (by decide), ld4_apply _ 1 (by decide), ld6_apply _ 1 (by decide), zK, Nat.reduceMul, Nat.zero_mul, Nat.zero_add]
      rfl
    · refine zpiece (zK x0 x1 x4 x5 x6 x7 x8 a b (inB x0 x1 x3)) 0 (by decide) inb_S8x32x1024_S8x32x256_0_0_0 _ fun t n c => ?_
      pointwise [k0_pay74, k0_pay72, k0_pay73]
      refine (gelu_eq _).trans ?_
      simp only [rdc_re hs 0 (by decide), rdc_im hs 0 (by decide), ld4_apply _ 0 (by decide), ld6_apply _ 0 (by decide), zK, Nat.reduceMul, Nat.zero_mul, Nat.zero_add]
      rfl
  · have hc := c.isLt
    have key : ∀ (o : Nat) (inb : ∀ a, (![0, 0, o] : Fin 3 → Nat) a + (![8, 32, 256] : Fin 3 → Nat) a ≤ S8x32x1024.size a) (w),
        (⟨Rect.unit (s := S8x32x1024) ![0, 0, o] ![8, 32, 256] inb, w⟩ : View.Piece (Elt Ideal) S8x32x1024 .bf16) ∈ zout x0 x1 x4 x5 x6 s →
        o ≤ c.val → c.val < o + 256 → ∃ p ∈ zout x0 x1 x4 x5 x6 s, (ix3 t n c : S8x32x1024.Idx) ∈ p.1.set := fun o inb w hm h1 h2 =>
      ⟨_, hm, mem_unit3 _ _ inb t n c ⟨Nat.zero_le _, by simp⟩ ⟨Nat.zero_le _, by simp⟩ ⟨h1, h2⟩⟩
    by_cases a1 : c.val < 256
    · exact key 0 inb_S8x32x1024_S8x32x256_0_0_0 _ (List.mem_cons_of_mem _ (List.mem_cons_of_mem _ (List.mem_cons_of_mem _ List.mem_cons_self))) (by omega) (by omega)
    by_cases a2 : c.val < 512
    · exact key 256 inb_S8x32x1024_S8x32x256_0_0_256 _ (List.mem_cons_of_mem _ (List.mem_cons_of_mem _ List.mem_cons_self)) (by omega) (by omega)
    by_cases a3 : c.val < 768
    · exact key 512 inb_S8x32x1024_S8x32x256_0_0_512 _ (List.mem_cons_of_mem _ List.mem_cons_self) (by omega) (by omega)
    · exact key 768 inb_S8x32x1024_S8x32x256_0_0_768 _ List.mem_cons_self (by omega) (by omega)

end

end Cert.Proof.S5Kernel
end
-- ==== Proof.S5Ref.lean ====
/-
  The reference of the S5 layer read at an index: its states are the recurrence of one coordinate, its output the activation
  of the output map of the states.
-/
module

public import proofs.«01_k».proof.Proof.Gen.S5RefIdeal.Read
public import proofs.«01_k».proof.Proof.Layer
public import proofs.«01_k».proof.Proof.S5Math
public import Idealize.ShloMosaic.Lib.Pipeline.ValueKit

@[expose] public section

set_option maxRecDepth 16384

noncomputable section

namespace Cert.Proof.S5Ref

open Idealize.ShloMosaic Idealize.ShloMosaic.TcCoe Idealize.SL.Sem
open Cert.Proof.Layer Cert.Proof.S5Math

section
open Cert.S5RefIdeal Cert.S5RefIdeal.Gen Cert.S5RefIdeal.Read
variable (x0 : (⟨S128x8x1024, .f32⟩ : BufTy).Contents (Elt Ideal)) (x1 : (⟨S1024, .f32⟩ : BufTy).Contents (Elt Ideal)) (x2 x3 : (⟨S64x64, .f32⟩ : BufTy).Contents (Elt Ideal)) (x4 x5 : (⟨S64x64x16, .f32⟩ : BufTy).Contents (Elt Ideal)) (x6 x7 : (⟨S64x16x64, .f32⟩ : BufTy).Contents (Elt Ideal)) (x8 : (⟨S1024, .f32⟩ : BufTy).Contents (Elt Ideal)) (x9 x10 : (⟨S128x64x64, .f32⟩ : BufTy).Contents (Elt Ideal))

/-- The reference's normed input. -/
theorem ref_u (n : Fin 128) (t : Fin 8) (c : Fin 1024) : val_main_v12 x0 x1 (ix3 n t c) = rms (fun k => x0 (ix3 n t k)) (fun k => x1 (ix1 k)) c := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl
/-- The normed input of sample `n` at step `t`. -/
def un (n : Fin 128) (t : Fin 8) (c : Fin 1024) : EReal := rms (fun k => x0 (ix3 n t k)) (fun k => x1 (ix1 k)) c

/-- The input of the recurrence at group `g` and coordinate `p`: the real part (`h = 0`) and the imaginary one. -/
def inp (n : Fin 128) (g p : Fin 64) (t : Fin 8) (h : Fin 2) : EReal :=
  ∑ k : Fin 16, (if h = 0 then x4 else x5) (ix3 g p k) * un x0 x1 n t ⟨g.val * 16 + k.val, by omega⟩

/-- The state of sample `n` at group `g`, coordinate `p`, after `j` steps. -/
def state (n : Fin 128) (g p : Fin 64) (j : Nat) : EReal × EReal :=
  orbit (x2 (ix2 g p)) (x3 (ix2 g p)) (inp x0 x1 x4 x5 n g p) (x9 (ix3 n g p), x10 (ix3 n g p)) j

/-- The output map of sample `n` at step `t`, channel `c`: the real part of `c * state`, and the input passed through. -/
def lin (n : Fin 128) (t : Fin 8) (c : Fin 1024) : EReal :=
  ∑ p, x6 (ix3 ⟨c.val / 16, by omega⟩ ⟨c.val % 16, by omega⟩ p) * (state x0 x1 x2 x3 x4 x5 x9 x10 n ⟨c.val / 16, by omega⟩ p (t.val + 1)).1
    - ∑ p, x7 (ix3 ⟨c.val / 16, by omega⟩ ⟨c.val % 16, by omega⟩ p) * (state x0 x1 x2 x3 x4 x5 x9 x10 n ⟨c.val / 16, by omega⟩ p (t.val + 1)).2
    + x8 (ix1 c) * un x0 x1 n t c

/-- The reference's inputs of the recurrence. -/
theorem ref_inp (n : Fin 128) (t : Fin 8) (g p : Fin 64) :
    val_main_v15 x0 x1 x4 (ix4 n t g p) = inp x0 x1 x4 x5 n g p t 0 ∧ val_main_v17 x0 x1 x5 (ix4 n t g p) = inp x0 x1 x4 x5 n g p t 1 := by
  constructor
  · pointwise [val_main_v15, val_main_v14, val_main_v13]
    simp only [ref_u]
    rfl
  · pointwise [val_main_v17, val_main_v16, val_main_v13]
    simp only [ref_u]
    rfl

/-- The reference's last state is the state after eight steps. -/
theorem ref_state (n : Fin 128) (c : Fin 4096) :
    val_main_v388 x0 x1 x2 x3 x4 x5 x9 x10 (ix2 n c) = (state x0 x1 x2 x3 x4 x5 x9 x10 n ⟨c.val / 64, by omega⟩ ⟨c.val % 64, by omega⟩ 8).1
      ∧ val_main_v389 x0 x1 x2 x3 x4 x5 x9 x10 (ix2 n c) = (state x0 x1 x2 x3 x4 x5 x9 x10 n ⟨c.val / 64, by omega⟩ ⟨c.val % 64, by omega⟩ 8).2 := by
  constructor <;>
  · pointwise [val_main_v388, val_main_v389,
    val_main_v18, val_main_v19, val_main_v20, val_main_v21, val_main_v22, val_main_v23, val_main_v24, val_main_v25, val_main_v26,
    val_main_v27, val_main_v28, val_main_v29, val_main_v30, val_main_v31, val_main_v32, val_main_v33, val_main_v34, val_main_v35,
    val_main_v36, val_main_v37, val_main_v63, val_main_v64, val_main_v65, val_main_v66, val_main_v67, val_main_v68, val_main_v69,
    val_main_v70, val_main_v71, val_main_v72, val_main_v73, val_main_v74, val_main_v75, val_main_v76, val_main_v77, val_main_v78,
    val_main_v79, val_main_v80, val_main_v81, val_main_v82, val_main_v108, val_main_v109, val_main_v110, val_main_v111, val_main_v112,
    val_main_v113, val_main_v114, val_main_v115, val_main_v116, val_main_v117, val_main_v118, val_main_v119, val_main_v120, val_main_v121,
    val_main_v122, val_main_v123, val_main_v124, val_main_v125, val_main_v126, val_main_v127, val_main_v153, val_main_v154, val_main_v155,
    val_main_v156, val_main_v157, val_main_v158, val_main_v159, val_main_v160, val_main_v161, val_main_v162, val_main_v163, val_main_v164,
    val_main_v165, val_main_v166, val_main_v167, val_main_v168, val_main_v169, val_main_v170, val_main_v171, val_main_v172, val_main_v198,
    val_main_v199, val_main_v200, val_main_v201, val_main_v202, val_main_v203, val_main_v204, val_main_v205, val_main_v206, val_main_v207,
    val_main_v208, val_main_v209, val_main_v210, val_main_v211, val_main_v212, val_main_v213, val_main_v214, val_main_v215, val_main_v216,
    val_main_v217, val_main_v243, val_main_v244, val_main_v245, val_main_v246, val_main_v247, val_main_v248, val_main_v249, val_main_v250,
    val_main_v251, val_main_v252, val_main_v253, val_main_v254, val_main_v255, val_main_v256, val_main_v257, val_main_v258, val_main_v259,
    val_main_v260, val_main_v261, val_main_v262, val_main_v288, val_main_v289, val_main_v290, val_main_v291, val_main_v292, val_main_v293,
    val_main_v294, val_main_v295, val_main_v296, val_main_v297, val_main_v298, val_main_v299, val_main_v300, val_main_v301, val_main_v302,
    val_main_v303, val_main_v304, val_main_v305, val_main_v306, val_main_v307, val_main_v333, val_main_v334, val_main_v335, val_main_v336,
    val_main_v337, val_main_v338, val_main_v339, val_main_v340, val_main_v341, val_main_v342, val_main_v343, val_main_v344, val_main_v345,
    val_main_v346, val_main_v347, val_main_v348, val_main_v349, val_main_v350, val_main_v351, val_main_v352]
    simp only [(ref_inp x0 x1 x4 x5 _ _ _ _).1, (ref_inp x0 x1 x4 x5 _ _ _ _).2, state, orbit, Fin.reduceOfNat, Fin.isValue]

/-- The reference's output map, step by step. -/
theorem ref_lin (n : Fin 128) (c : Fin 1024) :
    val_main_v49 x0 x1 x2 x3 x4 x5 x6 x7 x8 x9 x10 (ix2 n c) = lin x0 x1 x2 x3 x4 x5 x6 x7 x8 x9 x10 n 0 c
      ∧ val_main_v94 x0 x1 x2 x3 x4 x5 x6 x7 x8 x9 x10 (ix2 n c) = lin x0 x1 x2 x3 x4 x5 x6 x7 x8 x9 x10 n 1 c
      ∧ val_main_v139 x0 x1 x2 x3 x4 x5 x6 x7 x8 x9 x10 (ix2 n c) = lin x0 x1 x2 x3 x4 x5 x6 x7 x8 x9 x10 n 2 c
      ∧ val_main_v184 x0 x1 x2 x3 x4 x5 x6 x7 x8 x9 x10 (ix2 n c) = lin x0 x1 x2 x3 x4 x5 x6 x7 x8 x9 x10 n 3 c
      ∧ val_main_v229 x0 x1 x2 x3 x4 x5 x6 x7 x8 x9 x10 (ix2 n c) = lin x0 x1 x2 x3 x4 x5 x6 x7 x8 x9 x10 n 4 c
      ∧ val_main_v274 x0 x1 x2 x3 x4 x5 x6 x7 x8 x9 x10 (ix2 n c) = lin x0 x1 x2 x3 x4 x5 x6 x7 x8 x9 x10 n 5 c
      ∧ val_main_v319 x0 x1 x2 x3 x4 x5 x6 x7 x8 x9 x10 (ix2 n c) = lin x0 x1 x2 x3 x4 x5 x6 x7 x8 x9 x10 n 6 c
      ∧ val_main_v364 x0 x1 x2 x3 x4 x5 x6 x7 x8 x9 x10 (ix2 n c) = lin x0 x1 x2 x3 x4 x5 x6 x7 x8 x9 x10 n 7 c := by
  refine ⟨?_, ?_, ?_, ?_, ?_, ?_, ?_, ?_⟩ <;>
  · pointwise [
    val_main_v38, val_main_v39, val_main_v40, val_main_v41, val_main_v42, val_main_v43, val_main_v44, val_main_v45, val_main_v46,
    val_main_v47, val_main_v48, val_main_v49, val_main_v83, val_main_v84, val_main_v85, val_main_v86, val_main_v87, val_main_v88,
    val_main_v89, val_main_v90, val_main_v91, val_main_v92, val_main_v93, val_main_v94, val_main_v128, val_main_v129, val_main_v130,
    val_main_v131, val_main_v132, val_main_v133, val_main_v134, val_main_v135, val_main_v136, val_main_v137, val_main_v138,
    val_main_v139, val_main_v173, val_main_v174, val_main_v175, val_main_v176, val_main_v177, val_main_v178, val_main_v179,
    val_main_v180, val_main_v181, val_main_v182, val_main_v183, val_main_v184, val_main_v218, val_main_v219, val_main_v220,
    val_main_v221, val_main_v222, val_main_v223, val_main_v224, val_main_v225, val_main_v226, val_main_v227, val_main_v228,
    val_main_v229, val_main_v263, val_main_v264, val_main_v265, val_main_v266, val_main_v267, val_main_v268, val_main_v269,
    val_main_v270, val_main_v271, val_main_v272, val_main_v273, val_main_v274, val_main_v308, val_main_v309, val_main_v310,
    val_main_v311, val_main_v312, val_main_v313, val_main_v314, val_main_v315, val_main_v316, val_main_v317, val_main_v318,
    val_main_v319, val_main_v353, val_main_v354, val_main_v355, val_main_v356, val_main_v357, val_main_v358, val_main_v359,
    val_main_v360, val_main_v361, val_main_v362, val_main_v363, val_main_v364, val_main_v18, val_main_v19, val_main_v20, val_main_v21,
    val_main_v22, val_main_v23, val_main_v24, val_main_v25, val_main_v26, val_main_v27, val_main_v28, val_main_v29, val_main_v30,
    val_main_v31, val_main_v32, val_main_v33, val_main_v34, val_main_v35, val_main_v36, val_main_v37, val_main_v63, val_main_v64,
    val_main_v65, val_main_v66, val_main_v67, val_main_v68, val_main_v69, val_main_v70, val_main_v71, val_main_v72, val_main_v73,
    val_main_v74, val_main_v75, val_main_v76, val_main_v77, val_main_v78, val_main_v79, val_main_v80, val_main_v81, val_main_v82,
    val_main_v108, val_main_v109, val_main_v110, val_main_v111, val_main_v112, val_main_v113, val_main_v114, val_main_v115,
    val_main_v116, val_main_v117, val_main_v118, val_main_v119, val_main_v120, val_main_v121, val_main_v122, val_main_v123,
    val_main_v124, val_main_v125, val_main_v126, val_main_v127, val_main_v153, val_main_v154, val_main_v155, val_main_v156,
    val_main_v157, val_main_v158, val_main_v159, val_main_v160, val_main_v161, val_main_v162, val_main_v163, val_main_v164,
    val_main_v165, val_main_v166, val_main_v167, val_main_v168, val_main_v169, val_main_v170, val_main_v171, val_main_v172,
    val_main_v198, val_main_v199, val_main_v200, val_main_v201, val_main_v202, val_main_v203, val_main_v204, val_main_v205,
    val_main_v206, val_main_v207, val_main_v208, val_main_v209, val_main_v210, val_main_v211, val_main_v212, val_main_v213,
    val_main_v214, val_main_v215, val_main_v216, val_main_v217, val_main_v243, val_main_v244, val_main_v245, val_main_v246,
    val_main_v247, val_main_v248, val_main_v249, val_main_v250, val_main_v251, val_main_v252, val_main_v253, val_main_v254,
    val_main_v255, val_main_v256, val_main_v257, val_main_v258, val_main_v259, val_main_v260, val_main_v261, val_main_v262,
    val_main_v288, val_main_v289, val_main_v290, val_main_v291, val_main_v292, val_main_v293, val_main_v294, val_main_v295,
    val_main_v296, val_main_v297, val_main_v298, val_main_v299, val_main_v300, val_main_v301, val_main_v302, val_main_v303,
    val_main_v304, val_main_v305, val_main_v306, val_main_v307, val_main_v333, val_main_v334, val_main_v335, val_main_v336,
    val_main_v337, val_main_v338, val_main_v339, val_main_v340, val_main_v341, val_main_v342, val_main_v343, val_main_v344,
    val_main_v345, val_main_v346, val_main_v347, val_main_v348, val_main_v349, val_main_v350, val_main_v351, val_main_v352]
    simp only [(ref_inp x0 x1 x4 x5 _ _ _ _).1, (ref_inp x0 x1 x4 x5 _ _ _ _).2, ref_u, lin, un, state, orbit, zero_add, Nat.reduceAdd,
      Fin.reduceOfNat, Fin.isValue, Fin.reduceFinMk, Fin.zero_eta, Fin.mk_one]

/-- The reference's output. -/
theorem ref_z (t : Fin 8) (n : Fin 128) (c : Fin 1024) :
    val_main_v387 x0 x1 x2 x3 x4 x5 x6 x7 x8 x9 x10 (ix3 t n c) = gelu (lin x0 x1 x2 x3 x4 x5 x6 x7 x8 x9 x10 n t c) := by
  obtain ⟨h0, h1, h2, h3, h4, h5, h6, h7⟩ := ref_lin x0 x1 x2 x3 x4 x5 x6 x7 x8 x9 x10 n c
  fin_cases t <;>
  · pointwise [val_main_v387, val_main_v386, val_main_v378, val_main_v379, val_main_v380, val_main_v381, val_main_v382, val_main_v383,
    val_main_v384, val_main_v385,
    val_main_v50, val_main_v51, val_main_v52, val_main_v53, val_main_v54, val_main_v55, val_main_v56, val_main_v57, val_main_v58,
    val_main_v59, val_main_v60, val_main_v61, val_main_v62, val_main_v95, val_main_v96, val_main_v97, val_main_v98, val_main_v99,
    val_main_v100, val_main_v101, val_main_v102, val_main_v103, val_main_v104, val_main_v105, val_main_v106, val_main_v107,
    val_main_v140, val_main_v141, val_main_v142, val_main_v143, val_main_v144, val_main_v145, val_main_v146, val_main_v147,
    val_main_v148, val_main_v149, val_main_v150, val_main_v151, val_main_v152, val_main_v185, val_main_v186, val_main_v187,
    val_main_v188, val_main_v189, val_main_v190, val_main_v191, val_main_v192, val_main_v193, val_main_v194, val_main_v195,
    val_main_v196, val_main_v197, val_main_v230, val_main_v231, val_main_v232, val_main_v233, val_main_v234, val_main_v235,
    val_main_v236, val_main_v237, val_main_v238, val_main_v239, val_main_v240, val_main_v241, val_main_v242, val_main_v275,
    val_main_v276, val_main_v277, val_main_v278, val_main_v279, val_main_v280, val_main_v281, val_main_v282, val_main_v283,
    val_main_v284, val_main_v285, val_main_v286, val_main_v287, val_main_v320, val_main_v321, val_main_v322, val_main_v323,
    val_main_v324, val_main_v325, val_main_v326, val_main_v327, val_main_v328, val_main_v329, val_main_v330, val_main_v331,
    val_main_v332, val_main_v365, val_main_v366, val_main_v367, val_main_v368, val_main_v369, val_main_v370, val_main_v371,
    val_main_v372, val_main_v373, val_main_v374, val_main_v375, val_main_v376, val_main_v377, val_main_cst_2, val_main_cst_3,
    val_main_cst_4, val_main_cst_5, val_main_cst_6, val_main_cst_7, val_main_cst_8, val_main_cst_9, val_main_cst_10, val_main_cst_11,
    val_main_cst_12, val_main_cst_13, val_main_cst_14, val_main_cst_15, val_main_cst_16, val_main_cst_17, val_main_cst_18,
    val_main_cst_19, val_main_cst_20, val_main_cst_21, val_main_cst_22, val_main_cst_23, val_main_cst_24, val_main_cst_25,
    val_main_cst_26, val_main_cst_27, val_main_cst_28, val_main_cst_29, val_main_cst_30, val_main_cst_31, val_main_cst_32,
    val_main_cst_33]
    simp only [h0, h1, h2, h3, h4, h5, h6, h7]
    rfl

end

end Cert.Proof.S5Ref
end
-- ==== Proof.S5Value.lean ====
/-
  The recurrence of the S5 layer: the kernel's three results are the reference's, entry by entry.
-/
module

public import proofs.«01_k».proof.Defs
public import proofs.«01_k».proof.Proof.S5Host
public import proofs.«01_k».proof.Proof.S5Kernel
public import proofs.«01_k».proof.Proof.S5Ref

@[expose] public section

set_option maxRecDepth 16384

noncomputable section

namespace Cert.Proof.S5Value

open Idealize.ShloMosaic Idealize.ShloMosaic.TcCoe Idealize.SL.Sem
open Cert.S5Ideal Cert.S5Ideal.Gen
open Cert.Proof.Layer Cert.Proof.S5Math Cert.Proof.S5Block Cert.Proof.S5Kernel Cert.Proof.S5Host Cert.Proof.S5Ref

section
variable (m : (ℓ : Loc nD τ sig) → Buf (Elt Ideal) ℓ)

/-- The input of the layer. -/
abbrev A0 (c : Dev nD) : (⟨Cert.S5RefIdeal.S128x8x1024, .f32⟩ : BufTy).Contents (Elt Ideal) := m ((c : Thread nD τ).loc main_arg0)
/-- The scale of the norm. -/
abbrev A1 (c : Dev nD) : (⟨Cert.S5RefIdeal.S1024, .f32⟩ : BufTy).Contents (Elt Ideal) := m ((c : Thread nD τ).loc main_arg1)
/-- The coefficients of the recurrence. -/
abbrev A2 (c : Dev nD) : (⟨Cert.S5RefIdeal.S64x64, .f32⟩ : BufTy).Contents (Elt Ideal) := m ((c : Thread nD τ).loc main_arg2)
/-- The coefficients of the recurrence, imaginary part. -/
abbrev A3 (c : Dev nD) : (⟨Cert.S5RefIdeal.S64x64, .f32⟩ : BufTy).Contents (Elt Ideal) := m ((c : Thread nD τ).loc main_arg3)
/-- The input matrices. -/
abbrev A4 (c : Dev nD) : (⟨Cert.S5RefIdeal.S64x64x16, .f32⟩ : BufTy).Contents (Elt Ideal) := m ((c : Thread nD τ).loc main_arg4)
/-- The input matrices, imaginary part. -/
abbrev A5 (c : Dev nD) : (⟨Cert.S5RefIdeal.S64x64x16, .f32⟩ : BufTy).Contents (Elt Ideal) := m ((c : Thread nD τ).loc main_arg5)
/-- The output matrices. -/
abbrev A6 (c : Dev nD) : (⟨Cert.S5RefIdeal.S64x16x64, .f32⟩ : BufTy).Contents (Elt Ideal) := m ((c : Thread nD τ).loc main_arg6)
/-- The output matrices, imaginary part. -/
abbrev A7 (c : Dev nD) : (⟨Cert.S5RefIdeal.S64x16x64, .f32⟩ : BufTy).Contents (Elt Ideal) := m ((c : Thread nD τ).loc main_arg7)
/-- The pass-through. -/
abbrev A8 (c : Dev nD) : (⟨Cert.S5RefIdeal.S1024, .f32⟩ : BufTy).Contents (Elt Ideal) := m ((c : Thread nD τ).loc main_arg8)
/-- The initial state. -/
abbrev A9 (c : Dev nD) : (⟨Cert.S5RefIdeal.S128x64x64, .f32⟩ : BufTy).Contents (Elt Ideal) := m ((c : Thread nD τ).loc main_arg9)
/-- The initial state, imaginary part. -/
abbrev A10 (c : Dev nD) : (⟨Cert.S5RefIdeal.S128x64x64, .f32⟩ : BufTy).Contents (Elt Ideal) := m ((c : Thread nD τ).loc main_arg10)

/-- A product with a block-diagonal matrix is the product with its block. -/
theorem diag_sum {b : Nat} (i : Fin 16) (X W : Fin (16 * b) → EReal) :
    ∑ q, X q * (W q * eye (q.val / b) i.val) = ∑ p : Fin b, W (finProdFinEquiv (i, p)) * X (finProdFinEquiv (i, p)) := by
  have hv : ∀ (j : Fin 16) (p : Fin b), (finProdFinEquiv (j, p)).val / b = j.val := fun j p => by
    show (p.val + b * j.val) / b = j.val
    rw [Nat.add_mul_div_left _ _ (Nat.pos_of_ne_zero fun h => by have := p.isLt; omega), Nat.div_eq_of_lt p.isLt, Nat.zero_add]
  rw [sum_diag i (fun q => X q * (W q * eye (q.val / b) i.val)) fun j p hj => by
    show X _ * (W _ * eye ((finProdFinEquiv (j, p)).val / b) i.val) = 0
    rw [hv, eye_ne j i hj, mul_zero, mul_zero]]
  refine Finset.sum_congr rfl fun p _ => ?_
  show X _ * (W _ * eye ((finProdFinEquiv (i, p)).val / b) i.val) = _
  rw [hv, eye_self, mul_one, mul_comm]

/-- The block's normed input is the reference's. -/
theorem un_eq (c : Dev nD) (t : Fin cfg0.N) (ht : t.val < 4) (t' : Fin 8) (n : Fin 32) (hr : t'.val * 32 + n.val < 256) (ch : Fin 1024) :
    k0_pay2 (iblk m c 0 t) (iblk m c 1 t) (ix2 ⟨t'.val * 32 + n.val, hr⟩ ch) = un (A0 m c) (A1 m c) ⟨t.val * 32 + n.val, by omega⟩ t' ch := by
  rw [u_apply]
  unfold un
  have e1 : (⟨(t'.val * 32 + n.val) / 32, by omega⟩ : Fin 8) = t' := Fin.ext (by show (t'.val * 32 + n.val) / 32 = t'.val; omega)
  have e2 : (⟨(t'.val * 32 + n.val) % 32, by omega⟩ : Fin 32) = n := Fin.ext (by show (t'.val * 32 + n.val) % 32 = n.val; omega)
  have h0 : (fun k => iblk m c 0 t (ix3 (⟨(t'.val * 32 + n.val) / 32, by omega⟩ : Fin 8) (⟨(t'.val * 32 + n.val) % 32, by omega⟩ : Fin 32) k))
      = fun k => A0 m c (ix3 ⟨t.val * 32 + n.val, by omega⟩ t' k) := by
    rw [e1, e2]
    exact funext fun k => b0 m c t ht t' n k
  have h1 : (fun k => iblk m c 1 t (ix2 0 k)) = fun k => A1 m c (ix1 k) := funext fun k => b1 m c t k
  exact congrArg₂ (fun f g => rms f g ch) h0 h1

/-- A product of a row with the input matrix is the product with the matrix of the group. -/
theorem in_sum (U : Fin 1024 → EReal) (C D : (⟨Cert.S5RefIdeal.S64x64x16, .f32⟩ : BufTy).Contents (Elt Ideal)) (B : Vec Ideal S4x256x2048 .bf16)
    (hB : ∀ (k : Fin 4) (q : Fin 256) (s : Fin 2048), B (ix3 k q s) = @HMul.hMul EReal EReal EReal _ (if h : s.val / 1024 < 1
      then C (ix3 ⟨k.val * 16 + q.val / 16, by omega⟩ ⟨s.val % 64, by omega⟩ ⟨q.val % 16, by omega⟩)
      else D (ix3 ⟨k.val * 16 + q.val / 16, by omega⟩ ⟨s.val % 64, by omega⟩ ⟨q.val % 16, by omega⟩)) (eye (q.val / 16) (s.val / 64 % 16)))
    (h : Fin 2) (cc : Fin 4096) (J : Fin 8192) (hJ : J.val = h.val * 4096 + cc.val) :
    ∑ q : Fin 256, U ⟨J.val % 4096 / 1024 * 256 + q.val, by omega⟩
        * B (ix3 ⟨J.val % 4096 / 1024, by omega⟩ q ⟨J.val / 4096 * 1024 + J.val % 1024, by omega⟩)
      = ∑ k : Fin 16, (if h = 0 then C else D) (ix3 ⟨cc.val / 64, by omega⟩ ⟨cc.val % 64, by omega⟩ k) * U ⟨cc.val / 64 * 16 + k.val, by omega⟩ := by
  have hi : cc.val % 1024 / 64 < 16 := by omega
  have hq : ∀ q : Fin 256, U ⟨J.val % 4096 / 1024 * 256 + q.val, by omega⟩
        * B (ix3 ⟨J.val % 4096 / 1024, by omega⟩ q ⟨J.val / 4096 * 1024 + J.val % 1024, by omega⟩)
      = U ⟨cc.val / 1024 * 256 + q.val, by omega⟩ * (@HMul.hMul EReal EReal EReal _ ((if h = 0 then C else D)
          (ix3 ⟨cc.val / 1024 * 16 + q.val / 16, by omega⟩ ⟨cc.val % 64, by omega⟩ ⟨q.val % 16, by omega⟩))
        (eye (q.val / 16) (cc.val % 1024 / 64))) := by
    intro q
    have e1 : J.val % 4096 / 1024 = cc.val / 1024 := by omega
    have f1 : (J.val / 4096 * 1024 + J.val % 1024) / 64 % 16 = cc.val % 1024 / 64 := by omega
    have f2 : (J.val / 4096 * 1024 + J.val % 1024) % 64 = cc.val % 64 := by omega
    rw [hB]
    simp only [e1, f1, f2]
    have hz : (J.val / 4096 * 1024 + J.val % 1024) / 1024 < 1 ↔ h = 0 :=
      ⟨fun hl => Fin.ext (by show h.val = 0; omega), fun h0 => by have : h.val = 0 := congrArg Fin.val h0; omega⟩
    by_cases h0 : h = 0
    · rw [dif_pos (hz.2 h0), if_pos h0]
    · rw [dif_neg fun hl => h0 (hz.1 hl), if_neg h0]
  refine (Finset.sum_congr rfl fun q _ => hq q).trans ?_
  refine (diag_sum (b := 16) ⟨cc.val % 1024 / 64, hi⟩ (fun q => U ⟨cc.val / 1024 * 256 + q.val, by omega⟩)
    (fun q => (if h = 0 then C else D) (ix3 ⟨cc.val / 1024 * 16 + q.val / 16, by omega⟩ ⟨cc.val % 64, by omega⟩ ⟨q.val % 16, by omega⟩))).trans ?_
  refine Finset.sum_congr rfl fun k _ => ?_
  have g1 : cc.val / 1024 * 16 + (k.val + 16 * (cc.val % 1024 / 64)) / 16 = cc.val / 64 := by omega
  have g2 : (k.val + 16 * (cc.val % 1024 / 64)) % 16 = k.val := by omega
  have g3 : cc.val / 1024 * 256 + (k.val + 16 * (cc.val % 1024 / 64)) = cc.val / 64 * 16 + k.val := by omega
  show (if h = 0 then C else D) (ix3 ⟨cc.val / 1024 * 16 + (k.val + 16 * (cc.val % 1024 / 64)) / 16, _⟩ ⟨cc.val % 64, _⟩
      ⟨(k.val + 16 * (cc.val % 1024 / 64)) % 16, _⟩) * U ⟨cc.val / 1024 * 256 + (k.val + 16 * (cc.val % 1024 / 64)), _⟩ = _
  simp only [g1, g2, g3]

/-- The block's inputs of the recurrence are the reference's. -/
theorem inp_eq (c : Dev nD) (t : Fin cfg0.N) (ht : t.val < 4) (t' : Fin 8) (h : Fin 2) (n : Fin 32) (cc : Fin 4096)
    (hr : t'.val * 32 + n.val < 256) (hJ : h.val * 4096 + cc.val < 8192) :
    inB (iblk m c 0 t) (iblk m c 1 t) (iblk m c 3 t) ⟨t'.val * 32 + n.val, hr⟩ ⟨h.val * 4096 + cc.val, hJ⟩
      = inp (A0 m c) (A1 m c) (A4 m c) (A5 m c) ⟨t.val * 32 + n.val, by omega⟩ ⟨cc.val / 64, by omega⟩ ⟨cc.val % 64, by omega⟩ t' h := by
  unfold inB inp
  have hu := fun ch : Fin 1024 => un_eq m c t ht t' n hr ch
  simp only [hu]
  exact in_sum (un (A0 m c) (A1 m c) ⟨t.val * 32 + n.val, by omega⟩ t') (A4 m c) (A5 m c) (iblk m c 3 t) (b3 m c t) h cc
    ⟨h.val * 4096 + cc.val, hJ⟩ rfl

/-- The coefficients, real and imaginary part, that the body is given. -/
abbrev cre (c : Dev nD) (t : Fin cfg0.N) : FVec Ideal S1x4096 .f32 :=
  View.ld (iblk m c 2 t : Vec Ideal S2x4096 .f32) (Rect.unit (s := S2x4096) ![0, 0] ![1, 4096] inb_S2x4096_S1x4096_0_0)
/-- The imaginary part of the coefficients. -/
abbrev cim (c : Dev nD) (t : Fin cfg0.N) : FVec Ideal S1x4096 .f32 :=
  View.ld (iblk m c 2 t : Vec Ideal S2x4096 .f32) (Rect.unit (s := S2x4096) ![1, 0] ![1, 4096] inb_S2x4096_S1x4096_1_0)

/-- The states of a block are the reference's. -/
theorem state_eq (c : Dev nD) (t : Fin cfg0.N) (ht : t.val < 4) (n : Fin 32) (cc : Fin 4096) (j : Nat) :
    orb (cre m c t) (cim m c t) (inB (iblk m c 0 t) (iblk m c 1 t) (iblk m c 3 t)) (iblk m c 7 t) (iblk m c 8 t) n cc j
      = state (A0 m c) (A1 m c) (A2 m c) (A3 m c) (A4 m c) (A5 m c) (A9 m c) (A10 m c) ⟨t.val * 32 + n.val, by omega⟩
        ⟨cc.val / 64, by omega⟩ ⟨cc.val % 64, by omega⟩ j := by
  have hr : cre m c t (ix2 0 cc) = iblk m c 2 t (ix2 0 cc) :=
    View.ld_unit_apply_of (iblk m c 2 t : Vec Ideal S2x4096 .f32) _ _ _ _ _ fun a => by
      match a with | ⟨0, _⟩ => rfl | ⟨1, _⟩ => exact (Nat.zero_add _).symm
  have hi : cim m c t (ix2 0 cc) = iblk m c 2 t (ix2 1 cc) :=
    View.ld_unit_apply_of (iblk m c 2 t : Vec Ideal S2x4096 .f32) _ _ _ _ _ fun a => by
      match a with | ⟨0, _⟩ => rfl | ⟨1, _⟩ => exact (Nat.zero_add _).symm
  unfold orb state
  rw [hr, hi, b2re, b2im, b7 m c t ht, b8 m c t ht]
  exact congrArg (fun w => orbit _ _ w _ j) (funext fun t' => funext fun h => inp_eq m c t ht t' h n cc _ _)

/-- What holds of a block's states. -/
theorem fin_inv (c : Dev nD) (t : Fin cfg0.N) : Inv (cre m c t) (cim m c t) (inB (iblk m c 0 t) (iblk m c 1 t) (iblk m c 3 t)) (iblk m c 7 t) (iblk m c 8 t) 8
    (fin (iblk m c 0 t) (iblk m c 1 t) (iblk m c 2 t) (iblk m c 3 t) (iblk m c 7 t) (iblk m c 8 t)) :=
  run_inv _ _ _ _ _ _ _

/-- A product of a block's states with the output matrix is the reference's. -/
theorem out_sum (C : (⟨Cert.S5RefIdeal.S64x16x64, .f32⟩ : BufTy).Contents (Elt Ideal)) (B : Vec Ideal S4x1024x256 .bf16)
    (hB : ∀ (k : Fin 4) (p : Fin 1024) (s : Fin 256), B (ix3 k p s) = @HMul.hMul EReal EReal EReal _
      (C (ix3 ⟨k.val * 16 + p.val / 64, by omega⟩ ⟨s.val % 16, by omega⟩ ⟨p.val % 64, by omega⟩)) (eye (p.val / 64) (s.val / 16)))
    (X : Fin 4096 → EReal) (Y : Fin 64 → Fin 64 → EReal)
    (hX : ∀ cc : Fin 4096, X cc = Y ⟨cc.val / 64, by omega⟩ ⟨cc.val % 64, by omega⟩) (ch : Fin 1024) :
    ∑ p : Fin 1024, X ⟨ch.val / 256 * 1024 + p.val, by omega⟩ * B (ix3 ⟨ch.val / 256, by omega⟩ p ⟨ch.val % 256, by omega⟩)
      = ∑ p : Fin 64, C (ix3 ⟨ch.val / 16, by omega⟩ ⟨ch.val % 16, by omega⟩ p) * Y ⟨ch.val / 16, by omega⟩ p := by
  have hi : ch.val % 256 / 16 < 16 := by omega
  refine (Finset.sum_congr rfl fun p _ => congrArg (X ⟨ch.val / 256 * 1024 + p.val, by omega⟩ * ·) (hB _ p _)).trans ?_
  refine (diag_sum (b := 64) ⟨ch.val % 256 / 16, hi⟩ (fun p => X ⟨ch.val / 256 * 1024 + p.val, by omega⟩)
    (fun p => C (ix3 ⟨ch.val / 256 * 16 + p.val / 64, by omega⟩ ⟨ch.val % 256 % 16, by omega⟩ ⟨p.val % 64, by omega⟩))).trans ?_
  refine Finset.sum_congr rfl fun p _ => ?_
  have g1 : ch.val / 256 * 16 + (p.val + 64 * (ch.val % 256 / 16)) / 64 = ch.val / 16 := by omega
  have g2 : (p.val + 64 * (ch.val % 256 / 16)) % 64 = p.val := by omega
  have g3 : ch.val % 256 % 16 = ch.val % 16 := by omega
  have g4 : (ch.val / 256 * 1024 + (p.val + 64 * (ch.val % 256 / 16))) / 64 = ch.val / 16 := by omega
  have g5 : (ch.val / 256 * 1024 + (p.val + 64 * (ch.val % 256 / 16))) % 64 = p.val := by omega
  show C (ix3 ⟨ch.val / 256 * 16 + (p.val + 64 * (ch.val % 256 / 16)) / 64, _⟩ ⟨ch.val % 256 % 16, _⟩ ⟨(p.val + 64 * (ch.val % 256 / 16)) % 64, _⟩)
    * X ⟨ch.val / 256 * 1024 + (p.val + 64 * (ch.val % 256 / 16)), _⟩ = _
  rw [hX]
  simp only [g1, g2, g3, g4, g5]

set_option maxHeartbeats 1000000 in
/-- The output of a block is the reference's. -/
theorem z_eq (c : Dev nD) (t : Fin cfg0.N) (ht : t.val < 4) (t' : Fin 8) (n : Fin 32) (ch : Fin 1024) :
    zK (iblk m c 0 t) (iblk m c 1 t) (iblk m c 4 t) (iblk m c 5 t) (iblk m c 6 t) (iblk m c 7 t) (iblk m c 8 t) (cre m c t) (cim m c t)
        (inB (iblk m c 0 t) (iblk m c 1 t) (iblk m c 3 t)) (ch.val / 256) (by omega) t' n ⟨ch.val % 256, by omega⟩
      = gelu (lin (A0 m c) (A1 m c) (A2 m c) (A3 m c) (A4 m c) (A5 m c) (A6 m c) (A7 m c) (A8 m c) (A9 m c) (A10 m c)
        ⟨t.val * 32 + n.val, by omega⟩ t' ch) := by
  unfold zK lin
  have hs := fun cc : Fin 4096 => state_eq m c t ht n cc (t'.val + 1)
  simp only [hs]
  have hre := out_sum (A6 m c) (iblk m c 4 t) (b4 m c t)
    (fun cc => (state (A0 m c) (A1 m c) (A2 m c) (A3 m c) (A4 m c) (A5 m c) (A9 m c) (A10 m c) ⟨t.val * 32 + n.val, by omega⟩
      ⟨cc.val / 64, by omega⟩ ⟨cc.val % 64, by omega⟩ (t'.val + 1)).1)
    (fun g p => (state (A0 m c) (A1 m c) (A2 m c) (A3 m c) (A4 m c) (A5 m c) (A9 m c) (A10 m c) ⟨t.val * 32 + n.val, by omega⟩ g p (t'.val + 1)).1)
    (fun _ => rfl) ch
  have him := out_sum (A7 m c) (iblk m c 5 t) (b5 m c t)
    (fun cc => (state (A0 m c) (A1 m c) (A2 m c) (A3 m c) (A4 m c) (A5 m c) (A9 m c) (A10 m c) ⟨t.val * 32 + n.val, by omega⟩
      ⟨cc.val / 64, by omega⟩ ⟨cc.val % 64, by omega⟩ (t'.val + 1)).2)
    (fun g p => (state (A0 m c) (A1 m c) (A2 m c) (A3 m c) (A4 m c) (A5 m c) (A9 m c) (A10 m c) ⟨t.val * 32 + n.val, by omega⟩ g p (t'.val + 1)).2)
    (fun _ => rfl) ch
  have hch : (⟨ch.val / 256 * 256 + ch.val % 256, by omega⟩ : Fin 1024) = ch := Fin.ext (by show ch.val / 256 * 256 + ch.val % 256 = ch.val; omega)
  have hd : iblk m c 6 t (ix2 0 (⟨ch.val / 256 * 256 + ch.val % 256, by omega⟩ : Fin 1024)) = A8 m c (ix1 ch) := by
    rw [hch]; exact b6 m c t ch
  have hu : k0_pay2 (iblk m c 0 t) (iblk m c 1 t) (ix2 ⟨t'.val * 32 + n.val, by omega⟩ (⟨ch.val / 256 * 256 + ch.val % 256, by omega⟩ : Fin 1024))
      = un (A0 m c) (A1 m c) ⟨t.val * 32 + n.val, by omega⟩ t' ch := by
    rw [hch]; exact un_eq m c t ht t' n _ ch
  exact congrArg gelu (congrArg₂ (fun a b : EReal => a + b) (congrArg₂ (fun a b : EReal => a - b) hre him) (congrArg₂ (fun a b : EReal => a * b) hd hu))

set_option maxHeartbeats 2000000 in
/-- The kernel's output is the reference's. -/
theorem final9 (c : Dev nD) :
    (dats m 0 c).arrAt 9 cfg0.N = Cert.S5RefIdeal.Read.val_main_v387 (A0 m c) (A1 m c) (A2 m c) (A3 m c) (A4 m c) (A5 m c) (A6 m c) (A7 m c) (A8 m c)
      (A9 m c) (A10 m c) := by
  refine (dats m 0 c).arrAt_eq_of_covers 9 _ (by decide +kernel) fun t hf y => ?_
  obtain ⟨e0, e1, e2, e3, e4, e5, e6, e7, e8, e9, e10, e11⟩ := index_eq t
  have ht : t.val < 4 := t.isLt
  blk_simp
  rw [after0_9]
  unfold outsAt0
  rw [out9_eq]
  obtain ⟨t', n, ch, rfl⟩ : ∃ (t' : Fin 8) (n : Fin 32) (ch : Fin 1024), y = ix3 t' n ch := ⟨y 0, y 1, y 2, eq_ix3 y⟩
  have hi : (win0_9.blk t).view.emb (ix3 t' n ch) = ix3 t' (⟨t.val * 32 + n.val, by omega⟩ : Fin 128) ch := by
    blk_ext [e9]
  rw [hi]
  refine (zout_apply _ _ _ _ _ _ _ _ _ _ _ (fin_inv m c t) t' n ch).trans ?_
  exact (z_eq m c t ht t' n ch).trans (ref_z _ _ _ _ _ _ _ _ _ _ _ t' _ ch).symm

/-- The kernel's last state, real part, is the reference's. -/
theorem final10 (c : Dev nD) :
    (dats m 0 c).arrAt 10 cfg0.N = Cert.S5RefIdeal.Read.val_main_v388 (A0 m c) (A1 m c) (A2 m c) (A3 m c) (A4 m c) (A5 m c) (A9 m c) (A10 m c) := by
  refine (dats m 0 c).arrAt_eq_of_covers 10 _ (by decide +kernel) fun t hf y => ?_
  obtain ⟨e0, e1, e2, e3, e4, e5, e6, e7, e8, e9, e10, e11⟩ := index_eq t
  have ht : t.val < 4 := t.isLt
  blk_simp
  rw [after0_10]
  unfold outsAt0
  dsimp only
  rw [out10_eq]
  obtain ⟨n, cc, rfl⟩ : ∃ (n : Fin 32) (cc : Fin 4096), y = ix2 n cc := ⟨y 0, y 1, eq_ix2 y⟩
  have hi : (win0_10.blk t).view.emb (ix2 n cc) = ix2 (⟨t.val * 32 + n.val, by omega⟩ : Fin 128) cc := by
    blk_ext [e10]
  rw [hi]
  refine ((fin_inv m c t).re n cc).trans ?_
  exact (congrArg Prod.fst (state_eq m c t ht n cc 8)).trans (ref_state _ _ _ _ _ _ _ _ _ cc).1.symm

/-- The kernel's last state, imaginary part, is the reference's. -/
theorem final11 (c : Dev nD) :
    (dats m 0 c).arrAt 11 cfg0.N = Cert.S5RefIdeal.Read.val_main_v389 (A0 m c) (A1 m c) (A2 m c) (A3 m c) (A4 m c) (A5 m c) (A9 m c) (A10 m c) := by
  refine (dats m 0 c).arrAt_eq_of_covers 11 _ (by decide +kernel) fun t hf y => ?_
  obtain ⟨e0, e1, e2, e3, e4, e5, e6, e7, e8, e9, e10, e11⟩ := index_eq t
  have ht : t.val < 4 := t.isLt
  blk_simp
  rw [after0_11]
  unfold outsAt0
  dsimp only
  rw [out11_eq]
  obtain ⟨n, cc, rfl⟩ : ∃ (n : Fin 32) (cc : Fin 4096), y = ix2 n cc := ⟨y 0, y 1, eq_ix2 y⟩
  have hi : (win0_11.blk t).view.emb (ix2 n cc) = ix2 (⟨t.val * 32 + n.val, by omega⟩ : Fin 128) cc := by
    blk_ext [e11]
  rw [hi]
  refine ((fin_inv m c t).im n cc).trans ?_
  exact (congrArg Prod.snd (state_eq m c t ht n cc 8)).trans (ref_state _ _ _ _ _ _ _ _ _ cc).2.symm

end

set_option maxHeartbeats 1000000 in
/-- The idealized kernel and the idealized reference compute the same. -/
theorem algebraic : Cert.algebraic_S5Ideal_S5RefIdeal
    (hS5Ideal := Cert.S5Ideal.Gen.facts) (hS5RefIdeal := Cert.S5RefIdeal.Gen.facts) := by
  intro m g m' g' _ h
  refine ⟨fun c => (Cert.S5Ideal.Gen.dats m 0 c).arrAt 9 Cert.S5Ideal.cfg0.N,
    fun c => (Cert.S5Ideal.Gen.dats m 0 c).arrAt 10 Cert.S5Ideal.cfg0.N,
    fun c => (Cert.S5Ideal.Gen.dats m 0 c).arrAt 11 Cert.S5Ideal.cfg0.N, Cert.S5Ideal.Value.run_blocks m g, ?_⟩
  refine (θ_run _ _ _).mono (fun r hr c => ?_) (Cert.S5RefIdeal.Value.run m' g')
  obtain ⟨h0, h1, h2, h3, h4, h5, h6, h7, h8, h9, h10⟩ := h c
  refine ⟨(hr c).1.trans ?_, (hr c).2.1.trans ?_, (hr c).2.2.1.trans ?_, (hr c).2.2.2⟩
  · refine (Cert.S5RefIdeal.Read.val_main_v387_eq _).trans ?_
    unfold StableHlo.launchContents
    rw [h0, h1, h2, h3, h4, h5, h6, h7, h8, h9, h10]
    exact (final9 m c).symm
  · refine (Cert.S5RefIdeal.Read.val_main_v388_eq _).trans ?_
    unfold StableHlo.launchContents
    rw [h0, h1, h2, h3, h4, h5, h9, h10]
    exact (final10 m c).symm
  · refine (Cert.S5RefIdeal.Read.val_main_v389_eq _).trans ?_
    unfold StableHlo.launchContents
    rw [h0, h1, h2, h3, h4, h5, h9, h10]
    exact (final11 m c).symm

end Cert.Proof.S5Value
end
-- ==== Proof.OddBlock.lean ====
/-
  One block of the odd layer's tail: what the body stores, the loop over the two halves of the hidden units unrolled.
-/
module

public import proofs.«01_k».proof.Proof.Gen.OddIdeal.Value
public import Idealize.ShloMosaic.Lib.Pipeline.ValueKit
public import Idealize.ShloMosaic.Lib.VecWindow

@[expose] public section

set_option maxRecDepth 16384

noncomputable section

namespace Cert.Proof.OddBlock

open Idealize.ShloMosaic Idealize.ShloMosaic.TcCoe Idealize.SL.Sem Cert.OddIdeal Cert.OddIdeal.Gen
open Idealize.ShloMosaic.Pipeline (Dat Cfg Window)

variable {F : FTy → Type} [FloatOps F]

/-- The zero offsets. -/
theorem hz : (![0, 0] : Fin 2 → Nat) = fun _ => 0 :=
  funext fun a => by fin_cases a <;> rfl

/-- The pieces one trip of the loop writes: the accumulator, stored whole. -/
theorem trip_eq (𝒱 : Variants) (c : Dev nD) (bd : Option 𝒱.V) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x2816 .bf16) (harg6 : arg6.IsWhole) (arg7 : Memref sig .tc .vmem S1024x2816 .bf16) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .f32) (harg12 : arg12.IsWhole)
   (X6 : BufTy.Contents (Elt F) arg6.view.ty) (X7 : BufTy.Contents (Elt F) arg7.view.ty) (X8 : BufTy.Contents (Elt F) arg8.view.ty) (X11 : BufTy.Contents (Elt F) arg11.view.ty) (k : Fin k0_t1_loop.trips) (f : BufTy.Contents (Elt F) arg12.view.ty) :
   tripL_k0_t1 (F := F) 𝒱 c bd i arg1 harg1 arg2 harg2 arg3 harg3 arg4 harg4 arg5 harg5 arg6 harg6 arg7 harg7 arg8 harg8 arg9 harg9 arg10 harg10 arg11 harg11 arg12 harg12 X6 X7 X8 X11 k f
     = [⟨Rect.unit ![0, 0] S512x1024.size inb_S512x1024_S512x1024_0_0,
          k0_pay2 (arg11.view.read (Elt F) X11)
            (View.ld (arg6.view.read (Elt F) X6) (Rect.unit (s := S1024x2816) (k0_off1 k) S1024x1408.size (k0_off1_inb k)))
            (View.ld (arg7.view.read (Elt F) X7) (Rect.unit (s := S1024x2816) (k0_off1 k) S1024x1408.size (k0_off1_inb k)))
            (arg12.view.read (Elt F) f)
            (View.ld (arg8.view.read (Elt F) X8) (Rect.unit (s := S2816x1024) (k0_off2 k) S1408x1024.size (k0_off2_inb k)))⟩] := by
  unfold tripL_k0_t1
  unfold trip_k0_t1
  dsimp only
  simp only [View.readAt_eq_ld]
  rw [View.ld_unit_zero (S := S512x1024) hz, View.ld_unit_zero (S := S512x1024) hz]

/-- The grid loop has two trips. -/
theorem trips_eq : k0_t1_loop.trips = 2 := by decide +kernel

/-- The first trip. -/
def t0 : Fin k0_t1_loop.trips := ⟨0, by decide +kernel⟩
/-- The second trip. -/
def t1 : Fin k0_t1_loop.trips := ⟨1, by decide +kernel⟩

/-- What one trip adds to the accumulator `a`. -/
def step (hb : Vec F S512x1024 .bf16) (x5 x6 : Vec F S1024x2816 .bf16) (x7 : Vec F S2816x1024 .bf16)
    (k : Fin k0_t1_loop.trips) (a : Vec F S512x1024 .f32) : Vec F S512x1024 .f32 :=
  k0_pay2 hb
    (View.ld x5 (Rect.unit (s := S1024x2816) (k0_off1 k) S1024x1408.size (k0_off1_inb k)))
    (View.ld x6 (Rect.unit (s := S1024x2816) (k0_off1 k) S1024x1408.size (k0_off1_inb k)))
    a (View.ld x7 (Rect.unit (s := S2816x1024) (k0_off2 k) S1408x1024.size (k0_off2_inb k)))

set_option maxHeartbeats 1000000 in
/-- What the body stores into its output block. -/
theorem out_eq (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x2816 .bf16) (harg6 : arg6.IsWhole) (arg7 : Memref sig .tc .vmem S1024x2816 .bf16) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .f32) (harg12 : arg12.IsWhole)
    (x0 : Vec F S512x1024 .f32) (x1 : Vec F S512x1024 .bf16) (x2 : Vec F S1024x1024 .bf16) (x3 : Vec F S1024x1024 .bf16) (x4 : Vec F S1x1024 .f32) (x5 : Vec F S1024x2816 .bf16) (x6 : Vec F S1024x2816 .bf16) (x7 : Vec F S2816x1024 .bf16) (x8 : Vec F S1x1024 .f32) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8
      = k0_pay3 (step (k0_pay5 x1 x0 x2 x3 x4) x5 x6 x7 t1 (step (k0_pay5 x1 x0 x2 x3 x4) x5 x6 x7 t0 (k0_pay1 (k0_pay4 x1 x0 x2 x3)))) x8 := by
  frame_out
  rw [show Scf.trips (0#32) (Scalar.addi 0#32 2#32) 1#32 = t1.val + 1 from by decide +kernel, pb_k0_t1_succ, trip_eq,
    show t1.val = t0.val + 1 from rfl, pb_k0_t1_succ, trip_eq, show t0.val = 0 from rfl, pb_k0_t1]
  simp only [List.cons_append, List.nil_append, List.append_nil]
  rw [View.readCov_cons_toLoadRect]
  simp only [Memref.IsWhole.read_unread]
  have e11 := View.read_writes_full (Val := Elt F) arg11.view arg11.view.junk inb_S512x1024_S512x1024_0_0 (k0_pay5 x1 x0 x2 x3 x4) []
  have e12 := View.read_writes_full (Val := Elt F) arg12.view arg12.view.junk inb_S512x1024_S512x1024_0_0 (k0_pay1 (k0_pay4 x1 x0 x2 x3)) []
  have e12' := fun w => View.read_writes_full (Val := Elt F) arg12.view
    (arg12.view.writes (Elt F) arg12.view.junk [⟨Rect.unit ![0, 0] S512x1024.size inb_S512x1024_S512x1024_0_0, k0_pay1 (k0_pay4 x1 x0 x2 x3)⟩])
    inb_S512x1024_S512x1024_0_0 w []
  unfold step
  rw [e11, e12', View.writes_nil, e12]

end Cert.Proof.OddBlock
end
-- ==== Proof.OddValue.lean ====
/-
  The odd layer's tail on the prompt tokens: the kernel's result is the reference's, entry by entry.
-/
module

public import proofs.«01_k».proof.Defs
public import proofs.«01_k».proof.Proof.OddBlock
public import proofs.«01_k».proof.Proof.Layer
public import proofs.«01_k».proof.Proof.Gen.OddRefIdeal.Read

@[expose] public section

set_option maxRecDepth 16384

noncomputable section

namespace Cert.Proof.OddValue

open Idealize.ShloMosaic Idealize.ShloMosaic.TcCoe Idealize.SL.Sem
open Cert.Proof.Layer

/-- One row of the odd layer's tail: the gated linear unit, the feed-forward block and the final norm. -/
def row (x z : Fin 1024 → EReal) (wa wb : Fin 1024 → Fin 1024 → EReal) (gf : Fin 1024 → EReal)
    (w1 w3 : Fin 1024 → Fin 2816 → EReal) (w2 : Fin 2816 → Fin 1024 → EReal) (gl : Fin 1024 → EReal) (c : Fin 1024) : EReal :=
  rms (ffn (glu x z wa wb) gf w1 w3 w2) gl c

section
open Cert.OddIdeal Cert.OddIdeal.Gen Cert.Proof.OddBlock

/-- The gated linear unit at row `r`. -/
theorem pay4_apply (v0 : Vec Ideal S512x1024 .bf16) (v1 : Vec Ideal S512x1024 .f32) (v2 v5 : Vec Ideal S1024x1024 .bf16)
    (r : Fin 512) (c : Fin 1024) :
    k0_pay4 v0 v1 v2 v5 (ix2 r c)
      = glu (fun k => v1 (ix2 r k)) (fun k => v0 (ix2 r k)) (fun k c => v2 (ix2 k c)) (fun k c => v5 (ix2 k c)) c := by
  pointwise [k0_pay4]
  unfold glu dot logi
  simp only [sub_eq_add_neg, zero_add]

/-- The norm before the feed-forward block at row `r`. -/
theorem pay5_apply (v0 : Vec Ideal S512x1024 .bf16) (v1 : Vec Ideal S512x1024 .f32) (v2 v5 : Vec Ideal S1024x1024 .bf16)
    (v17 : Vec Ideal S1x1024 .f32) (r : Fin 512) (c : Fin 1024) :
    k0_pay5 v0 v1 v2 v5 v17 (ix2 r c)
      = rms (fun k => k0_pay4 v0 v1 v2 v5 (ix2 r k)) (fun k => v17 (ix2 0 k)) c := by
  pointwise [k0_pay5]
  rfl

/-- The final norm at row `r`. -/
theorem pay3_apply (v39 : Vec Ideal S512x1024 .f32) (v40 : Vec Ideal S1x1024 .f32) (r : Fin 512) (c : Fin 1024) :
    k0_pay3 v39 v40 (ix2 r c) = rms (fun k => v39 (ix2 r k)) (fun k => v40 (ix2 0 k)) c := by
  pointwise [k0_pay3]
  rfl

/-- One half of the hidden units added to the accumulator, at row `r`. -/
theorem pay2_apply (hb : Vec Ideal S512x1024 .bf16) (x5 x6 : Vec Ideal S1024x1408 .bf16) (x7 : Vec Ideal S1408x1024 .bf16)
    (a : Vec Ideal S512x1024 .f32) (r : Fin 512) (c : Fin 1024) :
    k0_pay2 hb x5 x6 a x7 (ix2 r c)
      = a (ix2 r c) + dot (gate (fun k => hb (ix2 r k)) (fun k j => x5 (ix2 k j)) (fun k j => x6 (ix2 k j)))
          (fun j c => x7 (ix2 j c)) c := by
  pointwise [k0_pay2]
  unfold gate dot logi
  simp only [sub_eq_add_neg, zero_add]

/-- Where each trip reads its half of the matrices. -/
theorem off1_0 : ∀ a, k0_off1 t0 a = (![0, 0] : Fin 2 → Nat) a := by decide +kernel
theorem off1_1 : ∀ a, k0_off1 t1 a = (![0, 1408] : Fin 2 → Nat) a := by decide +kernel
theorem off2_0 : ∀ a, k0_off2 t0 a = (![0, 0] : Fin 2 → Nat) a := by decide +kernel
theorem off2_1 : ∀ a, k0_off2 t1 a = (![1408, 0] : Fin 2 → Nat) a := by decide +kernel

/-- What the accumulator holds after the first trip, at row `r`. -/
theorem step0_apply (hb : Vec Ideal S512x1024 .bf16) (x5 x6 : Vec Ideal S1024x2816 .bf16) (x7 : Vec Ideal S2816x1024 .bf16)
    (a : Vec Ideal S512x1024 .f32) (r : Fin 512) (c : Fin 1024) :
    step hb x5 x6 x7 t0 a (ix2 r c)
      = a (ix2 r c) + dot (gate (fun k => hb (ix2 r k)) (fun k (j : Fin 1408) => x5 (ix2 k ⟨j.val, by omega⟩)) (fun k j => x6 (ix2 k ⟨j.val, by omega⟩)))
          (fun j c => x7 (ix2 ⟨j.val, by omega⟩ c)) c := by
  unfold step
  rw [pay2_apply]
  have h5 : ∀ (x : Vec Ideal S1024x2816 .bf16) (k : Fin 1024) (j : Fin 1408),
      View.ld x (Rect.unit (s := S1024x2816) (k0_off1 t0) S1024x1408.size (k0_off1_inb t0)) (ix2 k j) = x (ix2 k ⟨j.val, by omega⟩) :=
    fun x k j => View.ld_unit_apply_of x _ _ _ _ _ fun a => by
      rw [off1_0]; match a with | ⟨0, _⟩ => exact (Nat.zero_add _).symm | ⟨1, _⟩ => exact (Nat.zero_add _).symm
  have h7 : ∀ (j : Fin 1408) (c : Fin 1024),
      View.ld x7 (Rect.unit (s := S2816x1024) (k0_off2 t0) S1408x1024.size (k0_off2_inb t0)) (ix2 j c) = x7 (ix2 ⟨j.val, by omega⟩ c) :=
    fun k j => View.ld_unit_apply_of x7 _ _ _ _ _ fun a => by
      rw [off2_0]; match a with | ⟨0, _⟩ => exact (Nat.zero_add _).symm | ⟨1, _⟩ => exact (Nat.zero_add _).symm
  simp only [h5 x5, h5 x6, h7]

/-- What the accumulator holds after the second trip, at row `r`. -/
theorem step1_apply (hb : Vec Ideal S512x1024 .bf16) (x5 x6 : Vec Ideal S1024x2816 .bf16) (x7 : Vec Ideal S2816x1024 .bf16)
    (a : Vec Ideal S512x1024 .f32) (r : Fin 512) (c : Fin 1024) :
    step hb x5 x6 x7 t1 a (ix2 r c)
      = a (ix2 r c) + dot (gate (fun k => hb (ix2 r k)) (fun k (j : Fin 1408) => x5 (ix2 k ⟨1408 + j.val, by omega⟩)) (fun k j => x6 (ix2 k ⟨1408 + j.val, by omega⟩)))
          (fun j c => x7 (ix2 ⟨1408 + j.val, by omega⟩ c)) c := by
  unfold step
  rw [pay2_apply]
  have h5 : ∀ (x : Vec Ideal S1024x2816 .bf16) (k : Fin 1024) (j : Fin 1408),
      View.ld x (Rect.unit (s := S1024x2816) (k0_off1 t1) S1024x1408.size (k0_off1_inb t1)) (ix2 k j) = x (ix2 k ⟨1408 + j.val, by omega⟩) :=
    fun x k j => View.ld_unit_apply_of x _ _ _ _ _ fun a => by
      rw [off1_1]; match a with | ⟨0, _⟩ => exact (Nat.zero_add _).symm | ⟨1, _⟩ => rfl
  have h7 : ∀ (j : Fin 1408) (c : Fin 1024),
      View.ld x7 (Rect.unit (s := S2816x1024) (k0_off2 t1) S1408x1024.size (k0_off2_inb t1)) (ix2 j c) = x7 (ix2 ⟨1408 + j.val, by omega⟩ c) :=
    fun k j => View.ld_unit_apply_of x7 _ _ _ _ _ fun a => by
      rw [off2_1]; match a with | ⟨0, _⟩ => rfl | ⟨1, _⟩ => exact (Nat.zero_add _).symm
  simp only [h5 x5, h5 x6, h7]

/-- The block the body stores, at row `r`, is `row` of the same row of the two token blocks. -/
theorem block_apply (x0 : Vec Ideal S512x1024 .f32) (x1 : Vec Ideal S512x1024 .bf16) (x2 x3 : Vec Ideal S1024x1024 .bf16)
    (x4 : Vec Ideal S1x1024 .f32) (x5 x6 : Vec Ideal S1024x2816 .bf16) (x7 : Vec Ideal S2816x1024 .bf16) (x8 : Vec Ideal S1x1024 .f32)
    (r : Fin 512) (c : Fin 1024) :
    k0_pay3 (step (k0_pay5 x1 x0 x2 x3 x4) x5 x6 x7 t1 (step (k0_pay5 x1 x0 x2 x3 x4) x5 x6 x7 t0 (k0_pay1 (k0_pay4 x1 x0 x2 x3)))) x8 (ix2 r c)
      = row (fun k => x0 (ix2 r k)) (fun k => x1 (ix2 r k)) (fun k c => x2 (ix2 k c)) (fun k c => x3 (ix2 k c)) (fun k => x4 (ix2 0 k))
          (fun k c => x5 (ix2 k c)) (fun k c => x6 (ix2 k c)) (fun k c => x7 (ix2 k c)) (fun k => x8 (ix2 0 k)) c := by
  rw [pay3_apply]
  unfold row
  congr 1
  funext k
  rw [step1_apply, step0_apply]
  have h1 : k0_pay1 (k0_pay4 x1 x0 x2 x3) (ix2 r k) = k0_pay4 x1 x0 x2 x3 (ix2 r k) := by pointwise [k0_pay1]
  rw [h1]
  simp only [pay5_apply, pay4_apply]
  rw [← ffn_two_steps]
end

section
open Cert.OddRefIdeal Cert.OddRefIdeal.Gen Cert.OddRefIdeal.Read
variable (x0 : (⟨S16384x1024, .f32⟩ : BufTy).Contents (Elt Ideal)) (x1 : (⟨S16384x1024, .bf16⟩ : BufTy).Contents (Elt Ideal))
  (x2 x3 : (⟨S1024x1024, .f32⟩ : BufTy).Contents (Elt Ideal)) (x4 : (⟨S1024, .f32⟩ : BufTy).Contents (Elt Ideal))
  (x5 x6 : (⟨S1024x2816, .f32⟩ : BufTy).Contents (Elt Ideal)) (x7 : (⟨S2816x1024, .f32⟩ : BufTy).Contents (Elt Ideal))
  (x8 : (⟨S1024, .f32⟩ : BufTy).Contents (Elt Ideal)) (r : Fin 16384) (c : Fin 1024)

/-- The reference's gated linear unit. -/
theorem ref_glu : val_main_v10 x0 x1 x2 x3 (ix2 r c)
    = glu (fun k => x0 (ix2 r k)) (fun k => x1 (ix2 r k)) (fun k c => x2 (ix2 k c)) (fun k c => x3 (ix2 k c)) c := by
  pointwise [val_main_v10, val_main_v9, val_main_v8, val_main_v7, val_main_v6, val_main_v5, val_main_v4, val_main_v3, val_main_v2,
    val_main_v1, val_main_v0, val_main_cst, val_main_cst_0]
  rfl

/-- The reference's norm. -/
theorem ref_norm : val_main_v23 x0 x1 x2 x3 x4 (ix2 r c)
    = rms (fun k => val_main_v10 x0 x1 x2 x3 (ix2 r k)) (fun k => x4 (ix1 k)) c := by
  pointwise [val_main_v23, val_main_v22, val_main_v21, val_main_v20, val_main_v19, val_main_v18, val_main_v17, val_main_v16,
    val_main_v15, val_main_v14, val_main_v13, val_main_v12, val_main_v11, val_main_cst_1, val_main_cst_2, val_main_cst_3]
  rfl

/-- The reference's feed-forward block. -/
theorem ref_ffn : val_main_v29 x0 x1 x2 x3 x4 x5 x6 x7 (ix2 r c)
    = val_main_v10 x0 x1 x2 x3 (ix2 r c) + dot (gate (fun k => val_main_v23 x0 x1 x2 x3 x4 (ix2 r k)) (fun k c => x5 (ix2 k c)) (fun k c => x6 (ix2 k c)))
        (fun k c => x7 (ix2 k c)) c := by
  pointwise [val_main_v29, val_main_v28, val_main_v27, val_main_v26, val_main_v25, val_main_v24, val_main_call0_v0, val_main_call0_v1,
    val_main_call0_cst, val_main_call0_v2, val_main_call0_v3, val_main_call0_cst_0, val_main_call0_v4, val_main_call0_v5]
  rfl

/-- The reference's final norm. -/
theorem ref_out : val_main_v42 x0 x1 x2 x3 x4 x5 x6 x7 x8 (ix2 r c)
    = rms (fun k => val_main_v29 x0 x1 x2 x3 x4 x5 x6 x7 (ix2 r k)) (fun k => x8 (ix1 k)) c := by
  pointwise [val_main_v42, val_main_v41, val_main_v40, val_main_v39, val_main_v38, val_main_v37, val_main_v36, val_main_v35, val_main_v34,
    val_main_v33, val_main_v32, val_main_v31, val_main_v30, val_main_cst_4, val_main_cst_5, val_main_cst_6]
  rfl

/-- The reference's result at row `r` is `row` of the arguments' row `r`. -/
theorem ref_apply : val_main_v42 x0 x1 x2 x3 x4 x5 x6 x7 x8 (ix2 r c)
    = row (fun k => x0 (ix2 r k)) (fun k => x1 (ix2 r k)) (fun k c => x2 (ix2 k c)) (fun k c => x3 (ix2 k c)) (fun k => x4 (ix1 k))
          (fun k c => x5 (ix2 k c)) (fun k c => x6 (ix2 k c)) (fun k c => x7 (ix2 k c)) (fun k => x8 (ix1 k)) c := by
  rw [ref_out]
  simp only [ref_ffn, ref_norm, ref_glu]
  rfl
end

section
open Cert.OddIdeal Cert.OddIdeal.Gen
open Idealize.ShloMosaic.Pipeline (Dat Cfg Window)

variable (m : (ℓ : Loc nD τ sig) → Buf (Elt Ideal) ℓ)

/-- Where each window's block of the grid point lies. -/
theorem index_eq : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The result array after the kernel's run is the reference's result on the same arguments. -/
theorem final (c : Dev nD) :
    (dats m 0 c).arrAt 9 cfg0.N = Cert.OddRefIdeal.Read.val_main_v42
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  unfold outsAt0
  rw [Cert.Proof.OddBlock.out_eq]
  have hy : ∃ (r : Fin 512) (k : Fin 1024), y = ix2 r k := ⟨y 0, y 1, eq_ix2 y⟩
  obtain ⟨r, k, rfl⟩ := hy
  have ht : t.val < 32 := t.isLt
  obtain ⟨e0, e1, e2, e3, e4, e5, e6, e7, e8, e9⟩ := index_eq t
  have hi : (win0_9.blk t).view.emb (ix2 r k) = ix2 (⟨t.val * 512 + r.val, by omega⟩ : Fin 16384) k := by
    blk_ext [e9]
  rw [hi, ref_apply, block_apply]
  have b0 : ∀ k, iblk m c 0 t (ix2 r k) = m ((c : Thread nD τ).loc main_arg0) (ix2 (⟨t.val * 512 + r.val, by omega⟩ : Fin 16384) k) := by
    intro k
    blk_ext [iblk, V, e0]
  have b1 : ∀ k, iblk m c 1 t (ix2 r k) = m ((c : Thread nD τ).loc main_arg1) (ix2 (⟨t.val * 512 + r.val, by omega⟩ : Fin 16384) k) := by
    intro k
    blk_ext [iblk, V, e1]
  have b2 : ∀ k j, iblk m c 2 t (ix2 k j) = m ((c : Thread nD τ).loc main_arg2) (ix2 k j) := by
    intro k j
    blk_ext! [iblk, V, e2]
  have b3 : ∀ k j, iblk m c 3 t (ix2 k j) = m ((c : Thread nD τ).loc main_arg3) (ix2 k j) := by
    intro k j
    blk_ext! [iblk, V, e3]
  have b4 : ∀ k, iblk m c 4 t (ix2 0 k) = m ((c : Thread nD τ).loc main_arg4) (ix1 k) := by
    intro k
    blk_ext! [iblk, V, e4]
  have b5 : ∀ k j, iblk m c 5 t (ix2 k j) = m ((c : Thread nD τ).loc main_arg5) (ix2 k j) := by
    intro k j
    blk_ext! [iblk, V, e5]
  have b6 : ∀ k j, iblk m c 6 t (ix2 k j) = m ((c : Thread nD τ).loc main_arg6) (ix2 k j) := by
    intro k j
    blk_ext! [iblk, V, e6]
  have b7 : ∀ k j, iblk m c 7 t (ix2 k j) = m ((c : Thread nD τ).loc main_arg7) (ix2 k j) := by
    intro k j
    blk_ext! [iblk, V, e7]
  have b8 : ∀ k, iblk m c 8 t (ix2 0 k) = m ((c : Thread nD τ).loc main_arg8) (ix1 k) := by
    intro k
    blk_ext! [iblk, V, e8]
  simp only [b0, b1, b2, b3, b4, b5, b6, b7, b8]
end

/-- The odd layer's tail computes its reference, at every input. -/
theorem algebraic : Cert.algebraic_OddIdeal_OddRefIdeal
    (hOddIdeal := Cert.OddIdeal.Gen.facts) (hOddRefIdeal := Cert.OddRefIdeal.Gen.facts) := by
  intro m g m' g' _ h
  refine ⟨fun c => (Cert.OddIdeal.Gen.dats m 0 c).arrAt 9 Cert.OddIdeal.cfg0.N, Cert.OddIdeal.Value.run_blocks m g, ?_⟩
  refine (θ_run _ _ _).mono (fun r hr c => ?_) (Cert.OddRefIdeal.Value.run m' g')
  obtain ⟨h0, h1, h2, h3, h4, h5, h6, h7, h8⟩ := h c
  refine ⟨(hr c).1.trans ?_, (hr c).2⟩
  rw [Cert.OddRefIdeal.Read.val_main_v42_eq, h0, h1, h2, h3, h4, h5, h6, h7, h8]
  exact (final m c).symm

end Cert.Proof.OddValue
end
-- ==== Proof.EvenBlock.lean ====
/-
  The even layer's tail: what one block of 512 tokens computes, as a composition of the kernel's own payloads. The
  sixteen tiles of the spatial gating unit fill a scratch array; the feed-forward loop adds two pieces to an accumulator.
-/
module

public import proofs.«01_k».proof.Proof.Gen.EvenIdeal.Value
public import Idealize.ShloMosaic.Lib.Pipeline.ValueKit
public import Idealize.ShloMosaic.Lib.VecWindow

@[expose] public section

set_option maxRecDepth 16384

noncomputable section

namespace Cert.Proof.EvenBlock

open Idealize.ShloMosaic Idealize.ShloMosaic.TcCoe Idealize.SL.Sem Cert.EvenIdeal Cert.EvenIdeal.Gen
open Idealize.ShloMosaic.Pipeline (Dat Cfg Window)

variable {F : FTy → Type} [FloatOps F]

theorem hz : (![0, 0] : Fin 2 → Nat) = fun _ => 0 :=
  funext fun a => by fin_cases a <;> rfl

/-- What one trip of the loop stores: the accumulator with the product of one piece of the hidden units added. -/
theorem trip_eq  (𝒱 : Variants) (c : Dev nD) (bd : Option 𝒱.V) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S4x128x128 .f32) (harg5 : arg5.IsWhole) (arg6 : Memref sig .tc .vmem S4x128x1 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x512 .bf16) (harg14 : arg14.IsWhole) (arg15 : Memref sig .tc .vmem S512x1024 .bf16) (harg15 : arg15.IsWhole) (arg16 : Memref sig .tc .vmem S512x1024 .f32) (harg16 : arg16.IsWhole) (X9 : BufTy.Contents (Elt F) arg9.view.ty) (X10 : BufTy.Contents (Elt F) arg10.view.ty) (X11 : BufTy.Contents (Elt F) arg11.view.ty) (X15 : BufTy.Contents (Elt F) arg15.view.ty) (k : Fin k0_t1_loop.trips) (f : BufTy.Contents (Elt F) arg16.view.ty)
   : tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X9 X10 X11 X15 k f
     = [⟨Rect.unit ![0, 0] S512x1024.size inb_S512x1024_S512x1024_0_0,
          k0_pay2 (arg15.view.read (Elt F) X15)
            (View.ld (arg9.view.read (Elt F) X9) (Rect.unit (s := S1024x2816) (k0_off1 k) S1024x1408.size (k0_off1_inb k)))
            (View.ld (arg10.view.read (Elt F) X10) (Rect.unit (s := S1024x2816) (k0_off1 k) S1024x1408.size (k0_off1_inb k)))
            (arg16.view.read (Elt F) f)
            (View.ld (arg11.view.read (Elt F) X11) (Rect.unit (s := S2816x1024) (k0_off2 k) S1408x1024.size (k0_off2_inb k)))⟩] := by
  unfold tripL_k0_t1
  unfold trip_k0_t1
  dsimp only
  simp only [View.readAt_eq_ld]
  rw [View.ld_unit_zero (S := S512x1024) hz, View.ld_unit_zero (S := S512x1024) hz]

/-- The first trip of the loop. -/
def t0 : Fin k0_t1_loop.trips := ⟨0, by decide +kernel⟩
/-- The second trip of the loop. -/
def t1 : Fin k0_t1_loop.trips := ⟨1, by decide +kernel⟩

/-- What one trip adds to the accumulator `a`. -/
def step (hb : Vec F S512x1024 .bf16) (x8 x9 : Vec F S1024x2816 .bf16) (x10 : Vec F S2816x1024 .bf16)
    (k : Fin k0_t1_loop.trips) (a : Vec F S512x1024 .f32) : Vec F S512x1024 .f32 :=
  k0_pay2 hb
    (View.ld x8 (Rect.unit (s := S1024x2816) (k0_off1 k) S1024x1408.size (k0_off1_inb k)))
    (View.ld x9 (Rect.unit (s := S1024x2816) (k0_off1 k) S1024x1408.size (k0_off1_inb k)))
    a (View.ld x10 (Rect.unit (s := S2816x1024) (k0_off2 k) S1408x1024.size (k0_off2_inb k)))

/-- One tile of the spatial gating unit: the mixing matrix `w` of a group below its diagonal, times the tile `v`, plus
    the bias `b`, times the tile `u`. -/
def tile (w : Vec F S1x128x128 .f32) (b : Vec F S1x128x1 .f32) (v u : Vec F S128x128 .f32) : Vec F S128x128 .bf16 :=
  k0_pay12 k0_pay3 k0_pay4 k0_pay5 k0_pay6 k0_pay7 k0_pay8 w b v u

theorem inb_w (g : Fin 4) : ∀ a, (![g.val, 0, 0] : Fin 3 → Nat) a + (![1, 128, 128] : Fin 3 → Nat) a ≤ S4x128x128.size a := by
  revert g; decide
theorem inb_b (g : Fin 4) : ∀ a, (![g.val, 0, 0] : Fin 3 → Nat) a + (![1, 128, 1] : Fin 3 → Nat) a ≤ S4x128x1.size a := by
  revert g; decide
theorem inb_t (g k : Fin 4) : ∀ a, (![128 * k.val, 128 * g.val] : Fin 2 → Nat) a + (![128, 128] : Fin 2 → Nat) a ≤ S512x512.size a := by
  revert g k; decide

/-- The tile of chunk `k` and group `g`, at its place in the scratch array. -/
def piece (x2 x3 : Vec F S512x512 .f32) (x4 : Vec F S4x128x128 .f32) (x5 : Vec F S4x128x1 .f32) (g k : Fin 4) :
    View.Piece (Elt F) S512x512 .bf16 :=
  ⟨Rect.unit ![128 * k.val, 128 * g.val] ![128, 128] (inb_t g k),
    tile (View.ld x4 (Rect.unit (s := S4x128x128) ![g.val, 0, 0] ![1, 128, 128] (inb_w g)))
      (View.ld x5 (Rect.unit (s := S4x128x1) ![g.val, 0, 0] ![1, 128, 1] (inb_b g)))
      (View.ld x3 (Rect.unit (s := S512x512) ![128 * k.val, 128 * g.val] ![128, 128] (inb_t g k)))
      (View.ld x2 (Rect.unit (s := S512x512) ![128 * k.val, 128 * g.val] ![128, 128] (inb_t g k)))⟩

/-- The sixteen tiles, the last stored first. -/
def pieces (x2 x3 : Vec F S512x512 .f32) (x4 : Vec F S4x128x128 .f32) (x5 : Vec F S4x128x1 .f32) :
    List (View.Piece (Elt F) S512x512 .bf16) :=
  [3, 2, 1, 0].flatMap fun g => [3, 2, 1, 0].map fun k => piece x2 x3 x4 x5 g k

/-- The gating unit's block of 512 tokens. -/
def sgu (x2 x3 : Vec F S512x512 .f32) (x4 : Vec F S4x128x128 .f32) (x5 : Vec F S4x128x1 .f32) : Vec F S512x512 .bf16 :=
  View.canon (pieces x2 x3 x4 x5)

/-- The upper half of the output projection. -/
def top (x6 : Vec F S1024x1024 .bf16) : Vec F S512x1024 .bf16 :=
  View.ld x6 (Rect.unit (s := S1024x1024) ![0, 0] ![512, 1024] inb_S1024x1024_S512x1024_0_0)

/-- The lower half of the output projection. -/
def bot (x6 : Vec F S1024x1024 .bf16) : Vec F S512x1024 .bf16 :=
  View.ld x6 (Rect.unit (s := S1024x1024) ![512, 0] ![512, 1024] inb_S1024x1024_S512x1024_512_0)

set_option maxHeartbeats 1000000 in
/-- The block of the result: two steps of the feed-forward on top of the residual. -/
theorem out_eq  (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S4x128x128 .f32) (harg5 : arg5.IsWhole) (arg6 : Memref sig .tc .vmem S4x128x1 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x512 .bf16) (harg14 : arg14.IsWhole) (arg15 : Memref sig .tc .vmem S512x1024 .bf16) (harg15 : arg15.IsWhole) (arg16 : Memref sig .tc .vmem S512x1024 .f32) (harg16 : arg16.IsWhole)
    (x0 : Vec F S512x1024 .f32) (x1 : Vec F S512x512 .f32) (x2 : Vec F S512x512 .f32) (x3 : Vec F S512x512 .f32) (x4 : Vec F S4x128x128 .f32) (x5 : Vec F S4x128x1 .f32) (x6 : Vec F S1024x1024 .bf16) (x7 : Vec F S1x1024 .f32) (x8 : Vec F S1024x2816 .bf16) (x9 : Vec F S1024x2816 .bf16) (x10 : Vec F S2816x1024 .bf16) (x11 : Vec F S1x1024 .f32)
    : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11
      = step (k0_pay39 x0 x1 (top x6) (sgu x2 x3 x4 x5) (bot x6) x7) x8 x9 x10 t1
          (step (k0_pay39 x0 x1 (top x6) (sgu x2 x3 x4 x5) (bot x6) x7) x8 x9 x10 t0
            (k0_pay1 (k0_pay38 x0 x1 (top x6) (sgu x2 x3 x4 x5) (bot x6)))) := by
  frame_out
  rw [show Scf.trips (0#32) (Scalar.addi 0#32 2#32) 1#32 = t1.val + 1 from by decide +kernel, pb_k0_t1_succ, trip_eq,
    show t1.val = t0.val + 1 from rfl, pb_k0_t1_succ, trip_eq, show t0.val = 0 from rfl, pb_k0_t1]
  simp only [List.cons_append, List.nil_append, List.append_nil]
  rw [View.readCov_cons_toLoadRect]
  simp only [Memref.IsWhole.read_unread]
  have e15 := fun w => View.read_writes_full (Val := Elt F) arg15.view arg15.view.junk inb_S512x1024_S512x1024_0_0 w []
  have e16 := fun w => View.read_writes_full (Val := Elt F) arg16.view arg16.view.junk inb_S512x1024_S512x1024_0_0 w []
  have e16' := fun w z => View.read_writes_full (Val := Elt F) arg16.view
    (arg16.view.writes (Elt F) arg16.view.junk [⟨Rect.unit ![0, 0] S512x1024.size inb_S512x1024_S512x1024_0_0, z⟩])
    inb_S512x1024_S512x1024_0_0 w []
  have e14 : arg14.view.readCov (Val := Elt F) (pieces x2 x3 x4 x5) (Rect.unit ![0, 0] ![512, 512] inb_S512x512_S512x512_0_0).toLoadRect
      = View.canon (pieces x2 x3 x4 x5) := by
    rw [View.readCov_eq_canon']
    funext j
    exact congrArg (View.canon (pieces x2 x3 x4 x5)) (funext fun a => Fin.ext (by fin_cases a <;> exact (Nat.zero_add _).trans (Nat.one_mul _)))
  rw [← e14]
  unfold step
  rw [e15, e16', View.writes_nil, e16]
  rfl

end Cert.Proof.EvenBlock
end
-- ==== Proof.EvenValue.lean ====
/-
  The even layer's tail: the spatial gating unit, the output projection and the feed-forward block of the kernel and of
  the reference, both read at an index as the same function of the arguments' rows.
-/
module

public import proofs.«01_k».proof.Defs
public import proofs.«01_k».proof.Proof.EvenBlock
public import proofs.«01_k».proof.Proof.Layer
public import proofs.«01_k».proof.Proof.Gen.EvenRefIdeal.Read

@[expose] public section

set_option maxRecDepth 16384

noncomputable section

namespace Cert.Proof.EvenValue

open Idealize.ShloMosaic Idealize.ShloMosaic.TcCoe Idealize.SL.Sem
open Cert.Proof.Layer

/-- The spatial gating unit at position `p` of its chunk: the input `u` times the causal mix of the chunk's values `v`
    (the weights `w` up to position `p`) plus the bias `b`. -/
def gating (p : Fin 128) (w : Fin 128 → EReal) (b : EReal) (v : Fin 128 → EReal) (u : EReal) : EReal :=
  u * ((∑ q, if q ≤ p then w q * v q else 0) + b)

/-- The gating unit at the token in row `r` of an array of chunks of 128 tokens, at lane `l` of its 512. -/
def gateAt {n : Nat} (h : n % 128 = 0) (u v : Fin n → Fin 512 → EReal) (w : Fin 4 → Fin 128 → Fin 128 → EReal) (b : Fin 4 → Fin 128 → EReal)
    (r : Fin n) (l : Fin 512) : EReal :=
  gating ⟨r.val % 128, by omega⟩ (w ⟨l.val / 128, by omega⟩ ⟨r.val % 128, by omega⟩) (b ⟨l.val / 128, by omega⟩ ⟨r.val % 128, by omega⟩)
    (fun q => v ⟨r.val / 128 * 128 + q.val, by omega⟩ l) (u r l)

/-- The residual with the output projection of the attention `a` and the gating unit `s`. -/
def res (x : Fin 1024 → EReal) (a s : Fin 512 → EReal) (wo : Fin 1024 → Fin 1024 → EReal) (c : Fin 1024) : EReal :=
  x c + (dot a (fun j => wo ⟨j.val, by omega⟩) c + dot s (fun j => wo ⟨512 + j.val, by omega⟩) c)

section
open Cert.EvenIdeal Cert.EvenIdeal.Gen Cert.Proof.EvenBlock

theorem pay4_zero (p q : Fin 128) : k0_pay4 (ix2 p q) = 0#32 := by
  pointwise [k0_pay4]
  revert p
  decide +kernel

theorem mask_apply (p q : Fin 128) :
    k0_pay9 k0_pay3 k0_pay4 k0_pay5 k0_pay6 k0_pay7 k0_pay8 (ix2 p q) = if q ≤ p then 1#1 else 0#1 := by
  pointwise [k0_pay9, k0_pay3, k0_pay5, k0_pay6, k0_pay7, k0_pay8]
  rw [pay4_zero]
  revert p q
  decide +kernel

theorem tile_apply (w : Vec Ideal S1x128x128 .f32) (b : Vec Ideal S1x128x1 .f32) (v u : Vec Ideal S128x128 .f32) (p l : Fin 128) :
    tile w b v u (ix2 p l)
      = gating p (fun q => w (ix3 0 p q)) (b (ix3 0 p 0)) (fun q => v (ix2 q l)) (u (ix2 p l)) := by
  pointwise [tile, k0_pay12, k0_pay11, k0_pay10]
  unfold gating
  congr 2
  refine Finset.sum_congr rfl fun q _ => ?_
  rw [mask_apply]
  by_cases h : q ≤ p
  · rw [if_pos h, if_pos h]; rfl
  · rw [if_neg h, if_neg h]; rfl

theorem pay38_apply (x : Vec Ideal S512x1024 .f32) (a : Vec Ideal S512x512 .f32) (w0 : Vec Ideal S512x1024 .bf16)
    (s : Vec Ideal S512x512 .bf16) (w1 : Vec Ideal S512x1024 .bf16) (r : Fin 512) (k : Fin 1024) :
    k0_pay38 x a w0 s w1 (ix2 r k) = x (ix2 r k) + dot (fun j => a (ix2 r j)) (fun j k => w0 (ix2 j k)) k
      + dot (fun j => s (ix2 r j)) (fun j k => w1 (ix2 j k)) k := by
  pointwise [k0_pay38]
  rfl

theorem pay39_apply (x : Vec Ideal S512x1024 .f32) (a : Vec Ideal S512x512 .f32) (w0 : Vec Ideal S512x1024 .bf16)
    (s : Vec Ideal S512x512 .bf16) (w1 : Vec Ideal S512x1024 .bf16) (g : Vec Ideal S1x1024 .f32) (r : Fin 512) (k : Fin 1024) :
    k0_pay39 x a w0 s w1 g (ix2 r k) = rms (fun k => k0_pay38 x a w0 s w1 (ix2 r k)) (fun k => g (ix2 0 k)) k := by
  pointwise [k0_pay39]
  rfl

theorem pay2_apply (hb : Vec Ideal S512x1024 .bf16) (x5 x6 : Vec Ideal S1024x1408 .bf16) (x7 : Vec Ideal S1408x1024 .bf16)
    (a : Vec Ideal S512x1024 .f32) (r : Fin 512) (c : Fin 1024) :
    k0_pay2 hb x5 x6 a x7 (ix2 r c)
      = a (ix2 r c) + dot (gate (fun k => hb (ix2 r k)) (fun k j => x5 (ix2 k j)) (fun k j => x6 (ix2 k j)))
          (fun j c => x7 (ix2 j c)) c := by
  pointwise [k0_pay2]
  unfold gate dot logi
  simp only [sub_eq_add_neg, zero_add]

theorem off1_0 : ∀ a, k0_off1 t0 a = (![0, 0] : Fin 2 → Nat) a := by decide +kernel
theorem off1_1 : ∀ a, k0_off1 t1 a = (![0, 1408] : Fin 2 → Nat) a := by decide +kernel
theorem off2_0 : ∀ a, k0_off2 t0 a = (![0, 0] : Fin 2 → Nat) a := by decide +kernel
theorem off2_1 : ∀ a, k0_off2 t1 a = (![1408, 0] : Fin 2 → Nat) a := by decide +kernel

/-- What the accumulator holds after the first trip and after the second, at row `r`. -/
theorem step0_apply (hb : Vec Ideal S512x1024 .bf16) (x8 x9 : Vec Ideal S1024x2816 .bf16) (x10 : Vec Ideal S2816x1024 .bf16)
    (a : Vec Ideal S512x1024 .f32) (r : Fin 512) (c : Fin 1024) :
    step hb x8 x9 x10 t0 a (ix2 r c)
      = a (ix2 r c) + dot (gate (fun k => hb (ix2 r k)) (fun k (j : Fin 1408) => x8 (ix2 k ⟨j.val, by omega⟩)) (fun k j => x9 (ix2 k ⟨j.val, by omega⟩)))
          (fun j c => x10 (ix2 ⟨j.val, by omega⟩ c)) c := by
  unfold step
  rw [pay2_apply]
  have h8 : ∀ (x : Vec Ideal S1024x2816 .bf16) (k : Fin 1024) (j : Fin 1408),
      View.ld x (Rect.unit (s := S1024x2816) (k0_off1 t0) S1024x1408.size (k0_off1_inb t0)) (ix2 k j) = x (ix2 k ⟨j.val, by omega⟩) :=
    fun x k j => View.ld_unit_apply_of x _ _ _ _ _ fun a => by
      rw [off1_0]; match a with | ⟨0, _⟩ => exact (Nat.zero_add _).symm | ⟨1, _⟩ => exact (Nat.zero_add _).symm
  have h10 : ∀ (j : Fin 1408) (c : Fin 1024),
      View.ld x10 (Rect.unit (s := S2816x1024) (k0_off2 t0) S1408x1024.size (k0_off2_inb t0)) (ix2 j c) = x10 (ix2 ⟨j.val, by omega⟩ c) :=
    fun k j => View.ld_unit_apply_of x10 _ _ _ _ _ fun a => by
      rw [off2_0]; match a with | ⟨0, _⟩ => exact (Nat.zero_add _).symm | ⟨1, _⟩ => exact (Nat.zero_add _).symm
  simp only [h8 x8, h8 x9, h10]

theorem step1_apply (hb : Vec Ideal S512x1024 .bf16) (x8 x9 : Vec Ideal S1024x2816 .bf16) (x10 : Vec Ideal S2816x1024 .bf16)
    (a : Vec Ideal S512x1024 .f32) (r : Fin 512) (c : Fin 1024) :
    step hb x8 x9 x10 t1 a (ix2 r c)
      = a (ix2 r c) + dot (gate (fun k => hb (ix2 r k)) (fun k (j : Fin 1408) => x8 (ix2 k ⟨1408 + j.val, by omega⟩)) (fun k j => x9 (ix2 k ⟨1408 + j.val, by omega⟩)))
          (fun j c => x10 (ix2 ⟨1408 + j.val, by omega⟩ c)) c := by
  unfold step
  rw [pay2_apply]
  have h8 : ∀ (x : Vec Ideal S1024x2816 .bf16) (k : Fin 1024) (j : Fin 1408),
      View.ld x (Rect.unit (s := S1024x2816) (k0_off1 t1) S1024x1408.size (k0_off1_inb t1)) (ix2 k j) = x (ix2 k ⟨1408 + j.val, by omega⟩) :=
    fun x k j => View.ld_unit_apply_of x _ _ _ _ _ fun a => by
      rw [off1_1]; match a with | ⟨0, _⟩ => exact (Nat.zero_add _).symm | ⟨1, _⟩ => rfl
  have h10 : ∀ (j : Fin 1408) (c : Fin 1024),
      View.ld x10 (Rect.unit (s := S2816x1024) (k0_off2 t1) S1408x1024.size (k0_off2_inb t1)) (ix2 j c) = x10 (ix2 ⟨1408 + j.val, by omega⟩ c) :=
    fun k j => View.ld_unit_apply_of x10 _ _ _ _ _ fun a => by
      rw [off2_1]; match a with | ⟨0, _⟩ => rfl | ⟨1, _⟩ => exact (Nat.zero_add _).symm
  simp only [h8 x8, h8 x9, h10]

/-- A tile of the scratch array, at an index, is the gating unit at the tile's place. -/
theorem piece_apply (x2 x3 : Vec Ideal S512x512 .f32) (x4 : Vec Ideal S4x128x128 .f32) (x5 : Vec Ideal S4x128x1 .f32) (g k : Fin 4)
    (p l : Fin 128) :
    (piece x2 x3 x4 x5 g k).2 (ix2 p l)
      = gateAt (n := 512) rfl (fun r l => x2 (ix2 r l)) (fun r l => x3 (ix2 r l)) (fun g p q => x4 (ix3 g p q)) (fun g p => x5 (ix3 g p 0))
          ⟨128 * k.val + p.val, by omega⟩ ⟨128 * g.val + l.val, by omega⟩ := by
  show tile _ _ _ _ (ix2 p l) = _
  rw [tile_apply]
  unfold gateAt
  have hp : (⟨(128 * k.val + p.val) % 128, by omega⟩ : Fin 128) = p := Fin.ext (by show (128 * k.val + p.val) % 128 = p.val; omega)
  have hg : (⟨(128 * g.val + l.val) / 128, by omega⟩ : Fin 4) = g := Fin.ext (by show (128 * g.val + l.val) / 128 = g.val; omega)
  have hw : ∀ q, View.ld x4 (Rect.unit (s := S4x128x128) ![g.val, 0, 0] ![1, 128, 128] (inb_w g)) (ix3 0 p q) = x4 (ix3 g p q) :=
    fun q => View.ld_unit_apply_of x4 _ _ _ _ _ fun a => by
      match a with | ⟨0, _⟩ => rfl | ⟨1, _⟩ => exact (Nat.zero_add _).symm | ⟨2, _⟩ => exact (Nat.zero_add _).symm
  have hb : View.ld x5 (Rect.unit (s := S4x128x1) ![g.val, 0, 0] ![1, 128, 1] (inb_b g)) (ix3 0 p 0) = x5 (ix3 g p 0) :=
    View.ld_unit_apply_of x5 _ _ _ _ _ fun a => by
      match a with | ⟨0, _⟩ => rfl | ⟨1, _⟩ => exact (Nat.zero_add _).symm | ⟨2, _⟩ => rfl
  have hv : ∀ (x : Vec Ideal S512x512 .f32) (q : Fin 128),
      View.ld x (Rect.unit (s := S512x512) ![128 * k.val, 128 * g.val] ![128, 128] (inb_t g k)) (ix2 q l)
        = x (ix2 ⟨128 * k.val + q.val, by omega⟩ ⟨128 * g.val + l.val, by omega⟩) :=
    fun x q => View.ld_unit_apply_of x _ _ _ _ _ fun a => by
      match a with | ⟨0, _⟩ => rfl | ⟨1, _⟩ => rfl
  have hr : ∀ q : Fin 128, (⟨(128 * k.val + p.val) / 128 * 128 + q.val, by omega⟩ : Fin 512) = ⟨128 * k.val + q.val, by omega⟩ :=
    fun q => Fin.ext (by show (128 * k.val + p.val) / 128 * 128 + q.val = 128 * k.val + q.val; omega)
  rw [hp, hg, hv x2, hb]
  simp only [hw, hv x3, hr]

/-- The scratch array the sixteen tiles fill is the gating unit of the block's 512 tokens. -/
theorem sgu_apply (x2 x3 : Vec Ideal S512x512 .f32) (x4 : Vec Ideal S4x128x128 .f32) (x5 : Vec Ideal S4x128x1 .f32) (r l : Fin 512) :
    sgu x2 x3 x4 x5 (ix2 r l)
      = gateAt (n := 512) rfl (fun r l => x2 (ix2 r l)) (fun r l => x3 (ix2 r l)) (fun g p q => x4 (ix3 g p q)) (fun g p => x5 (ix3 g p 0)) r l := by
  unfold sgu
  refine View.canon_apply_of_pieces (Val := Elt Ideal) (e := .bf16) (fun y : S512x512.Idx => gateAt (n := 512) rfl (fun r l => x2 (ix2 r l)) (fun r l => x3 (ix2 r l))
    (fun g p q => x4 (ix3 g p q)) (fun g p => x5 (ix3 g p 0)) (y 0) (y 1)) _ ?_ (ix2 r l) ?_
  · intro pc hpc x
    obtain ⟨g, -, hpc⟩ := List.mem_flatMap.mp hpc
    obtain ⟨k, -, rfl⟩ := List.mem_map.mp hpc
    have hx : x = ix2 (n0 := 128) (n1 := 128) (x 0) (x 1) := eq_ix2 x
    rw [hx]
    refine (piece_apply x2 x3 x4 x5 g k (x 0) (x 1)).trans ?_
    congr 1 <;> exact Fin.ext (by show _ = _ + 1 * _; rw [Nat.one_mul]; rfl)
  · refine ⟨piece x2 x3 x4 x5 ⟨l.val / 128, by omega⟩ ⟨r.val / 128, by omega⟩, ?_, ?_⟩
    · exact List.mem_flatMap.mpr ⟨_, (by decide : ∀ g : Fin 4, g ∈ [3, 2, 1, 0]) _,
        List.mem_map.mpr ⟨_, (by decide : ∀ g : Fin 4, g ∈ [3, 2, 1, 0]) _, rfl⟩⟩
    · refine (Rect.mem_set_unit (inb := inb_t ⟨l.val / 128, by omega⟩ ⟨r.val / 128, by omega⟩)).mpr fun a => ?_
      match a with
      | ⟨0, _⟩ => exact ⟨by show 128 * (r.val / 128) ≤ r.val; omega, by show r.val < 128 * (r.val / 128) + 128; omega⟩
      | ⟨1, _⟩ => exact ⟨by show 128 * (l.val / 128) ≤ l.val; omega, by show l.val < 128 * (l.val / 128) + 128; omega⟩

theorem top_apply (x6 : Vec Ideal S1024x1024 .bf16) (j : Fin 512) (k : Fin 1024) : top x6 (ix2 j k) = x6 (ix2 ⟨j.val, by omega⟩ k) :=
  View.ld_unit_apply_of x6 _ _ _ _ _ fun a => by
    match a with | ⟨0, _⟩ => exact (Nat.zero_add _).symm | ⟨1, _⟩ => exact (Nat.zero_add _).symm

theorem bot_apply (x6 : Vec Ideal S1024x1024 .bf16) (j : Fin 512) (k : Fin 1024) : bot x6 (ix2 j k) = x6 (ix2 ⟨512 + j.val, by omega⟩ k) :=
  View.ld_unit_apply_of x6 _ _ _ _ _ fun a => by
    match a with | ⟨0, _⟩ => rfl | ⟨1, _⟩ => exact (Nat.zero_add _).symm

/-- The block the body stores, at row `r`. -/
theorem block_apply (x0 : Vec Ideal S512x1024 .f32) (x1 x2 x3 : Vec Ideal S512x512 .f32) (x4 : Vec Ideal S4x128x128 .f32)
    (x5 : Vec Ideal S4x128x1 .f32) (x6 : Vec Ideal S1024x1024 .bf16) (x7 : Vec Ideal S1x1024 .f32) (x8 x9 : Vec Ideal S1024x2816 .bf16)
    (x10 : Vec Ideal S2816x1024 .bf16) (r : Fin 512) (c : Fin 1024) :
    step (k0_pay39 x0 x1 (top x6) (sgu x2 x3 x4 x5) (bot x6) x7) x8 x9 x10 t1
          (step (k0_pay39 x0 x1 (top x6) (sgu x2 x3 x4 x5) (bot x6) x7) x8 x9 x10 t0
            (k0_pay1 (k0_pay38 x0 x1 (top x6) (sgu x2 x3 x4 x5) (bot x6)))) (ix2 r c)
      = ffn (res (fun k => x0 (ix2 r k)) (fun j => x1 (ix2 r j))
            (gateAt (n := 512) rfl (fun r l => x2 (ix2 r l)) (fun r l => x3 (ix2 r l)) (fun g p q => x4 (ix3 g p q)) (fun g p => x5 (ix3 g p 0)) r)
            (fun j k => x6 (ix2 j k)))
          (fun k => x7 (ix2 0 k)) (fun k c => x8 (ix2 k c)) (fun k c => x9 (ix2 k c)) (fun k c => x10 (ix2 k c)) c := by
  rw [step1_apply, step0_apply]
  have h1 : ∀ v : FVec Ideal S512x1024 .f32, k0_pay1 v (ix2 r c) = v (ix2 r c) := fun v => by pointwise [k0_pay1]
  have h38 : ∀ k, k0_pay38 x0 x1 (top x6) (sgu x2 x3 x4 x5) (bot x6) (ix2 r k)
      = res (fun k => x0 (ix2 r k)) (fun j => x1 (ix2 r j))
            (gateAt (n := 512) rfl (fun r l => x2 (ix2 r l)) (fun r l => x3 (ix2 r l)) (fun g p q => x4 (ix3 g p q)) (fun g p => x5 (ix3 g p 0)) r)
            (fun j k => x6 (ix2 j k)) k := fun k => by
    rw [pay38_apply]
    simp only [sgu_apply, top_apply, bot_apply]
    exact add_assoc _ _ _
  rw [h1]
  simp only [pay39_apply, h38]
  rw [← ffn_two_steps]
end

section
open Cert.EvenRefIdeal Cert.EvenRefIdeal.Read

theorem tril_apply (p q : Fin 128) :
    IntOp.cmpi CmpIPredicate.sge (IntOp.addi (BitVec.ofNat 32 p.val) 0#32) (BitVec.ofNat 32 q.val) = if q ≤ p then 1#1 else 0#1 := by
  revert p q
  decide +kernel

variable (x0 : (⟨S16384x1024, .f32⟩ : BufTy).Contents (Elt Ideal)) (x1 x2 x3 : (⟨S16384x512, .f32⟩ : BufTy).Contents (Elt Ideal))
  (x4 : (⟨S4x128x128, .f32⟩ : BufTy).Contents (Elt Ideal)) (x5 : (⟨S4x128, .f32⟩ : BufTy).Contents (Elt Ideal))
  (x6 : (⟨S1024x1024, .f32⟩ : BufTy).Contents (Elt Ideal)) (x7 : (⟨S1024, .f32⟩ : BufTy).Contents (Elt Ideal))
  (x8 x9 : (⟨S1024x2816, .f32⟩ : BufTy).Contents (Elt Ideal)) (x10 : (⟨S2816x1024, .f32⟩ : BufTy).Contents (Elt Ideal))
  (r : Fin 16384)

theorem ref_gating (l : Fin 512) : val_main_v10 x2 x3 x4 x5 (ix2 r l)
    = gateAt (n := 16384) rfl (fun r l => x2 (ix2 r l)) (fun r l => x3 (ix2 r l)) (fun g p q => x4 (ix3 g p q)) (fun g p => x5 (ix2 g p)) r l := by
  pointwise [val_main_v10, val_main_v9, val_main_v8, val_main_v7, val_main_v6, val_main_v5, val_main_v4, val_main_v3,
    val_main_v2, val_main_v1, val_main_v0, val_main_call0_v6, val_main_call0_cst, val_main_call0_v5, val_main_call0_v4,
    val_main_call0_v3, val_main_call0_v2, val_main_call0_v1, val_main_call0_c, val_main_call0_v0]
  unfold gateAt gating
  congr 2
  refine Finset.sum_congr rfl fun q _ => ?_
  have ht := tril_apply ⟨r.val % 128, by omega⟩ q
  rw [ht, mul_comm]
  by_cases h : q ≤ ⟨r.val % 128, by omega⟩
  · rw [if_pos h, if_pos h]; rfl
  · rw [if_neg h, if_neg h]; rfl

theorem ref_res (k : Fin 1024) : val_main_v13 x0 x1 x2 x3 x4 x5 x6 (ix2 r k)
    = res (fun k => x0 (ix2 r k)) (fun j => x1 (ix2 r j)) (fun l => val_main_v10 x2 x3 x4 x5 (ix2 r l)) (fun j k => x6 (ix2 j k)) k := by
  pointwise [val_main_v13, val_main_v12, val_main_v11]
  rfl

theorem ref_norm (c : Fin 1024) : val_main_v26 x0 x1 x2 x3 x4 x5 x6 x7 (ix2 r c)
    = rms (fun k => val_main_v13 x0 x1 x2 x3 x4 x5 x6 (ix2 r k)) (fun k => x7 (ix1 k)) c := by
  pointwise [val_main_v26, val_main_v25, val_main_v24, val_main_v23, val_main_v22, val_main_v21, val_main_v20, val_main_v19,
    val_main_v18, val_main_v17, val_main_v16, val_main_v15, val_main_v14, val_main_cst, val_main_cst_0, val_main_cst_1]
  rfl

theorem ref_ffn (c : Fin 1024) : val_main_v32 x0 x1 x2 x3 x4 x5 x6 x7 x8 x9 x10 (ix2 r c)
    = val_main_v13 x0 x1 x2 x3 x4 x5 x6 (ix2 r c)
      + dot (gate (fun k => val_main_v26 x0 x1 x2 x3 x4 x5 x6 x7 (ix2 r k)) (fun k c => x8 (ix2 k c)) (fun k c => x9 (ix2 k c)))
        (fun k c => x10 (ix2 k c)) c := by
  pointwise [val_main_v32, val_main_v31, val_main_v30, val_main_v29, val_main_v28, val_main_v27, val_main_call1_v0, val_main_call1_v1,
    val_main_call1_cst, val_main_call1_v2, val_main_call1_v3, val_main_call1_cst_0, val_main_call1_v4, val_main_call1_v5]
  rfl

/-- The reference's result at row `r`. -/
theorem ref_apply (c : Fin 1024) : val_main_v32 x0 x1 x2 x3 x4 x5 x6 x7 x8 x9 x10 (ix2 r c)
    = ffn (res (fun k => x0 (ix2 r k)) (fun j => x1 (ix2 r j))
            (gateAt (n := 16384) rfl (fun r l => x2 (ix2 r l)) (fun r l => x3 (ix2 r l)) (fun g p q => x4 (ix3 g p q)) (fun g p => x5 (ix2 g p)) r)
            (fun j k => x6 (ix2 j k)))
          (fun k => x7 (ix1 k)) (fun k c => x8 (ix2 k c)) (fun k c => x9 (ix2 k c)) (fun k c => x10 (ix2 k c)) c := by
  rw [ref_ffn]
  simp only [ref_norm, ref_res, ref_gating]
  rfl
end

/-- The gating unit at a row of block `t` reads that block's rows alone: a block holds whole chunks. -/
theorem gateAt_block (t : Fin 32) (u v : Fin 16384 → Fin 512 → EReal) (w : Fin 4 → Fin 128 → Fin 128 → EReal) (b : Fin 4 → Fin 128 → EReal)
    (r : Fin 512) :
    gateAt (n := 512) rfl (fun r => u ⟨t.val * 512 + r.val, by omega⟩) (fun r => v ⟨t.val * 512 + r.val, by omega⟩) w b r
      = gateAt (n := 16384) rfl u v w b ⟨t.val * 512 + r.val, by omega⟩ := by
  funext l
  unfold gateAt
  have h : (t.val * 512 + r.val) % 128 = r.val % 128 := by omega
  have h' : ∀ q : Fin 128, t.val * 512 + (r.val / 128 * 128 + q.val) = (t.val * 512 + r.val) / 128 * 128 + q.val := by omega
  simp only [h, h']

section
open Cert.EvenIdeal Cert.EvenIdeal.Gen
open Idealize.ShloMosaic.Pipeline (Dat Cfg Window)

variable (m : (ℓ : Loc nD τ sig) → Buf (Elt Ideal) ℓ)

theorem index_eq : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0, 0] ∧ win0_6.index t = ![0, 0]
    ∧ win0_7.index t = ![0, 0] ∧ win0_8.index t = ![0, 0] ∧ win0_9.index t = ![0, 0] ∧ win0_10.index t = ![0, 0]
    ∧ win0_12.index t = ![t.val, 0] :=
  (by decide +kernel : ∀ t : Fin grid0.N, _)

set_option maxHeartbeats 2000000 in
/-- The result array after the kernel's run is the reference's result on the same arguments. -/
theorem final (c : Dev nD) :
    (dats m 0 c).arrAt 12 cfg0.N = Cert.EvenRefIdeal.Read.val_main_v32
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) := by
  refine (dats m 0 c).arrAt_eq_of_covers 12 _ (by decide +kernel) fun t hf y => ?_
  blk_simp
  rw [after0_12]
  unfold outsAt0
  rw [Cert.Proof.EvenBlock.out_eq]
  have hy : ∃ (r : Fin 512) (k : Fin 1024), y = ix2 r k := ⟨y 0, y 1, eq_ix2 y⟩
  obtain ⟨r, k, rfl⟩ := hy
  have ht : t.val < 32 := t.isLt
  obtain ⟨e0, e1, e2, e3, e4, e5, e6, e7, e8, e9, e10, e12⟩ := index_eq t
  have hi : (win0_12.blk t).view.emb (ix2 r k) = ix2 (⟨t.val * 512 + r.val, by omega⟩ : Fin 16384) k := by
    blk_ext [e12]
  rw [hi, ref_apply, block_apply]
  have b0 : ∀ k, iblk m c 0 t (ix2 r k) = m ((c : Thread nD τ).loc main_arg0) (ix2 (⟨t.val * 512 + r.val, by omega⟩ : Fin 16384) k) := by
    intro k
    blk_ext [iblk, V, e0]
  have b1 : ∀ k, iblk m c 1 t (ix2 r k) = m ((c : Thread nD τ).loc main_arg1) (ix2 (⟨t.val * 512 + r.val, by omega⟩ : Fin 16384) k) := by
    intro k
    blk_ext! [iblk, V, e1]
  have b2 : ∀ (r : Fin 512) (k : Fin 512), iblk m c 2 t (ix2 r k) = m ((c : Thread nD τ).loc main_arg2) (ix2 (⟨t.val * 512 + r.val, by omega⟩ : Fin 16384) k) := by
    intro r k
    blk_ext! [iblk, V, e2]
  have b3 : ∀ (r : Fin 512) (k : Fin 512), iblk m c 3 t (ix2 r k) = m ((c : Thread nD τ).loc main_arg3) (ix2 (⟨t.val * 512 + r.val, by omega⟩ : Fin 16384) k) := by
    intro r k
    blk_ext! [iblk, V, e3]
  have b4 : ∀ g p q, iblk m c 4 t (ix3 g p q) = m ((c : Thread nD τ).loc main_arg4) (ix3 g p q) := by
    intro g p q
    blk_ext! [iblk, V, e4]
  have b5 : ∀ g p, iblk m c 5 t (ix3 g p 0) = m ((c : Thread nD τ).loc main_arg5) (ix2 g p) := by
    intro g p
    blk_ext! [iblk, V, e5]
  have b6 : ∀ k j, iblk m c 6 t (ix2 k j) = m ((c : Thread nD τ).loc main_arg6) (ix2 k j) := by
    intro k j
    blk_ext! [iblk, V, e6]
  have b7 : ∀ k, iblk m c 7 t (ix2 0 k) = m ((c : Thread nD τ).loc main_arg7) (ix1 k) := by
    intro k
    blk_ext! [iblk, V, e7]
  have b8 : ∀ k j, iblk m c 8 t (ix2 k j) = m ((c : Thread nD τ).loc main_arg8) (ix2 k j) := by
    intro k j
    blk_ext! [iblk, V, e8]
  have b9 : ∀ k j, iblk m c 9 t (ix2 k j) = m ((c : Thread nD τ).loc main_arg9) (ix2 k j) := by
    intro k j
    blk_ext! [iblk, V, e9]
  have b10 : ∀ k j, iblk m c 10 t (ix2 k j) = m ((c : Thread nD τ).loc main_arg10) (ix2 k j) := by
    intro k j
    blk_ext! [iblk, V, e10]
  simp only [b0, b1, b2, b3, b4, b5, b6, b7, b8, b9, b10]
  rw [gateAt_block ⟨t.val, ht⟩ (fun r l => m ((c : Thread nD τ).loc main_arg2) (ix2 r l)) (fun r l => m ((c : Thread nD τ).loc main_arg3) (ix2 r l))]
end

/-- The even layer's tail computes its reference, at every input. -/
theorem algebraic : Cert.algebraic_EvenIdeal_EvenRefIdeal
    (hEvenIdeal := Cert.EvenIdeal.Gen.facts) (hEvenRefIdeal := Cert.EvenRefIdeal.Gen.facts) := by
  intro m g m' g' _ h
  refine ⟨fun c => (Cert.EvenIdeal.Gen.dats m 0 c).arrAt 12 Cert.EvenIdeal.cfg0.N, Cert.EvenIdeal.Value.run_blocks m g, ?_⟩
  refine (θ_run _ _ _).mono (fun r hr c => ?_) (Cert.EvenRefIdeal.Value.run m' g')
  obtain ⟨h0, h1, h2, h3, h4, h5, h6, h7, h8, h9, h10, h11⟩ := h c
  refine ⟨(hr c).1.trans ?_, (hr c).2⟩
  rw [Cert.EvenRefIdeal.Read.val_main_v32_eq, h0, h1, h2, h3, h4, h5, h6, h7, h8, h9, h10]
  exact (final m c).symm

end Cert.Proof.EvenValue
end
-- ==== Proof.DiscValue.lean ====
/-
  The discretization of the S5 layer: the kernel's four results are the reference's, entry by entry.
-/
module

public import proofs.«01_k».proof.Defs
public import proofs.«01_k».proof.Proof.Gen.DiscIdeal.Value
public import proofs.«01_k».proof.Proof.Gen.DiscRefIdeal.Read
public import Idealize.ShloMosaic.Lib.Pipeline.ValueKit

@[expose] public section

set_option maxRecDepth 16384

noncomputable section

namespace Cert.Proof.DiscValue

open Idealize.ShloMosaic Idealize.ShloMosaic.TcCoe Idealize.SL.Sem

section
open Cert.DiscIdeal Cert.DiscIdeal.Gen Cert.DiscRefIdeal.Read

theorem out5_eq (x0 x1 x2 : Vec Ideal S4096x1 .f32) (x3 x4 : Vec Ideal S4096x16 .f32) : out0_5 x0 x1 x2 x3 x4 = k0_pay7 x0 x1 x2 := by
  frame_out
theorem out6_eq (x0 x1 x2 : Vec Ideal S4096x1 .f32) (x3 x4 : Vec Ideal S4096x16 .f32) : out0_6 x0 x1 x2 x3 x4 = k0_pay8 x0 x1 x2 := by
  frame_out
theorem out7_eq (x0 x1 x2 : Vec Ideal S4096x1 .f32) (x3 x4 : Vec Ideal S4096x16 .f32) : out0_7 x0 x1 x2 x3 x4 = k0_pay15 x0 x1 x2 x3 x4 := by
  frame_out
theorem out8_eq (x0 x1 x2 : Vec Ideal S4096x1 .f32) (x3 x4 : Vec Ideal S4096x16 .f32) :
    out0_8 x0 x1 x2 x3 x4 = k0_pay1 (k0_pay12 x0 x1 x2) (k0_pay13 x3) (k0_pay14 x4) (k0_pay16 x0 x1 x2) := by
  frame_out

variable (m : (ℓ : Loc nD τ sig) → Buf (Elt Ideal) ℓ)

theorem index_eq : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

/-- Result 0 of the discretization is the reference's. -/
theorem final5 (c : Dev nD) :
    (dats m 0 c).arrAt 5 cfg0.N = val_main_v38
      (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6, e7, e8⟩ := index_eq t
  blk_simp
  rw [after0_5, out5_eq]
  have hy : ∃ (r : Fin 4096), y = ix2 r 0 := ⟨y 0, by ext a; fin_cases a; rfl; simp⟩
  obtain ⟨r, rfl⟩ := hy
  have hi : (win0_5.blk t).view.emb (ix2 r 0) = ix2 r 0 := by
    blk_ext [e5]
  rw [hi]
  pointwise [k0_pay1, k0_pay2, k0_pay3, k0_pay4, k0_pay5, k0_pay6, k0_pay7, k0_pay8, k0_pay9, k0_pay10, k0_pay11,
    k0_pay12, k0_pay13, k0_pay14, k0_pay15, k0_pay16,
    val_main_v0, val_main_v1, val_main_v2, val_main_v3, val_main_v4, val_main_v5, val_main_v6,
    val_main_v7, val_main_v8, val_main_v9, val_main_v10, val_main_v11, val_main_v12, val_main_v13,
    val_main_cst, val_main_v14, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v32, val_main_v33,
    val_main_v34, val_main_v35, val_main_v36, val_main_v37, val_main_v38, val_main_v39, val_main_v40,
    val_main_v41]
  blk_point [iblk, V, e0, e1, e2, e3, e4]

/-- Result 1 of the discretization is the reference's. -/
theorem final6 (c : Dev nD) :
    (dats m 0 c).arrAt 6 cfg0.N = val_main_v39
      (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨e0, e1, e2, e3, e4, e5, e6, e7, e8⟩ := index_eq t
  blk_simp
  rw [after0_6, out6_eq]
  have hy : ∃ (r : Fin 4096), y = ix2 r 0 := ⟨y 0, by ext a; fin_cases a; rfl; simp⟩
  obtain ⟨r, rfl⟩ := hy
  have hi : (win0_6.blk t).view.emb (ix2 r 0) = ix2 r 0 := by
    blk_ext [e6]
  rw [hi]
  pointwise [k0_pay1, k0_pay2, k0_pay3, k0_pay4, k0_pay5, k0_pay6, k0_pay7, k0_pay8, k0_pay9, k0_pay10, k0_pay11,
    k0_pay12, k0_pay13, k0_pay14, k0_pay15, k0_pay16,
    val_main_v0, val_main_v1, val_main_v2, val_main_v3, val_main_v4, val_main_v5, val_main_v6,
    val_main_v7, val_main_v8, val_main_v9, val_main_v10, val_main_v11, val_main_v12, val_main_v13,
    val_main_cst, val_main_v14, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v32, val_main_v33,
    val_main_v34, val_main_v35, val_main_v36, val_main_v37, val_main_v38, val_main_v39, val_main_v40,
    val_main_v41]
  blk_point [iblk, V, e0, e1, e2, e3, e4]

/-- Result 2 of the discretization is the reference's. -/
theorem final7 (c : Dev nD) :
    (dats m 0 c).arrAt 7 cfg0.N = val_main_v40
      (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  obtain ⟨e0, e1, e2, e3, e4, e5, e6, e7, e8⟩ := index_eq t
  blk_simp
  rw [after0_7, out7_eq]
  have hy : ∃ (r : Fin 4096) (k : Fin 16), y = ix2 r k := ⟨y 0, y 1, eq_ix2 y⟩
  obtain ⟨r, k, rfl⟩ := hy
  have hi : (win0_7.blk t).view.emb (ix2 r k) = ix2 r k := by
    blk_ext [e7]
  rw [hi]
  pointwise [k0_pay1, k0_pay2, k0_pay3, k0_pay4, k0_pay5, k0_pay6, k0_pay7, k0_pay8, k0_pay9, k0_pay10, k0_pay11,
    k0_pay12, k0_pay13, k0_pay14, k0_pay15, k0_pay16,
    val_main_v0, val_main_v1, val_main_v2, val_main_v3, val_main_v4, val_main_v5, val_main_v6,
    val_main_v7, val_main_v8, val_main_v9, val_main_v10, val_main_v11, val_main_v12, val_main_v13,
    val_main_cst, val_main_v14, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v32, val_main_v33,
    val_main_v34, val_main_v35, val_main_v36, val_main_v37, val_main_v38, val_main_v39, val_main_v40,
    val_main_v41]
  blk_point [iblk, V, e0, e1, e2, e3, e4]

/-- Result 3 of the discretization is the reference's. -/
theorem final8 (c : Dev nD) :
    (dats m 0 c).arrAt 8 cfg0.N = val_main_v41
      (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  obtain ⟨e0, e1, e2, e3, e4, e5, e6, e7, e8⟩ := index_eq t
  blk_simp
  rw [after0_8, out8_eq]
  have hy : ∃ (r : Fin 4096) (k : Fin 16), y = ix2 r k := ⟨y 0, y 1, eq_ix2 y⟩
  obtain ⟨r, k, rfl⟩ := hy
  have hi : (win0_8.blk t).view.emb (ix2 r k) = ix2 r k := by
    blk_ext [e8]
  rw [hi]
  pointwise [k0_pay1, k0_pay2, k0_pay3, k0_pay4, k0_pay5, k0_pay6, k0_pay7, k0_pay8, k0_pay9, k0_pay10, k0_pay11,
    k0_pay12, k0_pay13, k0_pay14, k0_pay15, k0_pay16,
    val_main_v0, val_main_v1, val_main_v2, val_main_v3, val_main_v4, val_main_v5, val_main_v6,
    val_main_v7, val_main_v8, val_main_v9, val_main_v10, val_main_v11, val_main_v12, val_main_v13,
    val_main_cst, val_main_v14, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v32, val_main_v33,
    val_main_v34, val_main_v35, val_main_v36, val_main_v37, val_main_v38, val_main_v39, val_main_v40,
    val_main_v41]
  blk_point [iblk, V, e0, e1, e2, e3, e4]

end

/-- The discretization computes its reference, at every input. -/
theorem algebraic : Cert.algebraic_DiscIdeal_DiscRefIdeal
    (hDiscIdeal := Cert.DiscIdeal.Gen.facts) (hDiscRefIdeal := Cert.DiscRefIdeal.Gen.facts) := by
  intro m g m' g' _ h
  refine ⟨fun c => (Cert.DiscIdeal.Gen.dats m 0 c).arrAt 5 Cert.DiscIdeal.cfg0.N,
    fun c => (Cert.DiscIdeal.Gen.dats m 0 c).arrAt 6 Cert.DiscIdeal.cfg0.N,
    fun c => (Cert.DiscIdeal.Gen.dats m 0 c).arrAt 7 Cert.DiscIdeal.cfg0.N,
    fun c => (Cert.DiscIdeal.Gen.dats m 0 c).arrAt 8 Cert.DiscIdeal.cfg0.N, Cert.DiscIdeal.Value.run_blocks m g, ?_⟩
  refine (θ_run _ _ _).mono (fun r hr c => ?_) (Cert.DiscRefIdeal.Value.run m' g')
  obtain ⟨h0, h1, h2, h3, h4⟩ := h c
  refine ⟨(hr c).1.trans ?_, (hr c).2.1.trans ?_, (hr c).2.2.1.trans ?_, (hr c).2.2.2.1.trans ?_, (hr c).2.2.2.2⟩
  · rw [Cert.DiscRefIdeal.Read.val_main_v38_eq, h0, h1, h2]
    exact (final5 m c).symm
  · rw [Cert.DiscRefIdeal.Read.val_main_v39_eq, h0, h1, h2]
    exact (final6 m c).symm
  · rw [Cert.DiscRefIdeal.Read.val_main_v40_eq, h0, h1, h2, h3, h4]
    exact (final7 m c).symm
  · rw [Cert.DiscRefIdeal.Read.val_main_v41_eq, h0, h1, h2, h3, h4]
    exact (final8 m c).symm

end Cert.Proof.DiscValue
end
-- ==== Proof.InMath.lean ====
/-
  The input projection of one token, over the extended reals: the columns of a product, the rotary embedding in the reference's
  form and in the kernel's, and the layer norm. No program is mentioned here.
-/
module

public import Idealize.ShloMosaic.Lib.Pointwise
public import proofs.«01_k».proof.Proof.Layer
public import proofs.«01_k».proof.Proof.S5Math

@[expose] public section

noncomputable section

namespace Cert.Proof.InMath

open Idealize.ShloMosaic Cert.Proof.Layer Cert.Proof.S5Math

/-- A row of `N` numbers as a function of every natural number, `0` past its end. -/
def ext {N : Nat} (f : Fin N → EReal) (n : Nat) : EReal := if h : n < N then f ⟨n, h⟩ else 0

theorem ext_of_lt {N : Nat} (f : Fin N → EReal) {n : Nat} (h : n < N) : ext f n = f ⟨n, h⟩ := dif_pos h

/-- Column `n` of the product of the row `h` with the matrix `w`. -/
def cols (h : Fin 1024 → EReal) (w : Fin 1024 → Nat → EReal) (n : Nat) : EReal := ∑ k, h k * w k n

/-- The rotary embedding of the columns `f`, in heads of 64: the first 8 and the next 8 columns of a head turn by the angles
whose cosines and sines are `cs` and `sn`, the other 48 stay. -/
def turn (f : Nat → EReal) (cs sn : Nat → EReal) (n : Nat) : EReal :=
  if n % 64 < 8 then f n * cs (n % 64) - f (n + 8) * sn (n % 64)
  else if n % 64 < 16 then f n * cs (n % 64 - 8) + f (n - 8) * sn (n % 64 - 8)
  else f n

/-- The rotation as the kernel applies it to the columns `f`: the tables `cs` and `sn` repeat every 128 columns, and a column's
partner lies 8 columns on in the first 8 of every 64 columns, 8 columns back elsewhere. -/
def rot (f : Nat → EReal) (cs sn : Nat → EReal) (n : Nat) : EReal :=
  f n * cs (n % 128) + (if n % 64 < 8 then f (n + 8) else f (n - 8)) * sn (n % 128)

/-- The kernel's table of cosines: twice the 8 cosines, then ones, in every head of 64 columns. -/
def cosTab (cs : Nat → EReal) (l : Nat) : EReal := if l % 64 < 8 then cs (l % 64) else if l % 64 < 16 then cs (l % 64 - 8) else 1

/-- The kernel's table of sines: the 8 sines negated, the 8 sines, then zeros, in every head of 64 columns. -/
def sinTab (sn : Nat → EReal) (l : Nat) : EReal := if l % 64 < 8 then -sn (l % 64) else if l % 64 < 16 then sn (l % 64 - 8) else 0

/-- With these tables the kernel's rotation is the rotary embedding. -/
theorem rot_eq (f cs sn : Nat → EReal) (n : Nat) : rot f (cosTab cs) (sinTab sn) n = turn f cs sn n := by
  have e : n % 128 % 64 = n % 64 := by omega
  unfold rot turn cosTab sinTab
  rw [e]
  by_cases a : n % 64 < 8
  · simp only [if_pos a, mul_neg, sub_eq_add_neg]
  · by_cases b : n % 64 < 16
    · simp only [if_neg a, if_pos b]
    · simp only [if_neg a, if_neg b, mul_one, mul_zero, add_zero]

/-- The rotation reads its tables below 128 only. -/
theorem rot_congr (f : Nat → EReal) {cs sn cs' sn' : Nat → EReal} (hc : ∀ l, l < 128 → cs l = cs' l) (hs : ∀ l, l < 128 → sn l = sn' l)
    (n : Nat) : rot f cs sn n = rot f cs' sn' n := by
  unfold rot
  rw [hc _ (Nat.mod_lt _ (by decide)), hs _ (Nat.mod_lt _ (by decide))]

/-- The rotary embedding read column by column of a head: `p1 … p5` are the columns it reads. -/
theorem turn_read (f : Nat → EReal) (C S : Fin 8 → EReal) (c d : Nat) (hc : c % 64 = d) (p1 p2 p3 p4 p5 : EReal)
    (h1 : d < 8 → p1 = f c) (h2 : d < 8 → p2 = f (c + 8)) (h3 : 8 ≤ d → d < 16 → p3 = f c) (h4 : 8 ≤ d → d < 16 → p4 = f (c - 8))
    (h5 : 16 ≤ d → p5 = f c) :
    (if h : d < 8 then p1 * C ⟨d, h⟩ - p2 * S ⟨d, h⟩ else if h : d - 8 < 8 then p3 * C ⟨d - 8, h⟩ + p4 * S ⟨d - 8, h⟩ else p5)
      = turn f (ext C) (ext S) c := by
  unfold turn
  rw [hc]
  by_cases a : d < 8
  · rw [dif_pos a, if_pos a, h1 a, h2 a, ext_of_lt C a, ext_of_lt S a]
  · by_cases b : d < 16
    · have b' : d - 8 < 8 := by omega
      rw [dif_neg a, dif_pos b', if_neg a, if_pos b, h3 (by omega) b, h4 (by omega) b, ext_of_lt C b', ext_of_lt S b']
    · rw [dif_neg a, dif_neg (by omega), if_neg a, if_neg b, h5 (by omega)]

/-- The angle of position `p` at frequency `i`. -/
def ang (p : EReal) (i : Nat) : EReal :=
  p * Ideal.pow (Ideal.ofBits .f32 0x48F42400#32) (-(FloatOps.sitofp (F := Ideal) .f32 (BitVec.ofNat 32 i) : EReal) * Ideal.ofBits .f32 0x3E000000#32)

/-- The cosines and sines of the 8 angles of position `p`. -/
def cosA (p : EReal) : Nat → EReal := ext fun i : Fin 8 => Ideal.cos (ang p i.val)
def sinA (p : EReal) : Nat → EReal := ext fun i : Fin 8 => Ideal.sin (ang p i.val)

/-- The layer norm of a row of 512 numbers. -/
def lnorm (v g b : Fin 512 → EReal) (c : Fin 512) : EReal :=
  (v c - Ideal.div (∑ j, v j) (Ideal.ofBits .f32 0x44000000#32))
    * Ideal.rsqrt (Ideal.div (∑ j, (v j - Ideal.div (∑ j, v j) (Ideal.ofBits .f32 0x44000000#32))
        * (v j - Ideal.div (∑ j, v j) (Ideal.ofBits .f32 0x44000000#32))) (Ideal.ofBits .f32 0x44000000#32) + Ideal.ofBits .f32 0x358637BD#32)
    * g c + b c

section
variable (h : Fin 1024 → EReal) (w : Fin 1024 → Nat → EReal) (p : EReal)

/-- The six results for a token at position `p` with the normed row `h`: queries, -/
def qRow (c : Nat) : EReal := turn (cols h w) (cosA p) (sinA p) c * Ideal.ofBits .f32 0x3E000000#32
/-- keys and values, which take turns every 128 columns, at column `c` of the weight matrix, -/
def kvRow (c : Nat) : EReal := if c / 128 % 2 = 0 then turn (cols h w) (cosA p) (sinA p) c else cols h w c
/-- gates, padded to 128 columns, -/
def gateRow (c : Nat) : EReal := if c < 24 then logi (cols h w (1280 + c)) else Ideal.ofBits .f32 0x3F000000#32
/-- and the two halves of the gating unit, the second one normed. -/
def uRow (c : Nat) : EReal := gelu (cols h w (1304 + c))
def vRow (g b : Fin 512 → EReal) (c : Fin 512) : EReal := lnorm (fun c => gelu (cols h w (1816 + c.val))) g b c
end

/-- The weight matrix as the kernel lays it out: the gates' 24 columns moved to the end and padded with zeros. -/
def lay (w : Fin 1024 → Nat → EReal) (k : Fin 1024) (j : Nat) : EReal :=
  if j < 1280 then w k j else if j < 2304 then w k (j + 24) else if j < 2328 then w k (j - 1024) else 0

theorem half_eq : Ideal.ofBits .f32 0x3F000000#32 = (((1 : ℝ) / 2 : ℝ) : EReal) := by
  simp [Ideal.ofBits, Ideal.ieee, -EReal.coe_mul]; norm_num

/-- The logistic function of zero. -/
theorem logi_zero : logi 0 = Ideal.ofBits .f32 0x3F000000#32 := by
  have e : Ideal.exp (-(0 : EReal)) = ((1 : ℝ) : EReal) := by
    rw [neg_zero]
    show ((Real.exp 0 : ℝ) : EReal) = _
    rw [Real.exp_zero]
  have two : (1 : EReal) + ((1 : ℝ) : EReal) = ((2 : ℝ) : EReal) := by
    rw [show (1 : EReal) = ((1 : ℝ) : EReal) from rfl, ← EReal.coe_add]
    norm_num
  rw [half_eq]
  unfold logi Ideal.div
  rw [e, two, if_neg (by norm_num), one_mul, ← EReal.coe_inv]
  norm_num

section
variable (h : Fin 1024 → EReal) (w : Fin 1024 → Nat → EReal)

theorem cols_low (j : Nat) (hj : j < 1280) : cols h (lay w) j = cols h w j := by
  unfold cols lay
  simp only [if_pos hj]

theorem cols_mid (j : Nat) (h1 : 1280 ≤ j) (hj : j < 2304) : cols h (lay w) j = cols h w (j + 24) := by
  unfold cols lay
  simp only [if_neg (by omega : ¬ j < 1280), if_pos hj]

/-- The gates, the padding columns included: the logistic function of an empty column is one half. -/
theorem gate_lay (c : Nat) (hc : c < 128) : logi (cols h (lay w) (2304 + c)) = gateRow h w c := by
  unfold gateRow
  by_cases a : c < 24
  · rw [if_pos a]
    congr 1
    unfold cols lay
    simp only [if_neg (by omega : ¬ 2304 + c < 1280), if_neg (by omega : ¬ 2304 + c < 2304), if_pos (by omega : 2304 + c < 2328)]
    exact Finset.sum_congr rfl fun k _ => congrArg (fun n => h k * w k n) (by omega)
  · rw [if_neg a]
    have z : cols h (lay w) (2304 + c) = 0 := by
      unfold cols lay
      simp only [if_neg (by omega : ¬ 2304 + c < 1280), if_neg (by omega : ¬ 2304 + c < 2304), if_neg (by omega : ¬ 2304 + c < 2328), mul_zero,
        Finset.sum_const_zero]
    rw [z]
    exact logi_zero

/-- The rotation of the kernel's columns below 1280 is the rotation of the weight matrix's. -/
theorem turn_low (cs sn : Nat → EReal) (c : Nat) (hc : c < 1280) : turn (cols h (lay w)) cs sn c = turn (cols h w) cs sn c := by
  unfold turn
  by_cases a : c % 64 < 8
  · rw [if_pos a, if_pos a, cols_low h w _ hc, cols_low h w _ (by omega)]
  · rw [if_neg a, if_neg a, cols_low h w _ hc, cols_low h w _ (by omega)]
end

end Cert.Proof.InMath
end
-- ==== Proof.InBlock.lean ====
/-
  One block of the input projection: what the body stores, entry by entry.
-/
module

public import proofs.«01_k».proof.Proof.Gen.InIdeal.Value
public import proofs.«01_k».proof.Proof.Layer
public import proofs.«01_k».proof.Proof.S5Math
public import proofs.«01_k».proof.Proof.InMath
public import Idealize.ShloMosaic.Lib.Pipeline.ValueKit
public import Idealize.ShloMosaic.Lib.VecWindow

@[expose] public section

set_option maxRecDepth 16384

noncomputable section

namespace Cert.Proof.InBlock

open Idealize.ShloMosaic Idealize.ShloMosaic.TcCoe Idealize.SL.Sem Cert.InIdeal Cert.InIdeal.Gen
open Cert.Proof.Layer Cert.Proof.S5Math Cert.Proof.InMath

/-- The rotation of a block of 128 columns. -/
def rotV (t cs sn : FVec Ideal S512x128 .f32) : FVec Ideal S512x128 .f32 :=
  addf (mulf t cs) (mulf (select k0_pay5 (dynamicRotate 1 120#32 none t rotates_S512x128_d1) (dynamicRotate 1 8#32 none t rotates_S512x128_d1)) sn)

theorem mask_eq (r : Fin 512) (l : Fin 128) : k0_pay5 (ix2 r l) = if l.val % 64 < 8 then 1#1 else 0#1 := by
  have key : ∀ l : Fin 128, k0_pay5 (ix2 (0 : Fin 512) l) = if l.val % 64 < 8 then 1#1 else 0#1 := by decide +kernel
  refine Eq.trans ?_ (key l)
  rfl

theorem rotV_apply (t cs sn : FVec Ideal S512x128 .f32) (r : Fin 512) (l : Fin 128) :
    rotV t cs sn (ix2 r l) = t (ix2 r l) * cs (ix2 r l)
      + (if l.val % 64 < 8 then t (ix2 r ⟨(l.val + 8) % 128, Nat.mod_lt _ (by decide)⟩) else t (ix2 r ⟨(l.val + 120) % 128, Nat.mod_lt _ (by decide)⟩))
        * sn (ix2 r l) := by
  pointwise [rotV]
  rw [mask_eq]
  by_cases h : l.val % 64 < 8
  · rw [if_pos h, if_pos h]
    congr 2
  · rw [if_neg h, if_neg h]
    congr 2

/-- A rotated block of 128 columns is the rotation of the columns it was cut from. -/
theorem rotV_eq (t cs sn : FVec Ideal S512x128 .f32) (f : Nat → EReal) (o : Nat) (ho : o % 128 = 0) (r : Fin 512)
    (ht : ∀ l : Fin 128, t (ix2 r l) = f (o + l.val)) (l : Fin 128) :
    rotV t cs sn (ix2 r l) = rot f (ext fun l => cs (ix2 r l)) (ext fun l => sn (ix2 r l)) (o + l.val) := by
  have hl := l.isLt
  rw [rotV_apply, ht, ht, ht]
  unfold rot
  have hm : (o + l.val) % 128 = l.val := by omega
  rw [hm, ext_of_lt _ hl, ext_of_lt _ hl]
  congr 2
  by_cases h : l.val % 64 < 8
  · have h' : (o + l.val) % 64 < 8 := by omega
    rw [if_pos h, if_pos h']
    exact congrArg f (by show o + (l.val + 8) % 128 = o + l.val + 8; omega)
  · have h' : ¬ (o + l.val) % 64 < 8 := by omega
    rw [if_neg h, if_neg h']
    exact congrArg f (by show o + (l.val + 120) % 128 = o + l.val - 8; omega)

/-- Column `n` of the block's product with the weight matrix, at row `r`. -/
def col (h : FVec Ideal S512x1024 .bf16) (w : Vec Ideal S1024x2432 .bf16) (r : Fin 512) (n : Nat) : EReal :=
  ∑ k, h (ix2 r k) * ext (fun j => w (ix2 k j)) n

/-- The product with the columns from `o` on. -/
theorem col_eq (h : FVec Ideal S512x1024 .bf16) (w : Vec Ideal S1024x2432 .bf16) (r : Fin 512) {N : Nat} (o : Nat) (c : Fin N)
    (ho : o + N ≤ 2432) (v : Fin 1024 → EReal) (hv : ∀ k, v k = w (ix2 k ⟨o + c.val, by omega⟩)) :
    ∑ k, h (ix2 r k) * v k = col h w r (o + c.val) := by
  unfold col
  refine Finset.sum_congr rfl fun k _ => ?_
  rw [ext_of_lt _ (by omega : o + c.val < 2432), hv]

section
variable (h : FVec Ideal S512x1024 .bf16) (w : Vec Ideal S1024x2432 .bf16) (cs sn : FVec Ideal S512x128 .f32) (r : Fin 512)

/-- The two products the rotations read. -/
theorem pay6_eq (c : Fin 512) : k0_pay6 h (View.ld w r0_3) (ix2 r c) = col h w r c.val := by
  pointwise [k0_pay6]
  refine (col_eq h w r 0 c (by decide) _ fun k => congrArg w ?_).trans (congrArg (col h w r) (Nat.zero_add _))
  exact congrArg (ix2 k) (Fin.ext (Nat.zero_add _).symm)
theorem pay14_eq (c : Fin 768) : k0_pay14 h (View.ld w r0_8) (ix2 r c) = col h w r (512 + c.val) := by
  pointwise [k0_pay14]
  exact col_eq h w r 512 c (by decide) _ fun k => rfl

/-- A cut of 128 columns of either product. -/
theorem cut6 (o : Nat) (ho : o + 128 ≤ 512) (hs) (l : Fin 128) :
    extractStridedSlice S512x128 ![0, o] (k0_pay6 h (View.ld w r0_3)) hs (ix2 r l) = col h w r (o + l.val) :=
  (extractStridedSlice_apply (s := S512x512) ![0, o] _ hs (ix2 r l) (ix2 r ⟨o + l.val, by omega⟩) fun a => by
    match a with | ⟨0, _⟩ => exact (Nat.zero_add _).symm | ⟨1, _⟩ => rfl).trans (pay6_eq h w r _)
theorem cut14 (o : Nat) (ho : o + 128 ≤ 768) (hs) (l : Fin 128) :
    extractStridedSlice S512x128 ![0, o] (k0_pay14 h (View.ld w r0_8)) hs (ix2 r l) = col h w r (512 + o + l.val) :=
  (extractStridedSlice_apply (s := S512x768) ![0, o] _ hs (ix2 r l) (ix2 r ⟨o + l.val, by omega⟩) fun a => by
    match a with | ⟨0, _⟩ => exact (Nat.zero_add _).symm | ⟨1, _⟩ => rfl).trans
      ((pay14_eq h w r _).trans (congrArg (col h w r) (Nat.add_assoc _ _ _).symm))

/-- The rotation of the projection's columns, at row `r`. -/
def rotC (n : Nat) : EReal := rot (col h w r) (ext fun l => cs (ix2 r l)) (ext fun l => sn (ix2 r l)) n

/-- The scaled rotated columns: one block of the queries. -/
def qB (n : Nat) : EReal := rotC h w cs sn r n * Ideal.ofBits .f32 0x3E000000#32

/-- The keys are rotated, the values are not: blocks of 128 columns take turns. -/
def kvB (n : Nat) : EReal := if n / 128 % 2 = 0 then rotC h w cs sn r n else col h w r n

theorem q_piece (o : Nat) (ho : o + 128 ≤ 512) (h0 : o % 128 = 0) (hs) (l : Fin 128) :
    mulf (rotV (extractStridedSlice S512x128 ![0, o] (k0_pay6 h (View.ld w r0_3)) hs) cs sn)
      (broadcast S512x128 (Scalar.ofBits .f32 0x3E000000#32 : Ideal .f32)) (ix2 r l) = qB h w cs sn r (o + l.val) :=
  congrArg (· * Ideal.ofBits .f32 0x3E000000#32) (rotV_eq _ cs sn (col h w r) o h0 r (cut6 h w r o ho hs) l)

theorem k_piece (o : Nat) (ho : o + 128 ≤ 768) (h0 : o % 256 = 0) (hs) (l : Fin 128) :
    rotV (extractStridedSlice S512x128 ![0, o] (k0_pay14 h (View.ld w r0_8)) hs) cs sn (ix2 r l) = kvB h w cs sn r (512 + o + l.val) := by
  have hl := l.isLt
  rw [rotV_eq _ cs sn (col h w r) (512 + o) (by omega) r (cut14 h w r o ho hs) l]
  exact (if_pos (by omega)).symm

theorem v_piece (o : Nat) (ho : o + 128 ≤ 768) (h0 : o % 256 = 128) (hs) (l : Fin 128) :
    extractStridedSlice S512x128 ![0, o] (k0_pay14 h (View.ld w r0_8)) hs (ix2 r l) = kvB h w cs sn r (512 + o + l.val) := by
  have hl := l.isLt
  rw [cut14 h w r o ho hs]
  exact (if_neg (by omega)).symm
end

/-- A piece of 128 columns holds the function `G` at its place. -/
theorem piece {N : Nat} (G : Fin 512 → Nat → EReal) (o : Nat) (inb) (w : S512x128.Idx → EReal)
    (hw : ∀ (r : Fin 512) (l : Fin 128), w (ix2 r l) = G r (o + l.val)) (x : S512x128.Idx) :
    w x = (fun y : (⟨2, ![512, N]⟩ : Shape).Idx => G (y 0) (y 1).val)
      ((Rect.unit (s := ⟨2, ![512, N]⟩) ![0, o] ![512, 128] inb).emb x) := by
  obtain ⟨r, l, rfl⟩ : ∃ (r : Fin 512) (l : Fin 128), x = ix2 r l := ⟨x 0, x 1, eq_ix2 x⟩
  rw [hw]
  show _ = G _ _
  congr 1
  · exact Fin.ext ((Rect.idx_unit_val _ _ inb (ix2 r l) 0).trans (Nat.zero_add _)).symm
  · exact (Rect.idx_unit_val _ _ inb (ix2 r l) 1).symm

section
variable (x0 : Vec Ideal S512x1024 .f32) (x1 : Vec Ideal S1x1024 .f32) (x2 : Vec Ideal S1024x2432 .bf16)
  (x3 x4 : Vec Ideal S512x128 .f32) (x5 x6 : Vec Ideal S1x512 .f32) (r : Fin 512)

theorem pay3_eq (x : Vec Ideal S512x128 .f32) : k0_pay3 x = x := by
  funext y
  obtain ⟨r, l, rfl⟩ : ∃ (r : Fin 512) (l : Fin 128), y = ix2 r l := ⟨y 0, y 1, eq_ix2 y⟩
  pointwise [k0_pay3]
theorem pay4_eq (x : Vec Ideal S512x128 .f32) : k0_pay4 x = x := pay3_eq x

theorem hz : (![0, 0] : Fin 2 → Nat) = fun _ => 0 := funext fun a => by fin_cases a <;> rfl

theorem pay29_eq : k0_pay29 x0 x1 x2 x3 x4 x5 x6 = k0_pay2 x0 x1 := by
  unfold k0_pay29
  rw [View.ld_unit_zero (S := S512x1024) hz, View.ld_unit_zero (S := S1x1024) hz]
theorem pay30_eq : k0_pay30 x0 x1 x2 x3 x4 x5 x6 = x3 := by
  unfold k0_pay30
  rw [View.ld_unit_zero (S := S512x128) hz, pay3_eq]
theorem pay31_eq : k0_pay31 x0 x1 x2 x3 x4 x5 x6 = x4 := by
  unfold k0_pay31
  rw [View.ld_unit_zero (S := S512x128) hz, pay4_eq]
theorem pay32_eq : k0_pay32 x0 x1 x2 x3 x4 x5 x6 = k0_pay5 := rfl
theorem pay33_eq : k0_pay33 x0 x1 x2 x3 x4 x5 x6 = k0_pay14 (k0_pay2 x0 x1) (View.ld x2 r0_8) := by
  unfold k0_pay33
  rw [pay29_eq]

/-- The block of queries. -/
theorem out7_apply (c : Fin 512) : out0_7 x0 x1 x2 x3 x4 x5 x6 (ix2 r c) = qB (k0_pay2 x0 x1) x2 x3 x4 r c.val := by
  unfold out0_7
  rw [pay29_eq, pay30_eq, pay31_eq, pay32_eq]
  refine View.canon_apply_of_pieces (Val := Elt Ideal) (e := .f32)
    (fun y : S512x512.Idx => qB (k0_pay2 x0 x1) x2 x3 x4 (y 0) (y 1).val) _ ?_ (ix2 r c) (cover0_7 _ _ _ _ _)
  intro p hp
  simp only [List.mem_cons, List.not_mem_nil, or_false] at hp
  rcases hp with rfl | rfl | rfl | rfl
  · exact piece _ 384 inb_S512x512_S512x128_0_384 _ fun r l => q_piece (k0_pay2 x0 x1) x2 x3 x4 r 384 (by decide) rfl slices_S512x512_o0_384_S512x128 l
  · exact piece _ 256 inb_S512x512_S512x128_0_256 _ fun r l => q_piece (k0_pay2 x0 x1) x2 x3 x4 r 256 (by decide) rfl slices_S512x512_o0_256_S512x128 l
  · exact piece _ 128 inb_S512x512_S512x128_0_128 _ fun r l => q_piece (k0_pay2 x0 x1) x2 x3 x4 r 128 (by decide) rfl slices_S512x512_o0_128_S512x128 l
  · exact piece _ 0 inb_S512x512_S512x128_0_0 _ fun r l => q_piece (k0_pay2 x0 x1) x2 x3 x4 r 0 (by decide) rfl slices_S512x512_o0_0_S512x128 l

/-- The block of keys and values. -/
theorem out8_apply (c : Fin 768) : out0_8 x0 x1 x2 x3 x4 x5 x6 (ix2 r c) = kvB (k0_pay2 x0 x1) x2 x3 x4 r (512 + c.val) := by
  unfold out0_8
  rw [pay29_eq, pay30_eq, pay31_eq, pay32_eq, pay33_eq]
  refine View.canon_apply_of_pieces (Val := Elt Ideal) (e := .f32)
    (fun y : S512x768.Idx => kvB (k0_pay2 x0 x1) x2 x3 x4 (y 0) (512 + (y 1).val)) _ ?_ (ix2 r c) (cover0_8 _ _ _ _ _ _ _)
  intro p hp
  simp only [List.mem_cons, List.not_mem_nil, or_false] at hp
  have e : ∀ (o : Nat) (l : Fin 128), 512 + o + l.val = 512 + (o + l.val) := fun o l => Nat.add_assoc _ _ _
  rcases hp with rfl | rfl | rfl | rfl | rfl | rfl
  · exact piece (fun r n => kvB (k0_pay2 x0 x1) x2 x3 x4 r (512 + n)) 640 inb_S512x768_S512x128_0_640 _ fun r l => (v_piece (k0_pay2 x0 x1) x2 x3 x4 r 640 (by decide) rfl slices_S512x768_o0_640_S512x128 l).trans (congrArg _ (e 640 l))
  · exact piece (fun r n => kvB (k0_pay2 x0 x1) x2 x3 x4 r (512 + n)) 512 inb_S512x768_S512x128_0_512 _ fun r l => (k_piece (k0_pay2 x0 x1) x2 x3 x4 r 512 (by decide) rfl slices_S512x768_o0_512_S512x128 l).trans (congrArg _ (e 512 l))
  · exact piece (fun r n => kvB (k0_pay2 x0 x1) x2 x3 x4 r (512 + n)) 384 inb_S512x768_S512x128_0_384 _ fun r l => (v_piece (k0_pay2 x0 x1) x2 x3 x4 r 384 (by decide) rfl slices_S512x768_o0_384_S512x128 l).trans (congrArg _ (e 384 l))
  · exact piece (fun r n => kvB (k0_pay2 x0 x1) x2 x3 x4 r (512 + n)) 256 inb_S512x768_S512x128_0_256 _ fun r l => (k_piece (k0_pay2 x0 x1) x2 x3 x4 r 256 (by decide) rfl slices_S512x768_o0_256_S512x128 l).trans (congrArg _ (e 256 l))
  · exact piece (fun r n => kvB (k0_pay2 x0 x1) x2 x3 x4 r (512 + n)) 128 inb_S512x768_S512x128_0_128 _ fun r l => (v_piece (k0_pay2 x0 x1) x2 x3 x4 r 128 (by decide) rfl slices_S512x768_o0_128_S512x128 l).trans (congrArg _ (e 128 l))
  · exact piece (fun r n => kvB (k0_pay2 x0 x1) x2 x3 x4 r (512 + n)) 0 inb_S512x768_S512x128_0_0 _ fun r l => (k_piece (k0_pay2 x0 x1) x2 x3 x4 r 0 (by decide) rfl slices_S512x768_o0_0_S512x128 l).trans (congrArg _ (e 0 l))

/-- The block of keys and values of the last two pairs. -/
theorem out9_apply (c : Fin 512) : out0_9 x0 x1 x2 x3 x4 x5 x6 (ix2 r c) = kvB (k0_pay2 x0 x1) x2 x3 x4 r (768 + c.val) := by
  unfold out0_9
  rw [pay29_eq, pay30_eq, pay31_eq, pay32_eq, pay33_eq]
  refine View.canon_apply_of_pieces (Val := Elt Ideal) (e := .bf16)
    (fun y : S512x512.Idx => kvB (k0_pay2 x0 x1) x2 x3 x4 (y 0) (768 + (y 1).val)) _ ?_ (ix2 r c) (cover0_9 _ _ _ _ _)
  intro p hp
  simp only [List.mem_cons, List.not_mem_nil, or_false] at hp
  have e : ∀ (o : Nat) (l : Fin 128), 512 + (256 + o) + l.val = 768 + (o + l.val) := fun o l => by omega
  rcases hp with rfl | rfl | rfl | rfl
  · exact piece (fun r n => kvB (k0_pay2 x0 x1) x2 x3 x4 r (768 + n)) 384 inb_S512x512_S512x128_0_384 _ fun r l => (v_piece (k0_pay2 x0 x1) x2 x3 x4 r 640 (by decide) rfl slices_S512x768_o0_640_S512x128 l).trans (congrArg _ (e 384 l))
  · exact piece (fun r n => kvB (k0_pay2 x0 x1) x2 x3 x4 r (768 + n)) 256 inb_S512x512_S512x128_0_256 _ fun r l => (k_piece (k0_pay2 x0 x1) x2 x3 x4 r 512 (by decide) rfl slices_S512x768_o0_512_S512x128 l).trans (congrArg _ (e 256 l))
  · exact piece (fun r n => kvB (k0_pay2 x0 x1) x2 x3 x4 r (768 + n)) 128 inb_S512x512_S512x128_0_128 _ fun r l => (v_piece (k0_pay2 x0 x1) x2 x3 x4 r 384 (by decide) rfl slices_S512x768_o0_384_S512x128 l).trans (congrArg _ (e 128 l))
  · exact piece (fun r n => kvB (k0_pay2 x0 x1) x2 x3 x4 r (768 + n)) 0 inb_S512x512_S512x128_0_0 _ fun r l => (k_piece (k0_pay2 x0 x1) x2 x3 x4 r 256 (by decide) rfl slices_S512x768_o0_256_S512x128 l).trans (congrArg _ (e 0 l))
/-- The block of gates. -/
theorem out10_apply (c : Fin 128) : out0_10 x0 x1 x2 x3 x4 x5 x6 (ix2 r c) = logi (col (k0_pay2 x0 x1) x2 r (2304 + c.val)) := by
  unfold out0_10
  rw [pay29_eq, View.canon_unit_zero (S := S512x128) hz]
  pointwise [k0_pay1, k0_pay28]
  rw [col_eq (k0_pay2 x0 x1) x2 r 2304 c (by decide) _ fun k => rfl]
  unfold logi
  simp only [sub_eq_add_neg, zero_add]

/-- The block of `u`. -/
theorem out11_apply (c : Fin 512) : out0_11 x0 x1 x2 x3 x4 x5 x6 (ix2 r c) = gelu (col (k0_pay2 x0 x1) x2 r (1280 + c.val)) := by
  unfold out0_11
  rw [pay29_eq, View.canon_unit_zero (S := S512x512) hz]
  pointwise [k0_pay25]
  rw [col_eq (k0_pay2 x0 x1) x2 r 1280 c (by decide) _ fun k => rfl]
  exact gelu_eq _

/-- The block of the normed `v`. -/
theorem out12_apply (c : Fin 512) : out0_12 x0 x1 x2 x3 x4 x5 x6 (ix2 r c)
    = lnorm (fun c => gelu (col (k0_pay2 x0 x1) x2 r (1792 + c.val))) (fun c => x5 (ix2 0 c)) (fun c => x6 (ix2 0 c)) c := by
  unfold out0_12
  rw [pay29_eq, View.canon_unit_zero (S := S512x512) hz, View.ld_unit_zero (S := S1x512) hz, View.ld_unit_zero (S := S1x512) hz]
  pointwise [k0_pay27, k0_pay26]
  have e : ∀ c : Fin 512, _ = col (k0_pay2 x0 x1) x2 r (1792 + c.val) := fun c =>
    col_eq (k0_pay2 x0 x1) x2 r 1792 c (by decide) _ fun k => rfl
  simp only [e, gelu_eq]
  rfl
end

/-- The normed rows. -/
theorem pay2_apply (x0 : Vec Ideal S512x1024 .f32) (x1 : Vec Ideal S1x1024 .f32) (r : Fin 512) (k : Fin 1024) :
    k0_pay2 x0 x1 (ix2 r k) = rms (fun k => x0 (ix2 r k)) (fun k => x1 (ix2 0 k)) k := by
  pointwise [k0_pay2]
  rfl

section
variable {x0 : Vec Ideal S512x1024 .f32} {x1 : Vec Ideal S1x1024 .f32} {x2 : Vec Ideal S1024x2432 .bf16} {x3 x4 : Vec Ideal S512x128 .f32}
  {r : Fin 512} {h : Fin 1024 → EReal} {w : Fin 1024 → Nat → EReal} {p : EReal}
  (hh : ∀ k, k0_pay2 x0 x1 (ix2 r k) = h k) (hw : ∀ k (j : Fin 2432), x2 (ix2 k j) = lay w k j.val)
  (hc : ∀ l : Fin 128, x3 (ix2 r l) = cosTab (cosA p) l.val) (hs : ∀ l : Fin 128, x4 (ix2 r l) = sinTab (sinA p) l.val)

include hh hw in
/-- The block's columns are those of the laid out weight matrix. -/
theorem col_lay : col (k0_pay2 x0 x1) x2 r = cols h (lay w) := by
  funext n
  unfold col cols
  refine Finset.sum_congr rfl fun k _ => ?_
  rw [hh]
  congr 1
  by_cases hn : n < 2432
  · rw [ext_of_lt _ hn]
    exact hw k ⟨n, hn⟩
  · unfold ext lay
    rw [dif_neg hn, if_neg (by omega), if_neg (by omega), if_neg (by omega)]

include hh hw hc hs in
theorem rotC_row (n : Nat) (hn : n < 1280) : rotC (k0_pay2 x0 x1) x2 x3 x4 r n = turn (cols h w) (cosA p) (sinA p) n := by
  unfold rotC
  rw [col_lay hh hw, rot_congr _ (fun l hl => (ext_of_lt _ hl).trans (hc ⟨l, hl⟩)) (fun l hl => (ext_of_lt _ hl).trans (hs ⟨l, hl⟩)), rot_eq,
    turn_low _ _ _ _ _ hn]

include hh hw hc hs in
/-- The block's row `r` is the token's row of each result. -/
theorem q_row (n : Nat) (hn : n < 1280) : qB (k0_pay2 x0 x1) x2 x3 x4 r n = qRow h w p n := by
  unfold qB qRow
  rw [rotC_row hh hw hc hs n hn]

include hh hw hc hs in
theorem kv_row (n : Nat) (hn : n < 1280) : kvB (k0_pay2 x0 x1) x2 x3 x4 r n = kvRow h w p n := by
  unfold kvB kvRow
  rw [rotC_row hh hw hc hs n hn, col_lay hh hw, cols_low _ _ _ hn]

include hh hw in
theorem gate_row (c : Fin 128) : logi (col (k0_pay2 x0 x1) x2 r (2304 + c.val)) = gateRow h w c.val := by
  rw [col_lay hh hw, gate_lay _ _ _ c.isLt]

include hh hw in
theorem u_row (c : Fin 512) : gelu (col (k0_pay2 x0 x1) x2 r (1280 + c.val)) = uRow h w c.val := by
  unfold uRow
  rw [col_lay hh hw, cols_mid _ _ _ (by omega) (by omega)]
  exact congrArg (fun n => gelu (cols h w n)) (by omega)

include hh hw in
theorem v_row (g b : Fin 512 → EReal) (c : Fin 512) :
    lnorm (fun c => gelu (col (k0_pay2 x0 x1) x2 r (1792 + c.val))) g b c = vRow h w g b c := by
  unfold vRow
  congr 1
  funext c
  rw [col_lay hh hw, cols_mid _ _ _ (by omega) (by omega)]
  exact congrArg (fun n => gelu (cols h w n)) (by omega)
end

end Cert.Proof.InBlock
end
-- ==== Proof.InHeads.lean ====
/-
  Keys and values of the input projection, for any number of sequences and positions: the projection's 768 columns cut in
  three branches of two heads of keys and two of values, the keys rotated, the two put side by side again.
-/
module

public import proofs.«01_k».proof.Proof.InMath

@[expose] public section

set_option maxRecDepth 16384

noncomputable section

namespace Cert.Proof.InHeads

open Idealize.ShloMosaic
open Cert.Proof.Layer Cert.Proof.S5Math Cert.Proof.InMath

/-- The lanes of a row of the table of cosines, and of the table of sines. -/
theorem cosTab_read (C : Fin 8 → EReal) (o : EReal) (ho : o = 1) (l : Nat) :
    (if h : l % 64 < 8 then C ⟨l % 64, h⟩ else if h : l % 64 - 8 < 8 then C ⟨l % 64 - 8, h⟩ else o) = cosTab (ext C) l := by
  unfold cosTab
  by_cases h : l % 64 < 8
  · rw [dif_pos h, if_pos h, ext_of_lt C h]
  · rw [dif_neg h, if_neg h]
    by_cases h' : l % 64 < 16
    · have h8 : l % 64 - 8 < 8 := by omega
      rw [dif_pos h8, if_pos h', ext_of_lt C h8]
    · rw [dif_neg (by omega), if_neg h', ho]
theorem sinTab_read (S : Fin 8 → EReal) (o : EReal) (ho : o = 0) (l : Nat) :
    (if h : l % 64 < 8 then -S ⟨l % 64, h⟩ else if h : l % 64 - 8 < 8 then S ⟨l % 64 - 8, h⟩ else o) = sinTab (ext S) l := by
  unfold sinTab
  by_cases h : l % 64 < 8
  · rw [dif_pos h, if_pos h, ext_of_lt S h]
  · rw [dif_neg h, if_neg h]
    by_cases h' : l % 64 < 16
    · have h8 : l % 64 - 8 < 8 := by omega
      rw [dif_pos h8, if_pos h', ext_of_lt S h8]
    · rw [dif_neg (by omega), if_neg h', ho]

variable {N T : Nat}

/-- The operations below fit the shapes they are used at. -/
structure Fits (N T : Nat) : Prop where
  split : (⟨3, ![N, T, 768]⟩ : Shape).ShapeCasts ⟨6, ![N, T, 3, 2, 2, 64]⟩
  keys : (⟨6, ![N, T, 3, 2, 2, 64]⟩ : Shape).Slices ![0, 0, 0, 0, 0, 0] ⟨6, ![N, T, 3, 1, 2, 64]⟩
  values : (⟨6, ![N, T, 3, 2, 2, 64]⟩ : Shape).Slices ![0, 0, 0, 1, 0, 0] ⟨6, ![N, T, 3, 1, 2, 64]⟩
  drop : (⟨6, ![N, T, 3, 1, 2, 64]⟩ : Shape).ShapeCasts ⟨5, ![N, T, 3, 2, 64]⟩
  cut0 : (⟨5, ![N, T, 3, 2, 64]⟩ : Shape).Slices ![0, 0, 0, 0, 0] ⟨5, ![N, T, 3, 2, 8]⟩
  cut8 : (⟨5, ![N, T, 3, 2, 64]⟩ : Shape).Slices ![0, 0, 0, 0, 8] ⟨5, ![N, T, 3, 2, 8]⟩
  cut16 : (⟨5, ![N, T, 3, 2, 64]⟩ : Shape).Slices ![0, 0, 0, 0, 16] ⟨5, ![N, T, 3, 2, 48]⟩
  table : (⟨2, ![T, 8]⟩ : Shape).ShapeCasts ⟨4, ![T, 1, 1, 8]⟩
  lift : (⟨4, ![T, 1, 1, 8]⟩ : Shape).BroadcastsInDim ⟨5, ![1, T, 1, 1, 8]⟩ ![1, 2, 3, 4]
  spread : (⟨5, ![1, T, 1, 1, 8]⟩ : Shape).BroadcastsInDim ⟨5, ![N, T, 3, 2, 8]⟩ ![0, 1, 2, 3, 4]
  join : Shape.Concatenates [⟨5, ![N, T, 3, 2, 8]⟩, ⟨5, ![N, T, 3, 2, 8]⟩, ⟨5, ![N, T, 3, 2, 48]⟩] ⟨5, ![N, T, 3, 2, 64]⟩ 4
  unit : (⟨5, ![N, T, 3, 2, 64]⟩ : Shape).BroadcastsInDim ⟨6, ![N, T, 3, 1, 2, 64]⟩ ![0, 1, 2, 4, 5]
  stack : Shape.Concatenates [⟨6, ![N, T, 3, 1, 2, 64]⟩, ⟨6, ![N, T, 3, 1, 2, 64]⟩] ⟨6, ![N, T, 3, 2, 2, 64]⟩ 3
  many : T ≠ 1 ∧ N ≠ 1

/-- One of the two halves, keys or values, of every branch. -/
theorem half_read (h : (⟨3, ![N, T, 768]⟩ : Shape).ShapeCasts ⟨6, ![N, T, 3, 2, 2, 64]⟩) (k : Fin 2)
    (hs : (⟨6, ![N, T, 3, 2, 2, 64]⟩ : Shape).Slices ![0, 0, 0, k.val, 0, 0] ⟨6, ![N, T, 3, 1, 2, 64]⟩)
    (hd : (⟨6, ![N, T, 3, 1, 2, 64]⟩ : Shape).ShapeCasts ⟨5, ![N, T, 3, 2, 64]⟩)
    (p : FVec Ideal ⟨3, ![N, T, 768]⟩ .f32) (n : Fin N) (t : Fin T) (b : Fin 3) (j : Fin 2) (d : Fin 64) :
    shapeCast ⟨5, ![N, T, 3, 2, 64]⟩ (extractStridedSlice ⟨6, ![N, T, 3, 1, 2, 64]⟩ ![0, 0, 0, k.val, 0, 0]
      (shapeCast ⟨6, ![N, T, 3, 2, 2, 64]⟩ p h) hs) hd (ix5 n t b j d)
      = p (ix3 n t ⟨b.val * 256 + k.val * 128 + j.val * 64 + d.val, by omega⟩) := by
  refine (shapeCast_apply _ hd _ (ix6 n t b 0 j d) ?_).trans ((extractStridedSlice_apply _ _ hs _ (ix6 n t b k j d) fun a => ?_).trans
    (shapeCast_apply p h _ _ ?_))
  · rw [rowMajor_val5 _ (T * 384) 384 128 64 rfl rfl rfl rfl, rowMajor_val6 _ (T * 384) 384 128 128 64 rfl rfl rfl rfl rfl]
    show n.val * (T * 384) + t.val * 384 + b.val * 128 + 0 * 128 + j.val * 64 + d.val = n.val * (T * 384) + t.val * 384 + b.val * 128 + j.val * 64 + d.val
    omega
  · match a with
    | ⟨0, _⟩ => exact (Nat.zero_add _).symm
    | ⟨1, _⟩ => exact (Nat.zero_add _).symm
    | ⟨2, _⟩ => exact (Nat.zero_add _).symm
    | ⟨3, _⟩ => exact (Nat.add_zero _).symm
    | ⟨4, _⟩ => exact (Nat.zero_add _).symm
    | ⟨5, _⟩ => exact (Nat.zero_add _).symm
  · rw [rowMajor_val3 _ (T * 768) 768 rfl rfl, rowMajor_val6 _ (T * 768) 768 256 128 64 rfl rfl rfl rfl rfl]
    show n.val * (T * 768) + t.val * 768 + (b.val * 256 + k.val * 128 + j.val * 64 + d.val) = n.val * (T * 768) + t.val * 768 + b.val * 256 + k.val * 128 + j.val * 64 + d.val
    omega

/-- A cut of every head's columns. -/
theorem cut_read (w o : Nat) (h : (⟨5, ![N, T, 3, 2, 64]⟩ : Shape).Slices ![0, 0, 0, 0, o] ⟨5, ![N, T, 3, 2, w]⟩)
    (x : FVec Ideal ⟨5, ![N, T, 3, 2, 64]⟩ .f32) (n : Fin N) (t : Fin T) (b : Fin 3) (j : Fin 2) (d : Fin w) (hd : o + d.val < 64) :
    extractStridedSlice ⟨5, ![N, T, 3, 2, w]⟩ ![0, 0, 0, 0, o] x h (ix5 n t b j d) = x (ix5 n t b j ⟨o + d.val, hd⟩) := by
  refine extractStridedSlice_apply _ _ h _ _ fun a => ?_
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm
  | ⟨4, _⟩ => rfl

/-- A table over the positions, spread over sequences, branches and heads. -/
theorem spread_read (F : Fits N T) (c : FVec Ideal ⟨2, ![T, 8]⟩ .f32) (n : Fin N) (t : Fin T) (b : Fin 3) (j : Fin 2) (d : Fin 8) :
    broadcastInDim ⟨5, ![N, T, 3, 2, 8]⟩ ![0, 1, 2, 3, 4] F.spread (broadcastInDim ⟨5, ![1, T, 1, 1, 8]⟩ ![1, 2, 3, 4] F.lift
      (shapeCast ⟨4, ![T, 1, 1, 8]⟩ c F.table)) (ix5 n t b j d) = c (ix2 t d) := by
  refine (broadcastInDim_apply _ F.spread _ _ (ix5 0 t 0 0 d) fun a => ?_).trans
    ((broadcastInDim_apply _ F.lift _ _ (ix4 t 0 0 d) fun a => ?_).trans (shapeCast_apply c F.table _ _ ?_))
  · match a with
    | ⟨0, _⟩ => exact (if_pos rfl).symm
    | ⟨1, _⟩ => exact (if_neg F.many.1).symm
    | ⟨2, _⟩ => exact (if_pos rfl).symm
    | ⟨3, _⟩ => exact (if_pos rfl).symm
    | ⟨4, _⟩ => exact (if_neg (by show ¬ (8 : Nat) = 1; decide)).symm
  · match a with
    | ⟨0, _⟩ => exact (if_neg F.many.1).symm
    | ⟨1, _⟩ => exact (if_pos rfl).symm
    | ⟨2, _⟩ => exact (if_pos rfl).symm
    | ⟨3, _⟩ => exact (if_neg (by show ¬ (8 : Nat) = 1; decide)).symm
  · rw [rowMajor_val2 _ 8 rfl, rowMajor_val4 _ 8 8 8 rfl rfl rfl]
    show t.val * 8 + d.val = t.val * 8 + 0 * 8 + 0 * 8 + d.val
    omega

/-- Three cuts joined again. -/
theorem join_read (F : Fits N T) (y z : FVec Ideal ⟨5, ![N, T, 3, 2, 8]⟩ .f32) (w : FVec Ideal ⟨5, ![N, T, 3, 2, 48]⟩ .f32)
    (n : Fin N) (t : Fin T) (b : Fin 3) (j : Fin 2) (d : Fin 64) :
    concatenate ⟨5, ![N, T, 3, 2, 64]⟩ 4 [⟨⟨5, ![N, T, 3, 2, 8]⟩, y⟩, ⟨⟨5, ![N, T, 3, 2, 8]⟩, z⟩, ⟨⟨5, ![N, T, 3, 2, 48]⟩, w⟩] F.join (ix5 n t b j d)
      = if h : d.val < 8 then y (ix5 n t b j ⟨d.val, h⟩) else if h : d.val - 8 < 8 then z (ix5 n t b j ⟨d.val - 8, h⟩)
        else w (ix5 n t b j ⟨d.val - 16, by omega⟩) := by
  have hd := d.isLt
  by_cases h1 : d.val < 8
  · rw [dif_pos h1]
    refine concatenate_apply_piece (t := ⟨5, ![N, T, 3, 2, 64]⟩) (4 : Fin 5)
      [⟨⟨5, ![N, T, 3, 2, 8]⟩, y⟩, ⟨⟨5, ![N, T, 3, 2, 8]⟩, z⟩, ⟨⟨5, ![N, T, 3, 2, 48]⟩, w⟩] F.join (ix5 n t b j d) 0 (by show 0 < 3; decide)
      ⟨5, ![N, T, 3, 2, 8]⟩ y rfl rfl 0 rfl (ix5 n t b j ⟨d.val, h1⟩) (fun a ha => ?_) (Nat.zero_add _)
    match a, ha with
    | ⟨0, _⟩, _ => rfl
    | ⟨1, _⟩, _ => rfl
    | ⟨2, _⟩, _ => rfl
    | ⟨3, _⟩, _ => rfl
    | ⟨4, _⟩, ha => exact absurd rfl ha
  · rw [dif_neg h1]
    by_cases h2 : d.val - 8 < 8
    · rw [dif_pos h2]
      refine concatenate_apply_piece (t := ⟨5, ![N, T, 3, 2, 64]⟩) (4 : Fin 5)
        [⟨⟨5, ![N, T, 3, 2, 8]⟩, y⟩, ⟨⟨5, ![N, T, 3, 2, 8]⟩, z⟩, ⟨⟨5, ![N, T, 3, 2, 48]⟩, w⟩] F.join (ix5 n t b j d) 1 (by show 1 < 3; decide)
        ⟨5, ![N, T, 3, 2, 8]⟩ z rfl rfl 8 rfl (ix5 n t b j ⟨d.val - 8, h2⟩) (fun a ha => ?_) (by show 8 + (d.val - 8) = d.val; omega)
      match a, ha with
      | ⟨0, _⟩, _ => rfl
      | ⟨1, _⟩, _ => rfl
      | ⟨2, _⟩, _ => rfl
      | ⟨3, _⟩, _ => rfl
      | ⟨4, _⟩, ha => exact absurd rfl ha
    · rw [dif_neg h2]
      refine concatenate_apply_piece (t := ⟨5, ![N, T, 3, 2, 64]⟩) (4 : Fin 5)
        [⟨⟨5, ![N, T, 3, 2, 8]⟩, y⟩, ⟨⟨5, ![N, T, 3, 2, 8]⟩, z⟩, ⟨⟨5, ![N, T, 3, 2, 48]⟩, w⟩] F.join (ix5 n t b j d) 2 (by show 2 < 3; decide)
        ⟨5, ![N, T, 3, 2, 48]⟩ w rfl rfl 16 rfl (ix5 n t b j ⟨d.val - 16, by omega⟩) (fun a ha => ?_) (by show 16 + (d.val - 16) = d.val; omega)
      match a, ha with
      | ⟨0, _⟩, _ => rfl
      | ⟨1, _⟩, _ => rfl
      | ⟨2, _⟩, _ => rfl
      | ⟨3, _⟩, _ => rfl
      | ⟨4, _⟩, ha => exact absurd rfl ha

/-- The rotated keys of every head. -/
def keys (F : Fits N T) (x : FVec Ideal ⟨5, ![N, T, 3, 2, 64]⟩ .f32) (co si : FVec Ideal ⟨2, ![T, 8]⟩ .f32) :
    FVec Ideal ⟨5, ![N, T, 3, 2, 64]⟩ .f32 :=
  concatenate ⟨5, ![N, T, 3, 2, 64]⟩ 4
    [⟨⟨5, ![N, T, 3, 2, 8]⟩, subf
        (mulf (extractStridedSlice ⟨5, ![N, T, 3, 2, 8]⟩ ![0, 0, 0, 0, 0] x F.cut0)
          (broadcastInDim ⟨5, ![N, T, 3, 2, 8]⟩ ![0, 1, 2, 3, 4] F.spread (broadcastInDim ⟨5, ![1, T, 1, 1, 8]⟩ ![1, 2, 3, 4] F.lift (shapeCast ⟨4, ![T, 1, 1, 8]⟩ co F.table))))
        (mulf (extractStridedSlice ⟨5, ![N, T, 3, 2, 8]⟩ ![0, 0, 0, 0, 8] x F.cut8)
          (broadcastInDim ⟨5, ![N, T, 3, 2, 8]⟩ ![0, 1, 2, 3, 4] F.spread (broadcastInDim ⟨5, ![1, T, 1, 1, 8]⟩ ![1, 2, 3, 4] F.lift (shapeCast ⟨4, ![T, 1, 1, 8]⟩ si F.table))))⟩,
     ⟨⟨5, ![N, T, 3, 2, 8]⟩, addf
        (mulf (extractStridedSlice ⟨5, ![N, T, 3, 2, 8]⟩ ![0, 0, 0, 0, 8] x F.cut8)
          (broadcastInDim ⟨5, ![N, T, 3, 2, 8]⟩ ![0, 1, 2, 3, 4] F.spread (broadcastInDim ⟨5, ![1, T, 1, 1, 8]⟩ ![1, 2, 3, 4] F.lift (shapeCast ⟨4, ![T, 1, 1, 8]⟩ co F.table))))
        (mulf (extractStridedSlice ⟨5, ![N, T, 3, 2, 8]⟩ ![0, 0, 0, 0, 0] x F.cut0)
          (broadcastInDim ⟨5, ![N, T, 3, 2, 8]⟩ ![0, 1, 2, 3, 4] F.spread (broadcastInDim ⟨5, ![1, T, 1, 1, 8]⟩ ![1, 2, 3, 4] F.lift (shapeCast ⟨4, ![T, 1, 1, 8]⟩ si F.table))))⟩,
     ⟨⟨5, ![N, T, 3, 2, 48]⟩, extractStridedSlice ⟨5, ![N, T, 3, 2, 48]⟩ ![0, 0, 0, 0, 16] x F.cut16⟩] F.join

theorem keys_read (F : Fits N T) (x : FVec Ideal ⟨5, ![N, T, 3, 2, 64]⟩ .f32) (co si : FVec Ideal ⟨2, ![T, 8]⟩ .f32)
    (n : Fin N) (t : Fin T) (b : Fin 3) (j : Fin 2) (d : Fin 64) :
    keys F x co si (ix5 n t b j d)
      = if h : d.val < 8 then x (ix5 n t b j d) * co (ix2 t ⟨d.val, h⟩) - x (ix5 n t b j ⟨8 + d.val, by omega⟩) * si (ix2 t ⟨d.val, h⟩)
        else if h : d.val - 8 < 8 then x (ix5 n t b j d) * co (ix2 t ⟨d.val - 8, h⟩) + x (ix5 n t b j ⟨d.val - 8, by omega⟩) * si (ix2 t ⟨d.val - 8, h⟩)
        else x (ix5 n t b j d) := by
  have hd := d.isLt
  unfold keys
  refine (join_read F _ _ _ n t b j d).trans ?_
  have e0 : ∀ i : Fin 8, extractStridedSlice ⟨5, ![N, T, 3, 2, 8]⟩ ![0, 0, 0, 0, 0] x F.cut0 (ix5 n t b j i) = x (ix5 n t b j ⟨i.val, by omega⟩) :=
    fun i => (cut_read 8 0 F.cut0 x n t b j i (by omega)).trans (congrArg x (congrArg (ix5 n t b j) (Fin.ext (Nat.zero_add _))))
  have e8 : ∀ i : Fin 8, extractStridedSlice ⟨5, ![N, T, 3, 2, 8]⟩ ![0, 0, 0, 0, 8] x F.cut8 (ix5 n t b j i) = x (ix5 n t b j ⟨8 + i.val, by omega⟩) :=
    fun i => cut_read 8 8 F.cut8 x n t b j i (by omega)
  by_cases h1 : d.val < 8
  · rw [dif_pos h1, dif_pos h1]
    exact congrArg₂ (fun a b : EReal => a - b) (congrArg₂ (fun a b : EReal => a * b) (e0 _) (spread_read F co n t b j _))
      (congrArg₂ (fun a b : EReal => a * b) (e8 _) (spread_read F si n t b j _))
  · rw [dif_neg h1, dif_neg h1]
    by_cases h2 : d.val - 8 < 8
    · rw [dif_pos h2, dif_pos h2]
      refine congrArg₂ (fun a b : EReal => a + b) (congrArg₂ (fun a b : EReal => a * b) ((e8 _).trans ?_) (spread_read F co n t b j _))
        (congrArg₂ (fun a b : EReal => a * b) (e0 _) (spread_read F si n t b j _))
      exact congrArg x (congrArg (ix5 n t b j) (Fin.ext (by show 8 + (d.val - 8) = d.val; omega)))
    · rw [dif_neg h2, dif_neg h2]
      exact (cut_read 48 16 F.cut16 x n t b j _ (by dsimp only; omega)).trans
        (congrArg x (congrArg (ix5 n t b j) (Fin.ext (by show 16 + (d.val - 16) = d.val; omega))))

/-- Keys and values side by side. -/
def pairs (F : Fits N T) (p : FVec Ideal ⟨3, ![N, T, 768]⟩ .f32) (co si : FVec Ideal ⟨2, ![T, 8]⟩ .f32) :
    FVec Ideal ⟨6, ![N, T, 3, 2, 2, 64]⟩ .f32 :=
  concatenate ⟨6, ![N, T, 3, 2, 2, 64]⟩ 3
    [⟨⟨6, ![N, T, 3, 1, 2, 64]⟩, broadcastInDim ⟨6, ![N, T, 3, 1, 2, 64]⟩ ![0, 1, 2, 4, 5] F.unit
        (keys F (shapeCast ⟨5, ![N, T, 3, 2, 64]⟩ (extractStridedSlice ⟨6, ![N, T, 3, 1, 2, 64]⟩ ![0, 0, 0, 0, 0, 0]
          (shapeCast ⟨6, ![N, T, 3, 2, 2, 64]⟩ p F.split) F.keys) F.drop) co si)⟩,
     ⟨⟨6, ![N, T, 3, 1, 2, 64]⟩, broadcastInDim ⟨6, ![N, T, 3, 1, 2, 64]⟩ ![0, 1, 2, 4, 5] F.unit
        (shapeCast ⟨5, ![N, T, 3, 2, 64]⟩ (extractStridedSlice ⟨6, ![N, T, 3, 1, 2, 64]⟩ ![0, 0, 0, 1, 0, 0]
          (shapeCast ⟨6, ![N, T, 3, 2, 2, 64]⟩ p F.split) F.values) F.drop)⟩] F.stack

theorem unit_read (F : Fits N T) (x : FVec Ideal ⟨5, ![N, T, 3, 2, 64]⟩ .f32) (n : Fin N) (t : Fin T) (b : Fin 3) (j : Fin 2) (d : Fin 64) :
    broadcastInDim ⟨6, ![N, T, 3, 1, 2, 64]⟩ ![0, 1, 2, 4, 5] F.unit x (ix6 n t b 0 j d) = x (ix5 n t b j d) := by
  refine broadcastInDim_apply _ F.unit x _ _ fun a => ?_
  match a with
  | ⟨0, _⟩ => exact (if_neg F.many.2).symm
  | ⟨1, _⟩ => exact (if_neg F.many.1).symm
  | ⟨2, _⟩ => exact (if_neg (by show ¬ (3 : Nat) = 1; decide)).symm
  | ⟨3, _⟩ => exact (if_neg (by show ¬ (2 : Nat) = 1; decide)).symm
  | ⟨4, _⟩ => exact (if_neg (by show ¬ (64 : Nat) = 1; decide)).symm

/-- Where `p` holds the projection's columns from 512 on, and the tables the cosines and sines of the position, the keys are
    the columns rotated and the values the columns themselves. -/
theorem pairs_read (F : Fits N T) (p : FVec Ideal ⟨3, ![N, T, 768]⟩ .f32) (co si : FVec Ideal ⟨2, ![T, 8]⟩ .f32)
    (n : Fin N) (t : Fin T) (h : Fin 1024 → EReal) (w : Fin 1024 → Nat → EReal) (q : EReal)
    (hp : ∀ i : Fin 768, p (ix3 n t i) = cols h w (512 + i.val)) (hc : ∀ i : Fin 8, co (ix2 t i) = Ideal.cos (ang q i.val))
    (hs : ∀ i : Fin 8, si (ix2 t i) = Ideal.sin (ang q i.val)) (b : Fin 3) (k j : Fin 2) (d : Fin 64) :
    pairs F p co si (ix6 n t b k j d) = kvRow h w q (512 + (b.val * 256 + k.val * 128 + j.val * 64 + d.val)) := by
  have hk := k.isLt
  have hj := j.isLt
  have hd := d.isLt
  have e0 : ∀ d : Fin 64, shapeCast ⟨5, ![N, T, 3, 2, 64]⟩ (extractStridedSlice ⟨6, ![N, T, 3, 1, 2, 64]⟩ ![0, 0, 0, 0, 0, 0]
      (shapeCast ⟨6, ![N, T, 3, 2, 2, 64]⟩ p F.split) F.keys) F.drop (ix5 n t b j d) = cols h w (512 + (b.val * 256 + 0 * 128 + j.val * 64 + d.val)) :=
    fun d => (half_read F.split 0 F.keys F.drop p n t b j d).trans (hp _)
  have e1 : shapeCast ⟨5, ![N, T, 3, 2, 64]⟩ (extractStridedSlice ⟨6, ![N, T, 3, 1, 2, 64]⟩ ![0, 0, 0, 1, 0, 0]
      (shapeCast ⟨6, ![N, T, 3, 2, 2, 64]⟩ p F.split) F.values) F.drop (ix5 n t b j d) = cols h w (512 + (b.val * 256 + 1 * 128 + j.val * 64 + d.val)) :=
    (half_read F.split 1 F.values F.drop p n t b j d).trans (hp _)
  unfold pairs kvRow
  by_cases hz : k.val < 1
  · obtain rfl : k = 0 := Fin.ext (by show k.val = 0; omega)
    rw [if_pos (by show (512 + (b.val * 256 + 0 * 128 + j.val * 64 + d.val)) / 128 % 2 = 0; omega)]
    refine (concatenate_pair_apply_left (t := ⟨6, ![N, T, 3, 2, 2, 64]⟩) (s₁ := ⟨6, ![N, T, 3, 1, 2, 64]⟩) (s₂ := ⟨6, ![N, T, 3, 1, 2, 64]⟩)
      (3 : Fin 6) _ _ F.stack (ix6 n t b 0 j d) rfl (ix6 n t b 0 j d) fun a => ?_).trans
      ((unit_read F _ n t b j d).trans ((keys_read F _ co si n t b j d).trans ?_))
    · match a with
      | ⟨0, _⟩ => rfl
      | ⟨1, _⟩ => rfl
      | ⟨2, _⟩ => rfl
      | ⟨3, _⟩ => rfl
      | ⟨4, _⟩ => rfl
      | ⟨5, _⟩ => rfl
    · simp only [e0, hc, hs]
      refine turn_read _ (fun i => Ideal.cos (ang q i.val)) (fun i => Ideal.sin (ang q i.val)) _ d.val
        (by show (512 + (b.val * 256 + 0 * 128 + j.val * 64 + d.val)) % 64 = d.val; omega) _ _ _ _ _
        (fun _ => rfl) (fun _ => congrArg _ ?_) (fun _ _ => rfl) (fun _ _ => congrArg _ ?_) (fun _ => rfl)
      · show 512 + (b.val * 256 + 0 * 128 + j.val * 64 + (8 + d.val)) = 512 + (b.val * 256 + 0 * 128 + j.val * 64 + d.val) + 8
        omega
      · show 512 + (b.val * 256 + 0 * 128 + j.val * 64 + (d.val - 8)) = 512 + (b.val * 256 + 0 * 128 + j.val * 64 + d.val) - 8
        omega
  · obtain rfl : k = 1 := Fin.ext (by show k.val = 1; omega)
    rw [if_neg (by show ¬ (512 + (b.val * 256 + 1 * 128 + j.val * 64 + d.val)) / 128 % 2 = 0; omega)]
    refine (concatenate_pair_apply_right (t := ⟨6, ![N, T, 3, 2, 2, 64]⟩) (s₁ := ⟨6, ![N, T, 3, 1, 2, 64]⟩) (s₂ := ⟨6, ![N, T, 3, 1, 2, 64]⟩)
      (3 : Fin 6) _ _ F.stack (ix6 n t b 1 j d) rfl rfl (ix6 n t b 0 j d) (fun a ha => ?_) rfl).trans ((unit_read F _ n t b j d).trans e1)
    match a, ha with
    | ⟨0, _⟩, _ => rfl
    | ⟨1, _⟩, _ => rfl
    | ⟨2, _⟩, _ => rfl
    | ⟨3, _⟩, ha => exact absurd rfl ha
    | ⟨4, _⟩, _ => rfl
    | ⟨5, _⟩, _ => rfl

end Cert.Proof.InHeads
end
-- ==== Proof.InRef.lean ====
/-
  The reference of the input projection on the prompt tokens, entry by entry.
-/
module

public import proofs.«01_k».proof.Proof.Gen.InRefIdeal.Read
public import proofs.«01_k».proof.Proof.Layer
public import proofs.«01_k».proof.Proof.S5Math
public import proofs.«01_k».proof.Proof.InHeads

@[expose] public section

set_option maxRecDepth 16384

noncomputable section

namespace Cert.Proof.InRef

open Idealize.ShloMosaic Idealize.ShloMosaic.TcCoe Idealize.SL.Sem
open Cert.InRefIdeal Cert.InRefIdeal.Gen Cert.InRefIdeal.Read
open Cert.Proof.Layer Cert.Proof.S5Math Cert.Proof.InMath Cert.Proof.InHeads

variable (x0 : (⟨S2x8192x1024, .f32⟩ : BufTy).Contents (Elt Ideal)) (x1 : (⟨S1024, .f32⟩ : BufTy).Contents (Elt Ideal))
  (x2 : (⟨S1024x2328, .f32⟩ : BufTy).Contents (Elt Ideal)) (x3 x4 : (⟨S512, .f32⟩ : BufTy).Contents (Elt Ideal))
  (n : Fin 2) (t : Fin 8192)

/-- The normed row of a token. -/
def hR (k : Fin 1024) : EReal := rms (fun k => x0 (ix3 n t k)) (fun k => x1 (ix1 k)) k

/-- The weight matrix. -/
def wR (k : Fin 1024) : Nat → EReal := ext fun j => x2 (ix2 k j)

/-- The position of a token. -/
def posR : EReal := FloatOps.sitofp (F := Ideal) .f32 (BitVec.ofNat 32 t.val)

theorem v13_apply (k : Fin 1024) : val_main_v13 x0 x1 (ix3 n t k) = hR x0 x1 n t k := by
  pointwise [val_main_v13, val_main_v12, val_main_v11, val_main_v10, val_main_v9, val_main_v8, val_main_v7, val_main_v6, val_main_v5,
    val_main_v4, val_main_v3, val_main_v2, val_main_v1, val_main_cst, val_main_cst_0, val_main_cst_1]
  rfl

/-- The projection. -/
theorem v14_apply (j : Fin 2328) : val_main_v14 x0 x1 x2 (ix3 n t j) = cols (hR x0 x1 n t) (wR x2) j.val := by
  pointwise [val_main_v14]
  unfold cols wR
  simp only [v13_apply, ext_of_lt _ j.isLt]

/-- The tables of cosines and sines. -/
theorem v29_apply (i : Fin 8) : val_main_v29 (F := Ideal) (ix2 t i) = Ideal.cos (ang (posR t) i.val) := by
  pointwise [val_main_v29, val_main_v28, val_main_v27, val_main_v26, val_main_v25, val_main_v24, val_main_v23, val_main_v22, val_main_v21,
    val_main_v20, val_main_v19, val_main_v18, val_main_v17, val_main_v0, val_main_cst_3, val_main_cst_2]
  rfl
theorem v31_apply (i : Fin 8) : val_main_v31 (F := Ideal) (ix2 t i) = Ideal.sin (ang (posR t) i.val) := by
  pointwise [val_main_v31, val_main_v28, val_main_v27, val_main_v26, val_main_v25, val_main_v24, val_main_v23, val_main_v22, val_main_v21,
    val_main_v20, val_main_v19, val_main_v18, val_main_v17, val_main_v0, val_main_cst_3, val_main_cst_2]
  rfl

/-- The rotated queries, head by head. -/
theorem v50_apply (h : Fin 8) (d : Fin 64) : val_main_v50 x0 x1 x2 (ix4 n t h d)
    = turn (cols (hR x0 x1 n t) (wR x2)) (cosA (posR t)) (sinA (posR t)) (h.val * 64 + d.val) := by
  pointwise [val_main_v50, val_main_v49, val_main_v48, val_main_v41, val_main_v47, val_main_v44, val_main_v40, val_main_v37, val_main_v46,
    val_main_v45, val_main_v43, val_main_v42, val_main_v39, val_main_v38, val_main_v36, val_main_v35, val_main_v34, val_main_v33,
    val_main_v30, val_main_v32, val_main_v16, val_main_v15]
  simp only [v14_apply, v29_apply, v31_apply]
  have hd := d.isLt
  refine turn_read _ (fun i => Ideal.cos (ang (posR t) i.val)) (fun i => Ideal.sin (ang (posR t) i.val)) _ d.val (by omega) _ _ _ _ _
    (fun _ => rfl) (fun _ => congrArg _ ?_) (fun _ _ => congrArg _ ?_) (fun _ _ => congrArg _ ?_) (fun _ => congrArg _ ?_)
  all_goals omega

/-- The keys and values, side by side. -/
theorem fits : Fits 2 8192 where
  split := shapeCasts_S2x8192x768_S2x8192x3x2x2x64
  keys := slices_S2x8192x3x2x2x64_S2x8192x3x1x2x64_0_0_0_0_0_0
  values := slices_S2x8192x3x2x2x64_S2x8192x3x1x2x64_0_0_0_1_0_0
  drop := shapeCasts_S2x8192x3x1x2x64_S2x8192x3x2x64
  cut0 := slices_S2x8192x3x2x64_S2x8192x3x2x8_0_0_0_0_0
  cut8 := slices_S2x8192x3x2x64_S2x8192x3x2x8_0_0_0_0_8
  cut16 := slices_S2x8192x3x2x64_S2x8192x3x2x48_0_0_0_0_16
  table := shapeCasts_S8192x8_S8192x1x1x8
  lift := bcast_S8192x1x1x8_S1x8192x1x1x8_1_2_3_4
  spread := bcast_S1x8192x1x1x8_S2x8192x3x2x8_0_1_2_3_4
  join := concatenates_S2x8192x3x2x8_S2x8192x3x2x8_S2x8192x3x2x48_S2x8192x3x2x64_d4
  unit := bcast_S2x8192x3x2x64_S2x8192x3x1x2x64_0_1_2_4_5
  stack := concatenates_S2x8192x3x1x2x64_S2x8192x3x1x2x64_S2x8192x3x2x2x64_d3
  many := by decide
theorem v128_eq : val_main_v128 x0 x1 x2 = pairs fits (val_main_v51 x0 x1 x2) (val_main_v29 (F := Ideal)) (val_main_v31 (F := Ideal)) := rfl
theorem v128_apply (b : Fin 3) (k j : Fin 2) (d : Fin 64) : val_main_v128 x0 x1 x2 (ix6 n t b k j d)
    = kvRow (hR x0 x1 n t) (wR x2) (posR t) (512 + (b.val * 256 + k.val * 128 + j.val * 64 + d.val)) := by
  rw [v128_eq]
  refine pairs_read fits _ _ _ n t _ _ _ (fun i => ?_) (v29_apply t) (v31_apply t) b k j d
  pointwise [val_main_v51]
  exact v14_apply x0 x1 x2 n t _

/-- The gates. -/
theorem v59_apply (c : Fin 24) : val_main_v59 x0 x1 x2 (ix3 n t c) = logi (cols (hR x0 x1 n t) (wR x2) (1280 + c.val)) := by
  pointwise [val_main_v59, val_main_v58, val_main_v57, val_main_v56, val_main_v55, val_main_v54, val_main_v53, val_main_cst_4, val_main_cst_5]
  rw [v14_apply]
  rfl

/-- The two halves of the gating unit before the norm. -/
theorem v73_apply (c : Fin 512) : val_main_v73 x0 x1 x2 (ix3 n t c) = uRow (hR x0 x1 n t) (wR x2) c.val := by
  pointwise [val_main_v73, val_main_v72, val_main_v71, val_main_v70, val_main_v69, val_main_v68, val_main_v67, val_main_v66, val_main_v65,
    val_main_v64, val_main_v63, val_main_v62, val_main_v61, val_main_v60, val_main_cst_9, val_main_cst_8, val_main_cst_7, val_main_cst_6]
  rw [v14_apply]
  rfl
theorem v87_apply (c : Fin 512) : val_main_v87 x0 x1 x2 (ix3 n t c) = gelu (cols (hR x0 x1 n t) (wR x2) (1816 + c.val)) := by
  pointwise [val_main_v87, val_main_v86, val_main_v85, val_main_v84, val_main_v83, val_main_v82, val_main_v81, val_main_v80, val_main_v79,
    val_main_v78, val_main_v77, val_main_v76, val_main_v75, val_main_v74, val_main_cst_13, val_main_cst_12, val_main_cst_11, val_main_cst_10]
  rw [v14_apply]
  rfl

/-- The normed half. -/
theorem v160_apply (c : Fin 512) : val_main_v160 x0 x1 x2 x3 x4 (ix3 n t c)
    = vRow (hR x0 x1 n t) (wR x2) (fun c => x3 (ix1 c)) (fun c => x4 (ix1 c)) c := by
  pointwise [val_main_v160, val_main_v159, val_main_v158, val_main_v157, val_main_v156, val_main_v155, val_main_v154, val_main_v153,
    val_main_v152, val_main_v151, val_main_v150, val_main_v149, val_main_v148, val_main_v147, val_main_v146, val_main_v145, val_main_v144,
    val_main_v143, val_main_v142, val_main_v141, val_main_v140, val_main_v139, val_main_cst_18, val_main_cst_19, val_main_cst_20,
    val_main_cst_21, val_main_cst_22]
  simp only [v87_apply]
  rfl

section
variable (T : Fin 16384)

/-- The batch entry and the position of row `T` of the results. -/
def bT : Fin 2 := ⟨T.val / 8192, by omega⟩
def pT : Fin 8192 := ⟨T.val % 8192, by omega⟩

theorem ref_q (c : Fin 512) : val_main_v133 x0 x1 x2 (ix2 T c) = qRow (hR x0 x1 (bT T) (pT T)) (wR x2) (posR (pT T)) c.val := by
  pointwise [val_main_v133, val_main_v132, val_main_v131, val_main_cst_17]
  refine congrArg (· * Ideal.ofBits .f32 0x3E000000#32) ((v50_apply x0 x1 x2 (bT T) (pT T) _ _).trans (congrArg _ ?_))
  show c.val / 64 * 64 + c.val % 64 = c.val
  omega

theorem ref_kv (c : Fin 768) : val_main_v134 x0 x1 x2 (ix2 T c)
    = kvRow (hR x0 x1 (bT T) (pT T)) (wR x2) (posR (pT T)) (512 + c.val) := by
  pointwise [val_main_v134]
  refine (v128_apply x0 x1 x2 (bT T) (pT T) _ _ _ _).trans (congrArg _ ?_)
  show 512 + (c.val / 256 * 256 + c.val / 128 % 2 * 128 + c.val / 64 % 2 * 64 + c.val % 64) = 512 + c.val
  omega

theorem ref_kvb (c : Fin 512) : val_main_v137 x0 x1 x2 (ix2 T c)
    = kvRow (hR x0 x1 (bT T) (pT T)) (wR x2) (posR (pT T)) (768 + c.val) := by
  pointwise [val_main_v137, val_main_v136, val_main_v135]
  refine (v128_apply x0 x1 x2 (bT T) (pT T) _ _ _ _).trans (congrArg _ ?_)
  show 512 + ((1 + c.val / 256) * 256 + c.val / 128 % 2 * 128 + c.val / 64 % 2 * 64 + c.val % 64) = 768 + c.val
  omega

theorem ref_gate (c : Fin 128) : val_main_v130 x0 x1 x2 (ix2 T c) = gateRow (hR x0 x1 (bT T) (pT T)) (wR x2) c.val := by
  pointwise [val_main_v130, val_main_v129, val_main_call0_v0, val_main_cst_16]
  unfold gateRow
  by_cases h : c.val < 24
  · rw [dif_pos h, if_pos h]
    exact v59_apply x0 x1 x2 (bT T) (pT T) ⟨c.val, h⟩
  · rw [dif_neg h, if_neg h]
    rfl

theorem ref_u (c : Fin 512) : val_main_v138 x0 x1 x2 (ix2 T c) = uRow (hR x0 x1 (bT T) (pT T)) (wR x2) c.val := by
  pointwise [val_main_v138]
  exact v73_apply x0 x1 x2 (bT T) (pT T) c

theorem ref_v (c : Fin 512) : val_main_v161 x0 x1 x2 x3 x4 (ix2 T c)
    = vRow (hR x0 x1 (bT T) (pT T)) (wR x2) (fun c => x3 (ix1 c)) (fun c => x4 (ix1 c)) c := by
  pointwise [val_main_v161]
  exact v160_apply x0 x1 x2 x3 x4 (bT T) (pT T) c
end

end Cert.Proof.InRef
end
-- ==== Proof.InValue.lean ====
/-
  The input projection on the prompt tokens: the kernel's results are the reference's, entry by entry.
-/
module

public import proofs.«01_k».proof.Defs
public import Idealize.ShloMosaic.Lib.StableHlo.RunRead
public import Idealize.ShloMosaic.Lib.IdealHost
public import proofs.«01_k».proof.Proof.InBlock
public import proofs.«01_k».proof.Proof.InRef

@[expose] public section

set_option maxRecDepth 16384

noncomputable section

namespace Cert.Proof.InValue

open Idealize.ShloMosaic Idealize.ShloMosaic.TcCoe Idealize.SL.Sem
open Cert.Proof.Layer Cert.Proof.S5Math Cert.Proof.InMath

open Cert.InIdeal Cert.InIdeal.Gen
open Idealize.ShloMosaic.Pipeline (Dat Cfg Window)

variable (m : (ℓ : Loc nD τ sig) → Buf (Elt Ideal) ℓ)

/-- Where each window's block of the grid point lies. -/
theorem index_eq : ∀ t : Fin cfg0.N, win0_0.index t = ![t.val, 0] ∧ win0_1.index t = ![0, 0] ∧ win0_2.index t = ![0, 0]
    ∧ win0_3.index t = ![t.val % 16, 0] ∧ win0_4.index t = ![t.val % 16, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The 8 angles of every position. -/
def angT : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1
      (Host.powf (broadcastInDim S8 ![] bcast_S_S8 (constant S_ .f32 0x48F42400#32))
        (mulf (Host.negf (sitofp .f32 (iotaInDim S8 32 0))) (broadcastInDim S8 ![] bcast_S_S8 (constant S_ .f32 0x3E000000#32))))))

theorem angT_apply (p : Fin 8192) (i : Fin 8) : angT (ix2 p i) = ang (FloatOps.sitofp (F := Ideal) .f32 (BitVec.ofNat 32 p.val)) i.val := by
  pointwise [angT]
  rfl

/-- A table of 128 columns from the columns of a head. -/
def tab (a b : FVec Ideal S8192x8 .f32) (o : FVec Ideal S8192x48 .f32) : FVec Ideal S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x8, a⟩, ⟨S8192x8, b⟩, ⟨S8192x48, o⟩] concatenates_S8192x8_S8192x8_S8192x48_S8192x64_d1)
      shapeCasts_S8192x64_S1x8192x1x64)) shapeCasts_S1x8192x2x64_S8192x128

theorem tab_apply (a b : FVec Ideal S8192x8 .f32) (o : FVec Ideal S8192x48 .f32) (p : Fin 8192) (l : Fin 128) :
    tab a b o (ix2 p l) = if h : l.val % 64 < 8 then a (ix2 p ⟨l.val % 64, h⟩) else if h : l.val % 64 - 8 < 8 then b (ix2 p ⟨l.val % 64 - 8, h⟩)
      else o (ix2 p ⟨l.val % 64 - 8 - 8, by omega⟩) := by
  pointwise [tab]

/-- The rows of the two tables. -/
theorem cos_row (p : Fin 8192) (l : Fin 128) :
    tab (Host.cos angT) (Host.cos angT) (broadcastInDim S8192x48 ![] bcast_S_S8192x48 (constant S_ .f32 0x3F800000#32)) (ix2 p l)
      = cosTab (cosA (FloatOps.sitofp (F := Ideal) .f32 (BitVec.ofNat 32 p.val))) l.val := by
  have a : ∀ i : Fin 8, Host.cos angT (ix2 p i) = Ideal.cos (ang (FloatOps.sitofp (F := Ideal) .f32 (BitVec.ofNat 32 p.val)) i.val) :=
    fun i => congrArg Ideal.cos (angT_apply p i)
  rw [tab_apply]
  simp only [a]
  exact InHeads.cosTab_read (fun i => Ideal.cos (ang (FloatOps.sitofp (F := Ideal) .f32 (BitVec.ofNat 32 p.val)) i.val)) _ Ideal.ofBits_one_f32 l.val
theorem sin_row (p : Fin 8192) (l : Fin 128) :
    tab (Host.negf (Host.sin angT)) (Host.sin angT) (broadcastInDim S8192x48 ![] bcast_S_S8192x48 (constant S_ .f32 0x00000000#32)) (ix2 p l)
      = sinTab (sinA (FloatOps.sitofp (F := Ideal) .f32 (BitVec.ofNat 32 p.val))) l.val := by
  have a : ∀ i : Fin 8, Host.sin angT (ix2 p i) = Ideal.sin (ang (FloatOps.sitofp (F := Ideal) .f32 (BitVec.ofNat 32 p.val)) i.val) :=
    fun i => congrArg Ideal.sin (angT_apply p i)
  have b : ∀ i : Fin 8, Host.negf (Host.sin angT) (ix2 p i) = -Ideal.sin (ang (FloatOps.sitofp (F := Ideal) .f32 (BitVec.ofNat 32 p.val)) i.val) :=
    fun i => congrArg (fun x : EReal => -x) (a i)
  rw [tab_apply]
  simp only [a, b]
  exact InHeads.sinTab_read (fun i => Ideal.sin (ang (FloatOps.sitofp (F := Ideal) .f32 (BitVec.ofNat 32 p.val)) i.val)) _ Ideal.ofBits_zero_f32 l.val

/-- What the host leaves in the two tables and in the weight matrix. -/
theorem v22_eq (c : Dev nD) : V m c main_v22
    = tab (Host.cos angT) (Host.cos angT) (broadcastInDim S8192x48 ![] bcast_S_S8192x48 (constant S_ .f32 0x3F800000#32)) := by
  show StableHlo.after (List.flatten [hostOps0, hostOps0_1, hostOps0_2]) (fun b => m (c, b)) (Proc.devRef .tc main_v22) = _
  generalize (fun b => m (c, b)) = σ
  rw [List.flatten_cons, StableHlo.after_append, List.flatten_cons, StableHlo.after_append, List.flatten_cons, List.flatten_nil, List.append_nil]
  have p0 : StableHlo.upto hostOps0 σ 19 (Proc.devRef .tc main_v13) = Host.cos angT := by
    after_reads_simp
    rfl
  have p2 : StableHlo.upto hostOps0 σ 19 (Proc.devRef .tc main_v15) = (broadcastInDim S8192x48 ![] bcast_S_S8192x48 (constant S_ .f32 0x3F800000#32) : FVec Ideal S8192x48 .f32) := by
    after_reads_simp
  rw [← p0, ← p2]
  after_reads_simp
  rfl
theorem v25_eq (c : Dev nD) : V m c main_v25
    = tab (Host.negf (Host.sin angT)) (Host.sin angT) (broadcastInDim S8192x48 ![] bcast_S_S8192x48 (constant S_ .f32 0x00000000#32)) := by
  show StableHlo.after (List.flatten [hostOps0, hostOps0_1, hostOps0_2]) (fun b => m (c, b)) (Proc.devRef .tc main_v25) = _
  generalize (fun b => m (c, b)) = σ
  rw [List.flatten_cons, StableHlo.after_append, List.flatten_cons, StableHlo.after_append, List.flatten_cons, List.flatten_nil, List.append_nil]
  have p0 : StableHlo.upto hostOps0 σ 23 (Proc.devRef .tc main_v17) = Host.negf (Host.sin angT) := by
    after_reads_simp
    rfl
  have p1 : StableHlo.upto hostOps0 σ 23 (Proc.devRef .tc main_v14) = Host.sin angT := by
    after_reads_simp
    rfl
  have p2 : StableHlo.upto hostOps0 σ 23 (Proc.devRef .tc main_v18) = (broadcastInDim S8192x48 ![] bcast_S_S8192x48 (constant S_ .f32 0x00000000#32) : FVec Ideal S8192x48 .f32) := by
    after_reads_simp
  rw [← p0, ← p1, ← p2]
  after_reads_simp
  rfl

/-- The laid out weight matrix. -/
def layT (x : FVec Ideal S1024x2328 .f32) : FVec Ideal S1024x2432 .bf16 :=
  truncf .bf16 (concatenate S1024x2432 1
    [⟨S1024x1280, extractStridedSlice S1024x1280 ![0, 0] x slices_S1024x2328_S1024x1280_0_0⟩,
     ⟨S1024x1024, extractStridedSlice S1024x1024 ![0, 1304] x slices_S1024x2328_S1024x1024_0_1304⟩,
     ⟨S1024x128, pad S1024x128 ![0, 0] ![0, 104] ![0, 0] (extractStridedSlice S1024x24 ![0, 1280] x slices_S1024x2328_S1024x24_0_1280)
        (sitofp .f32 (constantI S_ 32 0#32) : FVec Ideal S_ .f32) pads_S1024x24_S1024x128_000_01040 h_S_⟩]
    concatenates_S1024x1280_S1024x1024_S1024x128_S1024x2432_d1) bitsLt_bf16_f32

theorem v33_eq (c : Dev nD) : V m c main_v33 = layT (m ((c : Thread nD τ).loc main_arg2)) := by
  show StableHlo.after (List.flatten [hostOps0, hostOps0_1, hostOps0_2]) (fun b => m (c, b)) (Proc.devRef .tc main_v33)
    = layT ((fun b => m (c, b)) (Proc.devRef .tc main_arg2))
  generalize (fun b => m (c, b)) = σ
  rw [List.flatten_cons, StableHlo.after_append, List.flatten_cons, StableHlo.after_append, List.flatten_cons, List.flatten_nil, List.append_nil]
  unfold layT
  have p0 : StableHlo.upto hostOps0_2 (StableHlo.after hostOps0_1 (StableHlo.after hostOps0 σ)) 2 (Proc.devRef .tc main_v30)
      = extractStridedSlice S1024x1280 ![0, 0] (σ (Proc.devRef .tc main_arg2)) slices_S1024x2328_S1024x1280_0_0 := by
    after_reads_simp
  have p1 : StableHlo.upto hostOps0_2 (StableHlo.after hostOps0_1 (StableHlo.after hostOps0 σ)) 2 (Proc.devRef .tc main_v31)
      = extractStridedSlice S1024x1024 ![0, 1304] (σ (Proc.devRef .tc main_arg2)) slices_S1024x2328_S1024x1024_0_1304 := by
    after_reads_simp
  have p2 : StableHlo.upto hostOps0_2 (StableHlo.after hostOps0_1 (StableHlo.after hostOps0 σ)) 2 (Proc.devRef .tc main_v29)
      = pad S1024x128 ![0, 0] ![0, 104] ![0, 0] (extractStridedSlice S1024x24 ![0, 1280] (σ (Proc.devRef .tc main_arg2)) slices_S1024x2328_S1024x24_0_1280)
        (sitofp .f32 (constantI S_ 32 0#32) : FVec Ideal S_ .f32) pads_S1024x24_S1024x128_000_01040 h_S_ := by
    after_reads_simp
    rfl
  rw [← p0, ← p1, ← p2]
  after_reads_simp
  rfl

theorem lay_read (f : Fin 2328 → EReal) (w : Fin 1024 → Nat → EReal) (k : Fin 1024) (hw : w k = ext f) (j : Fin 2432) (o : EReal) (ho : o = 0) :
    (if h : j.val < 1280 then f ⟨j.val, by omega⟩ else if h : j.val - 1280 < 1024 then f ⟨1304 + (j.val - 1280), by omega⟩
      else if h : j.val - 1280 - 1024 < 24 then f ⟨1280 + (j.val - 1280 - 1024), by omega⟩ else o) = lay w k j.val := by
  have hj := j.isLt
  have e : ∀ (n n' : Nat) (h : n < 2328) (_ : n = n'), f ⟨n, h⟩ = w k n' := fun n n' h hn => by
    subst hn
    rw [hw]
    exact (ext_of_lt f h).symm
  unfold lay
  by_cases h1 : j.val < 1280
  · rw [dif_pos h1, if_pos h1]
    exact e _ _ _ rfl
  · rw [dif_neg h1, if_neg h1]
    by_cases h2 : j.val < 2304
    · rw [dif_pos (by omega), if_pos h2]
      exact e _ _ _ (by omega)
    · rw [dif_neg (by omega), if_neg h2]
      by_cases h3 : j.val < 2328
      · rw [dif_pos (by omega), if_pos h3]
        exact e _ _ _ (by omega)
      · rw [dif_neg (by omega), if_neg h3]
        exact ho

theorem layT_apply (x : FVec Ideal S1024x2328 .f32) (k : Fin 1024) (j : Fin 2432) :
    layT x (ix2 k j) = lay (fun k => ext fun j => x (ix2 k j)) k j.val := by
  have z : (FloatOps.sitofp (F := Ideal) .f32 (0#32) : EReal) = 0 := by
    show (((0#32 : BitVec 32).toInt : ℝ) : EReal) = 0
    simp
  pointwise [layT]
  exact lay_read (fun i => x (ix2 k i)) (fun k => ext fun j => x (ix2 k j)) k rfl j _ z

section
variable (c : Dev nD) (t : Fin cfg0.N) (r : Fin 512)

/-- The row of the results that row `r` of a block is. -/
def rowT : Fin 16384 := ⟨t.val * 512 + r.val, by have : t.val < 32 := t.isLt; omega⟩

/-- The blocks of the tokens, the scales and the biases. -/
theorem b0 (k : Fin 1024) : iblk m c 0 t (ix2 r k)
    = m ((c : Thread nD τ).loc main_arg0) (ix3 (InRef.bT (rowT t r)) (InRef.pT (rowT t r)) k) := by
  obtain ⟨e0, e1, e2, e3, e4, e5, e6, e7, e8, e9, e10, e11, e12⟩ := index_eq t
  have ht : t.val < 32 := t.isLt
  unfold InRef.bT InRef.pT rowT
  blk_simp [iblk, e0, V]
  simp only [List.flatten_cons, List.flatten_nil, List.append_nil, hostOps0, hostOps0_1, hostOps0_2, List.cons_append, List.nil_append]
  blk_ext! [e0]
theorem b1 (k : Fin 1024) : iblk m c 1 t (ix2 0 k) = m ((c : Thread nD τ).loc main_arg1) (ix1 k) := by
  obtain ⟨e0, e1, e2, e3, e4, e5, e6, e7, e8, e9, e10, e11, e12⟩ := index_eq t
  blk_simp [iblk, e1, V]
  simp only [List.flatten_cons, List.flatten_nil, List.append_nil, hostOps0, hostOps0_1, hostOps0_2, List.cons_append, List.nil_append]
  blk_ext! [e1]
theorem b5 (k : Fin 512) : iblk m c 5 t (ix2 0 k) = m ((c : Thread nD τ).loc main_arg3) (ix1 k) := by
  obtain ⟨e0, e1, e2, e3, e4, e5, e6, e7, e8, e9, e10, e11, e12⟩ := index_eq t
  blk_simp [iblk, e5, V]
  simp only [List.flatten_cons, List.flatten_nil, List.append_nil, hostOps0, hostOps0_1, hostOps0_2, List.cons_append, List.nil_append]
  blk_ext! [e5]
theorem b6 (k : Fin 512) : iblk m c 6 t (ix2 0 k) = m ((c : Thread nD τ).loc main_arg4) (ix1 k) := by
  obtain ⟨e0, e1, e2, e3, e4, e5, e6, e7, e8, e9, e10, e11, e12⟩ := index_eq t
  blk_simp [iblk, e6, V]
  simp only [List.flatten_cons, List.flatten_nil, List.append_nil, hostOps0, hostOps0_1, hostOps0_2, List.cons_append, List.nil_append]
  blk_ext! [e6]

/-- The weight matrix, whole at every grid point. -/
theorem b2 (k : Fin 1024) (j : Fin 2432) : iblk m c 2 t (ix2 k j) = lay (InRef.wR (m ((c : Thread nD τ).loc main_arg2))) k j.val := by
  obtain ⟨e0, e1, e2, e3, e4, e5, e6, e7, e8, e9, e10, e11, e12⟩ := index_eq t
  have e : iblk m c 2 t (ix2 k j) = V m c main_v33 (ix2 k j) := by
    blk_ext [iblk, e2]
  rw [e, v33_eq]
  exact layT_apply _ k j

/-- The blocks of the two tables. -/
theorem b3 (l : Fin 128) : iblk m c 3 t (ix2 r l) = cosTab (cosA (InRef.posR (InRef.pT (rowT t r)))) l.val := by
  obtain ⟨e0, e1, e2, e3, e4, e5, e6, e7, e8, e9, e10, e11, e12⟩ := index_eq t
  have ht : t.val < 32 := t.isLt
  have e : iblk m c 3 t (ix2 r l) = V m c main_v22 (ix2 (⟨t.val % 16 * 512 + r.val, by omega⟩ : Fin 8192) l) := by
    blk_ext [iblk, e3]
  have p : (⟨t.val % 16 * 512 + r.val, by omega⟩ : Fin 8192) = InRef.pT (rowT t r) :=
    Fin.ext (by show t.val % 16 * 512 + r.val = (t.val * 512 + r.val) % 8192; omega)
  rw [e, v22_eq, p]
  exact cos_row _ l
theorem b4 (l : Fin 128) : iblk m c 4 t (ix2 r l) = sinTab (sinA (InRef.posR (InRef.pT (rowT t r)))) l.val := by
  obtain ⟨e0, e1, e2, e3, e4, e5, e6, e7, e8, e9, e10, e11, e12⟩ := index_eq t
  have ht : t.val < 32 := t.isLt
  have e : iblk m c 4 t (ix2 r l) = V m c main_v25 (ix2 (⟨t.val % 16 * 512 + r.val, by omega⟩ : Fin 8192) l) := by
    blk_ext [iblk, e4]
  have p : (⟨t.val % 16 * 512 + r.val, by omega⟩ : Fin 8192) = InRef.pT (rowT t r) :=
    Fin.ext (by show t.val % 16 * 512 + r.val = (t.val * 512 + r.val) % 8192; omega)
  rw [e, v25_eq, p]
  exact sin_row _ l

/-- The normed rows of the block. -/
theorem bh (k : Fin 1024) : k0_pay2 (iblk m c 0 t) (iblk m c 1 t) (ix2 r k)
    = InRef.hR (m ((c : Thread nD τ).loc main_arg0)) (m ((c : Thread nD τ).loc main_arg1)) (InRef.bT (rowT t r)) (InRef.pT (rowT t r)) k := by
  rw [InBlock.pay2_apply]
  unfold InRef.hR
  rw [show (fun k => iblk m c 0 t (ix2 r k)) = _ from funext (b0 m c t r), show (fun k => iblk m c 1 t (ix2 0 k)) = _ from funext (b1 m c t)]
end

/-- The result arrays after the kernel's run are the reference's results on the same arguments. -/
theorem final7 (c : Dev nD) :
    (dats m 0 c).arrAt 7 cfg0.N = Cert.InRefIdeal.Read.val_main_v133 (m ((c : Thread nD τ).loc main_arg0)) (m ((c : Thread nD τ).loc main_arg1)) (m ((c : Thread nD τ).loc main_arg2)) := by
  refine (dats m 0 c).arrAt_eq_of_covers 7 _ (by decide +kernel) fun t hf y => ?_
  obtain ⟨e0, e1, e2, e3, e4, e5, e6, e7, e8, e9, e10, e11, e12⟩ := index_eq t
  blk_simp
  rw [after0_7]
  obtain ⟨r, k, rfl⟩ : ∃ (r : Fin 512) (k : Fin 512), y = ix2 r k := ⟨y 0, y 1, eq_ix2 y⟩
  have hi : (win0_7.blk t).view.emb (ix2 r k) = ix2 (rowT t r) k := by
    unfold rowT
    blk_ext [e7]
  rw [hi, InRef.ref_q, InBlock.out7_apply]
  exact InBlock.q_row (bh m c t r) (b2 m c t) (b3 m c t r) (b4 m c t r) _ (by omega)
theorem final8 (c : Dev nD) :
    (dats m 0 c).arrAt 8 cfg0.N = Cert.InRefIdeal.Read.val_main_v134 (m ((c : Thread nD τ).loc main_arg0)) (m ((c : Thread nD τ).loc main_arg1)) (m ((c : Thread nD τ).loc main_arg2)) := by
  refine (dats m 0 c).arrAt_eq_of_covers 8 _ (by decide +kernel) fun t hf y => ?_
  obtain ⟨e0, e1, e2, e3, e4, e5, e6, e7, e8, e9, e10, e11, e12⟩ := index_eq t
  blk_simp
  rw [after0_8]
  obtain ⟨r, k, rfl⟩ : ∃ (r : Fin 512) (k : Fin 768), y = ix2 r k := ⟨y 0, y 1, eq_ix2 y⟩
  have hi : (win0_8.blk t).view.emb (ix2 r k) = ix2 (rowT t r) k := by
    unfold rowT
    blk_ext [e8]
  rw [hi, InRef.ref_kv, InBlock.out8_apply]
  exact InBlock.kv_row (bh m c t r) (b2 m c t) (b3 m c t r) (b4 m c t r) _ (by omega)
theorem final9 (c : Dev nD) :
    (dats m 0 c).arrAt 9 cfg0.N = Cert.InRefIdeal.Read.val_main_v137 (m ((c : Thread nD τ).loc main_arg0)) (m ((c : Thread nD τ).loc main_arg1)) (m ((c : Thread nD τ).loc main_arg2)) := by
  refine (dats m 0 c).arrAt_eq_of_covers 9 _ (by decide +kernel) fun t hf y => ?_
  obtain ⟨e0, e1, e2, e3, e4, e5, e6, e7, e8, e9, e10, e11, e12⟩ := index_eq t
  blk_simp
  rw [after0_9]
  obtain ⟨r, k, rfl⟩ : ∃ (r : Fin 512) (k : Fin 512), y = ix2 r k := ⟨y 0, y 1, eq_ix2 y⟩
  have hi : (win0_9.blk t).view.emb (ix2 r k) = ix2 (rowT t r) k := by
    unfold rowT
    blk_ext [e9]
  rw [hi, InRef.ref_kvb, InBlock.out9_apply]
  exact InBlock.kv_row (bh m c t r) (b2 m c t) (b3 m c t r) (b4 m c t r) _ (by omega)
theorem final10 (c : Dev nD) :
    (dats m 0 c).arrAt 10 cfg0.N = Cert.InRefIdeal.Read.val_main_v130 (m ((c : Thread nD τ).loc main_arg0)) (m ((c : Thread nD τ).loc main_arg1)) (m ((c : Thread nD τ).loc main_arg2)) := by
  refine (dats m 0 c).arrAt_eq_of_covers 10 _ (by decide +kernel) fun t hf y => ?_
  obtain ⟨e0, e1, e2, e3, e4, e5, e6, e7, e8, e9, e10, e11, e12⟩ := index_eq t
  blk_simp
  rw [after0_10]
  obtain ⟨r, k, rfl⟩ : ∃ (r : Fin 512) (k : Fin 128), y = ix2 r k := ⟨y 0, y 1, eq_ix2 y⟩
  have hi : (win0_10.blk t).view.emb (ix2 r k) = ix2 (rowT t r) k := by
    unfold rowT
    blk_ext [e10]
  rw [hi, InRef.ref_gate, InBlock.out10_apply]
  exact InBlock.gate_row (bh m c t r) (b2 m c t) k
theorem final11 (c : Dev nD) :
    (dats m 0 c).arrAt 11 cfg0.N = Cert.InRefIdeal.Read.val_main_v138 (m ((c : Thread nD τ).loc main_arg0)) (m ((c : Thread nD τ).loc main_arg1)) (m ((c : Thread nD τ).loc main_arg2)) := by
  refine (dats m 0 c).arrAt_eq_of_covers 11 _ (by decide +kernel) fun t hf y => ?_
  obtain ⟨e0, e1, e2, e3, e4, e5, e6, e7, e8, e9, e10, e11, e12⟩ := index_eq t
  blk_simp
  rw [after0_11]
  obtain ⟨r, k, rfl⟩ : ∃ (r : Fin 512) (k : Fin 512), y = ix2 r k := ⟨y 0, y 1, eq_ix2 y⟩
  have hi : (win0_11.blk t).view.emb (ix2 r k) = ix2 (rowT t r) k := by
    unfold rowT
    blk_ext [e11]
  rw [hi, InRef.ref_u, InBlock.out11_apply]
  exact InBlock.u_row (bh m c t r) (b2 m c t) k
theorem final12 (c : Dev nD) :
    (dats m 0 c).arrAt 12 cfg0.N = Cert.InRefIdeal.Read.val_main_v161 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 12 _ (by decide +kernel) fun t hf y => ?_
  obtain ⟨e0, e1, e2, e3, e4, e5, e6, e7, e8, e9, e10, e11, e12⟩ := index_eq t
  blk_simp
  rw [after0_12]
  obtain ⟨r, k, rfl⟩ : ∃ (r : Fin 512) (k : Fin 512), y = ix2 r k := ⟨y 0, y 1, eq_ix2 y⟩
  have hi : (win0_12.blk t).view.emb (ix2 r k) = ix2 (rowT t r) k := by
    unfold rowT
    blk_ext [e12]
  rw [hi, InRef.ref_v, InBlock.out12_apply]
  rw [show (fun k => iblk m c 5 t (ix2 0 k)) = _ from funext (b5 m c t), show (fun k => iblk m c 6 t (ix2 0 k)) = _ from funext (b6 m c t)]
  exact InBlock.v_row (bh m c t r) (b2 m c t) _ _ k

/-- The input projection computes its reference, at every input. -/
theorem algebraic : Cert.algebraic_InIdeal_InRefIdeal
    (hInIdeal := Cert.InIdeal.Gen.facts) (hInRefIdeal := Cert.InRefIdeal.Gen.facts) := by
  intro m g m' g' _ h
  refine ⟨fun c => (Cert.InIdeal.Gen.dats m 0 c).arrAt 7 Cert.InIdeal.cfg0.N,
    fun c => (Cert.InIdeal.Gen.dats m 0 c).arrAt 8 Cert.InIdeal.cfg0.N,
    fun c => (Cert.InIdeal.Gen.dats m 0 c).arrAt 9 Cert.InIdeal.cfg0.N,
    fun c => (Cert.InIdeal.Gen.dats m 0 c).arrAt 10 Cert.InIdeal.cfg0.N,
    fun c => (Cert.InIdeal.Gen.dats m 0 c).arrAt 11 Cert.InIdeal.cfg0.N,
    fun c => (Cert.InIdeal.Gen.dats m 0 c).arrAt 12 Cert.InIdeal.cfg0.N, Cert.InIdeal.Value.run_blocks m g, ?_⟩
  refine (θ_run _ _ _).mono (fun r hr c => ?_) (Cert.InRefIdeal.Value.run m' g')
  obtain ⟨h0, h1, h2, h3, h4⟩ := h c
  refine ⟨(hr c).1.trans ?_, (hr c).2.1.trans ?_, (hr c).2.2.1.trans ?_, (hr c).2.2.2.1.trans ?_, (hr c).2.2.2.2.1.trans ?_,
    (hr c).2.2.2.2.2.1.trans ?_, (hr c).2.2.2.2.2.2⟩
  · refine (Cert.InRefIdeal.Read.val_main_v133_eq _).trans ?_
    unfold StableHlo.launchContents
    rw [h0, h1, h2]
    exact (final7 m c).symm
  · refine (Cert.InRefIdeal.Read.val_main_v134_eq _).trans ?_
    unfold StableHlo.launchContents
    rw [h0, h1, h2]
    exact (final8 m c).symm
  · refine (Cert.InRefIdeal.Read.val_main_v137_eq _).trans ?_
    unfold StableHlo.launchContents
    rw [h0, h1, h2]
    exact (final9 m c).symm
  · refine (Cert.InRefIdeal.Read.val_main_v130_eq _).trans ?_
    unfold StableHlo.launchContents
    rw [h0, h1, h2]
    exact (final10 m c).symm
  · refine (Cert.InRefIdeal.Read.val_main_v138_eq _).trans ?_
    unfold StableHlo.launchContents
    rw [h0, h1, h2]
    exact (final11 m c).symm
  · refine (Cert.InRefIdeal.Read.val_main_v161_eq _).trans ?_
    unfold StableHlo.launchContents
    rw [h0, h1, h2, h3, h4]
    exact (final12 m c).symm

end Cert.Proof.InValue
end
-- ==== Proof.InSRef.lean ====
/-
  The reference of the input projection on the sample tokens, entry by entry.
-/
module

public import proofs.«01_k».proof.Proof.Gen.InSRefIdeal.Read
public import proofs.«01_k».proof.Proof.Layer
public import proofs.«01_k».proof.Proof.S5Math
public import proofs.«01_k».proof.Proof.InHeads
public import proofs.«01_k».proof.Proof.InRef

@[expose] public section

set_option maxRecDepth 16384

noncomputable section

namespace Cert.Proof.InSRef

open Idealize.ShloMosaic Idealize.ShloMosaic.TcCoe Idealize.SL.Sem
open Cert.InSRefIdeal Cert.InSRefIdeal.Gen Cert.InSRefIdeal.Read
open Cert.Proof.Layer Cert.Proof.S5Math Cert.Proof.InMath Cert.Proof.InHeads

variable (x0 : (⟨S128x8x1024, .f32⟩ : BufTy).Contents (Elt Ideal)) (x1 : (⟨S1024, .f32⟩ : BufTy).Contents (Elt Ideal))
  (x2 : (⟨S1024x2328, .f32⟩ : BufTy).Contents (Elt Ideal)) (x3 x4 : (⟨S512, .f32⟩ : BufTy).Contents (Elt Ideal))
  (n : Fin 128) (t : Fin 8)

/-- The normed row of a token. -/
def hR (k : Fin 1024) : EReal := rms (fun k => x0 (ix3 n t k)) (fun k => x1 (ix1 k)) k

/-- The position of a token. -/
def posR : EReal := FloatOps.sitofp (F := Ideal) .f32 (IntOp.addi (2048#32) (BitVec.ofNat 32 t.val))

theorem v15_apply (k : Fin 1024) : val_main_v15 x0 x1 (ix3 n t k) = hR x0 x1 n t k := by
  pointwise [val_main_v15, val_main_v14, val_main_v13, val_main_v12, val_main_v11, val_main_v10, val_main_v9, val_main_v8, val_main_v7,
    val_main_v6, val_main_v5, val_main_v4, val_main_v3, val_main_cst, val_main_cst_0, val_main_cst_1]
  rfl

/-- The projection. -/
theorem v16_apply (j : Fin 2328) : val_main_v16 x0 x1 x2 (ix3 n t j) = cols (hR x0 x1 n t) (InRef.wR x2) j.val := by
  pointwise [val_main_v16]
  unfold cols InRef.wR
  simp only [v15_apply, ext_of_lt _ j.isLt]

/-- The tables of cosines and sines. -/
theorem v31_apply (i : Fin 8) : val_main_v31 (F := Ideal) (ix2 t i) = Ideal.cos (ang (posR t) i.val) := by
  pointwise [val_main_v31, val_main_v30, val_main_v29, val_main_v28, val_main_v27, val_main_v26, val_main_v25, val_main_v24, val_main_v23,
    val_main_v22, val_main_v21, val_main_v20, val_main_v19, val_main_v2, val_main_v1, val_main_v0, val_main_c, val_main_cst_3, val_main_cst_2]
  rfl
theorem v33_apply (i : Fin 8) : val_main_v33 (F := Ideal) (ix2 t i) = Ideal.sin (ang (posR t) i.val) := by
  pointwise [val_main_v33, val_main_v30, val_main_v29, val_main_v28, val_main_v27, val_main_v26, val_main_v25, val_main_v24, val_main_v23,
    val_main_v22, val_main_v21, val_main_v20, val_main_v19, val_main_v2, val_main_v1, val_main_v0, val_main_c, val_main_cst_3, val_main_cst_2]
  rfl

/-- The rotated queries, head by head. -/
theorem v52_apply (h : Fin 8) (d : Fin 64) : val_main_v52 x0 x1 x2 (ix4 n t h d)
    = turn (cols (hR x0 x1 n t) (InRef.wR x2)) (cosA (posR t)) (sinA (posR t)) (h.val * 64 + d.val) := by
  pointwise [val_main_v52, val_main_v51, val_main_v50, val_main_v43, val_main_v49, val_main_v46, val_main_v42, val_main_v39, val_main_v48,
    val_main_v47, val_main_v45, val_main_v44, val_main_v41, val_main_v40, val_main_v38, val_main_v37, val_main_v36, val_main_v35,
    val_main_v32, val_main_v34, val_main_v18, val_main_v17]
  simp only [v16_apply, v31_apply, v33_apply]
  have hd := d.isLt
  refine turn_read _ (fun i => Ideal.cos (ang (posR t) i.val)) (fun i => Ideal.sin (ang (posR t) i.val)) _ d.val (by omega) _ _ _ _ _
    (fun _ => rfl) (fun _ => congrArg _ ?_) (fun _ _ => congrArg _ ?_) (fun _ _ => congrArg _ ?_) (fun _ => congrArg _ ?_)
  all_goals omega

/-- The keys and values, side by side. -/
theorem fits : Fits 128 8 where
  split := shapeCasts_S128x8x768_S128x8x3x2x2x64
  keys := slices_S128x8x3x2x2x64_S128x8x3x1x2x64_0_0_0_0_0_0
  values := slices_S128x8x3x2x2x64_S128x8x3x1x2x64_0_0_0_1_0_0
  drop := shapeCasts_S128x8x3x1x2x64_S128x8x3x2x64
  cut0 := slices_S128x8x3x2x64_S128x8x3x2x8_0_0_0_0_0
  cut8 := slices_S128x8x3x2x64_S128x8x3x2x8_0_0_0_0_8
  cut16 := slices_S128x8x3x2x64_S128x8x3x2x48_0_0_0_0_16
  table := shapeCasts_S8x8_S8x1x1x8
  lift := bcast_S8x1x1x8_S1x8x1x1x8_1_2_3_4
  spread := bcast_S1x8x1x1x8_S128x8x3x2x8_0_1_2_3_4
  join := concatenates_S128x8x3x2x8_S128x8x3x2x8_S128x8x3x2x48_S128x8x3x2x64_d4
  unit := bcast_S128x8x3x2x64_S128x8x3x1x2x64_0_1_2_4_5
  stack := concatenates_S128x8x3x1x2x64_S128x8x3x1x2x64_S128x8x3x2x2x64_d3
  many := by decide
theorem v130_eq : val_main_v130 x0 x1 x2 = pairs fits (val_main_v53 x0 x1 x2) (val_main_v31 (F := Ideal)) (val_main_v33 (F := Ideal)) := rfl
theorem v130_apply (b : Fin 3) (k j : Fin 2) (d : Fin 64) : val_main_v130 x0 x1 x2 (ix6 n t b k j d)
    = kvRow (hR x0 x1 n t) (InRef.wR x2) (posR t) (512 + (b.val * 256 + k.val * 128 + j.val * 64 + d.val)) := by
  rw [v130_eq]
  refine pairs_read fits _ _ _ n t _ _ _ (fun i => ?_) (v31_apply t) (v33_apply t) b k j d
  pointwise [val_main_v53]
  exact v16_apply x0 x1 x2 n t _

/-- The gates. -/
theorem v61_apply (c : Fin 24) : val_main_v61 x0 x1 x2 (ix3 n t c) = logi (cols (hR x0 x1 n t) (InRef.wR x2) (1280 + c.val)) := by
  pointwise [val_main_v61, val_main_v60, val_main_v59, val_main_v58, val_main_v57, val_main_v56, val_main_v55, val_main_cst_4, val_main_cst_5]
  rw [v16_apply]
  rfl

/-- The two halves of the gating unit before the norm. -/
theorem v75_apply (c : Fin 512) : val_main_v75 x0 x1 x2 (ix3 n t c) = uRow (hR x0 x1 n t) (InRef.wR x2) c.val := by
  pointwise [val_main_v75, val_main_v74, val_main_v73, val_main_v72, val_main_v71, val_main_v70, val_main_v69, val_main_v68, val_main_v67,
    val_main_v66, val_main_v65, val_main_v64, val_main_v63, val_main_v62, val_main_cst_9, val_main_cst_8, val_main_cst_7, val_main_cst_6]
  rw [v16_apply]
  rfl
theorem v89_apply (c : Fin 512) : val_main_v89 x0 x1 x2 (ix3 n t c) = gelu (cols (hR x0 x1 n t) (InRef.wR x2) (1816 + c.val)) := by
  pointwise [val_main_v89, val_main_v88, val_main_v87, val_main_v86, val_main_v85, val_main_v84, val_main_v83, val_main_v82, val_main_v81,
    val_main_v80, val_main_v79, val_main_v78, val_main_v77, val_main_v76, val_main_cst_13, val_main_cst_12, val_main_cst_11, val_main_cst_10]
  rw [v16_apply]
  rfl

/-- The normed half. -/
theorem v162_apply (c : Fin 512) : val_main_v162 x0 x1 x2 x3 x4 (ix3 n t c)
    = vRow (hR x0 x1 n t) (InRef.wR x2) (fun c => x3 (ix1 c)) (fun c => x4 (ix1 c)) c := by
  pointwise [val_main_v162, val_main_v161, val_main_v160, val_main_v159, val_main_v158, val_main_v157, val_main_v156, val_main_v155,
    val_main_v154, val_main_v153, val_main_v152, val_main_v151, val_main_v150, val_main_v149, val_main_v148, val_main_v147, val_main_v146,
    val_main_v145, val_main_v144, val_main_v143, val_main_v142, val_main_v141, val_main_cst_18, val_main_cst_19, val_main_cst_20,
    val_main_cst_21, val_main_cst_22]
  simp only [v89_apply]
  rfl

section
variable (T : Fin 1024)

/-- The batch entry and the position of row `T` of the results. -/
def bT : Fin 128 := ⟨T.val / 8, by omega⟩
def pT : Fin 8 := ⟨T.val % 8, by omega⟩

theorem ref_q (c : Fin 512) : val_main_v135 x0 x1 x2 (ix2 T c) = qRow (hR x0 x1 (bT T) (pT T)) (InRef.wR x2) (posR (pT T)) c.val := by
  pointwise [val_main_v135, val_main_v134, val_main_v133, val_main_cst_17]
  refine congrArg (· * Ideal.ofBits .f32 0x3E000000#32) ((v52_apply x0 x1 x2 (bT T) (pT T) _ _).trans (congrArg _ ?_))
  show c.val / 64 * 64 + c.val % 64 = c.val
  omega

theorem ref_kv (c : Fin 768) : val_main_v136 x0 x1 x2 (ix2 T c)
    = kvRow (hR x0 x1 (bT T) (pT T)) (InRef.wR x2) (posR (pT T)) (512 + c.val) := by
  pointwise [val_main_v136]
  refine (v130_apply x0 x1 x2 (bT T) (pT T) _ _ _ _).trans (congrArg _ ?_)
  show 512 + (c.val / 256 * 256 + c.val / 128 % 2 * 128 + c.val / 64 % 2 * 64 + c.val % 64) = 512 + c.val
  omega

theorem ref_kvb (c : Fin 512) : val_main_v139 x0 x1 x2 (ix2 T c)
    = kvRow (hR x0 x1 (bT T) (pT T)) (InRef.wR x2) (posR (pT T)) (768 + c.val) := by
  pointwise [val_main_v139, val_main_v138, val_main_v137]
  refine (v130_apply x0 x1 x2 (bT T) (pT T) _ _ _ _).trans (congrArg _ ?_)
  show 512 + ((1 + c.val / 256) * 256 + c.val / 128 % 2 * 128 + c.val / 64 % 2 * 64 + c.val % 64) = 768 + c.val
  omega

theorem ref_gate (c : Fin 128) : val_main_v132 x0 x1 x2 (ix2 T c) = gateRow (hR x0 x1 (bT T) (pT T)) (InRef.wR x2) c.val := by
  pointwise [val_main_v132, val_main_v131, val_main_call0_v0, val_main_cst_16]
  unfold gateRow
  by_cases h : c.val < 24
  · rw [dif_pos h, if_pos h]
    exact v61_apply x0 x1 x2 (bT T) (pT T) ⟨c.val, h⟩
  · rw [dif_neg h, if_neg h]
    rfl

theorem ref_u (c : Fin 512) : val_main_v140 x0 x1 x2 (ix2 T c) = uRow (hR x0 x1 (bT T) (pT T)) (InRef.wR x2) c.val := by
  pointwise [val_main_v140]
  exact v75_apply x0 x1 x2 (bT T) (pT T) c

theorem ref_v (c : Fin 512) : val_main_v163 x0 x1 x2 x3 x4 (ix2 T c)
    = vRow (hR x0 x1 (bT T) (pT T)) (InRef.wR x2) (fun c => x3 (ix1 c)) (fun c => x4 (ix1 c)) c := by
  pointwise [val_main_v163]
  exact v162_apply x0 x1 x2 x3 x4 (bT T) (pT T) c
end

end Cert.Proof.InSRef
end
-- ==== Proof.InSValue.lean ====
/-
  The input projection on the sample tokens: the kernel's results are the reference's, entry by entry.
-/
module

public import proofs.«01_k».proof.Defs
public import proofs.«01_k».proof.Proof.Gen.InSIdeal.Value
public import Idealize.ShloMosaic.Lib.StableHlo.RunRead
public import Idealize.ShloMosaic.Lib.IdealHost
public import proofs.«01_k».proof.Proof.InBlock
public import proofs.«01_k».proof.Proof.InSRef
public import proofs.«01_k».proof.Proof.InValue

@[expose] public section

set_option maxRecDepth 16384

noncomputable section

namespace Cert.Proof.InSValue

open Idealize.ShloMosaic Idealize.ShloMosaic.TcCoe Idealize.SL.Sem
open Cert.Proof.Layer Cert.Proof.S5Math Cert.Proof.InMath

open Cert.InSIdeal Cert.InSIdeal.Gen
open Idealize.ShloMosaic.Pipeline (Dat Cfg Window)

variable (m : (ℓ : Loc nD τ sig) → Buf (Elt Ideal) ℓ)

/-- Where each window's block of the grid point lies. -/
theorem index_eq : ∀ t : Fin cfg0.N, win0_0.index t = ![t.val, 0] ∧ win0_1.index t = ![0, 0] ∧ win0_2.index t = ![0, 0]
    ∧ win0_3.index t = ![t.val % 2, 0] ∧ win0_4.index t = ![t.val % 2, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The 8 angles of every position. -/
def angT : FVec Ideal S1024x8 .f32 :=
  mulf (broadcastInDim S1024x8 ![0, 1] bcast_S1024x1_S1024x8_0_1 (broadcastInDim S1024x1 ![0] bcast_S1024_S1024x1_0 (sitofp .f32 (shapeCast S1024 (broadcastInDim S128x8 ![0, 1] bcast_S1x8_S128x8_0_1 (shapeCast S1x8
      (addi (broadcastInDim S8 ![] bcast_S_S8 (constantI S_ 32 2048#32)) (iotaInDim S8 32 0)) shapeCasts_S8_S1x8)) shapeCasts_S128x8_S1024))))
    (broadcastInDim S1024x8 ![0, 1] bcast_S1x8_S1024x8_0_1 (broadcastInDim S1x8 ![1] bcast_S8_S1x8_1
      (Host.powf (broadcastInDim S8 ![] bcast_S_S8 (constant S_ .f32 0x48F42400#32))
        (mulf (Host.negf (sitofp .f32 (iotaInDim S8 32 0))) (broadcastInDim S8 ![] bcast_S_S8 (constant S_ .f32 0x3E000000#32))))))

theorem angT_apply (p : Fin 1024) (i : Fin 8) : angT (ix2 p i) = ang (FloatOps.sitofp (F := Ideal) .f32 (IntOp.addi (2048#32) (BitVec.ofNat 32 (p.val % 8)))) i.val := by
  pointwise [angT]
  rfl

/-- A table of 128 columns from the columns of a head. -/
def tab (a b : FVec Ideal S1024x8 .f32) (o : FVec Ideal S1024x48 .f32) : FVec Ideal S1024x128 .f32 :=
  shapeCast S1024x128 (broadcastInDim S1x1024x2x64 ![0, 1, 2, 3] bcast_S1x1024x1x64_S1x1024x2x64_0_1_2_3
    (shapeCast S1x1024x1x64 (concatenate S1024x64 1 [⟨S1024x8, a⟩, ⟨S1024x8, b⟩, ⟨S1024x48, o⟩] concatenates_S1024x8_S1024x8_S1024x48_S1024x64_d1)
      shapeCasts_S1024x64_S1x1024x1x64)) shapeCasts_S1x1024x2x64_S1024x128

theorem tab_apply (a b : FVec Ideal S1024x8 .f32) (o : FVec Ideal S1024x48 .f32) (p : Fin 1024) (l : Fin 128) :
    tab a b o (ix2 p l) = if h : l.val % 64 < 8 then a (ix2 p ⟨l.val % 64, h⟩) else if h : l.val % 64 - 8 < 8 then b (ix2 p ⟨l.val % 64 - 8, h⟩)
      else o (ix2 p ⟨l.val % 64 - 8 - 8, by omega⟩) := by
  pointwise [tab]

/-- The rows of the two tables. -/
theorem cos_row (p : Fin 1024) (l : Fin 128) :
    tab (Host.cos angT) (Host.cos angT) (broadcastInDim S1024x48 ![] bcast_S_S1024x48 (constant S_ .f32 0x3F800000#32)) (ix2 p l)
      = cosTab (cosA (FloatOps.sitofp (F := Ideal) .f32 (IntOp.addi (2048#32) (BitVec.ofNat 32 (p.val % 8))))) l.val := by
  have a : ∀ i : Fin 8, Host.cos angT (ix2 p i) = Ideal.cos (ang (FloatOps.sitofp (F := Ideal) .f32 (IntOp.addi (2048#32) (BitVec.ofNat 32 (p.val % 8)))) i.val) :=
    fun i => congrArg Ideal.cos (angT_apply p i)
  rw [tab_apply]
  simp only [a]
  exact InHeads.cosTab_read (fun i => Ideal.cos (ang (FloatOps.sitofp (F := Ideal) .f32 (IntOp.addi (2048#32) (BitVec.ofNat 32 (p.val % 8)))) i.val)) _ Ideal.ofBits_one_f32 l.val
theorem sin_row (p : Fin 1024) (l : Fin 128) :
    tab (Host.negf (Host.sin angT)) (Host.sin angT) (broadcastInDim S1024x48 ![] bcast_S_S1024x48 (constant S_ .f32 0x00000000#32)) (ix2 p l)
      = sinTab (sinA (FloatOps.sitofp (F := Ideal) .f32 (IntOp.addi (2048#32) (BitVec.ofNat 32 (p.val % 8))))) l.val := by
  have a : ∀ i : Fin 8, Host.sin angT (ix2 p i) = Ideal.sin (ang (FloatOps.sitofp (F := Ideal) .f32 (IntOp.addi (2048#32) (BitVec.ofNat 32 (p.val % 8)))) i.val) :=
    fun i => congrArg Ideal.sin (angT_apply p i)
  have b : ∀ i : Fin 8, Host.negf (Host.sin angT) (ix2 p i) = -Ideal.sin (ang (FloatOps.sitofp (F := Ideal) .f32 (IntOp.addi (2048#32) (BitVec.ofNat 32 (p.val % 8)))) i.val) :=
    fun i => congrArg (fun x : EReal => -x) (a i)
  rw [tab_apply]
  simp only [a, b]
  exact InHeads.sinTab_read (fun i => Ideal.sin (ang (FloatOps.sitofp (F := Ideal) .f32 (IntOp.addi (2048#32) (BitVec.ofNat 32 (p.val % 8)))) i.val)) _ Ideal.ofBits_zero_f32 l.val

/-- What the host leaves in the two tables and in the weight matrix. -/
theorem v27_eq (c : Dev nD) : V m c main_v27
    = tab (Host.cos angT) (Host.cos angT) (broadcastInDim S1024x48 ![] bcast_S_S1024x48 (constant S_ .f32 0x3F800000#32)) := by
  show StableHlo.after (List.flatten [hostOps0, hostOps0_1, hostOps0_2]) (fun b => m (c, b)) (Proc.devRef .tc main_v27) = _
  generalize (fun b => m (c, b)) = σ
  rw [List.flatten_cons, StableHlo.after_append, List.flatten_cons, StableHlo.after_append, List.flatten_cons, List.flatten_nil, List.append_nil]
  have p0 : StableHlo.upto hostOps0 σ 25 (Proc.devRef .tc main_v18) = Host.cos angT := by
    after_reads_simp
    rfl
  have p2 : StableHlo.upto hostOps0 σ 25 (Proc.devRef .tc main_v20) = (broadcastInDim S1024x48 ![] bcast_S_S1024x48 (constant S_ .f32 0x3F800000#32) : FVec Ideal S1024x48 .f32) := by
    after_reads_simp
  rw [← p0, ← p2]
  after_reads_simp
  rfl
theorem v30_eq (c : Dev nD) : V m c main_v30
    = tab (Host.negf (Host.sin angT)) (Host.sin angT) (broadcastInDim S1024x48 ![] bcast_S_S1024x48 (constant S_ .f32 0x00000000#32)) := by
  show StableHlo.after (List.flatten [hostOps0, hostOps0_1, hostOps0_2]) (fun b => m (c, b)) (Proc.devRef .tc main_v30) = _
  generalize (fun b => m (c, b)) = σ
  rw [List.flatten_cons, StableHlo.after_append, List.flatten_cons, StableHlo.after_append, List.flatten_cons, List.flatten_nil, List.append_nil]
  have p0 : StableHlo.upto hostOps0 σ 29 (Proc.devRef .tc main_v22) = Host.negf (Host.sin angT) := by
    after_reads_simp
    rfl
  have p1 : StableHlo.upto hostOps0 σ 29 (Proc.devRef .tc main_v19) = Host.sin angT := by
    after_reads_simp
    rfl
  have p2 : StableHlo.upto hostOps0 σ 29 (Proc.devRef .tc main_v23) = (broadcastInDim S1024x48 ![] bcast_S_S1024x48 (constant S_ .f32 0x00000000#32) : FVec Ideal S1024x48 .f32) := by
    after_reads_simp
  rw [← p0, ← p1, ← p2]
  after_reads_simp
  rfl

theorem v38_eq (c : Dev nD) : V m c main_v38 = InValue.layT (m ((c : Thread nD τ).loc main_arg2)) := by
  show StableHlo.after (List.flatten [hostOps0, hostOps0_1, hostOps0_2]) (fun b => m (c, b)) (Proc.devRef .tc main_v38)
    = InValue.layT ((fun b => m (c, b)) (Proc.devRef .tc main_arg2))
  generalize (fun b => m (c, b)) = σ
  rw [List.flatten_cons, StableHlo.after_append, List.flatten_cons, StableHlo.after_append, List.flatten_cons, List.flatten_nil, List.append_nil]
  unfold InValue.layT
  have p0 : StableHlo.upto hostOps0_2 (StableHlo.after hostOps0_1 (StableHlo.after hostOps0 σ)) 2 (Proc.devRef .tc main_v35)
      = extractStridedSlice S1024x1280 ![0, 0] (σ (Proc.devRef .tc main_arg2)) slices_S1024x2328_S1024x1280_0_0 := by
    after_reads_simp
  have p1 : StableHlo.upto hostOps0_2 (StableHlo.after hostOps0_1 (StableHlo.after hostOps0 σ)) 2 (Proc.devRef .tc main_v36)
      = extractStridedSlice S1024x1024 ![0, 1304] (σ (Proc.devRef .tc main_arg2)) slices_S1024x2328_S1024x1024_0_1304 := by
    after_reads_simp
  have p2 : StableHlo.upto hostOps0_2 (StableHlo.after hostOps0_1 (StableHlo.after hostOps0 σ)) 2 (Proc.devRef .tc main_v34)
      = pad S1024x128 ![0, 0] ![0, 104] ![0, 0] (extractStridedSlice S1024x24 ![0, 1280] (σ (Proc.devRef .tc main_arg2)) slices_S1024x2328_S1024x24_0_1280)
        (sitofp .f32 (constantI S_ 32 0#32) : FVec Ideal S_ .f32) pads_S1024x24_S1024x128_000_01040 h_S_ := by
    after_reads_simp
    rfl
  rw [← p0, ← p1, ← p2]
  after_reads_simp
  rfl

section
variable (c : Dev nD) (t : Fin cfg0.N) (r : Fin 512)

/-- The row of the results that row `r` of a block is. -/
def rowT : Fin 1024 := ⟨t.val * 512 + r.val, by have : t.val < 2 := t.isLt; omega⟩

/-- The blocks of the tokens, the scales and the biases. -/
theorem b0 (k : Fin 1024) : iblk m c 0 t (ix2 r k)
    = m ((c : Thread nD τ).loc main_arg0) (ix3 (InSRef.bT (rowT t r)) (InSRef.pT (rowT t r)) k) := by
  obtain ⟨e0, e1, e2, e3, e4, e5, e6, e7, e8, e9, e10, e11, e12⟩ := index_eq t
  have ht : t.val < 2 := t.isLt
  unfold InSRef.bT InSRef.pT rowT
  blk_simp [iblk, e0, V]
  simp only [List.flatten_cons, List.flatten_nil, List.append_nil, hostOps0, hostOps0_1, hostOps0_2, List.cons_append, List.nil_append]
  blk_ext! [e0]
theorem b1 (k : Fin 1024) : iblk m c 1 t (ix2 0 k) = m ((c : Thread nD τ).loc main_arg1) (ix1 k) := by
  obtain ⟨e0, e1, e2, e3, e4, e5, e6, e7, e8, e9, e10, e11, e12⟩ := index_eq t
  blk_simp [iblk, e1, V]
  simp only [List.flatten_cons, List.flatten_nil, List.append_nil, hostOps0, hostOps0_1, hostOps0_2, List.cons_append, List.nil_append]
  blk_ext! [e1]
theorem b5 (k : Fin 512) : iblk m c 5 t (ix2 0 k) = m ((c : Thread nD τ).loc main_arg3) (ix1 k) := by
  obtain ⟨e0, e1, e2, e3, e4, e5, e6, e7, e8, e9, e10, e11, e12⟩ := index_eq t
  blk_simp [iblk, e5, V]
  simp only [List.flatten_cons, List.flatten_nil, List.append_nil, hostOps0, hostOps0_1, hostOps0_2, List.cons_append, List.nil_append]
  blk_ext! [e5]
theorem b6 (k : Fin 512) : iblk m c 6 t (ix2 0 k) = m ((c : Thread nD τ).loc main_arg4) (ix1 k) := by
  obtain ⟨e0, e1, e2, e3, e4, e5, e6, e7, e8, e9, e10, e11, e12⟩ := index_eq t
  blk_simp [iblk, e6, V]
  simp only [List.flatten_cons, List.flatten_nil, List.append_nil, hostOps0, hostOps0_1, hostOps0_2, List.cons_append, List.nil_append]
  blk_ext! [e6]

/-- The weight matrix, whole at every grid point. -/
theorem b2 (k : Fin 1024) (j : Fin 2432) : iblk m c 2 t (ix2 k j) = lay (InRef.wR (m ((c : Thread nD τ).loc main_arg2))) k j.val := by
  obtain ⟨e0, e1, e2, e3, e4, e5, e6, e7, e8, e9, e10, e11, e12⟩ := index_eq t
  have e : iblk m c 2 t (ix2 k j) = V m c main_v38 (ix2 k j) := by
    blk_ext [iblk, e2]
  rw [e, v38_eq]
  exact InValue.layT_apply _ k j

/-- The blocks of the two tables. -/
theorem b3 (l : Fin 128) : iblk m c 3 t (ix2 r l) = cosTab (cosA (InSRef.posR (InSRef.pT (rowT t r)))) l.val := by
  obtain ⟨e0, e1, e2, e3, e4, e5, e6, e7, e8, e9, e10, e11, e12⟩ := index_eq t
  have ht : t.val < 2 := t.isLt
  have e : iblk m c 3 t (ix2 r l) = V m c main_v27 (ix2 (⟨t.val % 2 * 512 + r.val, by omega⟩ : Fin 1024) l) := by
    blk_ext [iblk, e3]
  have p : (⟨t.val % 2 * 512 + r.val, by omega⟩ : Fin 1024) = rowT t r :=
    Fin.ext (by show t.val % 2 * 512 + r.val = t.val * 512 + r.val; omega)
  rw [e, v27_eq, p]
  exact cos_row _ l
theorem b4 (l : Fin 128) : iblk m c 4 t (ix2 r l) = sinTab (sinA (InSRef.posR (InSRef.pT (rowT t r)))) l.val := by
  obtain ⟨e0, e1, e2, e3, e4, e5, e6, e7, e8, e9, e10, e11, e12⟩ := index_eq t
  have ht : t.val < 2 := t.isLt
  have e : iblk m c 4 t (ix2 r l) = V m c main_v30 (ix2 (⟨t.val % 2 * 512 + r.val, by omega⟩ : Fin 1024) l) := by
    blk_ext [iblk, e4]
  have p : (⟨t.val % 2 * 512 + r.val, by omega⟩ : Fin 1024) = rowT t r :=
    Fin.ext (by show t.val % 2 * 512 + r.val = t.val * 512 + r.val; omega)
  rw [e, v30_eq, p]
  exact sin_row _ l

/-- The normed rows of the block. -/
theorem bh (k : Fin 1024) : k0_pay2 (iblk m c 0 t) (iblk m c 1 t) (ix2 r k)
    = InSRef.hR (m ((c : Thread nD τ).loc main_arg0)) (m ((c : Thread nD τ).loc main_arg1)) (InSRef.bT (rowT t r)) (InSRef.pT (rowT t r)) k := by
  refine (InBlock.pay2_apply ..).trans ?_
  unfold InSRef.hR
  rw [show (fun k => iblk m c 0 t (ix2 r k)) = _ from funext (b0 m c t r), show (fun k => iblk m c 1 t (ix2 0 k)) = _ from funext (b1 m c t)]
end

/-- The result arrays after the kernel's run are the reference's results on the same arguments. -/
theorem final7 (c : Dev nD) :
    (dats m 0 c).arrAt 7 cfg0.N = Cert.InSRefIdeal.Read.val_main_v135 (m ((c : Thread nD τ).loc main_arg0)) (m ((c : Thread nD τ).loc main_arg1)) (m ((c : Thread nD τ).loc main_arg2)) := by
  refine (dats m 0 c).arrAt_eq_of_covers 7 _ (by decide +kernel) fun t hf y => ?_
  obtain ⟨e0, e1, e2, e3, e4, e5, e6, e7, e8, e9, e10, e11, e12⟩ := index_eq t
  blk_simp
  rw [after0_7]
  obtain ⟨r, k, rfl⟩ : ∃ (r : Fin 512) (k : Fin 512), y = ix2 r k := ⟨y 0, y 1, eq_ix2 y⟩
  have hi : (win0_7.blk t).view.emb (ix2 r k) = ix2 (rowT t r) k := by
    unfold rowT
    blk_ext [e7]
  rw [hi, InSRef.ref_q]
  exact (InBlock.out7_apply (iblk m c 0 t) (iblk m c 1 t) (iblk m c 2 t) (iblk m c 3 t) (iblk m c 4 t) (iblk m c 5 t) (iblk m c 6 t) r k).trans <| InBlock.q_row (bh m c t r) (b2 m c t) (b3 m c t r) (b4 m c t r) _ (by omega)
theorem final8 (c : Dev nD) :
    (dats m 0 c).arrAt 8 cfg0.N = Cert.InSRefIdeal.Read.val_main_v136 (m ((c : Thread nD τ).loc main_arg0)) (m ((c : Thread nD τ).loc main_arg1)) (m ((c : Thread nD τ).loc main_arg2)) := by
  refine (dats m 0 c).arrAt_eq_of_covers 8 _ (by decide +kernel) fun t hf y => ?_
  obtain ⟨e0, e1, e2, e3, e4, e5, e6, e7, e8, e9, e10, e11, e12⟩ := index_eq t
  blk_simp
  rw [after0_8]
  obtain ⟨r, k, rfl⟩ : ∃ (r : Fin 512) (k : Fin 768), y = ix2 r k := ⟨y 0, y 1, eq_ix2 y⟩
  have hi : (win0_8.blk t).view.emb (ix2 r k) = ix2 (rowT t r) k := by
    unfold rowT
    blk_ext [e8]
  rw [hi, InSRef.ref_kv]
  exact (InBlock.out8_apply (iblk m c 0 t) (iblk m c 1 t) (iblk m c 2 t) (iblk m c 3 t) (iblk m c 4 t) (iblk m c 5 t) (iblk m c 6 t) r k).trans <| InBlock.kv_row (bh m c t r) (b2 m c t) (b3 m c t r) (b4 m c t r) _ (by omega)
theorem final9 (c : Dev nD) :
    (dats m 0 c).arrAt 9 cfg0.N = Cert.InSRefIdeal.Read.val_main_v139 (m ((c : Thread nD τ).loc main_arg0)) (m ((c : Thread nD τ).loc main_arg1)) (m ((c : Thread nD τ).loc main_arg2)) := by
  refine (dats m 0 c).arrAt_eq_of_covers 9 _ (by decide +kernel) fun t hf y => ?_
  obtain ⟨e0, e1, e2, e3, e4, e5, e6, e7, e8, e9, e10, e11, e12⟩ := index_eq t
  blk_simp
  rw [after0_9]
  obtain ⟨r, k, rfl⟩ : ∃ (r : Fin 512) (k : Fin 512), y = ix2 r k := ⟨y 0, y 1, eq_ix2 y⟩
  have hi : (win0_9.blk t).view.emb (ix2 r k) = ix2 (rowT t r) k := by
    unfold rowT
    blk_ext [e9]
  rw [hi, InSRef.ref_kvb]
  exact (InBlock.out9_apply (iblk m c 0 t) (iblk m c 1 t) (iblk m c 2 t) (iblk m c 3 t) (iblk m c 4 t) (iblk m c 5 t) (iblk m c 6 t) r k).trans <| InBlock.kv_row (bh m c t r) (b2 m c t) (b3 m c t r) (b4 m c t r) _ (by omega)
theorem final10 (c : Dev nD) :
    (dats m 0 c).arrAt 10 cfg0.N = Cert.InSRefIdeal.Read.val_main_v132 (m ((c : Thread nD τ).loc main_arg0)) (m ((c : Thread nD τ).loc main_arg1)) (m ((c : Thread nD τ).loc main_arg2)) := by
  refine (dats m 0 c).arrAt_eq_of_covers 10 _ (by decide +kernel) fun t hf y => ?_
  obtain ⟨e0, e1, e2, e3, e4, e5, e6, e7, e8, e9, e10, e11, e12⟩ := index_eq t
  blk_simp
  rw [after0_10]
  obtain ⟨r, k, rfl⟩ : ∃ (r : Fin 512) (k : Fin 128), y = ix2 r k := ⟨y 0, y 1, eq_ix2 y⟩
  have hi : (win0_10.blk t).view.emb (ix2 r k) = ix2 (rowT t r) k := by
    unfold rowT
    blk_ext [e10]
  rw [hi, InSRef.ref_gate]
  exact (InBlock.out10_apply (iblk m c 0 t) (iblk m c 1 t) (iblk m c 2 t) (iblk m c 3 t) (iblk m c 4 t) (iblk m c 5 t) (iblk m c 6 t) r k).trans <| InBlock.gate_row (bh m c t r) (b2 m c t) k
theorem final11 (c : Dev nD) :
    (dats m 0 c).arrAt 11 cfg0.N = Cert.InSRefIdeal.Read.val_main_v140 (m ((c : Thread nD τ).loc main_arg0)) (m ((c : Thread nD τ).loc main_arg1)) (m ((c : Thread nD τ).loc main_arg2)) := by
  refine (dats m 0 c).arrAt_eq_of_covers 11 _ (by decide +kernel) fun t hf y => ?_
  obtain ⟨e0, e1, e2, e3, e4, e5, e6, e7, e8, e9, e10, e11, e12⟩ := index_eq t
  blk_simp
  rw [after0_11]
  obtain ⟨r, k, rfl⟩ : ∃ (r : Fin 512) (k : Fin 512), y = ix2 r k := ⟨y 0, y 1, eq_ix2 y⟩
  have hi : (win0_11.blk t).view.emb (ix2 r k) = ix2 (rowT t r) k := by
    unfold rowT
    blk_ext [e11]
  rw [hi, InSRef.ref_u]
  exact (InBlock.out11_apply (iblk m c 0 t) (iblk m c 1 t) (iblk m c 2 t) (iblk m c 3 t) (iblk m c 4 t) (iblk m c 5 t) (iblk m c 6 t) r k).trans <| InBlock.u_row (bh m c t r) (b2 m c t) k
theorem final12 (c : Dev nD) :
    (dats m 0 c).arrAt 12 cfg0.N = Cert.InSRefIdeal.Read.val_main_v163 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 12 _ (by decide +kernel) fun t hf y => ?_
  obtain ⟨e0, e1, e2, e3, e4, e5, e6, e7, e8, e9, e10, e11, e12⟩ := index_eq t
  blk_simp
  rw [after0_12]
  obtain ⟨r, k, rfl⟩ : ∃ (r : Fin 512) (k : Fin 512), y = ix2 r k := ⟨y 0, y 1, eq_ix2 y⟩
  have hi : (win0_12.blk t).view.emb (ix2 r k) = ix2 (rowT t r) k := by
    unfold rowT
    blk_ext [e12]
  rw [hi, InSRef.ref_v]
  refine (InBlock.out12_apply (iblk m c 0 t) (iblk m c 1 t) (iblk m c 2 t) (iblk m c 3 t) (iblk m c 4 t) (iblk m c 5 t) (iblk m c 6 t) r k).trans ?_
  rw [show (fun k => iblk m c 5 t (ix2 0 k)) = _ from funext (b5 m c t), show (fun k => iblk m c 6 t (ix2 0 k)) = _ from funext (b6 m c t)]
  exact InBlock.v_row (bh m c t r) (b2 m c t) _ _ k

/-- The input projection of the sample tokens computes its reference, at every input. -/
theorem algebraic : Cert.algebraic_InSIdeal_InSRefIdeal
    (hInSIdeal := Cert.InSIdeal.Gen.facts) (hInSRefIdeal := Cert.InSRefIdeal.Gen.facts) := by
  intro m g m' g' _ h
  refine ⟨fun c => (Cert.InSIdeal.Gen.dats m 0 c).arrAt 7 Cert.InSIdeal.cfg0.N,
    fun c => (Cert.InSIdeal.Gen.dats m 0 c).arrAt 8 Cert.InSIdeal.cfg0.N,
    fun c => (Cert.InSIdeal.Gen.dats m 0 c).arrAt 9 Cert.InSIdeal.cfg0.N,
    fun c => (Cert.InSIdeal.Gen.dats m 0 c).arrAt 10 Cert.InSIdeal.cfg0.N,
    fun c => (Cert.InSIdeal.Gen.dats m 0 c).arrAt 11 Cert.InSIdeal.cfg0.N,
    fun c => (Cert.InSIdeal.Gen.dats m 0 c).arrAt 12 Cert.InSIdeal.cfg0.N, Cert.InSIdeal.Value.run_blocks m g, ?_⟩
  refine (θ_run _ _ _).mono (fun r hr c => ?_) (Cert.InSRefIdeal.Value.run m' g')
  obtain ⟨h0, h1, h2, h3, h4⟩ := h c
  refine ⟨(hr c).1.trans ?_, (hr c).2.1.trans ?_, (hr c).2.2.1.trans ?_, (hr c).2.2.2.1.trans ?_, (hr c).2.2.2.2.1.trans ?_,
    (hr c).2.2.2.2.2.1.trans ?_, (hr c).2.2.2.2.2.2⟩
  · refine (Cert.InSRefIdeal.Read.val_main_v135_eq _).trans ?_
    unfold StableHlo.launchContents
    rw [h0, h1, h2]
    exact (final7 m c).symm
  · refine (Cert.InSRefIdeal.Read.val_main_v136_eq _).trans ?_
    unfold StableHlo.launchContents
    rw [h0, h1, h2]
    exact (final8 m c).symm
  · refine (Cert.InSRefIdeal.Read.val_main_v139_eq _).trans ?_
    unfold StableHlo.launchContents
    rw [h0, h1, h2]
    exact (final9 m c).symm
  · refine (Cert.InSRefIdeal.Read.val_main_v132_eq _).trans ?_
    unfold StableHlo.launchContents
    rw [h0, h1, h2]
    exact (final10 m c).symm
  · refine (Cert.InSRefIdeal.Read.val_main_v140_eq _).trans ?_
    unfold StableHlo.launchContents
    rw [h0, h1, h2]
    exact (final11 m c).symm
  · refine (Cert.InSRefIdeal.Read.val_main_v163_eq _).trans ?_
    unfold StableHlo.launchContents
    rw [h0, h1, h2, h3, h4]
    exact (final12 m c).symm

end Cert.Proof.InSValue
end
-- ==== Proof.OddSBlock.lean ====
/-
  One block of the odd layer's tail on the sample tokens: what the body stores, the loop over the two halves of the hidden units unrolled.
-/
module

public import proofs.«01_k».proof.Proof.Gen.OddSIdeal.Value
public import Idealize.ShloMosaic.Lib.Pipeline.ValueKit
public import Idealize.ShloMosaic.Lib.VecWindow

@[expose] public section

set_option maxRecDepth 16384

noncomputable section

namespace Cert.Proof.OddSBlock

open Idealize.ShloMosaic Idealize.ShloMosaic.TcCoe Idealize.SL.Sem Cert.OddSIdeal Cert.OddSIdeal.Gen
open Idealize.ShloMosaic.Pipeline (Dat Cfg Window)

variable {F : FTy → Type} [FloatOps F]

/-- The zero offsets. -/
theorem hz : (![0, 0] : Fin 2 → Nat) = fun _ => 0 :=
  funext fun a => by fin_cases a <;> rfl

/-- The pieces one trip of the loop writes: the accumulator, stored whole. -/
theorem trip_eq (𝒱 : Variants) (c : Dev nD) (bd : Option 𝒱.V) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x2816 .bf16) (harg6 : arg6.IsWhole) (arg7 : Memref sig .tc .vmem S1024x2816 .bf16) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .f32) (harg12 : arg12.IsWhole)
   (X6 : BufTy.Contents (Elt F) arg6.view.ty) (X7 : BufTy.Contents (Elt F) arg7.view.ty) (X8 : BufTy.Contents (Elt F) arg8.view.ty) (X11 : BufTy.Contents (Elt F) arg11.view.ty) (k : Fin k0_t1_loop.trips) (f : BufTy.Contents (Elt F) arg12.view.ty) :
   tripL_k0_t1 (F := F) 𝒱 c bd i arg1 harg1 arg2 harg2 arg3 harg3 arg4 harg4 arg5 harg5 arg6 harg6 arg7 harg7 arg8 harg8 arg9 harg9 arg10 harg10 arg11 harg11 arg12 harg12 X6 X7 X8 X11 k f
     = [⟨Rect.unit ![0, 0] S512x1024.size inb_S512x1024_S512x1024_0_0,
          k0_pay2 (arg11.view.read (Elt F) X11)
            (View.ld (arg6.view.read (Elt F) X6) (Rect.unit (s := S1024x2816) (k0_off1 k) S1024x1408.size (k0_off1_inb k)))
            (View.ld (arg7.view.read (Elt F) X7) (Rect.unit (s := S1024x2816) (k0_off1 k) S1024x1408.size (k0_off1_inb k)))
            (arg12.view.read (Elt F) f)
            (View.ld (arg8.view.read (Elt F) X8) (Rect.unit (s := S2816x1024) (k0_off2 k) S1408x1024.size (k0_off2_inb k)))⟩] := by
  unfold tripL_k0_t1
  unfold trip_k0_t1
  dsimp only
  simp only [View.readAt_eq_ld]
  rw [View.ld_unit_zero (S := S512x1024) hz, View.ld_unit_zero (S := S512x1024) hz]

/-- The grid loop has two trips. -/
theorem trips_eq : k0_t1_loop.trips = 2 := by decide +kernel

/-- The first trip. -/
def t0 : Fin k0_t1_loop.trips := ⟨0, by decide +kernel⟩
/-- The second trip. -/
def t1 : Fin k0_t1_loop.trips := ⟨1, by decide +kernel⟩

/-- What one trip adds to the accumulator `a`. -/
def step (hb : Vec F S512x1024 .bf16) (x5 x6 : Vec F S1024x2816 .bf16) (x7 : Vec F S2816x1024 .bf16)
    (k : Fin k0_t1_loop.trips) (a : Vec F S512x1024 .f32) : Vec F S512x1024 .f32 :=
  k0_pay2 hb
    (View.ld x5 (Rect.unit (s := S1024x2816) (k0_off1 k) S1024x1408.size (k0_off1_inb k)))
    (View.ld x6 (Rect.unit (s := S1024x2816) (k0_off1 k) S1024x1408.size (k0_off1_inb k)))
    a (View.ld x7 (Rect.unit (s := S2816x1024) (k0_off2 k) S1408x1024.size (k0_off2_inb k)))

set_option maxHeartbeats 1000000 in
/-- What the body stores into its output block. -/
theorem out_eq (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x2816 .bf16) (harg6 : arg6.IsWhole) (arg7 : Memref sig .tc .vmem S1024x2816 .bf16) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .f32) (harg12 : arg12.IsWhole)
    (x0 : Vec F S512x1024 .f32) (x1 : Vec F S512x1024 .bf16) (x2 : Vec F S1024x1024 .bf16) (x3 : Vec F S1024x1024 .bf16) (x4 : Vec F S1x1024 .f32) (x5 : Vec F S1024x2816 .bf16) (x6 : Vec F S1024x2816 .bf16) (x7 : Vec F S2816x1024 .bf16) (x8 : Vec F S1x1024 .f32) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8
      = k0_pay3 (step (k0_pay5 x1 x0 x2 x3 x4) x5 x6 x7 t1 (step (k0_pay5 x1 x0 x2 x3 x4) x5 x6 x7 t0 (k0_pay1 (k0_pay4 x1 x0 x2 x3)))) x8 := by
  frame_out
  rw [show Scf.trips (0#32) (Scalar.addi 0#32 2#32) 1#32 = t1.val + 1 from by decide +kernel, pb_k0_t1_succ, trip_eq,
    show t1.val = t0.val + 1 from rfl, pb_k0_t1_succ, trip_eq, show t0.val = 0 from rfl, pb_k0_t1]
  simp only [List.cons_append, List.nil_append, List.append_nil]
  rw [View.readCov_cons_toLoadRect]
  simp only [Memref.IsWhole.read_unread]
  have e11 := View.read_writes_full (Val := Elt F) arg11.view arg11.view.junk inb_S512x1024_S512x1024_0_0 (k0_pay5 x1 x0 x2 x3 x4) []
  have e12 := View.read_writes_full (Val := Elt F) arg12.view arg12.view.junk inb_S512x1024_S512x1024_0_0 (k0_pay1 (k0_pay4 x1 x0 x2 x3)) []
  have e12' := fun w => View.read_writes_full (Val := Elt F) arg12.view
    (arg12.view.writes (Elt F) arg12.view.junk [⟨Rect.unit ![0, 0] S512x1024.size inb_S512x1024_S512x1024_0_0, k0_pay1 (k0_pay4 x1 x0 x2 x3)⟩])
    inb_S512x1024_S512x1024_0_0 w []
  unfold step
  rw [e11, e12', View.writes_nil, e12]

end Cert.Proof.OddSBlock
end
-- ==== Proof.OddSValue.lean ====
/-
  The odd layer's tail on the sample tokens: the kernel's result is the reference's, entry by entry.
-/
module

public import proofs.«01_k».proof.Defs
public import proofs.«01_k».proof.Proof.OddValue
public import proofs.«01_k».proof.Proof.OddSBlock
public import proofs.«01_k».proof.Proof.Gen.OddSRefIdeal.Read

@[expose] public section

set_option maxRecDepth 1024

noncomputable section

namespace Cert.Proof.OddSValue

open Idealize.ShloMosaic Idealize.ShloMosaic.TcCoe Idealize.SL.Sem
open Cert.Proof.Layer Cert.Proof.OddValue

section
open Cert.OddSRefIdeal Cert.OddSRefIdeal.Gen Cert.OddSRefIdeal.Read
variable (x0 : (⟨S1024x1024, .f32⟩ : BufTy).Contents (Elt Ideal)) (x1 : (⟨S1024x1024, .bf16⟩ : BufTy).Contents (Elt Ideal))
  (x2 x3 : (⟨S1024x1024, .f32⟩ : BufTy).Contents (Elt Ideal)) (x4 : (⟨S1024, .f32⟩ : BufTy).Contents (Elt Ideal))
  (x5 x6 : (⟨S1024x2816, .f32⟩ : BufTy).Contents (Elt Ideal)) (x7 : (⟨S2816x1024, .f32⟩ : BufTy).Contents (Elt Ideal))
  (x8 : (⟨S1024, .f32⟩ : BufTy).Contents (Elt Ideal)) (r : Fin 1024) (c : Fin 1024)

/-- The reference's gated linear unit. -/
theorem ref_glu : val_main_v10 x0 x1 x2 x3 (ix2 r c)
    = glu (fun k => x0 (ix2 r k)) (fun k => x1 (ix2 r k)) (fun k c => x2 (ix2 k c)) (fun k c => x3 (ix2 k c)) c := by
  pointwise [val_main_v10, val_main_v9, val_main_v8, val_main_v7, val_main_v6, val_main_v5, val_main_v4, val_main_v3, val_main_v2,
    val_main_v1, val_main_v0, val_main_cst, val_main_cst_0]
  rfl

/-- The reference's norm. -/
theorem ref_norm : val_main_v23 x0 x1 x2 x3 x4 (ix2 r c)
    = rms (fun k => val_main_v10 x0 x1 x2 x3 (ix2 r k)) (fun k => x4 (ix1 k)) c := by
  pointwise [val_main_v23, val_main_v22, val_main_v21, val_main_v20, val_main_v19, val_main_v18, val_main_v17, val_main_v16,
    val_main_v15, val_main_v14, val_main_v13, val_main_v12, val_main_v11, val_main_cst_1, val_main_cst_2, val_main_cst_3]
  rfl

/-- The reference's feed-forward block. -/
theorem ref_ffn : val_main_v29 x0 x1 x2 x3 x4 x5 x6 x7 (ix2 r c)
    = val_main_v10 x0 x1 x2 x3 (ix2 r c) + dot (gate (fun k => val_main_v23 x0 x1 x2 x3 x4 (ix2 r k)) (fun k c => x5 (ix2 k c)) (fun k c => x6 (ix2 k c)))
        (fun k c => x7 (ix2 k c)) c := by
  pointwise [val_main_v29, val_main_v28, val_main_v27, val_main_v26, val_main_v25, val_main_v24, val_main_call0_v0, val_main_call0_v1,
    val_main_call0_cst, val_main_call0_v2, val_main_call0_v3, val_main_call0_cst_0, val_main_call0_v4, val_main_call0_v5]
  rfl

/-- The reference's final norm. -/
theorem ref_out : val_main_v42 x0 x1 x2 x3 x4 x5 x6 x7 x8 (ix2 r c)
    = rms (fun k => val_main_v29 x0 x1 x2 x3 x4 x5 x6 x7 (ix2 r k)) (fun k => x8 (ix1 k)) c := by
  pointwise [val_main_v42, val_main_v41, val_main_v40, val_main_v39, val_main_v38, val_main_v37, val_main_v36, val_main_v35, val_main_v34,
    val_main_v33, val_main_v32, val_main_v31, val_main_v30, val_main_cst_4, val_main_cst_5, val_main_cst_6]
  rfl

/-- The reference's result at row `r` is `row` of the arguments' row `r`. -/
theorem ref_apply : val_main_v42 x0 x1 x2 x3 x4 x5 x6 x7 x8 (ix2 r c)
    = row (fun k => x0 (ix2 r k)) (fun k => x1 (ix2 r k)) (fun k c => x2 (ix2 k c)) (fun k c => x3 (ix2 k c)) (fun k => x4 (ix1 k))
          (fun k c => x5 (ix2 k c)) (fun k c => x6 (ix2 k c)) (fun k c => x7 (ix2 k c)) (fun k => x8 (ix1 k)) c := by
  rw [ref_out]
  simp only [ref_ffn, ref_norm, ref_glu]
  rfl
end

section
open Cert.OddSIdeal Cert.OddSIdeal.Gen
open Idealize.ShloMosaic.Pipeline (Dat Cfg Window)

variable (m : (ℓ : Loc nD τ sig) → Buf (Elt Ideal) ℓ)

/-- Where each window's block of the grid point lies. -/
theorem index_eq : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The result array after the kernel's run is the reference's result on the same arguments. -/
theorem final (c : Dev nD) :
    (dats m 0 c).arrAt 9 cfg0.N = Cert.OddSRefIdeal.Read.val_main_v42
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  unfold outsAt0
  rw [Cert.Proof.OddSBlock.out_eq]
  have hy : ∃ (r : Fin 512) (k : Fin 1024), y = ix2 r k := ⟨y 0, y 1, eq_ix2 y⟩
  obtain ⟨r, k, rfl⟩ := hy
  have ht : t.val < 2 := t.isLt
  obtain ⟨e0, e1, e2, e3, e4, e5, e6, e7, e8, e9⟩ := index_eq t
  have hi : (win0_9.blk t).view.emb (ix2 r k) = ix2 (⟨t.val * 512 + r.val, by omega⟩ : Fin 1024) k := by
    blk_ext [e9]
  rw [hi, ref_apply]
  refine (block_apply _ _ _ _ _ _ _ _ _ r k).trans ?_
  have b0 : ∀ k, iblk m c 0 t (ix2 r k) = m ((c : Thread nD τ).loc main_arg0) (ix2 (⟨t.val * 512 + r.val, by omega⟩ : Fin 1024) k) := by
    intro k
    blk_ext [iblk, V, e0]
  have b1 : ∀ k, iblk m c 1 t (ix2 r k) = m ((c : Thread nD τ).loc main_arg1) (ix2 (⟨t.val * 512 + r.val, by omega⟩ : Fin 1024) k) := by
    intro k
    blk_ext [iblk, V, e1]
  have b2 : ∀ k j, iblk m c 2 t (ix2 k j) = m ((c : Thread nD τ).loc main_arg2) (ix2 k j) := by
    intro k j
    blk_ext! [iblk, V, e2]
  have b3 : ∀ k j, iblk m c 3 t (ix2 k j) = m ((c : Thread nD τ).loc main_arg3) (ix2 k j) := by
    intro k j
    blk_ext! [iblk, V, e3]
  have b4 : ∀ k, iblk m c 4 t (ix2 0 k) = m ((c : Thread nD τ).loc main_arg4) (ix1 k) := by
    intro k
    blk_ext! [iblk, V, e4]
  have b5 : ∀ k j, iblk m c 5 t (ix2 k j) = m ((c : Thread nD τ).loc main_arg5) (ix2 k j) := by
    intro k j
    blk_ext! [iblk, V, e5]
  have b6 : ∀ k j, iblk m c 6 t (ix2 k j) = m ((c : Thread nD τ).loc main_arg6) (ix2 k j) := by
    intro k j
    blk_ext! [iblk, V, e6]
  have b7 : ∀ k j, iblk m c 7 t (ix2 k j) = m ((c : Thread nD τ).loc main_arg7) (ix2 k j) := by
    intro k j
    blk_ext! [iblk, V, e7]
  have b8 : ∀ k, iblk m c 8 t (ix2 0 k) = m ((c : Thread nD τ).loc main_arg8) (ix1 k) := by
    intro k
    blk_ext! [iblk, V, e8]
  simp only [b0, b1, b2, b3, b4, b5, b6, b7, b8]
end

/-- The odd layer's tail on the sample tokens computes its reference, at every input. -/
theorem algebraic : Cert.algebraic_OddSIdeal_OddSRefIdeal
    (hOddSIdeal := Cert.OddSIdeal.Gen.facts) (hOddSRefIdeal := Cert.OddSRefIdeal.Gen.facts) := by
  intro m g m' g' _ h
  refine ⟨fun c => (Cert.OddSIdeal.Gen.dats m 0 c).arrAt 9 Cert.OddSIdeal.cfg0.N, Cert.OddSIdeal.Value.run_blocks m g, ?_⟩
  refine (θ_run _ _ _).mono (fun r hr c => ?_) (Cert.OddSRefIdeal.Value.run m' g')
  obtain ⟨h0, h1, h2, h3, h4, h5, h6, h7, h8⟩ := h c
  refine ⟨(hr c).1.trans ?_, (hr c).2⟩
  rw [Cert.OddSRefIdeal.Read.val_main_v42_eq, h0, h1, h2, h3, h4, h5, h6, h7, h8]
  exact (final m c).symm

end Cert.Proof.OddSValue
end
-- ==== Proof.lean ====
module
public import proofs.«01_k».proof.Defs
public import proofs.«01_k».proof.Proof.S5Value
public import proofs.«01_k».proof.Proof.OddValue
public import proofs.«01_k».proof.Proof.EvenValue
public import proofs.«01_k».proof.Proof.DiscValue
public import proofs.«01_k».proof.Proof.InValue
public import proofs.«01_k».proof.Proof.InSValue
public import proofs.«01_k».proof.Proof.OddSValue
public import proofs.«01_k».proof.Proof.Gen.S5
public import proofs.«01_k».proof.Proof.Gen.S5.Frame
public import proofs.«01_k».proof.Proof.Gen.S5Ideal
public import proofs.«01_k».proof.Proof.Gen.S5Ideal.Frame
public import proofs.«01_k».proof.Proof.Gen.S5RefIdeal
public import proofs.«01_k».proof.Proof.Gen.S5RefIdeal.Run
public import proofs.«01_k».proof.Proof.Gen.Odd
public import proofs.«01_k».proof.Proof.Gen.Odd.Frame
public import proofs.«01_k».proof.Proof.Gen.OddIdeal
public import proofs.«01_k».proof.Proof.Gen.OddIdeal.Frame
public import proofs.«01_k».proof.Proof.Gen.OddRefIdeal
public import proofs.«01_k».proof.Proof.Gen.OddRefIdeal.Run
public import proofs.«01_k».proof.Proof.Gen.Even
public import proofs.«01_k».proof.Proof.Gen.Even.Frame
public import proofs.«01_k».proof.Proof.Gen.EvenIdeal
public import proofs.«01_k».proof.Proof.Gen.EvenIdeal.Frame
public import proofs.«01_k».proof.Proof.Gen.EvenRefIdeal
public import proofs.«01_k».proof.Proof.Gen.EvenRefIdeal.Run
public import proofs.«01_k».proof.Proof.Gen.Disc
public import proofs.«01_k».proof.Proof.Gen.Disc.Frame
public import proofs.«01_k».proof.Proof.Gen.DiscIdeal
public import proofs.«01_k».proof.Proof.Gen.DiscIdeal.Frame
public import proofs.«01_k».proof.Proof.Gen.DiscRefIdeal
public import proofs.«01_k».proof.Proof.Gen.DiscRefIdeal.Run
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InRefIdeal
public import proofs.«01_k».proof.Proof.Gen.InRefIdeal.Run
public import proofs.«01_k».proof.Proof.Gen.InS
public import proofs.«01_k».proof.Proof.Gen.InS.Frame
public import proofs.«01_k».proof.Proof.Gen.InSIdeal
public import proofs.«01_k».proof.Proof.Gen.InSIdeal.Frame
public import proofs.«01_k».proof.Proof.Gen.InSRefIdeal
public import proofs.«01_k».proof.Proof.Gen.InSRefIdeal.Run
public import proofs.«01_k».proof.Proof.Gen.OddS
public import proofs.«01_k».proof.Proof.Gen.OddS.Frame
public import proofs.«01_k».proof.Proof.Gen.OddSIdeal
public import proofs.«01_k».proof.Proof.Gen.OddSIdeal.Frame
public import proofs.«01_k».proof.Proof.Gen.OddSRefIdeal
public import proofs.«01_k».proof.Proof.Gen.OddSRefIdeal.Run
public import Idealize.ShloMosaic.Adequacy
public import Idealize.ShloMosaic.Init

@[expose] public section

noncomputable section

namespace Cert.Proof

open Idealize.ShloMosaic Idealize.SL.Sem

/-- The reference of `S5` ends with its arguments unchanged; it has no semaphore. -/
theorem frame_S5Ref : Cert.quiescent_S5RefIdeal := fun m ρ _ =>
  (θ_run Cert.S5RefIdeal.defs _ _).mono (fun r h => ⟨fun c => (h c).2.2.2, sem_eq_zero_of_no_sems (by decide) r.2⟩)
    (Cert.S5RefIdeal.Value.run m ρ)

/-- The reference of `Odd` ends with its arguments unchanged; it has no semaphore. -/
theorem frame_OddRef : Cert.quiescent_OddRefIdeal := fun m ρ _ =>
  (θ_run Cert.OddRefIdeal.defs _ _).mono (fun r h => ⟨fun c => (h c).2, sem_eq_zero_of_no_sems (by decide) r.2⟩)
    (Cert.OddRefIdeal.Value.run m ρ)

/-- The reference of `Even` ends with its arguments unchanged; it has no semaphore. -/
theorem frame_EvenRef : Cert.quiescent_EvenRefIdeal := fun m ρ _ =>
  (θ_run Cert.EvenRefIdeal.defs _ _).mono (fun r h => ⟨fun c => (h c).2, sem_eq_zero_of_no_sems (by decide) r.2⟩)
    (Cert.EvenRefIdeal.Value.run m ρ)

/-- The reference of `Disc` ends with its arguments unchanged; it has no semaphore. -/
theorem frame_DiscRef : Cert.quiescent_DiscRefIdeal := fun m ρ _ =>
  (θ_run Cert.DiscRefIdeal.defs _ _).mono (fun r h => ⟨fun c => (h c).2.2.2.2, sem_eq_zero_of_no_sems (by decide) r.2⟩)
    (Cert.DiscRefIdeal.Value.run m ρ)

/-- The reference of `In` ends with its arguments unchanged; it has no semaphore. -/
theorem frame_InRef : Cert.quiescent_InRefIdeal := fun m ρ _ =>
  (θ_run Cert.InRefIdeal.defs _ _).mono (fun r h => ⟨fun c => (h c).2.2.2.2.2.2, sem_eq_zero_of_no_sems (by decide) r.2⟩)
    (Cert.InRefIdeal.Value.run m ρ)

/-- The reference of `InS` ends with its arguments unchanged; it has no semaphore. -/
theorem frame_InSRef : Cert.quiescent_InSRefIdeal := fun m ρ _ =>
  (θ_run Cert.InSRefIdeal.defs _ _).mono (fun r h => ⟨fun c => (h c).2.2.2.2.2.2, sem_eq_zero_of_no_sems (by decide) r.2⟩)
    (Cert.InSRefIdeal.Value.run m ρ)

/-- The reference of `OddS` ends with its arguments unchanged; it has no semaphore. -/
theorem frame_OddSRef : Cert.quiescent_OddSRefIdeal := fun m ρ _ =>
  (θ_run Cert.OddSRefIdeal.defs _ _).mono (fun r h => ⟨fun c => (h c).2, sem_eq_zero_of_no_sems (by decide) r.2⟩)
    (Cert.OddSRefIdeal.Value.run m ρ)

/-- Every claim of this certificate. -/
theorem claim : Cert.Claim :=
  ⟨Cert.S5.Gen.facts,
    Cert.S5Ideal.Gen.facts,
    Cert.S5RefIdeal.Gen.facts,
    Cert.Odd.Gen.facts,
    Cert.OddIdeal.Gen.facts,
    Cert.OddRefIdeal.Gen.facts,
    Cert.Even.Gen.facts,
    Cert.EvenIdeal.Gen.facts,
    Cert.EvenRefIdeal.Gen.facts,
    Cert.Disc.Gen.facts,
    Cert.DiscIdeal.Gen.facts,
    Cert.DiscRefIdeal.Gen.facts,
    Cert.In.Gen.facts,
    Cert.InIdeal.Gen.facts,
    Cert.InRefIdeal.Gen.facts,
    Cert.InS.Gen.facts,
    Cert.InSIdeal.Gen.facts,
    Cert.InSRefIdeal.Gen.facts,
    Cert.OddS.Gen.facts,
    Cert.OddSIdeal.Gen.facts,
    Cert.OddSRefIdeal.Gen.facts,
    fun m ρ _ => Cert.S5.Gen.frame m ρ,
    fun m ρ _ => Cert.S5Ideal.Gen.frame m ρ,
    frame_S5Ref,
    fun m ρ _ => Cert.Odd.Gen.frame m ρ,
    fun m ρ _ => Cert.OddIdeal.Gen.frame m ρ,
    frame_OddRef,
    fun m ρ _ => Cert.Even.Gen.frame m ρ,
    fun m ρ _ => Cert.EvenIdeal.Gen.frame m ρ,
    frame_EvenRef,
    fun m ρ _ => Cert.Disc.Gen.frame m ρ,
    fun m ρ _ => Cert.DiscIdeal.Gen.frame m ρ,
    frame_DiscRef,
    fun m ρ _ => Cert.In.Gen.frame m ρ,
    fun m ρ _ => Cert.InIdeal.Gen.frame m ρ,
    frame_InRef,
    fun m ρ _ => Cert.InS.Gen.frame m ρ,
    fun m ρ _ => Cert.InSIdeal.Gen.frame m ρ,
    frame_InSRef,
    fun m ρ _ => Cert.OddS.Gen.frame m ρ,
    fun m ρ _ => Cert.OddSIdeal.Gen.frame m ρ,
    frame_OddSRef,
    trivial,
    S5Value.algebraic,
    trivial,
    OddValue.algebraic,
    trivial,
    EvenValue.algebraic,
    trivial,
    DiscValue.algebraic,
    trivial,
    InValue.algebraic,
    trivial,
    InSValue.algebraic,
    trivial,
    OddSValue.algebraic⟩

end Cert.Proof

end
